-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x4096x4x2x64 : Shape := ⟨5, ![4, 4096, 4, 2, 64]⟩
abbrev S4x4096x4x128 : Shape := ⟨4, ![4, 4096, 4, 128]⟩
abbrev S1x1 : Shape := ⟨2, ![1, 1]⟩
abbrev S1x128 : Shape := ⟨2, ![1, 128]⟩
abbrev S_ : Shape := ⟨0, ![]⟩

class Facts : Prop where
  bcast_S_S4x4096x4x2x64 : S_.BroadcastsInDim S4x4096x4x2x64 (![] : Fin 0 → Fin S4x4096x4x2x64.rank)
  reducesTo_S4x4096x4x2x64_S_d0_1_2_3_4 : S4x4096x4x2x64.ReducesTo [0, 1, 2, 3, 4] S_
  h_S_ : 0 < S_.numel
  bcast_S_S4x4096x4x128 : S_.BroadcastsInDim S4x4096x4x128 (![] : Fin 0 → Fin S4x4096x4x128.rank)
  reducesTo_S4x4096x4x128_S_d0_1_2_3 : S4x4096x4x128.ReducesTo [0, 1, 2, 3] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  main_v18

def fn {F : FTy → Type} [FloatOps F] (main_arg0 : FVec F S4x4096x4x2x64 .f32) (main_arg1 : FVec F S4x4096x4x2x64 .f32) (main_arg2 : FVec F S4x4096x4x128 .f32) (main_arg3 : FVec F S1x1 .f32) (main_arg4 : FVec F S1x128 .f32) : IVec S_ 1 :=
  let main_v0 : FVec F S4x4096x4x2x64 .f32 := Host.absf main_arg0
  let main_cst : FVec F S_ .f32 := constant S_ .f32 0x7F800000#32
  let main_v1 : FVec F S4x4096x4x2x64 .f32 := broadcastInDim S4x4096x4x2x64 ![] bcast_S_S4x4096x4x2x64 main_cst
  let main_v2 : IVec S4x4096x4x2x64 1 := cmpf .olt main_v0 main_v1
  let main_c : IVec S_ 1 := constantI S_ 1 1#1
  let main_v3 : IVec S_ 1 := (fun x v => Host.reduce IntOp.andi x v reducesTo_S4x4096x4x2x64_S_d0_1_2_3_4 h_S_) main_v2 main_c
  let main_v4 : FVec F S4x4096x4x2x64 .f32 := Host.absf main_arg1
  let main_cst_0 : FVec F S_ .f32 := constant S_ .f32 0x7F800000#32
  let main_v5 : FVec F S4x4096x4x2x64 .f32 := broadcastInDim S4x4096x4x2x64 ![] bcast_S_S4x4096x4x2x64 main_cst_0
  let main_v6 : IVec S4x4096x4x2x64 1 := cmpf .olt main_v4 main_v5
  let main_c_1 : IVec S_ 1 := constantI S_ 1 1#1
  let main_v7 : IVec S_ 1 := (fun x v => Host.reduce IntOp.andi x v reducesTo_S4x4096x4x2x64_S_d0_1_2_3_4 h_S_) main_v6 main_c_1
  let main_v8 : IVec S_ 1 := andi main_v3 main_v7
  let main_v9 : FVec F S4x4096x4x128 .f32 := Host.absf main_arg2
  let main_cst_2 : FVec F S_ .f32 := constant S_ .f32 0x7F800000#32
  let main_v10 : FVec F S4x4096x4x128 .f32 := broadcastInDim S4x4096x4x128 ![] bcast_S_S4x4096x4x128 main_cst_2
  let main_v11 : IVec S4x4096x4x128 1 := cmpf .olt main_v9 main_v10
  let main_c_3 : IVec S_ 1 := constantI S_ 1 1#1
  let main_v12 : IVec S_ 1 := (fun x v => Host.reduce IntOp.andi x v reducesTo_S4x4096x4x128_S_d0_1_2_3 h_S_) main_v11 main_c_3
  let main_v13 : IVec S_ 1 := andi main_v8 main_v12
  let main_v14 : FVec F S1x1 .f32 := Host.absf main_arg3
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_v13 main_v16
-- ==== Kernel.lean ====
abbrev S4x4096x4x2x64 : Shape := ⟨5, ![4, 4096, 4, 2, 64]⟩
abbrev S4x4096x4x128 : Shape := ⟨4, ![4, 4096, 4, 128]⟩
abbrev S1x1 : Shape := ⟨2, ![1, 1]⟩
abbrev S1x128 : Shape := ⟨2, ![1, 128]⟩
abbrev S4 : Shape := ⟨1, ![4]⟩
abbrev S16384x512 : Shape := ⟨2, ![16384, 512]⟩
abbrev S_ : Shape := ⟨0, ![]⟩
abbrev S16384x4x128 : Shape := ⟨3, ![16384, 4, 128]⟩
abbrev S4x128x16384 : Shape := ⟨3, ![4, 128, 16384]⟩
abbrev S4x16x16384 : Shape := ⟨3, ![4, 16, 16384]⟩
abbrev S4x144x16384 : Shape := ⟨3, ![4, 144, 16384]⟩
abbrev S576x16384 : Shape := ⟨2, ![576, 16384]⟩
abbrev S8x128 : Shape := ⟨2, ![8, 128]⟩
abbrev S4096x128 : Shape := ⟨2, ![4096, 128]⟩
abbrev S4x1 : Shape := ⟨2, ![4, 1]⟩
abbrev S4x128 : Shape := ⟨2, ![4, 128]⟩
abbrev S4096x512 : Shape := ⟨2, ![4096, 512]⟩
abbrev S576x4096 : Shape := ⟨2, ![576, 4096]⟩
abbrev S256x512 : Shape := ⟨2, ![256, 512]⟩
abbrev S2x4x512x256 : Shape := ⟨4, ![2, 4, 512, 256]⟩
abbrev S2x512x512 : Shape := ⟨3, ![2, 512, 512]⟩
abbrev S4x512x512 : Shape := ⟨3, ![4, 512, 512]⟩
abbrev S4x1x512 : Shape := ⟨3, ![4, 1, 512]⟩
abbrev S4x144x512 : Shape := ⟨3, ![4, 144, 512]⟩
abbrev S512x512 : Shape := ⟨2, ![512, 512]⟩
abbrev S1x512x512 : Shape := ⟨3, ![1, 512, 512]⟩
abbrev S512x128 : Shape := ⟨2, ![512, 128]⟩
abbrev S1x1x512x128 : Shape := ⟨4, ![1, 1, 512, 128]⟩
abbrev S256x128 : Shape := ⟨2, ![256, 128]⟩
abbrev S1x1x256x128 : Shape := ⟨4, ![1, 1, 256, 128]⟩
abbrev S256x256 : Shape := ⟨2, ![256, 256]⟩
abbrev S1x1x512x256 : Shape := ⟨4, ![1, 1, 512, 256]⟩
abbrev S512x256 : Shape := ⟨2, ![512, 256]⟩
abbrev S1x256x512 : Shape := ⟨3, ![1, 256, 512]⟩
abbrev S512 : Shape := ⟨1, ![512]⟩
abbrev S1x512 : Shape := ⟨2, ![1, 512]⟩
abbrev S1x1x512 : Shape := ⟨3, ![1, 1, 512]⟩
abbrev S144x512 : Shape := ⟨2, ![144, 512]⟩
abbrev S1x144x512 : Shape := ⟨3, ![1, 144, 512]⟩
abbrev S144x256 : Shape := ⟨2, ![144, 256]⟩
abbrev S1x128x512 : Shape := ⟨3, ![1, 128, 512]⟩
abbrev S128x512 : Shape := ⟨2, ![128, 512]⟩
abbrev S128x256 : Shape := ⟨2, ![128, 256]⟩
abbrev S256 : Shape := ⟨1, ![256]⟩
abbrev S256x1 : Shape := ⟨2, ![256, 1]⟩

abbrev nBuf : Space → Nat
  | .hbm => 146
  | .vmem => 20
  | .smem => 0
  | _ => 0

abbrev hbmTy0_0 (i : Nat) : BufTy := match i % 128 with
  | 0 => ⟨S4x4096x4x2x64, .f32⟩
  | 1 => ⟨S4x4096x4x2x64, .f32⟩
  | 2 => ⟨S4x4096x4x128, .f32⟩
  | 3 => ⟨S1x1, .f32⟩
  | 4 => ⟨S1x128, .f32⟩
  | 5 => ⟨S4, .f32⟩
  | 6 => ⟨S16384x512, .f32⟩
  | 7 => ⟨S_, .f32⟩
  | 8 => ⟨S1x1, .f32⟩
  | 9 => ⟨S1x1, .f32⟩
  | 10 => ⟨S_, .f32⟩
  | 11 => ⟨S1x1, .f32⟩
  | 12 => ⟨S1x1, .f32⟩
  | 13 => ⟨S_, .f32⟩
  | 14 => ⟨S1x1, .f32⟩
  | 15 => ⟨S1x1, .f32⟩
  | 16 => ⟨S16384x512, .f32⟩
  | 17 => ⟨S16384x512, .f32⟩
  | 18 => ⟨S16384x512, .bf16⟩
  | 19 => ⟨S16384x512, .f32⟩
  | 20 => ⟨S16384x512, .bf16⟩
  | 21 => ⟨S16384x4x128, .f32⟩
  | 22 => ⟨S4x128x16384, .f32⟩
  | 23 => ⟨S_, .f32⟩
  | 24 => ⟨S4x16x16384, .f32⟩
  | 25 => ⟨S4x144x16384, .f32⟩
  | 26 => ⟨S576x16384, .f32⟩
  | 27 => ⟨S576x16384, .bf16⟩
  | 28 => ⟨S8x128, .f32⟩
  | 29 => ⟨S4096x128, .i32⟩
  | 30 => ⟨S4096x128, .i32⟩
  | 31 => ⟨S_, .i32⟩
  | 32 => ⟨S4096x128, .i32⟩
  | 33 => ⟨S4096x128, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S4096x128, .i32⟩
  | 41 => ⟨S4096x128, .i32⟩
  | 42 => ⟨S_, .i32⟩
  | 43 => ⟨S4096x128, .i32⟩
  | 44 => ⟨S4096x128, .i1⟩
  | 45 => ⟨S_, .i32⟩
  | 46 => ⟨S4096x128, .i32⟩
  | 47 => ⟨S4096x128, .i1⟩
  | 48 => ⟨S_, .i32⟩
  | 49 => ⟨S_, .i1⟩
  | 50 => ⟨S4096x128, .i1⟩
  | 51 => ⟨S4096x128, .i1⟩
  | 52 => ⟨S4096x128, .i1⟩
  | 53 => ⟨S4096x128, .i32⟩
  | 54 => ⟨S4096x128, .i32⟩
  | 55 => ⟨S4096x128, .i32⟩
  | 56 => ⟨S_, .i32⟩
  | 57 => ⟨S4096x128, .i32⟩
  | 58 => ⟨S4096x128, .i1⟩
  | 59 => ⟨S_, .i32⟩
  | 60 => ⟨S_, .i32⟩
  | 61 => ⟨S4096x128, .i32⟩
  | 62 => ⟨S4096x128, .i32⟩
  | 63 => ⟨S4096x128, .i32⟩
  | 64 => ⟨S_, .i32⟩
  | 65 => ⟨S4096x128, .i32⟩
  | 66 => ⟨S4096x128, .i1⟩
  | 67 => ⟨S4096x128, .i32⟩
  | 68 => ⟨S4096x128, .i32⟩
  | 69 => ⟨S_, .i32⟩
  | 70 => ⟨S4096x128, .i32⟩
  | 71 => ⟨S4096x128, .i1⟩
  | 72 => ⟨S4096x128, .i1⟩
  | 73 => ⟨S_, .i32⟩
  | 74 => ⟨S4096x128, .i32⟩
  | 75 => ⟨S4096x128, .i32⟩
  | 76 => ⟨S4096x128, .i32⟩
  | 77 => ⟨S_, .i32⟩
  | 78 => ⟨S4096x128, .i32⟩
  | 79 => ⟨S4096x128, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S4096x128, .i32⟩
  | 87 => ⟨S4096x128, .i32⟩
  | 88 => ⟨S_, .i32⟩
  | 89 => ⟨S4096x128, .i32⟩
  | 90 => ⟨S4096x128, .i1⟩
  | 91 => ⟨S_, .i32⟩
  | 92 => ⟨S4096x128, .i32⟩
  | 93 => ⟨S4096x128, .i1⟩
  | 94 => ⟨S_, .i32⟩
  | 95 => ⟨S_, .i1⟩
  | 96 => ⟨S4096x128, .i1⟩
  | 97 => ⟨S4096x128, .i1⟩
  | 98 => ⟨S4096x128, .i1⟩
  | 99 => ⟨S4096x128, .i32⟩
  | 100 => ⟨S4096x128, .i32⟩
  | 101 => ⟨S4096x128, .i32⟩
  | 102 => ⟨S4096x128, .i32⟩
  | 103 => ⟨S_, .i32⟩
  | 104 => ⟨S_, .i32⟩
  | 105 => ⟨S4096x128, .i32⟩
  | 106 => ⟨S4096x128, .i32⟩
  | 107 => ⟨S4x1, .f32⟩
  | 108 => ⟨S_, .f32⟩
  | 109 => ⟨S1x1, .f32⟩
  | 110 => ⟨S1x1, .f32⟩
  | 111 => ⟨S_, .f32⟩
  | 112 => ⟨S1x1, .f32⟩
  | 113 => ⟨S1x1, .f32⟩
  | 114 => ⟨S4x1, .f32⟩
  | 115 => ⟨S4x1, .f32⟩
  | 116 => ⟨S4x1, .bf16⟩
  | 117 => ⟨S4x1, .f32⟩
  | 118 => ⟨S4x1, .f32⟩
  | 119 => ⟨S4x1, .bf16⟩
  | 120 => ⟨S4x1, .f32⟩
  | 121 => ⟨S4x1, .f32⟩
  | 122 => ⟨S4x1, .bf16⟩
  | 123 => ⟨S4x1, .f32⟩
  | 124 => ⟨S4x1, .f32⟩
  | 125 => ⟨S4x128, .i32⟩
  | 126 => ⟨S_, .i32⟩
  | 127 => ⟨S4x128, .i32⟩
  | _ => ⟨S4x4096x4x2x64, .f32⟩

abbrev hbmTy0_1 (i : Nat) : BufTy := match i % 128 with
  | 0 => ⟨S4x128, .i1⟩
  | 1 => ⟨S_, .i32⟩
  | 2 => ⟨S4x128, .i32⟩
  | 3 => ⟨S4x128, .i1⟩
  | 4 => ⟨S_, .i32⟩
  | 5 => ⟨S4x128, .i32⟩
  | 6 => ⟨S4x128, .i1⟩
  | 7 => ⟨S_, .f32⟩
  | 8 => ⟨S4x128, .f32⟩
  | 9 => ⟨S4x128, .f32⟩
  | 10 => ⟨S4x128, .f32⟩
  | 11 => ⟨S4x128, .f32⟩
  | 12 => ⟨S4x128, .f32⟩
  | 13 => ⟨S4x128, .f32⟩
  | 14 => ⟨S4x128, .f32⟩
  | 15 => ⟨S4096x128, .f32⟩
  | 16 => ⟨S4096x128, .bf16⟩
  | 17 => ⟨S16384x512, .bf16⟩
  | _ => ⟨S4x4096x4x2x64, .f32⟩

abbrev hbmTy (i : Nat) : BufTy := match i / 128 with
  | 0 => hbmTy0_0 i
  | 1 => hbmTy0_1 i
  | _ => ⟨S4x4096x4x2x64, .f32⟩

abbrev bufTy : (tb : Table) → Fin (tcTables nBuf tb) → BufTy
  | .hbm, ⟨i, _⟩ => hbmTy i
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x128, .bf16⟩
  | .local _ .vmem, ⟨5, _⟩ => ⟨S4x128, .f32⟩
  | .local _ .vmem, ⟨6, _⟩ => ⟨S576x4096, .bf16⟩
  | .local _ .vmem, ⟨7, _⟩ => ⟨S576x4096, .bf16⟩
  | .local _ .vmem, ⟨8, _⟩ => ⟨S8x128, .f32⟩
  | .local _ .vmem, ⟨9, _⟩ => ⟨S1x128, .f32⟩
  | .local _ .vmem, ⟨10, _⟩ => ⟨S256x512, .bf16⟩
  | .local _ .vmem, ⟨11, _⟩ => ⟨S256x512, .bf16⟩
  | .local _ .vmem, ⟨12, _⟩ => ⟨S2x4x512x256, .bf16⟩
  | .local _ .vmem, ⟨13, _⟩ => ⟨S2x512x512, .f32⟩
  | .local _ .vmem, ⟨14, _⟩ => ⟨S4x512x512, .f32⟩
  | .local _ .vmem, ⟨15, _⟩ => ⟨S4x512x512, .f32⟩
  | .local _ .vmem, ⟨16, _⟩ => ⟨S4x1x512, .f32⟩
  | .local _ .vmem, ⟨17, _⟩ => ⟨S4x1x512, .f32⟩
  | .local _ .vmem, ⟨18, _⟩ => ⟨S4x1x512, .f32⟩
  | .local _ .vmem, ⟨19, _⟩ => ⟨S4x144x512, .f32⟩
  | _, _ => ⟨S4x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_v5 : Ref sig .tc := ⟨.hbm, 43, rfl⟩
abbrev main_call0_v6 : Ref sig .tc := ⟨.hbm, 44, rfl⟩
abbrev main_call0_c_2 : Ref sig .tc := ⟨.hbm, 45, rfl⟩
abbrev main_call0_v7 : Ref sig .tc := ⟨.hbm, 46, rfl⟩
abbrev main_call0_v8 : Ref sig .tc := ⟨.hbm, 47, rfl⟩
abbrev main_call0_c_3 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_v23 : Ref sig .tc := ⟨.hbm, 55, rfl⟩
abbrev main_c_5 : Ref sig .tc := ⟨.hbm, 56, rfl⟩
abbrev main_v24 : Ref sig .tc := ⟨.hbm, 57, rfl⟩
abbrev main_v25 : Ref sig .tc := ⟨.hbm, 58, rfl⟩
abbrev main_c_6 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_c : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_0 : Ref sig .tc := ⟨.hbm, 73, rfl⟩
abbrev main_call1_v12 : Ref sig .tc := ⟨.hbm, 74, rfl⟩
abbrev main_call1_v13 : Ref sig .tc := ⟨.hbm, 75, rfl⟩
abbrev main_v26 : Ref sig .tc := ⟨.hbm, 76, rfl⟩
abbrev main_c_7 : Ref sig .tc := ⟨.hbm, 77, rfl⟩
abbrev main_v27 : Ref sig .tc := ⟨.hbm, 78, rfl⟩
abbrev main_v28 : Ref sig .tc := ⟨.hbm, 79, rfl⟩
abbrev main_c_8 : Ref sig .tc := ⟨.hbm, 80, rfl⟩
abbrev main_call2_v0 : Ref sig .tc := ⟨.hbm, 81, rfl⟩
abbrev main_call2_c : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_c_1 : Ref sig .tc := ⟨.hbm, 88, rfl⟩
abbrev main_call2_v5 : Ref sig .tc := ⟨.hbm, 89, rfl⟩
abbrev main_call2_v6 : Ref sig .tc := ⟨.hbm, 90, rfl⟩
abbrev main_call2_c_2 : Ref sig .tc := ⟨.hbm, 91, rfl⟩
abbrev main_call2_v7 : Ref sig .tc := ⟨.hbm, 92, rfl⟩
abbrev main_call2_v8 : Ref sig .tc := ⟨.hbm, 93, rfl⟩
abbrev main_call2_c_3 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_v29 : Ref sig .tc := ⟨.hbm, 101, rfl⟩
abbrev main_v30 : Ref sig .tc := ⟨.hbm, 102, rfl⟩
abbrev main_c_9 : Ref sig .tc := ⟨.hbm, 103, rfl⟩
abbrev main_call4_v0 : Ref sig .tc := ⟨.hbm, 104, rfl⟩
abbrev main_call4_v1 : Ref sig .tc := ⟨.hbm, 105, rfl⟩
abbrev main_v31 : Ref sig .tc := ⟨.hbm, 106, rfl⟩
abbrev main_v32 : Ref sig .tc := ⟨.hbm, 107, rfl⟩
abbrev main_cst_10 : Ref sig .tc := ⟨.hbm, 108, rfl⟩
abbrev main_v33 : Ref sig .tc := ⟨.hbm, 109, rfl⟩
abbrev main_v34 : Ref sig .tc := ⟨.hbm, 110, rfl⟩
abbrev main_cst_11 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_c_12 : Ref sig .tc := ⟨.hbm, 126, rfl⟩
abbrev main_v49 : Ref sig .tc := ⟨.hbm, 127, rfl⟩
abbrev main_v50 : Ref sig .tc := ⟨.hbm, 128, rfl⟩
abbrev main_c_13 : Ref sig .tc := ⟨.hbm, 129, rfl⟩
abbrev main_v51 : Ref sig .tc := ⟨.hbm, 130, rfl⟩
abbrev main_v52 : Ref sig .tc := ⟨.hbm, 131, rfl⟩
abbrev main_c_14 : Ref sig .tc := ⟨.hbm, 132, rfl⟩
abbrev main_v53 : Ref sig .tc := ⟨.hbm, 133, rfl⟩
abbrev main_v54 : Ref sig .tc := ⟨.hbm, 134, rfl⟩
abbrev main_cst_15 : Ref sig .tc := ⟨.hbm, 135, rfl⟩
abbrev main_call5_v0 : Ref sig .tc := ⟨.hbm, 136, rfl⟩
abbrev main_call5_v1 : Ref sig .tc := ⟨.hbm, 137, rfl⟩
abbrev main_v55 : Ref sig .tc := ⟨.hbm, 138, rfl⟩
abbrev main_call6_v0 : Ref sig .tc := ⟨.hbm, 139, rfl⟩
abbrev main_v56 : Ref sig .tc := ⟨.hbm, 140, rfl⟩
abbrev main_call7_v0 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 1, 16], ![false, false, false]⟩

def k0_cond1 (i : grid0.Coords) : BitVec 1 :=
  let arg2 : BitVec 32 := BitVec.ofNat 32 (i 2).val
  let c0_i32_10 : BitVec 32 := 0#32
  let v27 : BitVec 1 := Scalar.cmpi .eq arg2 c0_i32_10
  let v28 : BitVec 32 := Scalar.extui v27
  let c0_i32_11 : BitVec 32 := 0#32
  let v29 : BitVec 1 := Scalar.cmpi .ne v28 c0_i32_11
  v29

def k0_off1 (i : grid0.Coords) (c0_i32_112 : BitVec 32) : Fin 2 → Nat :=
  let arg1 : BitVec 32 := BitVec.ofNat 32 (i 1).val
  let c4_i32 : BitVec 32 := 4#32
  let v204 : BitVec 32 := Scalar.muli arg1 c4_i32
  let v205 : BitVec 32 := Scalar.addi v204 c0_i32_112
  let v206 : Index := Scalar.indexCast v205
  let c0_113 : Index := 0#32
  ![v206.toNat, 0]
def k0_mult1 : BitVec 32 :=
  let c0_i32_154 : BitVec 32 := 0#32
  c0_i32_154
def k0_mult2 : BitVec 32 :=
  let c0_i32_200 : BitVec 32 := 0#32
  c0_i32_200
def k0_cond2 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_40 : BitVec 32 := 0#32
  let v63 : BitVec 1 := Scalar.cmpi .sgt v16 c0_i32_40
  let v64 : BitVec 32 := Scalar.extui v63
  let c0_i32_41 : BitVec 32 := 0#32
  let v65 : BitVec 1 := Scalar.cmpi .slt v16 c0_i32_41
  let v66 : BitVec 32 := Scalar.extui v65
  let v67 : BitVec 32 := Scalar.subi v64 v66
  let c2_i32_39 : BitVec 32 := 2#32
  let c0_i32_42 : BitVec 32 := 0#32
  let v68 : BitVec 1 := Scalar.cmpi .sgt c2_i32_39 c0_i32_42
  let v69 : BitVec 32 := Scalar.extui v68
  let c0_i32_43 : BitVec 32 := 0#32
  let v70 : BitVec 1 := Scalar.cmpi .slt c2_i32_39 c0_i32_43
  let v71 : BitVec 32 := Scalar.extui v70
  let v72 : BitVec 32 := Scalar.subi v69 v71
  let v73 : BitVec 1 := Scalar.cmpi .ne v67 v72
  let v74 : BitVec 32 := Scalar.remsi v16 c2_i32_39
  let c0_i32_44 : BitVec 32 := 0#32
  let v75 : BitVec 1 := Scalar.cmpi .ne v74 c0_i32_44
  let v76 : BitVec 1 := Scalar.andi v73 v75
  let v62 : BitVec 32 := Scalar.divsi v16 c2_i32_39
  let c1_i32_45 : BitVec 32 := 1#32
  let v77 : BitVec 32 := Scalar.subi v62 c1_i32_45
  let v78 : BitVec 32 := Scalar.select v76 v77 v62
  let c1_i32_46 : BitVec 32 := 1#32
  let v79 : BitVec 1 := Scalar.cmpi .eq v78 c1_i32_46
  let v80 : BitVec 32 := Scalar.extui v79
  let c0_i32_47 : BitVec 32 := 0#32
  let v81 : BitVec 1 := Scalar.cmpi .ne v80 c0_i32_47
  v81

def k0_mult3 : BitVec 32 :=
  let c512_i32 : BitVec 32 := 512#32
  c512_i32
def k0_off2 (i : grid0.Coords) : Fin 4 → Nat :=
  let arg2 : BitVec 32 := BitVec.ofNat 32 (i 2).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v190 : Index := Scalar.indexCast v26
  let c0_103 : Index := 0#32
  let c0_104 : Index := 0#32
  let c0_105 : Index := 0#32
  ![v190.toNat, 0, 0, 0]
def k0_off3 (i : grid0.Coords) : Fin 4 → Nat :=
  let arg2 : BitVec 32 := BitVec.ofNat 32 (i 2).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v206 : Index := Scalar.indexCast v26
  let c1_114 : Index := 1#32
  let c0_115 : Index := 0#32
  let c0_116 : Index := 0#32
  ![v206.toNat, 1, 0, 0]
def k0_off4 (i : grid0.Coords) : Fin 4 → Nat :=
  let arg2 : BitVec 32 := BitVec.ofNat 32 (i 2).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v222 : Index := Scalar.indexCast v26
  let c2_125 : Index := 2#32
  let c0_126 : Index := 0#32
  let c0_127 : Index := 0#32
  ![v222.toNat, 2, 0, 0]
def k0_off5 (i : grid0.Coords) : Fin 4 → Nat :=
  let arg2 : BitVec 32 := BitVec.ofNat 32 (i 2).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v238 : Index := Scalar.indexCast v26
  let c3_136 : Index := 3#32
  let c0_137 : Index := 0#32
  let c0_138 : Index := 0#32
  ![v238.toNat, 3, 0, 0]
def k0_mult4 : BitVec 32 :=
  let c0_i32_147 : BitVec 32 := 0#32
  c0_i32_147
def k0_mult5 : BitVec 32 :=
  let c1024_i32 : BitVec 32 := 1024#32
  c1024_i32
def k0_mult6 : BitVec 32 :=
  let c512_i32_274 : BitVec 32 := 512#32
  c512_i32_274
def k0_cond3 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_49 : BitVec 32 := 0#32
  let v83 : BitVec 1 := Scalar.cmpi .sgt v16 c0_i32_49
  let v84 : BitVec 32 := Scalar.extui v83
  let c0_i32_50 : BitVec 32 := 0#32
  let v85 : BitVec 1 := Scalar.cmpi .slt v16 c0_i32_50
  let v86 : BitVec 32 := Scalar.extui v85
  let v87 : BitVec 32 := Scalar.subi v84 v86
  let c2_i32_48 : BitVec 32 := 2#32
  let c0_i32_51 : BitVec 32 := 0#32
  let v88 : BitVec 1 := Scalar.cmpi .sgt c2_i32_48 c0_i32_51
  let v89 : BitVec 32 := Scalar.extui v88
  let c0_i32_52 : BitVec 32 := 0#32
  let v90 : BitVec 1 := Scalar.cmpi .slt c2_i32_48 c0_i32_52
  let v91 : BitVec 32 := Scalar.extui v90
  let v92 : BitVec 32 := Scalar.subi v89 v91
  let v93 : BitVec 1 := Scalar.cmpi .ne v87 v92
  let v94 : BitVec 32 := Scalar.remsi v16 c2_i32_48
  let c0_i32_53 : BitVec 32 := 0#32
  let v95 : BitVec 1 := Scalar.cmpi .ne v94 c0_i32_53
  let v96 : BitVec 1 := Scalar.andi v93 v95
  let v82 : BitVec 32 := Scalar.divsi v16 c2_i32_48
  let c1_i32_54 : BitVec 32 := 1#32
  let v97 : BitVec 32 := Scalar.subi v82 c1_i32_54
  let v98 : BitVec 32 := Scalar.select v96 v97 v82
  let c2_i32_55 : BitVec 32 := 2#32
  let v99 : BitVec 1 := Scalar.cmpi .eq v98 c2_i32_55
  let v100 : BitVec 32 := Scalar.extui v99
  let c0_i32_56 : BitVec 32 := 0#32
  let v101 : BitVec 1 := Scalar.cmpi .ne v100 c0_i32_56
  v101

def k0_mult7 : BitVec 32 :=
  let c512_i32 : BitVec 32 := 512#32
  c512_i32
def k0_off6 (i : grid0.Coords) : Fin 4 → Nat :=
  let arg2 : BitVec 32 := BitVec.ofNat 32 (i 2).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v190 : Index := Scalar.indexCast v26
  let c0_103 : Index := 0#32
  let c0_104 : Index := 0#32
  let c0_105 : Index := 0#32
  ![v190.toNat, 0, 0, 0]
def k0_off7 (i : grid0.Coords) : Fin 4 → Nat :=
  let arg2 : BitVec 32 := BitVec.ofNat 32 (i 2).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v206 : Index := Scalar.indexCast v26
  let c1_114 : Index := 1#32
  let c0_115 : Index := 0#32
  let c0_116 : Index := 0#32
  ![v206.toNat, 1, 0, 0]
def k0_off8 (i : grid0.Coords) : Fin 4 → Nat :=
  let arg2 : BitVec 32 := BitVec.ofNat 32 (i 2).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v222 : Index := Scalar.indexCast v26
  let c2_125 : Index := 2#32
  let c0_126 : Index := 0#32
  let c0_127 : Index := 0#32
  ![v222.toNat, 2, 0, 0]
def k0_off9 (i : grid0.Coords) : Fin 4 → Nat :=
  let arg2 : BitVec 32 := BitVec.ofNat 32 (i 2).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v238 : Index := Scalar.indexCast v26
  let c3_136 : Index := 3#32
  let c0_137 : Index := 0#32
  let c0_138 : Index := 0#32
  ![v238.toNat, 3, 0, 0]
def k0_mult8 : BitVec 32 :=
  let c0_i32_147 : BitVec 32 := 0#32
  c0_i32_147
def k0_mult9 : BitVec 32 :=
  let c1024_i32 : BitVec 32 := 1024#32
  c1024_i32
def k0_mult10 : BitVec 32 :=
  let c512_i32_274 : BitVec 32 := 512#32
  c512_i32_274
def k0_mult11 : BitVec 32 :=
  let c1536_i32 : BitVec 32 := 1536#32
  c1536_i32
def k0_mult12 : BitVec 32 :=
  let c1024_i32_404 : BitVec 32 := 1024#32
  c1024_i32_404
def k0_mult13 : BitVec 32 :=
  let c2048_i32 : BitVec 32 := 2048#32
  c2048_i32
def k0_mult14 : BitVec 32 :=
  let c1536_i32_534 : BitVec 32 := 1536#32
  c1536_i32_534
def k0_cond4 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_58 : BitVec 32 := 0#32
  let v103 : BitVec 1 := Scalar.cmpi .sgt v16 c0_i32_58
  let v104 : BitVec 32 := Scalar.extui v103
  let c0_i32_59 : BitVec 32 := 0#32
  let v105 : BitVec 1 := Scalar.cmpi .slt v16 c0_i32_59
  let v106 : BitVec 32 := Scalar.extui v105
  let v107 : BitVec 32 := Scalar.subi v104 v106
  let c2_i32_57 : BitVec 32 := 2#32
  let c0_i32_60 : BitVec 32 := 0#32
  let v108 : BitVec 1 := Scalar.cmpi .sgt c2_i32_57 c0_i32_60
  let v109 : BitVec 32 := Scalar.extui v108
  let c0_i32_61 : BitVec 32 := 0#32
  let v110 : BitVec 1 := Scalar.cmpi .slt c2_i32_57 c0_i32_61
  let v111 : BitVec 32 := Scalar.extui v110
  let v112 : BitVec 32 := Scalar.subi v109 v111
  let v113 : BitVec 1 := Scalar.cmpi .ne v107 v112
  let v114 : BitVec 32 := Scalar.remsi v16 c2_i32_57
  let c0_i32_62 : BitVec 32 := 0#32
  let v115 : BitVec 1 := Scalar.cmpi .ne v114 c0_i32_62
  let v116 : BitVec 1 := Scalar.andi v113 v115
  let v102 : BitVec 32 := Scalar.divsi v16 c2_i32_57
  let c1_i32_63 : BitVec 32 := 1#32
  let v117 : BitVec 32 := Scalar.subi v102 c1_i32_63
  let v118 : BitVec 32 := Scalar.select v116 v117 v102
  let c3_i32 : BitVec 32 := 3#32
  let v119 : BitVec 1 := Scalar.cmpi .eq v118 c3_i32
  let v120 : BitVec 32 := Scalar.extui v119
  let c0_i32_64 : BitVec 32 := 0#32
  let v121 : BitVec 1 := Scalar.cmpi .ne v120 c0_i32_64
  v121

def k0_mult15 : BitVec 32 :=
  let c512_i32 : BitVec 32 := 512#32
  c512_i32
def k0_off10 (i : grid0.Coords) : Fin 4 → Nat :=
  let arg2 : BitVec 32 := BitVec.ofNat 32 (i 2).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v190 : Index := Scalar.indexCast v26
  let c0_103 : Index := 0#32
  let c0_104 : Index := 0#32
  let c0_105 : Index := 0#32
  ![v190.toNat, 0, 0, 0]
def k0_off11 (i : grid0.Coords) : Fin 4 → Nat :=
  let arg2 : BitVec 32 := BitVec.ofNat 32 (i 2).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v206 : Index := Scalar.indexCast v26
  let c1_114 : Index := 1#32
  let c0_115 : Index := 0#32
  let c0_116 : Index := 0#32
  ![v206.toNat, 1, 0, 0]
def k0_off12 (i : grid0.Coords) : Fin 4 → Nat :=
  let arg2 : BitVec 32 := BitVec.ofNat 32 (i 2).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v222 : Index := Scalar.indexCast v26
  let c2_125 : Index := 2#32
  let c0_126 : Index := 0#32
  let c0_127 : Index := 0#32
  ![v222.toNat, 2, 0, 0]
def k0_off13 (i : grid0.Coords) : Fin 4 → Nat :=
  let arg2 : BitVec 32 := BitVec.ofNat 32 (i 2).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v238 : Index := Scalar.indexCast v26
  let c3_136 : Index := 3#32
  let c0_137 : Index := 0#32
  let c0_138 : Index := 0#32
  ![v238.toNat, 3, 0, 0]
def k0_mult16 : BitVec 32 :=
  let c0_i32_147 : BitVec 32 := 0#32
  c0_i32_147
def k0_mult17 : BitVec 32 :=
  let c1024_i32 : BitVec 32 := 1024#32
  c1024_i32
def k0_mult18 : BitVec 32 :=
  let c512_i32_274 : BitVec 32 := 512#32
  c512_i32_274
def k0_mult19 : BitVec 32 :=
  let c1536_i32 : BitVec 32 := 1536#32
  c1536_i32
def k0_mult20 : BitVec 32 :=
  let c1024_i32_404 : BitVec 32 := 1024#32
  c1024_i32_404
def k0_mult21 : BitVec 32 :=
  let c2048_i32 : BitVec 32 := 2048#32
  c2048_i32
def k0_mult22 : BitVec 32 :=
  let c1536_i32_534 : BitVec 32 := 1536#32
  c1536_i32_534
def k0_mult23 : BitVec 32 :=
  let c2560_i32 : BitVec 32 := 2560#32
  c2560_i32
def k0_mult24 : BitVec 32 :=
  let c2048_i32_664 : BitVec 32 := 2048#32
  c2048_i32_664
def k0_mult25 : BitVec 32 :=
  let c3072_i32 : BitVec 32 := 3072#32
  c3072_i32
def k0_mult26 : BitVec 32 :=
  let c2560_i32_794 : BitVec 32 := 2560#32
  c2560_i32_794
def k0_cond5 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c2_i32_65 : BitVec 32 := 2#32
  let c0_i32_66 : BitVec 32 := 0#32
  let v122 : BitVec 1 := Scalar.cmpi .eq c2_i32_65 c0_i32_66
  let c1_i32_67 : BitVec 32 := 1#32
  let v123 : BitVec 32 := Scalar.select v122 c1_i32_67 c2_i32_65
  let v124 : BitVec 32 := Scalar.remsi v16 v123
  let c0_i32_69 : BitVec 32 := 0#32
  let v126 : BitVec 1 := Scalar.cmpi .slt v124 c0_i32_69
  let c0_i32_70 : BitVec 32 := 0#32
  let v127 : BitVec 1 := Scalar.cmpi .slt v123 c0_i32_70
  let v128 : BitVec 1 := Scalar.xori v126 v127
  let c0_i32_68 : BitVec 32 := 0#32
  let v125 : BitVec 1 := Scalar.cmpi .ne v124 c0_i32_68
  let v129 : BitVec 1 := Scalar.andi v128 v125
  let v130 : BitVec 32 := Scalar.addi v124 v123
  let v131 : BitVec 32 := Scalar.select v129 v130 v124
  let c1_i32_71 : BitVec 32 := 1#32
  let v132 : BitVec 1 := Scalar.cmpi .eq v131 c1_i32_71
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_72 : BitVec 32 := 0#32
  let v133 : BitVec 1 := Scalar.cmpi .eq v26 c0_i32_72
  let v134 : BitVec 1 := Scalar.andi v132 v133
  let v135 : BitVec 32 := Scalar.extui v134
  let c0_i32_73 : BitVec 32 := 0#32
  let v136 : BitVec 1 := Scalar.cmpi .ne v135 c0_i32_73
  v136

def k0_mult27 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  v182
def k0_off14 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v184 : Index := Scalar.indexCast v183
  let c0_101 : Index := 0#32
  ![v184.toNat, 0]
def k0_off15 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v187 : Index := Scalar.indexCast v183
  let c0_102 : Index := 0#32
  ![v187.toNat, 0]
def k0_off16 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v202 : Index := Scalar.indexCast v183
  let c128 : Index := 128#32
  ![v202.toNat, 128]
def k0_off17 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v217 : Index := Scalar.indexCast v183
  let c256 : Index := 256#32
  ![v217.toNat, 256]
def k0_off18 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v232 : Index := Scalar.indexCast v183
  let c384 : Index := 384#32
  ![v232.toNat, 384]
def k0_mult28 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c1_i32_151 : BitVec 32 := 1#32
  let v247 : BitVec 32 := Scalar.subi v16 c1_i32_151
  let c512_i32_152 : BitVec 32 := 512#32
  let v248 : BitVec 32 := Scalar.muli v247 c512_i32_152
  v248
def k0_off19 (i : grid0.Coords) : Fin 2 → Nat :=
  let c0_165 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c1_i32_151 : BitVec 32 := 1#32
  let v247 : BitVec 32 := Scalar.subi v16 c1_i32_151
  let c512_i32_152 : BitVec 32 := 512#32
  let v248 : BitVec 32 := Scalar.muli v247 c512_i32_152
  let v249 : BitVec 32 := v248
  let v265 : Index := Scalar.indexCast v249
  ![0, v265.toNat]
def k0_off20 (i : grid0.Coords) : Fin 2 → Nat :=
  let c144 : Index := 144#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c1_i32_151 : BitVec 32 := 1#32
  let v247 : BitVec 32 := Scalar.subi v16 c1_i32_151
  let c512_i32_152 : BitVec 32 := 512#32
  let v248 : BitVec 32 := Scalar.muli v247 c512_i32_152
  let v249 : BitVec 32 := v248
  let v293 : Index := Scalar.indexCast v249
  ![144, v293.toNat]
def k0_off21 (i : grid0.Coords) : Fin 2 → Nat :=
  let c288 : Index := 288#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c1_i32_151 : BitVec 32 := 1#32
  let v247 : BitVec 32 := Scalar.subi v16 c1_i32_151
  let c512_i32_152 : BitVec 32 := 512#32
  let v248 : BitVec 32 := Scalar.muli v247 c512_i32_152
  let v249 : BitVec 32 := v248
  let v321 : Index := Scalar.indexCast v249
  ![288, v321.toNat]
def k0_off22 (i : grid0.Coords) : Fin 2 → Nat :=
  let c432 : Index := 432#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c1_i32_151 : BitVec 32 := 1#32
  let v247 : BitVec 32 := Scalar.subi v16 c1_i32_151
  let c512_i32_152 : BitVec 32 := 512#32
  let v248 : BitVec 32 := Scalar.muli v247 c512_i32_152
  let v249 : BitVec 32 := v248
  let v349 : Index := Scalar.indexCast v249
  ![432, v349.toNat]
def k0_mult29 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32_230 : BitVec 32 := 512#32
  let v362 : BitVec 32 := Scalar.muli v16 c512_i32_230
  v362
def k0_off23 (i : grid0.Coords) : Fin 2 → Nat :=
  let c0_244 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32_230 : BitVec 32 := 512#32
  let v362 : BitVec 32 := Scalar.muli v16 c512_i32_230
  let v363 : BitVec 32 := v362
  let v382 : Index := Scalar.indexCast v363
  ![0, v382.toNat]
def k0_off24 (i : grid0.Coords) : Fin 2 → Nat :=
  let c144_265 : Index := 144#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32_230 : BitVec 32 := 512#32
  let v362 : BitVec 32 := Scalar.muli v16 c512_i32_230
  let v363 : BitVec 32 := v362
  let v413 : Index := Scalar.indexCast v363
  ![144, v413.toNat]
def k0_off25 (i : grid0.Coords) : Fin 2 → Nat :=
  let c288_286 : Index := 288#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32_230 : BitVec 32 := 512#32
  let v362 : BitVec 32 := Scalar.muli v16 c512_i32_230
  let v363 : BitVec 32 := v362
  let v444 : Index := Scalar.indexCast v363
  ![288, v444.toNat]
def k0_off26 (i : grid0.Coords) : Fin 2 → Nat :=
  let c432_307 : Index := 432#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32_230 : BitVec 32 := 512#32
  let v362 : BitVec 32 := Scalar.muli v16 c512_i32_230
  let v363 : BitVec 32 := v362
  let v475 : Index := Scalar.indexCast v363
  ![432, v475.toNat]
def k0_mult30 (i : grid0.Coords) : BitVec 32 :=
  let arg2 : BitVec 32 := BitVec.ofNat 32 (i 2).val
  let c1_i32_315 : BitVec 32 := 1#32
  let v488 : BitVec 32 := Scalar.addi arg2 c1_i32_315
  let c15_i32 : BitVec 32 := 15#32
  let v489 : BitVec 32 := Scalar.minsi v488 c15_i32
  let c256_i32 : BitVec 32 := 256#32
  let v490 : BitVec 32 := Scalar.muli v489 c256_i32
  v490
def k0_off27 (i : grid0.Coords) : Fin 2 → Nat :=
  let arg2 : BitVec 32 := BitVec.ofNat 32 (i 2).val
  let c1_i32_315 : BitVec 32 := 1#32
  let v488 : BitVec 32 := Scalar.addi arg2 c1_i32_315
  let c15_i32 : BitVec 32 := 15#32
  let v489 : BitVec 32 := Scalar.minsi v488 c15_i32
  let c256_i32 : BitVec 32 := 256#32
  let v490 : BitVec 32 := Scalar.muli v489 c256_i32
  let v491 : BitVec 32 := v490
  let v493 : Index := Scalar.indexCast v491
  let c0_316 : Index := 0#32
  ![v493.toNat, 0]
def k0_off28 (i : grid0.Coords) : Fin 2 → Nat :=
  let arg2 : BitVec 32 := BitVec.ofNat 32 (i 2).val
  let c1_i32_315 : BitVec 32 := 1#32
  let v488 : BitVec 32 := Scalar.addi arg2 c1_i32_315
  let c15_i32 : BitVec 32 := 15#32
  let v489 : BitVec 32 := Scalar.minsi v488 c15_i32
  let c256_i32 : BitVec 32 := 256#32
  let v490 : BitVec 32 := Scalar.muli v489 c256_i32
  let v491 : BitVec 32 := v490
  let v509 : Index := Scalar.indexCast v491
  let c128_327 : Index := 128#32
  ![v509.toNat, 128]
def k0_off29 (i : grid0.Coords) : Fin 2 → Nat :=
  let arg2 : BitVec 32 := BitVec.ofNat 32 (i 2).val
  let c1_i32_315 : BitVec 32 := 1#32
  let v488 : BitVec 32 := Scalar.addi arg2 c1_i32_315
  let c15_i32 : BitVec 32 := 15#32
  let v489 : BitVec 32 := Scalar.minsi v488 c15_i32
  let c256_i32 : BitVec 32 := 256#32
  let v490 : BitVec 32 := Scalar.muli v489 c256_i32
  let v491 : BitVec 32 := v490
  let v525 : Index := Scalar.indexCast v491
  let c256_339 : Index := 256#32
  ![v525.toNat, 256]
def k0_off30 (i : grid0.Coords) : Fin 2 → Nat :=
  let arg2 : BitVec 32 := BitVec.ofNat 32 (i 2).val
  let c1_i32_315 : BitVec 32 := 1#32
  let v488 : BitVec 32 := Scalar.addi arg2 c1_i32_315
  let c15_i32 : BitVec 32 := 15#32
  let v489 : BitVec 32 := Scalar.minsi v488 c15_i32
  let c256_i32 : BitVec 32 := 256#32
  let v490 : BitVec 32 := Scalar.muli v489 c256_i32
  let v491 : BitVec 32 := v490
  let v541 : Index := Scalar.indexCast v491
  let c384_351 : Index := 384#32
  ![v541.toNat, 384]
def k0_mult31 : BitVec 32 :=
  let c0_i32_363 : BitVec 32 := 0#32
  c0_i32_363
def k0_cond6 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c2_i32_74 : BitVec 32 := 2#32
  let c0_i32_75 : BitVec 32 := 0#32
  let v137 : BitVec 1 := Scalar.cmpi .eq c2_i32_74 c0_i32_75
  let c1_i32_76 : BitVec 32 := 1#32
  let v138 : BitVec 32 := Scalar.select v137 c1_i32_76 c2_i32_74
  let v139 : BitVec 32 := Scalar.remsi v16 v138
  let c0_i32_78 : BitVec 32 := 0#32
  let v141 : BitVec 1 := Scalar.cmpi .slt v139 c0_i32_78
  let c0_i32_79 : BitVec 32 := 0#32
  let v142 : BitVec 1 := Scalar.cmpi .slt v138 c0_i32_79
  let v143 : BitVec 1 := Scalar.xori v141 v142
  let c0_i32_77 : BitVec 32 := 0#32
  let v140 : BitVec 1 := Scalar.cmpi .ne v139 c0_i32_77
  let v144 : BitVec 1 := Scalar.andi v143 v140
  let v145 : BitVec 32 := Scalar.addi v139 v138
  let v146 : BitVec 32 := Scalar.select v144 v145 v139
  let c0_i32_80 : BitVec 32 := 0#32
  let v147 : BitVec 1 := Scalar.cmpi .eq v146 c0_i32_80
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_81 : BitVec 32 := 0#32
  let v148 : BitVec 1 := Scalar.cmpi .eq v26 c0_i32_81
  let v149 : BitVec 1 := Scalar.andi v147 v148
  let v150 : BitVec 32 := Scalar.extui v149
  let c0_i32_82 : BitVec 32 := 0#32
  let v151 : BitVec 1 := Scalar.cmpi .ne v150 c0_i32_82
  v151

def k0_mult32 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  v182
def k0_off31 (i : grid0.Coords) : Fin 2 → Nat :=
  let c0_114 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v202 : Index := Scalar.indexCast v183
  ![0, v202.toNat]
def k0_off32 (i : grid0.Coords) : Fin 2 → Nat :=
  let c144 : Index := 144#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v233 : Index := Scalar.indexCast v183
  ![144, v233.toNat]
def k0_off33 (i : grid0.Coords) : Fin 2 → Nat :=
  let c288 : Index := 288#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v264 : Index := Scalar.indexCast v183
  ![288, v264.toNat]
def k0_off34 (i : grid0.Coords) : Fin 2 → Nat :=
  let c432 : Index := 432#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v295 : Index := Scalar.indexCast v183
  ![432, v295.toNat]
def k0_mult33 (i : grid0.Coords) : BitVec 32 :=
  let arg2 : BitVec 32 := BitVec.ofNat 32 (i 2).val
  let c1_i32_182 : BitVec 32 := 1#32
  let v308 : BitVec 32 := Scalar.addi arg2 c1_i32_182
  let c15_i32 : BitVec 32 := 15#32
  let v309 : BitVec 32 := Scalar.minsi v308 c15_i32
  let c256_i32 : BitVec 32 := 256#32
  let v310 : BitVec 32 := Scalar.muli v309 c256_i32
  v310
def k0_off35 (i : grid0.Coords) : Fin 2 → Nat :=
  let arg2 : BitVec 32 := BitVec.ofNat 32 (i 2).val
  let c1_i32_182 : BitVec 32 := 1#32
  let v308 : BitVec 32 := Scalar.addi arg2 c1_i32_182
  let c15_i32 : BitVec 32 := 15#32
  let v309 : BitVec 32 := Scalar.minsi v308 c15_i32
  let c256_i32 : BitVec 32 := 256#32
  let v310 : BitVec 32 := Scalar.muli v309 c256_i32
  let v311 : BitVec 32 := v310
  let v313 : Index := Scalar.indexCast v311
  let c0_183 : Index := 0#32
  ![v313.toNat, 0]
def k0_off36 (i : grid0.Coords) : Fin 2 → Nat :=
  let arg2 : BitVec 32 := BitVec.ofNat 32 (i 2).val
  let c1_i32_182 : BitVec 32 := 1#32
  let v308 : BitVec 32 := Scalar.addi arg2 c1_i32_182
  let c15_i32 : BitVec 32 := 15#32
  let v309 : BitVec 32 := Scalar.minsi v308 c15_i32
  let c256_i32 : BitVec 32 := 256#32
  let v310 : BitVec 32 := Scalar.muli v309 c256_i32
  let v311 : BitVec 32 := v310
  let v329 : Index := Scalar.indexCast v311
  let c128 : Index := 128#32
  ![v329.toNat, 128]
def k0_off37 (i : grid0.Coords) : Fin 2 → Nat :=
  let arg2 : BitVec 32 := BitVec.ofNat 32 (i 2).val
  let c1_i32_182 : BitVec 32 := 1#32
  let v308 : BitVec 32 := Scalar.addi arg2 c1_i32_182
  let c15_i32 : BitVec 32 := 15#32
  let v309 : BitVec 32 := Scalar.minsi v308 c15_i32
  let c256_i32 : BitVec 32 := 256#32
  let v310 : BitVec 32 := Scalar.muli v309 c256_i32
  let v311 : BitVec 32 := v310
  let v345 : Index := Scalar.indexCast v311
  let c256_204 : Index := 256#32
  ![v345.toNat, 256]
def k0_off38 (i : grid0.Coords) : Fin 2 → Nat :=
  let arg2 : BitVec 32 := BitVec.ofNat 32 (i 2).val
  let c1_i32_182 : BitVec 32 := 1#32
  let v308 : BitVec 32 := Scalar.addi arg2 c1_i32_182
  let c15_i32 : BitVec 32 := 15#32
  let v309 : BitVec 32 := Scalar.minsi v308 c15_i32
  let c256_i32 : BitVec 32 := 256#32
  let v310 : BitVec 32 := Scalar.muli v309 c256_i32
  let v311 : BitVec 32 := v310
  let v361 : Index := Scalar.indexCast v311
  let c384 : Index := 384#32
  ![v361.toNat, 384]
def k0_mult34 : BitVec 32 :=
  let c0_i32_227 : BitVec 32 := 0#32
  c0_i32_227
def k0_cond7 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c2_i32_83 : BitVec 32 := 2#32
  let c0_i32_84 : BitVec 32 := 0#32
  let v152 : BitVec 1 := Scalar.cmpi .eq c2_i32_83 c0_i32_84
  let c1_i32_85 : BitVec 32 := 1#32
  let v153 : BitVec 32 := Scalar.select v152 c1_i32_85 c2_i32_83
  let v154 : BitVec 32 := Scalar.remsi v16 v153
  let c0_i32_87 : BitVec 32 := 0#32
  let v156 : BitVec 1 := Scalar.cmpi .slt v154 c0_i32_87
  let c0_i32_88 : BitVec 32 := 0#32
  let v157 : BitVec 1 := Scalar.cmpi .slt v153 c0_i32_88
  let v158 : BitVec 1 := Scalar.xori v156 v157
  let c0_i32_86 : BitVec 32 := 0#32
  let v155 : BitVec 1 := Scalar.cmpi .ne v154 c0_i32_86
  let v159 : BitVec 1 := Scalar.andi v158 v155
  let v160 : BitVec 32 := Scalar.addi v154 v153
  let v161 : BitVec 32 := Scalar.select v159 v160 v154
  let c1_i32_89 : BitVec 32 := 1#32
  let v162 : BitVec 1 := Scalar.cmpi .eq v161 c1_i32_89
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c1_i32_90 : BitVec 32 := 1#32
  let v163 : BitVec 1 := Scalar.cmpi .eq v26 c1_i32_90
  let v164 : BitVec 1 := Scalar.andi v162 v163
  let v165 : BitVec 32 := Scalar.extui v164
  let c0_i32_91 : BitVec 32 := 0#32
  let v166 : BitVec 1 := Scalar.cmpi .ne v165 c0_i32_91
  v166

def k0_mult35 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  v182
def k0_off39 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v184 : Index := Scalar.indexCast v183
  let c0_101 : Index := 0#32
  ![v184.toNat, 0]
def k0_off40 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v187 : Index := Scalar.indexCast v183
  let c0_102 : Index := 0#32
  ![v187.toNat, 0]
def k0_off41 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v202 : Index := Scalar.indexCast v183
  let c128 : Index := 128#32
  ![v202.toNat, 128]
def k0_off42 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v217 : Index := Scalar.indexCast v183
  let c256 : Index := 256#32
  ![v217.toNat, 256]
def k0_off43 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v232 : Index := Scalar.indexCast v183
  let c384 : Index := 384#32
  ![v232.toNat, 384]
def k0_mult36 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c1_i32_151 : BitVec 32 := 1#32
  let v247 : BitVec 32 := Scalar.subi v16 c1_i32_151
  let c512_i32_152 : BitVec 32 := 512#32
  let v248 : BitVec 32 := Scalar.muli v247 c512_i32_152
  v248
def k0_off44 (i : grid0.Coords) : Fin 2 → Nat :=
  let c0_165 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c1_i32_151 : BitVec 32 := 1#32
  let v247 : BitVec 32 := Scalar.subi v16 c1_i32_151
  let c512_i32_152 : BitVec 32 := 512#32
  let v248 : BitVec 32 := Scalar.muli v247 c512_i32_152
  let v249 : BitVec 32 := v248
  let v265 : Index := Scalar.indexCast v249
  ![0, v265.toNat]
def k0_off45 (i : grid0.Coords) : Fin 2 → Nat :=
  let c144 : Index := 144#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c1_i32_151 : BitVec 32 := 1#32
  let v247 : BitVec 32 := Scalar.subi v16 c1_i32_151
  let c512_i32_152 : BitVec 32 := 512#32
  let v248 : BitVec 32 := Scalar.muli v247 c512_i32_152
  let v249 : BitVec 32 := v248
  let v293 : Index := Scalar.indexCast v249
  ![144, v293.toNat]
def k0_off46 (i : grid0.Coords) : Fin 2 → Nat :=
  let c288 : Index := 288#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c1_i32_151 : BitVec 32 := 1#32
  let v247 : BitVec 32 := Scalar.subi v16 c1_i32_151
  let c512_i32_152 : BitVec 32 := 512#32
  let v248 : BitVec 32 := Scalar.muli v247 c512_i32_152
  let v249 : BitVec 32 := v248
  let v321 : Index := Scalar.indexCast v249
  ![288, v321.toNat]
def k0_off47 (i : grid0.Coords) : Fin 2 → Nat :=
  let c432 : Index := 432#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c1_i32_151 : BitVec 32 := 1#32
  let v247 : BitVec 32 := Scalar.subi v16 c1_i32_151
  let c512_i32_152 : BitVec 32 := 512#32
  let v248 : BitVec 32 := Scalar.muli v247 c512_i32_152
  let v249 : BitVec 32 := v248
  let v349 : Index := Scalar.indexCast v249
  ![432, v349.toNat]
def k0_mult37 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32_230 : BitVec 32 := 512#32
  let v362 : BitVec 32 := Scalar.muli v16 c512_i32_230
  v362
def k0_off48 (i : grid0.Coords) : Fin 2 → Nat :=
  let c0_244 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32_230 : BitVec 32 := 512#32
  let v362 : BitVec 32 := Scalar.muli v16 c512_i32_230
  let v363 : BitVec 32 := v362
  let v382 : Index := Scalar.indexCast v363
  ![0, v382.toNat]
def k0_off49 (i : grid0.Coords) : Fin 2 → Nat :=
  let c144_265 : Index := 144#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32_230 : BitVec 32 := 512#32
  let v362 : BitVec 32 := Scalar.muli v16 c512_i32_230
  let v363 : BitVec 32 := v362
  let v413 : Index := Scalar.indexCast v363
  ![144, v413.toNat]
def k0_off50 (i : grid0.Coords) : Fin 2 → Nat :=
  let c288_286 : Index := 288#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32_230 : BitVec 32 := 512#32
  let v362 : BitVec 32 := Scalar.muli v16 c512_i32_230
  let v363 : BitVec 32 := v362
  let v444 : Index := Scalar.indexCast v363
  ![288, v444.toNat]
def k0_off51 (i : grid0.Coords) : Fin 2 → Nat :=
  let c432_307 : Index := 432#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32_230 : BitVec 32 := 512#32
  let v362 : BitVec 32 := Scalar.muli v16 c512_i32_230
  let v363 : BitVec 32 := v362
  let v475 : Index := Scalar.indexCast v363
  ![432, v475.toNat]
def k0_mult38 (i : grid0.Coords) : BitVec 32 :=
  let arg2 : BitVec 32 := BitVec.ofNat 32 (i 2).val
  let c1_i32_315 : BitVec 32 := 1#32
  let v488 : BitVec 32 := Scalar.addi arg2 c1_i32_315
  let c15_i32 : BitVec 32 := 15#32
  let v489 : BitVec 32 := Scalar.minsi v488 c15_i32
  let c256_i32 : BitVec 32 := 256#32
  let v490 : BitVec 32 := Scalar.muli v489 c256_i32
  v490
def k0_off52 (i : grid0.Coords) : Fin 2 → Nat :=
  let arg2 : BitVec 32 := BitVec.ofNat 32 (i 2).val
  let c1_i32_315 : BitVec 32 := 1#32
  let v488 : BitVec 32 := Scalar.addi arg2 c1_i32_315
  let c15_i32 : BitVec 32 := 15#32
  let v489 : BitVec 32 := Scalar.minsi v488 c15_i32
  let c256_i32 : BitVec 32 := 256#32
  let v490 : BitVec 32 := Scalar.muli v489 c256_i32
  let v491 : BitVec 32 := v490
  let v493 : Index := Scalar.indexCast v491
  let c0_316 : Index := 0#32
  ![v493.toNat, 0]
def k0_off53 (i : grid0.Coords) : Fin 2 → Nat :=
  let arg2 : BitVec 32 := BitVec.ofNat 32 (i 2).val
  let c1_i32_315 : BitVec 32 := 1#32
  let v488 : BitVec 32 := Scalar.addi arg2 c1_i32_315
  let c15_i32 : BitVec 32 := 15#32
  let v489 : BitVec 32 := Scalar.minsi v488 c15_i32
  let c256_i32 : BitVec 32 := 256#32
  let v490 : BitVec 32 := Scalar.muli v489 c256_i32
  let v491 : BitVec 32 := v490
  let v509 : Index := Scalar.indexCast v491
  let c128_327 : Index := 128#32
  ![v509.toNat, 128]
def k0_off54 (i : grid0.Coords) : Fin 2 → Nat :=
  let arg2 : BitVec 32 := BitVec.ofNat 32 (i 2).val
  let c1_i32_315 : BitVec 32 := 1#32
  let v488 : BitVec 32 := Scalar.addi arg2 c1_i32_315
  let c15_i32 : BitVec 32 := 15#32
  let v489 : BitVec 32 := Scalar.minsi v488 c15_i32
  let c256_i32 : BitVec 32 := 256#32
  let v490 : BitVec 32 := Scalar.muli v489 c256_i32
  let v491 : BitVec 32 := v490
  let v525 : Index := Scalar.indexCast v491
  let c256_339 : Index := 256#32
  ![v525.toNat, 256]
def k0_off55 (i : grid0.Coords) : Fin 2 → Nat :=
  let arg2 : BitVec 32 := BitVec.ofNat 32 (i 2).val
  let c1_i32_315 : BitVec 32 := 1#32
  let v488 : BitVec 32 := Scalar.addi arg2 c1_i32_315
  let c15_i32 : BitVec 32 := 15#32
  let v489 : BitVec 32 := Scalar.minsi v488 c15_i32
  let c256_i32 : BitVec 32 := 256#32
  let v490 : BitVec 32 := Scalar.muli v489 c256_i32
  let v491 : BitVec 32 := v490
  let v541 : Index := Scalar.indexCast v491
  let c384_351 : Index := 384#32
  ![v541.toNat, 384]
def k0_mult39 : BitVec 32 :=
  let c0_i32_363 : BitVec 32 := 0#32
  c0_i32_363
def k0_cond8 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c2_i32_92 : BitVec 32 := 2#32
  let c0_i32_93 : BitVec 32 := 0#32
  let v167 : BitVec 1 := Scalar.cmpi .eq c2_i32_92 c0_i32_93
  let c1_i32_94 : BitVec 32 := 1#32
  let v168 : BitVec 32 := Scalar.select v167 c1_i32_94 c2_i32_92
  let v169 : BitVec 32 := Scalar.remsi v16 v168
  let c0_i32_96 : BitVec 32 := 0#32
  let v171 : BitVec 1 := Scalar.cmpi .slt v169 c0_i32_96
  let c0_i32_97 : BitVec 32 := 0#32
  let v172 : BitVec 1 := Scalar.cmpi .slt v168 c0_i32_97
  let v173 : BitVec 1 := Scalar.xori v171 v172
  let c0_i32_95 : BitVec 32 := 0#32
  let v170 : BitVec 1 := Scalar.cmpi .ne v169 c0_i32_95
  let v174 : BitVec 1 := Scalar.andi v173 v170
  let v175 : BitVec 32 := Scalar.addi v169 v168
  let v176 : BitVec 32 := Scalar.select v174 v175 v169
  let c0_i32_98 : BitVec 32 := 0#32
  let v177 : BitVec 1 := Scalar.cmpi .eq v176 c0_i32_98
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c1_i32_99 : BitVec 32 := 1#32
  let v178 : BitVec 1 := Scalar.cmpi .eq v26 c1_i32_99
  let v179 : BitVec 1 := Scalar.andi v177 v178
  let v180 : BitVec 32 := Scalar.extui v179
  let c0_i32_100 : BitVec 32 := 0#32
  let v181 : BitVec 1 := Scalar.cmpi .ne v180 c0_i32_100
  v181

def k0_mult40 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  v182
def k0_off56 (i : grid0.Coords) : Fin 2 → Nat :=
  let c0_114 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v202 : Index := Scalar.indexCast v183
  ![0, v202.toNat]
def k0_off57 (i : grid0.Coords) : Fin 2 → Nat :=
  let c144 : Index := 144#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v233 : Index := Scalar.indexCast v183
  ![144, v233.toNat]
def k0_off58 (i : grid0.Coords) : Fin 2 → Nat :=
  let c288 : Index := 288#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v264 : Index := Scalar.indexCast v183
  ![288, v264.toNat]
def k0_off59 (i : grid0.Coords) : Fin 2 → Nat :=
  let c432 : Index := 432#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v182 : BitVec 32 := Scalar.muli v16 c512_i32
  let v183 : BitVec 32 := v182
  let v295 : Index := Scalar.indexCast v183
  ![432, v295.toNat]
def k0_mult41 (i : grid0.Coords) : BitVec 32 :=
  let arg2 : BitVec 32 := BitVec.ofNat 32 (i 2).val
  let c1_i32_182 : BitVec 32 := 1#32
  let v308 : BitVec 32 := Scalar.addi arg2 c1_i32_182
  let c15_i32 : BitVec 32 := 15#32
  let v309 : BitVec 32 := Scalar.minsi v308 c15_i32
  let c256_i32 : BitVec 32 := 256#32
  let v310 : BitVec 32 := Scalar.muli v309 c256_i32
  v310
def k0_off60 (i : grid0.Coords) : Fin 2 → Nat :=
  let arg2 : BitVec 32 := BitVec.ofNat 32 (i 2).val
  let c1_i32_182 : BitVec 32 := 1#32
  let v308 : BitVec 32 := Scalar.addi arg2 c1_i32_182
  let c15_i32 : BitVec 32 := 15#32
  let v309 : BitVec 32 := Scalar.minsi v308 c15_i32
  let c256_i32 : BitVec 32 := 256#32
  let v310 : BitVec 32 := Scalar.muli v309 c256_i32
  let v311 : BitVec 32 := v310
  let v313 : Index := Scalar.indexCast v311
  let c0_183 : Index := 0#32
  ![v313.toNat, 0]
def k0_off61 (i : grid0.Coords) : Fin 2 → Nat :=
  let arg2 : BitVec 32 := BitVec.ofNat 32 (i 2).val
  let c1_i32_182 : BitVec 32 := 1#32
  let v308 : BitVec 32 := Scalar.addi arg2 c1_i32_182
  let c15_i32 : BitVec 32 := 15#32
  let v309 : BitVec 32 := Scalar.minsi v308 c15_i32
  let c256_i32 : BitVec 32 := 256#32
  let v310 : BitVec 32 := Scalar.muli v309 c256_i32
  let v311 : BitVec 32 := v310
  let v329 : Index := Scalar.indexCast v311
  let c128 : Index := 128#32
  ![v329.toNat, 128]
def k0_off62 (i : grid0.Coords) : Fin 2 → Nat :=
  let arg2 : BitVec 32 := BitVec.ofNat 32 (i 2).val
  let c1_i32_182 : BitVec 32 := 1#32
  let v308 : BitVec 32 := Scalar.addi arg2 c1_i32_182
  let c15_i32 : BitVec 32 := 15#32
  let v309 : BitVec 32 := Scalar.minsi v308 c15_i32
  let c256_i32 : BitVec 32 := 256#32
  let v310 : BitVec 32 := Scalar.muli v309 c256_i32
  let v311 : BitVec 32 := v310
  let v345 : Index := Scalar.indexCast v311
  let c256_204 : Index := 256#32
  ![v345.toNat, 256]
def k0_off63 (i : grid0.Coords) : Fin 2 → Nat :=
  let arg2 : BitVec 32 := BitVec.ofNat 32 (i 2).val
  let c1_i32_182 : BitVec 32 := 1#32
  let v308 : BitVec 32 := Scalar.addi arg2 c1_i32_182
  let c15_i32 : BitVec 32 := 15#32
  let v309 : BitVec 32 := Scalar.minsi v308 c15_i32
  let c256_i32 : BitVec 32 := 256#32
  let v310 : BitVec 32 := Scalar.muli v309 c256_i32
  let v311 : BitVec 32 := v310
  let v361 : Index := Scalar.indexCast v311
  let c384 : Index := 384#32
  ![v361.toNat, 384]
def k0_mult42 : BitVec 32 :=
  let c0_i32_227 : BitVec 32 := 0#32
  c0_i32_227
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S576x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x4096x4x2x64 : Shape := ⟨5, ![4, 4096, 4, 2, 64]⟩
abbrev S4x4096x4x128 : Shape := ⟨4, ![4, 4096, 4, 128]⟩
abbrev S1x1 : Shape := ⟨2, ![1, 1]⟩
abbrev S1x128 : Shape := ⟨2, ![1, 128]⟩
abbrev S4 : Shape := ⟨1, ![4]⟩
abbrev S4x4x2x4096x4096 : Shape := ⟨5, ![4, 4, 2, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x1x1x1 : Shape := ⟨4, ![4, 1, 1, 1]⟩
abbrev S1x1x4096x4096 : Shape := ⟨4, ![1, 1, 4096, 4096]⟩
abbrev S4x1x4096x4096 : Shape := ⟨4, ![4, 1, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S128 : Shape := ⟨1, ![128]⟩
abbrev S1x1x1x128 : Shape := ⟨4, ![1, 1, 1, 128]⟩
abbrev S16384x512 : Shape := ⟨2, ![16384, 512]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x2x64, .f32⟩
  | .hbm, ⟨2, _⟩ => ⟨S4x4096x4x128, .f32⟩
  | .hbm, ⟨3, _⟩ => ⟨S1x1, .f32⟩
  | .hbm, ⟨4, _⟩ => ⟨S1x128, .f32⟩
  | .hbm, ⟨5, _⟩ => ⟨S4, .f32⟩
  | .hbm, ⟨6, _⟩ => ⟨S4x4x2x4096x4096, .f32⟩
  | .hbm, ⟨7, _⟩ => ⟨S_, .f32⟩
  | .hbm, ⟨8, _⟩ => ⟨S4x4x2x4096x4096, .f32⟩
  | .hbm, ⟨9, _⟩ => ⟨S4x4x2x4096x4096, .f32⟩
  | .hbm, ⟨10, _⟩ => ⟨S4096, .i32⟩
  | .hbm, ⟨11, _⟩ => ⟨S4096x1, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S4x1x1x1, .f32⟩
  | .hbm, ⟨17, _⟩ => ⟨S4x1x1x1, .f32⟩
  | .hbm, ⟨18, _⟩ => ⟨S4096x4096, .f32⟩
  | .hbm, ⟨19, _⟩ => ⟨S1x1x4096x4096, .f32⟩
  | .hbm, ⟨20, _⟩ => ⟨S4x1x4096x4096, .f32⟩
  | .hbm, ⟨21, _⟩ => ⟨S4x1x4096x4096, .f32⟩
  | .hbm, ⟨22, _⟩ => ⟨S4x1x4096x4096, .f32⟩
  | .hbm, ⟨23, _⟩ => ⟨S_, .i32⟩
  | .hbm, ⟨24, _⟩ => ⟨S4096x4096, .i32⟩
  | .hbm, ⟨25, _⟩ => ⟨S4096x4096, .i1⟩
  | .hbm, ⟨26, _⟩ => ⟨S1x4x1x4096x4096, .f32⟩
  | .hbm, ⟨27, _⟩ => ⟨S4x4x2x4096x4096, .f32⟩
  | .hbm, ⟨28, _⟩ => ⟨S4x4x2x4096x4096, .f32⟩
  | .hbm, ⟨29, _⟩ => ⟨S_, .f32⟩
  | .hbm, ⟨30, _⟩ => ⟨S_, .f32⟩
  | .hbm, ⟨31, _⟩ => ⟨S4x4x2x4096x4096, .i1⟩
  | .hbm, ⟨32, _⟩ => ⟨S4x4x2x4096x4096, .f32⟩
  | .hbm, ⟨33, _⟩ => ⟨S4x4x2x4096x4096, .f32⟩
  | .hbm, ⟨34, _⟩ => ⟨S_, .f32⟩
  | .hbm, ⟨35, _⟩ => ⟨S4x4x2x4096, .f32⟩
  | .hbm, ⟨36, _⟩ => ⟨S_, .f32⟩
  | .hbm, ⟨37, _⟩ => ⟨S4x4x2x4096, .f32⟩
  | .hbm, ⟨38, _⟩ => ⟨S4x4x2x4096, .f32⟩
  | .hbm, ⟨39, _⟩ => ⟨S4x4x2x4096x1, .f32⟩
  | .hbm, ⟨40, _⟩ => ⟨S4x4x2x4096x4096, .f32⟩
  | .hbm, ⟨41, _⟩ => ⟨S4x4x2x4096x4096, .f32⟩
  | .hbm, ⟨42, _⟩ => ⟨S4x4x2x4096x4096, .f32⟩
  | .hbm, ⟨43, _⟩ => ⟨S_, .f32⟩
  | .hbm, ⟨44, _⟩ => ⟨S4x4x2x4096, .f32⟩
  | .hbm, ⟨45, _⟩ => ⟨S4x4x2x4096x1, .f32⟩
  | .hbm, ⟨46, _⟩ => ⟨S4x4x2x4096x4096, .f32⟩
  | .hbm, ⟨47, _⟩ => ⟨S4x4x2x4096x4096, .f32⟩
  | .hbm, ⟨48, _⟩ => ⟨S4x4x1x4096x4096, .f32⟩
  | .hbm, ⟨49, _⟩ => ⟨S4x4x4096x4096, .f32⟩
  | .hbm, ⟨50, _⟩ => ⟨S_, .f32⟩
  | .hbm, ⟨51, _⟩ => ⟨S4x4x1x4096x4096, .f32⟩
  | .hbm, ⟨52, _⟩ => ⟨S4x4x4096x4096, .f32⟩
  | .hbm, ⟨53, _⟩ => ⟨S4x4x4096x4096, .f32⟩
  | .hbm, ⟨54, _⟩ => ⟨S4x4x4096x4096, .f32⟩
  | .hbm, ⟨55, _⟩ => ⟨S4x4x4096x4096, .f32⟩
  | .hbm, ⟨56, _⟩ => ⟨S4x4x128x4096, .f32⟩
  | .hbm, ⟨57, _⟩ => ⟨S4x4096x4x128, .f32⟩
  | .hbm, ⟨58, _⟩ => ⟨S4x4096x4x128, .f32⟩
  | .hbm, ⟨59, _⟩ => ⟨S_, .f32⟩
  | .hbm, ⟨60, _⟩ => ⟨S4x4096x4, .f32⟩
  | .hbm, ⟨61, _⟩ => ⟨S4x4096x4x1, .f32⟩
  | .hbm, ⟨62, _⟩ => ⟨S_, .f32⟩
  | .hbm, ⟨63, _⟩ => ⟨S4x4096x4x1, .f32⟩
  | .hbm, ⟨64, _⟩ => ⟨S4x4096x4x1, .f32⟩
  | .hbm, ⟨65, _⟩ => ⟨S_, .f32⟩
  | .hbm, ⟨66, _⟩ => ⟨S4x4096x4x1, .f32⟩
  | .hbm, ⟨67, _⟩ => ⟨S4x4096x4x1, .f32⟩
  | .hbm, ⟨68, _⟩ => ⟨S4x4096x4x1, .f32⟩
  | .hbm, ⟨69, _⟩ => ⟨S4x4096x4x128, .f32⟩
  | .hbm, ⟨70, _⟩ => ⟨S4x4096x4x128, .f32⟩
  | .hbm, ⟨71, _⟩ => ⟨S128, .f32⟩
  | .hbm, ⟨72, _⟩ => ⟨S1x1x1x128, .f32⟩
  | .hbm, ⟨73, _⟩ => ⟨S4x4096x4x128, .f32⟩
  | .hbm, ⟨74, _⟩ => ⟨S4x4096x4x128, .f32⟩
  | .hbm, ⟨75, _⟩ => ⟨S_, .f32⟩
  | .hbm, ⟨76, _⟩ => ⟨S4x4096x4x128, .f32⟩
  | .hbm, ⟨77, _⟩ => ⟨S4x4096x4x128, .f32⟩
  | .hbm, ⟨78, _⟩ => ⟨S16384x512, .f32⟩
  | .hbm, ⟨79, _⟩ => ⟨S16384x512, .bf16⟩
  | _, _ => ⟨S4x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x512, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4096, .f32⟩
  | .hbm, ⟨9, _⟩ => ⟨S1x4096x1024, .f32⟩
  | .hbm, ⟨10, _⟩ => ⟨S1024, .f32⟩
  | .hbm, ⟨11, _⟩ => ⟨S16384x1024, .f32⟩
  | .hbm, ⟨12, _⟩ => ⟨S4x4096x1024, .f32⟩
  | .hbm, ⟨13, _⟩ => ⟨S16384x1024, .f32⟩
  | .hbm, ⟨14, _⟩ => ⟨S16384x1024, .bf16⟩
  | .hbm, ⟨15, _⟩ => ⟨S16384x1024, .f32⟩
  | .hbm, ⟨16, _⟩ => ⟨S16384x1024, .bf16⟩
  | .hbm, ⟨17, _⟩ => ⟨S16384x512, .f32⟩
  | .hbm, ⟨18, _⟩ => ⟨S16384x512, .bf16⟩
  | .hbm, ⟨19, _⟩ => ⟨S512x1024, .f32⟩
  | .hbm, ⟨20, _⟩ => ⟨S1024x1024, .f32⟩
  | .hbm, ⟨21, _⟩ => ⟨S1024x4096, .f32⟩
  | .hbm, ⟨22, _⟩ => ⟨S1024x4096, .bf16⟩
  | .hbm, ⟨23, _⟩ => ⟨S4096x1024, .f32⟩
  | .hbm, ⟨24, _⟩ => ⟨S4096x1024, .bf16⟩
  | .hbm, ⟨25, _⟩ => ⟨S1x1024, .f32⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S1024x1024, .f32⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4x4096x1024 : Shape := ⟨3, ![4, 4096, 1024]⟩
abbrev S4x4096x512 : Shape := ⟨3, ![4, 4096, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4096 : Shape := ⟨2, ![1024, 4096]⟩
abbrev S4x4096x4096 : Shape := ⟨3, ![4, 4096, 4096]⟩
abbrev S4096x1024 : Shape := ⟨2, ![4096, 1024]⟩
abbrev S16384x1024 : Shape := ⟨2, ![16384, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x512, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4096, .f32⟩
  | .hbm, ⟨9, _⟩ => ⟨S1x4096x1024, .f32⟩
  | .hbm, ⟨10, _⟩ => ⟨S1024, .f32⟩
  | .hbm, ⟨11, _⟩ => ⟨S512x1024, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S1024x1024, .f32⟩
  | .hbm, ⟨17, _⟩ => ⟨S4x4096x1024, .f32⟩
  | .hbm, ⟨18, _⟩ => ⟨S4x4096x1024, .f32⟩
  | .hbm, ⟨19, _⟩ => ⟨S1024, .f32⟩
  | .hbm, ⟨20, _⟩ => ⟨S4x4096x1024, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S1024x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S4096x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1, .f32⟩
  | .hbm, ⟨56, _⟩ => ⟨S4x4096x1024, .f32⟩
  | .hbm, ⟨57, _⟩ => ⟨S4x4096x1024, .f32⟩
  | .hbm, ⟨58, _⟩ => ⟨S1x1x1024, .f32⟩
  | .hbm, ⟨59, _⟩ => ⟨S4x4096x1024, .f32⟩
  | .hbm, ⟨60, _⟩ => ⟨S4x4096x1024, .f32⟩
  | .hbm, ⟨61, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.Attn.PreFacts.lean ====
/- The shapes the precondition's operations take. -/
module

public import proofs.«01_k».proof.Pre_finite
public import Idealize.ShloMosaic.Lib.Affine
public import Idealize.ShloMosaic.Lib.Decide
public import Idealize.ShloMosaic.Lib.Exec

@[expose] public section

namespace Cert.Pre_finite.Val

open Idealize.ShloMosaic Idealize.SL.Sem
/-! ## The facts -/

theorem bcast_S_S4x4096x4x2x64 : S_.BroadcastsInDim S4x4096x4x2x64 (![] : Fin 0 → Fin S4x4096x4x2x64.rank) := by decide
theorem reducesTo_S4x4096x4x2x64_S_d0_1_2_3_4 : S4x4096x4x2x64.ReducesTo [0, 1, 2, 3, 4] S_ := by decide
theorem h_S_ : 0 < S_.numel := by decide
theorem bcast_S_S4x4096x4x128 : S_.BroadcastsInDim S4x4096x4x128 (![] : Fin 0 → Fin S4x4096x4x128.rank) := by decide
theorem reducesTo_S4x4096x4x128_S_d0_1_2_3 : S4x4096x4x128.ReducesTo [0, 1, 2, 3] S_ := by decide
theorem bcast_S_S1x1 : S_.BroadcastsInDim S1x1 (![] : Fin 0 → Fin S1x1.rank) := by decide
theorem reducesTo_S1x1_S_d0_1 : S1x1.ReducesTo [0, 1] S_ := by decide

/-- The function's facts, proved: the instance it takes. -/
instance facts : Cert.Pre_finite.Facts where
  bcast_S_S4x4096x4x2x64 := @bcast_S_S4x4096x4x2x64
  reducesTo_S4x4096x4x2x64_S_d0_1_2_3_4 := @reducesTo_S4x4096x4x2x64_S_d0_1_2_3_4
  h_S_ := @h_S_
  bcast_S_S4x4096x4x128 := @bcast_S_S4x4096x4x128
  reducesTo_S4x4096x4x128_S_d0_1_2_3 := @reducesTo_S4x4096x4x128_S_d0_1_2_3
  bcast_S_S1x1 := @bcast_S_S1x1
  reducesTo_S1x1_S_d0_1 := @reducesTo_S1x1_S_d0_1

end Cert.Pre_finite.Val
-- ==== Proof.Attn.Core.lean ====
/- The running softmax, one entry at a time: a running maximum `m` and an accumulator `a` that after the first `N` keys
   holds `∑ j < N, 2 ^ (S j - m) * v j`, over the extended reals of the ideal semantics. -/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Attn

/-- The weighted sum of the first `N` values, the weights relative to `μ`. -/
def acc (S v : ℕ → ℝ) (N : ℕ) (μ : ℝ) : ℝ := ∑ j ∈ Finset.range N, (2 : ℝ) ^ (S j - μ) * v j

/-- The state after the first `N` keys: nothing seen, or the weighted sum of them relative to the running maximum. -/
def G1 (N : ℕ) (S v : ℕ → ℝ) (m a : EReal) : Prop :=
  (N = 0 ∧ m = ⊥ ∧ a = 0) ∨ ∃ μ : ℝ, m = (μ : EReal) ∧ a = ((acc S v N μ : ℝ) : EReal)

theorem max_coe (a b : ℝ) : max (a : EReal) (b : EReal) = ((max a b : ℝ) : EReal) :=
  (EReal.coe_strictMono.monotone.map_max (a := a) (b := b)).symm

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A maximum of finitely many entries, each a real or `-∞`, one of them a real, is a real. -/
theorem fold_real {R : ℕ} (x : Fin R → EReal) (hx : ∀ j, x j ≠ ⊤) (j0 : Fin R) (h0 : x j0 ≠ ⊥) :
    ∃ r : ℝ, Finset.univ.fold max (⊥ : EReal) x = (r : EReal) := by
  have e : Finset.univ.fold max (⊥ : EReal) x = Finset.univ.sup x := rfl
  rw [e]
  have h1 : Finset.univ.sup x ≠ ⊥ := fun h => h0 (le_bot_iff.mp (h ▸ Finset.le_sup (Finset.mem_univ j0)))
  have h2 : Finset.univ.sup x ≠ ⊤ := by
    apply ne_of_lt
    rw [Finset.sup_lt_iff (by exact bot_lt_top)]
    exact fun j _ => lt_top_iff_ne_top.mpr (hx j)
  exact ⟨_, (EReal.coe_toReal h2 h1).symm⟩

/-- Rows `n ..` of a block, those below `N'` live. -/
theorem rows_sum {R : ℕ} (f : ℕ → ℝ) (n N' : ℕ) (h0 : n ≤ N') (h1 : N' ≤ n + R) :
    ∑ j : Fin R, (if n + j.val < N' then f (n + j.val) else 0) + ∑ j ∈ Finset.range n, f j = ∑ j ∈ Finset.range N', f j := by
  rw [Fin.sum_univ_eq_sum_range (fun j => if n + j < N' then f (n + j) else 0) R]
  obtain ⟨k, rfl⟩ := Nat.exists_eq_add_of_le h0
  rw [Finset.sum_range_add, add_comm]
  congr 1
  rw [← Finset.sum_filter]
  have : (Finset.range R).filter (fun j => n + j < n + k) = Finset.range k := by
    ext j; simp only [Finset.mem_filter, Finset.mem_range]; omega
  rw [this]

/-- One block of keys taken up: the block's maximum is real, dead rows score `-∞`. -/
theorem step1 {R : ℕ} (S v : ℕ → ℝ) (n N' : ℕ) (m a : EReal) (hG : G1 n S v m a) (M : ℝ) (x : Fin R → EReal)
    (h0 : n < N') (h1 : N' ≤ n + R) (hx : ∀ j : Fin R, x j = if n + j.val < N' then ((S (n + j.val) : ℝ) : EReal) else ⊥) :
    G1 N' S v (max m (M : EReal))
      (Ideal.exp2 (m - max m (M : EReal)) * a + ∑ j : Fin R, ((v (n + j.val) : ℝ) : EReal) * Ideal.exp2 (x j - max m (M : EReal))) := by
  have key : ∀ μ' : ℝ, ∑ j : Fin R, ((v (n + j.val) : ℝ) : EReal) * Ideal.exp2 (x j - (μ' : EReal))
      = ((∑ j : Fin R, (if n + j.val < N' then (2 : ℝ) ^ (S (n + j.val) - μ') * v (n + j.val) else 0) : ℝ) : EReal) := by
    intro μ'
    rw [← sum_coe]
    refine Finset.sum_congr rfl fun j _ => ?_
    rw [hx j]
    split_ifs with h
    · rw [← EReal.coe_sub, Ideal.exp2_coe, ← EReal.coe_mul, mul_comm]; rfl
    · rw [EReal.bot_sub, Ideal.exp2_bot, mul_zero, EReal.coe_zero]
  have tot : ∀ μ' : ℝ, (∑ j : Fin R, (if n + j.val < N' then (2 : ℝ) ^ (S (n + j.val) - μ') * v (n + j.val) else 0))
      + acc S v n μ' = acc S v N' μ' :=
    fun μ' => rows_sum (fun j => (2 : ℝ) ^ (S j - μ') * v j) n N' h0.le h1
  rcases hG with ⟨hn, hm, ha⟩ | ⟨μ, hm, ha⟩
  · subst hn hm ha
    rw [max_eq_right bot_le, key M, mul_zero, zero_add]
    refine .inr ⟨M, rfl, ?_⟩
    rw [← tot M]
    simp [acc]
  · subst hm ha
    rw [max_coe, key, ← EReal.coe_sub, Ideal.exp2_coe]
    refine .inr ⟨_, rfl, ?_⟩
    rw [← EReal.coe_mul, ← EReal.coe_add, ← tot, add_comm]
    congr 2
    unfold acc
    rw [Finset.mul_sum]
    refine Finset.sum_congr rfl fun j _ => ?_
    rw [← mul_assoc]
    congr 1
    show (2 : ℝ) ^ (μ - max μ M) * (2 : ℝ) ^ (S j - μ) = _
    rw [← Real.rpow_add two_pos]
    congr 1
    ring

end Attn

end
-- ==== Proof.Attn.Step.lean ====
/- One block of keys taken up by the accumulator, over variable arrays: the operations a visit of the kernel's body
   performs, as a step of the running softmax of every query column and every row of the transposed values. -/
module

public import proofs.«01_k».proof.Proof.Gen.KernelIdeal.Skeleton
public import proofs.«01_k».proof.Proof.Attn.Core
public import Idealize.ShloMosaic.Lib.Pipeline.ValueKit

@[expose] public section

set_option maxRecDepth 16384

noncomputable section

open Idealize.ShloMosaic Idealize.ShloMosaic.TcCoe Idealize.SL.Sem

namespace Attn

/-- The real entries of one batch's arrays: queries and keys (position, lane), the position lanes of the keys
    (position, lane) and of the queries (head, lane), the transposed values (row, position). -/
structure Data where
  qr : ℕ → ℕ → ℝ
  kr : ℕ → ℕ → ℝ
  kf : ℕ → ℕ → ℝ
  cf : ℕ → ℕ → ℝ
  vr : ℕ → ℕ → ℝ

variable (D : Data)

/-- Column `ql`, lane `c` of the stacked queries of tile `i`: the first group's queries, then the second's, then the
    position lanes. -/
def q2r (h i ql c : ℕ) : ℝ :=
  if c < 128 then
    (if ql < 256 then (if c < 64 then D.qr (i * 256 + ql) (h * 128 + c) else 0)
      else (if 64 ≤ c then D.qr (i * 256 + (ql - 256)) (h * 128 + c) else 0))
  else D.cf h (c - 128)

/-- The score of column `ql` of tile `i` against key `p`. -/
def S (h i ql p : ℕ) : ℝ :=
  ∑ c : Fin 128, D.kr p (h * 128 + c) * q2r D h i ql c + ∑ c : Fin 128, D.kf p c * q2r D h i ql (128 + c)

/-- The query position of column `ql` of tile `i`. -/
def qpos (i ql : ℕ) : ℕ := i * 256 + ql % 256

end Attn

namespace Cert.KernelIdeal.Val

open Cert.KernelIdeal Cert.KernelIdeal.Gen Attn

variable (D : Data)

def Good (h i : ℕ) (N : ℕ → ℕ) (m : FVec Ideal S1x1x512 .f32) (a : FVec Ideal S1x144x512 .f32) : Prop :=
  ∀ (ql : Fin 512) (e : Fin 144), G1 (N ql) (S D h i ql) (D.vr (h * 144 + e)) (m (ix3 0 0 ql)) (a (ix3 0 e ql))

def IsS (h i n : ℕ) (s : FVec Ideal S1x512x512 .f32) : Prop :=
  ∀ (j ql : Fin 512), s (ix3 0 j ql) = ((S D h i ql (n + j) : ℝ) : EReal)

def IsS' (h i n : ℕ) (s : FVec Ideal S1x256x512 .f32) : Prop :=
  ∀ (j : Fin 256) (ql : Fin 512), s (ix3 0 j ql) = ((S D h i ql (n + j) : ℝ) : EReal)

def IsR (m : FVec Ideal S1x1x512 .f32) : Prop := ∀ ql : Fin 512, ∃ r : ℝ, m (ix3 0 0 ql) = (r : EReal)

def IsV (h n : ℕ) (v : FVec Ideal S144x512 .bf16) : Prop :=
  ∀ (e : Fin 144) (j : Fin 512), v (ix2 e j) = ((D.vr (h * 144 + e) (n + j) : ℝ) : EReal)

def IsV' (h n : ℕ) (v : FVec Ideal S144x256 .bf16) : Prop :=
  ∀ (e : Fin 144) (j : Fin 256), v (ix2 e j) = ((D.vr (h * 144 + e) (n + j) : ℝ) : EReal)

/-- The block mask, `off` the shift of the diagonal. -/
def IsM (off : ℕ) (k : FVec Ideal S1x512x512 .f32) : Prop :=
  ∀ (j ql : Fin 512), k (ix3 0 j ql) = if (j : ℕ) ≤ off + ql % 256 then (0 : EReal) else ⊥

def IsM' (off : ℕ) (k : FVec Ideal S1x256x512 .f32) : Prop :=
  ∀ (j : Fin 256) (ql : Fin 512), k (ix3 0 j ql) = if (j : ℕ) ≤ off + ql % 256 then (0 : EReal) else ⊥

/-- The keys of a block and their position lanes. -/
def IsK (h n : ℕ) (k : FVec Ideal S512x128 .bf16) : Prop :=
  ∀ (j : Fin 512) (c : Fin 128), k (ix2 j c) = ((D.kr (n + j) (h * 128 + c) : ℝ) : EReal)
def IsK' (h n : ℕ) (k : FVec Ideal S256x128 .bf16) : Prop :=
  ∀ (j : Fin 256) (c : Fin 128), k (ix2 j c) = ((D.kr (n + j) (h * 128 + c) : ℝ) : EReal)
def IsF (n : ℕ) (k : FVec Ideal S512x128 .bf16) : Prop :=
  ∀ (j : Fin 512) (c : Fin 128), k (ix2 j c) = ((D.kf (n + j) c : ℝ) : EReal)
def IsF' (n : ℕ) (k : FVec Ideal S256x128 .bf16) : Prop :=
  ∀ (j : Fin 256) (c : Fin 128), k (ix2 j c) = ((D.kf (n + j) c : ℝ) : EReal)
/-- The stacked queries of tile `i`. -/
def IsQ (h i : ℕ) (q : FVec Ideal S1x1x512x256 .bf16) : Prop :=
  ∀ (ql : Fin 512) (c : Fin 256), q (ix4 0 0 ql c) = ((q2r D h i ql c : ℝ) : EReal)

theorem ofBits_ninf : Ideal.ofBits FTy.f32 4286578688#32 = ⊥ := by
  simp [Ideal.ofBits, Ideal.ieee]

theorem start (h i : ℕ) : Good D h i (fun _ => 0) (shapeCast S1x1x512 (broadcast S1x512 (Scalar.ofBits .f32 0xFF800000#32)) shapeCasts_S1x512_S1x1x512)
    (shapeCast S1x144x512 (broadcast S144x512 (Scalar.ofBits .f32 0x00000000#32)) shapeCasts_S144x512_S1x144x512) := by
  intro ql e
  refine .inl ⟨rfl, ?_, ?_⟩
  · pointwise
    exact ofBits_ninf
  · pointwise

/-- A full block. -/
theorem step (h i n n' : ℕ) (hn : n' = n + 512) (m sm : FVec Ideal S1x1x512 .f32) (a : FVec Ideal S1x144x512 .f32) (s : FVec Ideal S1x512x512 .f32)
    (v : FVec Ideal S144x512 .bf16) (hs : IsS D h i n s) (hsm : IsR sm) (hv : IsV D h n v) (hG : Good D h i (fun _ => n) m a) :
    Good D h i (fun _ => n')
      (shapeCast S1x1x512 (maximumf (shapeCast S1x512 m shapeCasts_S1x1x512_S1x512) (shapeCast S1x512 sm shapeCasts_S1x1x512_S1x512)) shapeCasts_S1x512_S1x1x512)
      (shapeCast S1x144x512
        (addf (mulf (broadcastTo S144x512 (exp2 (subf (shapeCast S1x512 m shapeCasts_S1x1x512_S1x512)
              (maximumf (shapeCast S1x512 m shapeCasts_S1x1x512_S1x512) (shapeCast S1x512 sm shapeCasts_S1x1x512_S1x512)))) broadcasts_S1x512_S144x512)
            (shapeCast S144x512 a shapeCasts_S1x144x512_S144x512))
          (matmul dot_S144x512_S512x512_S144x512_1_0_0_1_n_n none (shapeCast S144x512 v shapeCasts_S144x512_S144x512)
            (truncf .bf16 (exp2 (subf (shapeCast S512x512 s shapeCasts_S1x512x512_S512x512)
              (broadcastTo S512x512 (maximumf (shapeCast S1x512 m shapeCasts_S1x1x512_S1x512) (shapeCast S1x512 sm shapeCasts_S1x1x512_S1x512)) broadcasts_S1x512_S512x512))) bitsLt_bf16_f32)
            (constant S144x512 .f32 0x00000000#32))) shapeCasts_S144x512_S1x144x512) := by
  intro ql e
  obtain ⟨M, hM⟩ := hsm ql
  have := step1 (S D h i ql) (D.vr (h * 144 + e)) n n' _ _ (hG ql e) M (fun j => s (ix3 0 j ql)) (by omega) (by omega)
    (fun j => by rw [if_pos (by omega)]; exact hs j ql)
  pointwise
  simp only [hM, hv e]
  exact this

/-- The diagonal block, 512 rows of it: each column takes up the keys up to its own position. -/
theorem mstep (h i n off : ℕ) (hn : n + off = i * 256) (ho : off + 256 ≤ 512) (m : FVec Ideal S1x1x512 .f32) (a : FVec Ideal S1x144x512 .f32) (s k : FVec Ideal S1x512x512 .f32)
    (v : FVec Ideal S144x512 .bf16) (hs : IsS D h i n s) (hk : IsM off k) (hv : IsV D h n v) (hG : Good D h i (fun _ => n) m a) :
    ∃ m', Good D h i (fun ql => qpos i ql + 1) m'
            (shapeCast S1x144x512
        (addf (mulf (broadcastTo S144x512 (exp2 (subf (shapeCast S1x512 m shapeCasts_S1x1x512_S1x512)
              (maximumf (shapeCast S1x512 m shapeCasts_S1x1x512_S1x512) (shapeCast S1x512 (multiReduction .maximumf [0] S512 (addf (shapeCast S512x512 s shapeCasts_S1x512x512_S512x512) (shapeCast S512x512 k shapeCasts_S1x512x512_S512x512)) 0xFF800000#32 reduces_S512x512_S512 (.inl rfl) rfl) shapeCasts_S512_S1x512)))) broadcasts_S1x512_S144x512)
            (shapeCast S144x512 a shapeCasts_S1x144x512_S144x512))
          (matmul dot_S144x512_S512x512_S144x512_1_0_0_1_n_n none (shapeCast S144x512 v shapeCasts_S144x512_S144x512)
            (truncf .bf16 (exp2 (subf (addf (shapeCast S512x512 s shapeCasts_S1x512x512_S512x512) (shapeCast S512x512 k shapeCasts_S1x512x512_S512x512))
              (broadcastTo S512x512 (maximumf (shapeCast S1x512 m shapeCasts_S1x1x512_S1x512) (shapeCast S1x512 (multiReduction .maximumf [0] S512 (addf (shapeCast S512x512 s shapeCasts_S1x512x512_S512x512) (shapeCast S512x512 k shapeCasts_S1x512x512_S512x512)) 0xFF800000#32 reduces_S512x512_S512 (.inl rfl) rfl) shapeCasts_S512_S1x512)) broadcasts_S1x512_S512x512))) bitsLt_bf16_f32)
            (constant S144x512 .f32 0x00000000#32))) shapeCasts_S144x512_S1x144x512) := by
  refine ⟨(shapeCast S1x1x512 (maximumf (shapeCast S1x512 m shapeCasts_S1x1x512_S1x512) (shapeCast S1x512 (multiReduction .maximumf [0] S512 (addf (shapeCast S512x512 s shapeCasts_S1x512x512_S512x512) (shapeCast S512x512 k shapeCasts_S1x512x512_S512x512)) 0xFF800000#32 reduces_S512x512_S512 (.inl rfl) rfl) shapeCasts_S512_S1x512)) shapeCasts_S1x512_S1x1x512), ?_⟩
  intro ql e
  have hx : ∀ j : Fin 512, s (ix3 0 j ql) + k (ix3 0 j ql) = if n + j.val < qpos i ql + 1 then ((S D h i ql (n + j.val) : ℝ) : EReal) else ⊥ := by
    intro j
    rw [hs j ql, hk j ql]
    unfold qpos
    by_cases hj : (j : ℕ) ≤ off + ql % 256
    · rw [if_pos hj, if_pos (by omega), add_zero]
    · rw [if_neg hj, if_neg (by omega), EReal.add_bot]
  obtain ⟨M, hM⟩ := fold_real (fun j : Fin 512 => s (ix3 0 j ql) + k (ix3 0 j ql)) (fun j => by
      simp only [hx j]; split_ifs
      · exact EReal.coe_ne_top _
      · exact bot_ne_top) ⟨0, by omega⟩ (by
      simp only [hx]; rw [if_pos (by show n + 0 < _; unfold qpos; omega)]; exact EReal.coe_ne_bot _)
  have := step1 (S D h i ql) (D.vr (h * 144 + e)) n (qpos i ql + 1) _ _ (hG ql e) M (fun j => s (ix3 0 j ql) + k (ix3 0 j ql))
    (by unfold qpos; omega) (by unfold qpos; omega) hx
  pointwise
  simp only [ofBits_ninf, hM, hv e]
  exact this

/-- The diagonal block, 256 rows of it: each column takes up the keys up to its own position. -/
theorem mstep' (h i n off : ℕ) (hn : n + off = i * 256) (ho : off + 256 ≤ 256) (m : FVec Ideal S1x1x512 .f32) (a : FVec Ideal S1x144x512 .f32) (s k : FVec Ideal S1x256x512 .f32)
    (v : FVec Ideal S144x256 .bf16) (hs : IsS' D h i n s) (hk : IsM' off k) (hv : IsV' D h n v) (hG : Good D h i (fun _ => n) m a) :
    ∃ m', Good D h i (fun ql => qpos i ql + 1) m'
            (shapeCast S1x144x512
        (addf (mulf (broadcastTo S144x512 (exp2 (subf (shapeCast S1x512 m shapeCasts_S1x1x512_S1x512)
              (maximumf (shapeCast S1x512 m shapeCasts_S1x1x512_S1x512) (shapeCast S1x512 (multiReduction .maximumf [0] S512 (addf (shapeCast S256x512 s shapeCasts_S1x256x512_S256x512) (shapeCast S256x512 k shapeCasts_S1x256x512_S256x512)) 0xFF800000#32 reduces_S256x512_S512 (.inl rfl) rfl) shapeCasts_S512_S1x512)))) broadcasts_S1x512_S144x512)
            (shapeCast S144x512 a shapeCasts_S1x144x512_S144x512))
          (matmul dot_S144x256_S256x512_S144x512_1_0_0_1_n_n none (shapeCast S144x256 v shapeCasts_S144x256_S144x256)
            (truncf .bf16 (exp2 (subf (addf (shapeCast S256x512 s shapeCasts_S1x256x512_S256x512) (shapeCast S256x512 k shapeCasts_S1x256x512_S256x512))
              (broadcastTo S256x512 (maximumf (shapeCast S1x512 m shapeCasts_S1x1x512_S1x512) (shapeCast S1x512 (multiReduction .maximumf [0] S512 (addf (shapeCast S256x512 s shapeCasts_S1x256x512_S256x512) (shapeCast S256x512 k shapeCasts_S1x256x512_S256x512)) 0xFF800000#32 reduces_S256x512_S512 (.inl rfl) rfl) shapeCasts_S512_S1x512)) broadcasts_S1x512_S256x512))) bitsLt_bf16_f32)
            (constant S144x512 .f32 0x00000000#32))) shapeCasts_S144x512_S1x144x512) := by
  refine ⟨(shapeCast S1x1x512 (maximumf (shapeCast S1x512 m shapeCasts_S1x1x512_S1x512) (shapeCast S1x512 (multiReduction .maximumf [0] S512 (addf (shapeCast S256x512 s shapeCasts_S1x256x512_S256x512) (shapeCast S256x512 k shapeCasts_S1x256x512_S256x512)) 0xFF800000#32 reduces_S256x512_S512 (.inl rfl) rfl) shapeCasts_S512_S1x512)) shapeCasts_S1x512_S1x1x512), ?_⟩
  intro ql e
  have hx : ∀ j : Fin 256, s (ix3 0 j ql) + k (ix3 0 j ql) = if n + j.val < qpos i ql + 1 then ((S D h i ql (n + j.val) : ℝ) : EReal) else ⊥ := by
    intro j
    rw [hs j ql, hk j ql]
    unfold qpos
    by_cases hj : (j : ℕ) ≤ off + ql % 256
    · rw [if_pos hj, if_pos (by omega), add_zero]
    · rw [if_neg hj, if_neg (by omega), EReal.add_bot]
  obtain ⟨M, hM⟩ := fold_real (fun j : Fin 256 => s (ix3 0 j ql) + k (ix3 0 j ql)) (fun j => by
      simp only [hx j]; split_ifs
      · exact EReal.coe_ne_top _
      · exact bot_ne_top) ⟨0, by omega⟩ (by
      simp only [hx]; rw [if_pos (by show n + 0 < _; unfold qpos; omega)]; exact EReal.coe_ne_bot _)
  have := step1 (S D h i ql) (D.vr (h * 144 + e)) n (qpos i ql + 1) _ _ (hG ql e) M (fun j => s (ix3 0 j ql) + k (ix3 0 j ql))
    (by unfold qpos; omega) (by unfold qpos; omega) hx
  pointwise
  simp only [ofBits_ninf, hM, hv e]
  exact this

theorem mm (h i n : ℕ) (k f : FVec Ideal S512x128 .bf16) (q : FVec Ideal S1x1x512x256 .bf16) (hk : IsK D h n k) (hf : IsF D n f) (hq : IsQ D h i q) (j : Fin 512) (ql : Fin 512) : (matmul dot_S512x256_S512x256_S512x512_1_1_0_0_n_n none (concatenate S512x256 1 [⟨S512x128, shapeCast S512x128 k shapeCasts_S512x128_S512x128⟩, ⟨S512x128, shapeCast S512x128 f shapeCasts_S512x128_S512x128⟩] concatenates_S512x128_S512x128_S512x256_d1) (shapeCast S512x256 q shapeCasts_S1x1x512x256_S512x256) (constant S512x512 .f32 0x00000000#32)) (ix2 j ql) = ((S D h i ql (n + j) : ℝ) : EReal) := by
  unfold S
  rw [EReal.coe_add, ← sum_coe, ← sum_coe]
  pointwise
  congr 1
  · refine Finset.sum_congr rfl fun c _ => ?_
    rw [EReal.coe_mul, hq ql, hk]
  · refine Finset.sum_congr rfl fun c _ => ?_
    rw [EReal.coe_mul, hq ql, hf]

/-- The scores of 512 keys. -/
theorem score (h i n : ℕ) (k f : FVec Ideal S512x128 .bf16) (q : FVec Ideal S1x1x512x256 .bf16) (hk : IsK D h n k) (hf : IsF D n f) (hq : IsQ D h i q) : IsS D h i n (shapeCast S1x512x512 (matmul dot_S512x256_S512x256_S512x512_1_1_0_0_n_n none (concatenate S512x256 1 [⟨S512x128, shapeCast S512x128 k shapeCasts_S512x128_S512x128⟩, ⟨S512x128, shapeCast S512x128 f shapeCasts_S512x128_S512x128⟩] concatenates_S512x128_S512x128_S512x256_d1) (shapeCast S512x256 q shapeCasts_S1x1x512x256_S512x256) (constant S512x512 .f32 0x00000000#32)) shapeCasts_S512x512_S1x512x512) := by
  intro j ql
  have := mm D h i n k f q hk hf hq j ql
  generalize (matmul dot_S512x256_S512x256_S512x512_1_1_0_0_n_n none (concatenate S512x256 1 [⟨S512x128, shapeCast S512x128 k shapeCasts_S512x128_S512x128⟩, ⟨S512x128, shapeCast S512x128 f shapeCasts_S512x128_S512x128⟩] concatenates_S512x128_S512x128_S512x256_d1) (shapeCast S512x256 q shapeCasts_S1x1x512x256_S512x256) (constant S512x512 .f32 0x00000000#32)) = x at this ⊢
  pointwise
  exact this

theorem smax (h i n : ℕ) (k f : FVec Ideal S512x128 .bf16) (q : FVec Ideal S1x1x512x256 .bf16) (hk : IsK D h n k) (hf : IsF D n f) (hq : IsQ D h i q) : IsR (shapeCast S1x1x512 (shapeCast S1x512 (multiReduction .maximumf [0] S512 (matmul dot_S512x256_S512x256_S512x512_1_1_0_0_n_n none (concatenate S512x256 1 [⟨S512x128, shapeCast S512x128 k shapeCasts_S512x128_S512x128⟩, ⟨S512x128, shapeCast S512x128 f shapeCasts_S512x128_S512x128⟩] concatenates_S512x128_S512x128_S512x256_d1) (shapeCast S512x256 q shapeCasts_S1x1x512x256_S512x256) (constant S512x512 .f32 0x00000000#32)) 0xFF800000#32 reduces_S512x512_S512 (.inl rfl) rfl) shapeCasts_S512_S1x512) shapeCasts_S1x512_S1x1x512) := by
  intro ql
  have := fun j => mm D h i n k f q hk hf hq j ql
  generalize (matmul dot_S512x256_S512x256_S512x512_1_1_0_0_n_n none (concatenate S512x256 1 [⟨S512x128, shapeCast S512x128 k shapeCasts_S512x128_S512x128⟩, ⟨S512x128, shapeCast S512x128 f shapeCasts_S512x128_S512x128⟩] concatenates_S512x128_S512x128_S512x256_d1) (shapeCast S512x256 q shapeCasts_S1x1x512x256_S512x256) (constant S512x512 .f32 0x00000000#32)) = x at this ⊢
  obtain ⟨M, hM⟩ := fold_real (fun j : Fin 512 => x (ix2 j ql)) (fun j => by simp only [this]; exact EReal.coe_ne_top _) ⟨0, by omega⟩
    (by simp only [this]; exact EReal.coe_ne_bot _)
  refine ⟨M, ?_⟩
  pointwise
  simp only [ofBits_ninf]
  exact hM

/-- The largest score of a block of 512 keys. -/
def Mx (h i n ql : ℕ) : ℝ := (Finset.univ.fold max (⊥ : EReal) (fun j : Fin 512 => ((S D h i ql (n + j) : ℝ) : EReal))).toReal

def IsRM (h i n : ℕ) (m : FVec Ideal S1x1x512 .f32) : Prop := ∀ ql : Fin 512, m (ix3 0 0 ql) = ((Mx D h i n ql : ℝ) : EReal)

theorem smaxM (h i n : ℕ) (k f : FVec Ideal S512x128 .bf16) (q : FVec Ideal S1x1x512x256 .bf16) (hk : IsK D h n k) (hf : IsF D n f) (hq : IsQ D h i q) : IsRM D h i n (shapeCast S1x1x512 (shapeCast S1x512 (multiReduction .maximumf [0] S512 (matmul dot_S512x256_S512x256_S512x512_1_1_0_0_n_n none (concatenate S512x256 1 [⟨S512x128, shapeCast S512x128 k shapeCasts_S512x128_S512x128⟩, ⟨S512x128, shapeCast S512x128 f shapeCasts_S512x128_S512x128⟩] concatenates_S512x128_S512x128_S512x256_d1) (shapeCast S512x256 q shapeCasts_S1x1x512x256_S512x256) (constant S512x512 .f32 0x00000000#32)) 0xFF800000#32 reduces_S512x512_S512 (.inl rfl) rfl) shapeCasts_S512_S1x512) shapeCasts_S1x512_S1x1x512) := by
  intro ql
  have := fun j => mm D h i n k f q hk hf hq j ql
  generalize (matmul dot_S512x256_S512x256_S512x512_1_1_0_0_n_n none (concatenate S512x256 1 [⟨S512x128, shapeCast S512x128 k shapeCasts_S512x128_S512x128⟩, ⟨S512x128, shapeCast S512x128 f shapeCasts_S512x128_S512x128⟩] concatenates_S512x128_S512x128_S512x256_d1) (shapeCast S512x256 q shapeCasts_S1x1x512x256_S512x256) (constant S512x512 .f32 0x00000000#32)) = x at this ⊢
  obtain ⟨M, hM⟩ := fold_real (fun j : Fin 512 => x (ix2 j ql)) (fun j => by simp only [this]; exact EReal.coe_ne_top _) ⟨0, by omega⟩
    (by simp only [this]; exact EReal.coe_ne_bot _)
  have e : Mx D h i n ql = M := by
    unfold Mx
    simp only [← this]
    rw [hM, EReal.toReal_coe]
  rw [e]
  pointwise
  simp only [ofBits_ninf]
  exact hM

theorem mm' (h i n : ℕ) (k f : FVec Ideal S256x128 .bf16) (q : FVec Ideal S1x1x512x256 .bf16) (hk : IsK' D h n k) (hf : IsF' D n f) (hq : IsQ D h i q) (j : Fin 256) (ql : Fin 512) : (matmul dot_S256x256_S512x256_S256x512_1_1_0_0_n_n none (concatenate S256x256 1 [⟨S256x128, shapeCast S256x128 k shapeCasts_S256x128_S256x128⟩, ⟨S256x128, shapeCast S256x128 f shapeCasts_S256x128_S256x128⟩] concatenates_S256x128_S256x128_S256x256_d1) (shapeCast S512x256 q shapeCasts_S1x1x512x256_S512x256) (constant S256x512 .f32 0x00000000#32)) (ix2 j ql) = ((S D h i ql (n + j) : ℝ) : EReal) := by
  unfold S
  rw [EReal.coe_add, ← sum_coe, ← sum_coe]
  pointwise
  congr 1
  · refine Finset.sum_congr rfl fun c _ => ?_
    rw [EReal.coe_mul, hq ql, hk]
  · refine Finset.sum_congr rfl fun c _ => ?_
    rw [EReal.coe_mul, hq ql, hf]

/-- The scores of 256 keys. -/
theorem score' (h i n : ℕ) (k f : FVec Ideal S256x128 .bf16) (q : FVec Ideal S1x1x512x256 .bf16) (hk : IsK' D h n k) (hf : IsF' D n f) (hq : IsQ D h i q) : IsS' D h i n (shapeCast S1x256x512 (matmul dot_S256x256_S512x256_S256x512_1_1_0_0_n_n none (concatenate S256x256 1 [⟨S256x128, shapeCast S256x128 k shapeCasts_S256x128_S256x128⟩, ⟨S256x128, shapeCast S256x128 f shapeCasts_S256x128_S256x128⟩] concatenates_S256x128_S256x128_S256x256_d1) (shapeCast S512x256 q shapeCasts_S1x1x512x256_S512x256) (constant S256x512 .f32 0x00000000#32)) shapeCasts_S256x512_S1x256x512) := by
  intro j ql
  have := mm' D h i n k f q hk hf hq j ql
  generalize (matmul dot_S256x256_S512x256_S256x512_1_1_0_0_n_n none (concatenate S256x256 1 [⟨S256x128, shapeCast S256x128 k shapeCasts_S256x128_S256x128⟩, ⟨S256x128, shapeCast S256x128 f shapeCasts_S256x128_S256x128⟩] concatenates_S256x128_S256x128_S256x256_d1) (shapeCast S512x256 q shapeCasts_S1x1x512x256_S512x256) (constant S256x512 .f32 0x00000000#32)) = x at this ⊢
  pointwise
  exact this

theorem smax' (h i n : ℕ) (k f : FVec Ideal S256x128 .bf16) (q : FVec Ideal S1x1x512x256 .bf16) (hk : IsK' D h n k) (hf : IsF' D n f) (hq : IsQ D h i q) : IsR (shapeCast S1x1x512 (shapeCast S1x512 (multiReduction .maximumf [0] S512 (matmul dot_S256x256_S512x256_S256x512_1_1_0_0_n_n none (concatenate S256x256 1 [⟨S256x128, shapeCast S256x128 k shapeCasts_S256x128_S256x128⟩, ⟨S256x128, shapeCast S256x128 f shapeCasts_S256x128_S256x128⟩] concatenates_S256x128_S256x128_S256x256_d1) (shapeCast S512x256 q shapeCasts_S1x1x512x256_S512x256) (constant S256x512 .f32 0x00000000#32)) 0xFF800000#32 reduces_S256x512_S512 (.inl rfl) rfl) shapeCasts_S512_S1x512) shapeCasts_S1x512_S1x1x512) := by
  intro ql
  have := fun j => mm' D h i n k f q hk hf hq j ql
  generalize (matmul dot_S256x256_S512x256_S256x512_1_1_0_0_n_n none (concatenate S256x256 1 [⟨S256x128, shapeCast S256x128 k shapeCasts_S256x128_S256x128⟩, ⟨S256x128, shapeCast S256x128 f shapeCasts_S256x128_S256x128⟩] concatenates_S256x128_S256x128_S256x256_d1) (shapeCast S512x256 q shapeCasts_S1x1x512x256_S512x256) (constant S256x512 .f32 0x00000000#32)) = x at this ⊢
  obtain ⟨M, hM⟩ := fold_real (fun j : Fin 256 => x (ix2 j ql)) (fun j => by simp only [this]; exact EReal.coe_ne_top _) ⟨0, by omega⟩
    (by simp only [this]; exact EReal.coe_ne_bot _)
  refine ⟨M, ?_⟩
  pointwise
  simp only [ofBits_ninf]
  exact hM

end Cert.KernelIdeal.Val

end
-- ==== Proof.Attn.Finish.lean ====
/- The end of a tile: the accumulator of each column divided by its last rows' sum, the difference of the two groups,
   and the normalisation of each query's row. -/
module

public import proofs.«01_k».proof.Proof.Attn.Step

@[expose] public section

set_option maxRecDepth 16384

noncomputable section

open Idealize.ShloMosaic Idealize.ShloMosaic.TcCoe Idealize.SL.Sem

namespace Attn

theorem acc_shift (S v : ℕ → ℝ) (N : ℕ) (μ : ℝ) : acc S v N μ = (2 : ℝ) ^ (-μ) * acc S v N 0 := by
  unfold acc
  rw [Finset.mul_sum]
  refine Finset.sum_congr rfl fun j _ => ?_
  rw [← mul_assoc, ← Real.rpow_add two_pos]
  congr 2
  ring

theorem acc_one_pos (S : ℕ → ℝ) (N : ℕ) (hN : 0 < N) (μ : ℝ) : 0 < acc S (fun _ => 1) N μ := by
  unfold acc
  refine Finset.sum_pos (fun j _ => by positivity) ⟨0, by simpa using hN⟩

variable (D : Data)

/-- The attention of column `ql` of tile `i`, entry `d` of its head's value. -/
def ratio (h i ql d : ℕ) : ℝ :=
  acc (S D h i ql) (D.vr (h * 144 + d)) (qpos i ql + 1) 0 / acc (S D h i ql) (fun _ => 1) (qpos i ql + 1) 0

/-- The difference of the two groups' attention at query row `r`. -/
def dif (lr : ℝ) (h i r d : ℕ) : ℝ := ratio D h i r d - lr * ratio D h i (256 + r) d

/-- A row divided by its root mean square, times the gain, times the constant. -/
def nrm (O g : Fin 128 → EReal) (d : Fin 128) : EReal :=
  O d * Ideal.rsqrt (Ideal.div (∑ k, O k * O k) (Ideal.ofBits FTy.f32 0x43000000#32) + Ideal.ofBits FTy.f32 0x358637BD#32) * g d
    * Ideal.ofBits FTy.f32 0x3F4CCCCD#32

theorem div_coe (a b : ℝ) (hb : b ≠ 0) : Ideal.div (a : EReal) (b : EReal) = ((a / b : ℝ) : EReal) := by
  rw [Ideal.div_coe hb, ← EReal.coe_mul, mul_one_div]

end Attn

namespace Cert.KernelIdeal.Val

open Cert.KernelIdeal Cert.KernelIdeal.Gen Attn

variable (D : Data)

/-- What the accumulator holds when every key up to the column's own position is taken up. -/
def Fin' (h i : ℕ) (A : FVec Ideal S1x128x512 .f32) (L : FVec Ideal S1x1x512 .f32) : Prop :=
  ∀ (ql : Fin 512), ∃ μ : ℝ, L (ix3 0 0 ql) = ((acc (S D h i ql) (fun _ => 1) (qpos i ql + 1) μ : ℝ) : EReal)
    ∧ ∀ d : Fin 128, A (ix3 0 d ql) = ((acc (S D h i ql) (D.vr (h * 144 + d)) (qpos i ql + 1) μ : ℝ) : EReal)

theorem fin_of (h i : ℕ) (hone : ∀ p, D.vr (h * 144 + 128) p = 1) (m : FVec Ideal S1x1x512 .f32) (a : FVec Ideal S1x144x512 .f32)
    (hG : Good D h i (fun ql => qpos i ql + 1) m a) (A : FVec Ideal S1x128x512 .f32) (L : FVec Ideal S1x1x512 .f32)
    (hA : ∀ (d : Fin 128) (ql : Fin 512), A (ix3 0 d ql) = a (ix3 0 ⟨d.val, by omega⟩ ql))
    (hL : ∀ (ql : Fin 512), L (ix3 0 0 ql) = a (ix3 0 ⟨128, by omega⟩ ql)) : Fin' D h i A L := by
  intro ql
  have h1 := hG ql ⟨128, by omega⟩
  rcases h1 with ⟨h1, _⟩ | ⟨μ, hm, ha⟩
  · exact absurd h1 (Nat.succ_ne_zero _)
  refine ⟨μ, ?_, fun d => ?_⟩
  · rw [hL, ha]
    have : D.vr (h * 144 + 128) = fun _ => 1 := funext hone
    simp only [this]
  · rw [hA]
    rcases hG ql ⟨d.val, by omega⟩ with ⟨h1, _⟩ | ⟨μ', hm', ha'⟩
    · exact absurd h1 (Nat.succ_ne_zero _)
    have : μ' = μ := EReal.coe_injective (hm'.symm.trans hm)
    rw [ha', this]

def wt (A : FVec Ideal S1x128x512 .f32) (L : FVec Ideal S1x1x512 .f32) (lam : FVec Ideal S1x1 .f32) : FVec Ideal S256x128 .f32 :=
  transpose S256x128 [1, 0]
    (subf (extractStridedSlice S128x256 ![0, 0] (mulf (shapeCast S128x512 A shapeCasts_S1x128x512_S128x512) (broadcastTo S128x512 (divf (broadcast S1x512 (Scalar.ofBits .f32 0x3F800000#32)) (shapeCast S1x512 L shapeCasts_S1x1x512_S1x512)) broadcasts_S1x512_S128x512)) slices_S128x512_o0_0_S128x256)
      (mulf (broadcastTo S128x256 (shapeCast S1x1 lam shapeCasts_S1x1_S1x1) broadcasts_S1x1_S128x256)
        (extractStridedSlice S128x256 ![0, 256] (mulf (shapeCast S128x512 A shapeCasts_S1x128x512_S128x512) (broadcastTo S128x512 (divf (broadcast S1x512 (Scalar.ofBits .f32 0x3F800000#32)) (shapeCast S1x512 L shapeCasts_S1x1x512_S1x512)) broadcasts_S1x512_S128x512)) slices_S128x512_o0_256_S128x256)))
    transposes_S128x256_p1_0_S256x128

def fin (A : FVec Ideal S1x128x512 .f32) (L : FVec Ideal S1x1x512 .f32) (lam : FVec Ideal S1x1 .f32) (g : FVec Ideal S1x128 .f32) : FVec Ideal S256x128 .bf16 :=
  truncf .bf16 (mulf (mulf (mulf (wt A L lam) (broadcastTo S256x128 (rsqrt (addf (divf (shapeCast S256x1 (multiReduction .add [1] S256 (mulf (wt A L lam) (wt A L lam)) 0x00000000#32 reduces_S256x128_S256 (.inl rfl) rfl) shapeCasts_S256_S256x1) (broadcast S256x1 (Scalar.ofBits .f32 0x43000000#32))) (broadcast S256x1 (Scalar.ofBits .f32 0x358637BD#32)))) broadcasts_S256x1_S256x128)) (broadcastTo S256x128 g broadcasts_S1x128_S256x128)) (broadcast S256x128 (Scalar.ofBits .f32 0x3F4CCCCD#32))) bitsLt_bf16_f32

theorem ratio_at (h i : ℕ) (A : FVec Ideal S1x128x512 .f32) (L : FVec Ideal S1x1x512 .f32) (hF : Fin' D h i A L) (d : Fin 128) (ql : Fin 512) :
    A (ix3 0 d ql) * Ideal.div 1 (L (ix3 0 0 ql)) = ((ratio D h i ql d : ℝ) : EReal) := by
  obtain ⟨μ, hL, hA⟩ := hF ql
  have hp := acc_one_pos (S D h i ql) (qpos i ql + 1) (by omega)
  rw [hL, hA, ← EReal.coe_one, div_coe _ _ (hp μ).ne', ← EReal.coe_mul]
  unfold ratio
  rw [acc_shift _ _ _ μ, acc_shift _ (fun _ => 1) _ μ]
  have h2 : (2 : ℝ) ^ (-μ) ≠ 0 := (Real.rpow_pos_of_pos two_pos _).ne'
  have h3 := (hp 0).ne'
  congr 1
  field_simp

theorem wt_at (h i : ℕ) (A : FVec Ideal S1x128x512 .f32) (L : FVec Ideal S1x1x512 .f32) (hF : Fin' D h i A L) (lam : FVec Ideal S1x1 .f32)
    (lr : ℝ) (hl : lam (ix2 0 0) = (lr : EReal)) (r : Fin 256) (d : Fin 128) :
    wt A L lam (ix2 r d) = ((dif D lr h i r d : ℝ) : EReal) := by
  have e0 := ratio_at D h i A L hF d ⟨r.val, by omega⟩
  have e1 := ratio_at D h i A L hF d ⟨256 + r.val, by omega⟩
  unfold dif
  pointwise [wt]
  rw [EReal.coe_sub, EReal.coe_mul, ← e0, ← e1, ← hl]

theorem fin_at (h i : ℕ) (A : FVec Ideal S1x128x512 .f32) (L : FVec Ideal S1x1x512 .f32) (hF : Fin' D h i A L) (lam : FVec Ideal S1x1 .f32)
    (lr : ℝ) (hl : lam (ix2 0 0) = (lr : EReal)) (g : FVec Ideal S1x128 .f32) (r : Fin 256) (d : Fin 128) :
    fin A L lam g (ix2 r d) = nrm (fun k => ((dif D lr h i r k : ℝ) : EReal)) (fun k => g (ix2 0 k)) d := by
  have e := wt_at D h i A L hF lam lr hl r
  unfold nrm
  simp only [← e]
  unfold fin
  generalize wt A L lam = w
  pointwise

end Cert.KernelIdeal.Val

end
-- ==== Proof.Attn.Cov.lean ====
/- Loads of a scratch array after stores into it, where every store fills one leading slice: a load of a slice is the
   last payload stored there. -/
module

public import proofs.«01_k».proof.Proof.Gen.KernelIdeal.Skeleton
public import Idealize.ShloMosaic.Lib.Pipeline.ValueKit

@[expose] public section

set_option maxRecDepth 16384

noncomputable section

open Idealize.ShloMosaic Idealize.ShloMosaic.TcCoe Idealize.SL.Sem

namespace Cert.KernelIdeal.Val

open Cert.KernelIdeal Cert.KernelIdeal.Gen

/-- Two unit-stride boxes apart along the leading axis: the store into one does not change a load of the other. -/
theorem cov_skip {sig : RefSig} {κ} {sp} {n : ℕ} {d : Fin (n + 1) → ℕ} {e : EltTy}
    (v : View sig κ sp ⟨n + 1, d⟩ e) (o o' z z' : Fin (n + 1) → ℕ) (inb : ∀ a, o a + z a ≤ d a) (inb' : ∀ a, o' a + z' a ≤ d a)
    (w : (Rect.unit (s := ⟨n + 1, d⟩) o' z' inb').shape.Idx → Elt Ideal e) (L : List (View.Piece (Elt Ideal) ⟨n + 1, d⟩ e))
    (h : o' 0 + z' 0 ≤ o 0 ∨ o 0 + z 0 ≤ o' 0) :
    v.readCov (⟨Rect.unit o' z' inb', w⟩ :: L) (Rect.unit (s := ⟨n + 1, d⟩) o z inb).toLoadRect
      = v.readCov L (Rect.unit (s := ⟨n + 1, d⟩) o z inb).toLoadRect := by
  refine View.readCov_cons_of_disjoint v _ L _ ?_
  show Disjoint (Rect.unit (s := ⟨n + 1, d⟩) o' z' inb').set _
  exact Rect.unit_disjoint (s := ⟨n + 1, d⟩) (inb := inb') (inb' := inb) 0 h

theorem cov_skip_S4x144x512 {sig : RefSig} {κ} {sp} {e : EltTy} (v : View sig κ sp S4x144x512 e) (o o' z z' : Fin 3 → ℕ)
    (inb : ∀ a, o a + z a ≤ S4x144x512.size a) (inb' : ∀ a, o' a + z' a ≤ S4x144x512.size a)
    (w : (Rect.unit (s := S4x144x512) o' z' inb').shape.Idx → Elt Ideal e) (L : List (View.Piece (Elt Ideal) S4x144x512 e))
    (h : o' 0 + z' 0 ≤ o 0 ∨ o 0 + z 0 ≤ o' 0) :
    v.readCov (⟨Rect.unit o' z' inb', w⟩ :: L) (Rect.unit (s := S4x144x512) o z inb).toLoadRect
      = v.readCov L (Rect.unit (s := S4x144x512) o z inb).toLoadRect :=
  cov_skip v o o' z z' inb inb' w L h

theorem cov_skip_S4x1x512 {sig : RefSig} {κ} {sp} {e : EltTy} (v : View sig κ sp S4x1x512 e) (o o' z z' : Fin 3 → ℕ)
    (inb : ∀ a, o a + z a ≤ S4x1x512.size a) (inb' : ∀ a, o' a + z' a ≤ S4x1x512.size a)
    (w : (Rect.unit (s := S4x1x512) o' z' inb').shape.Idx → Elt Ideal e) (L : List (View.Piece (Elt Ideal) S4x1x512 e))
    (h : o' 0 + z' 0 ≤ o 0 ∨ o 0 + z 0 ≤ o' 0) :
    v.readCov (⟨Rect.unit o' z' inb', w⟩ :: L) (Rect.unit (s := S4x1x512) o z inb).toLoadRect
      = v.readCov L (Rect.unit (s := S4x1x512) o z inb).toLoadRect :=
  cov_skip v o o' z z' inb inb' w L h

theorem cov_skip_S4x512x512 {sig : RefSig} {κ} {sp} {e : EltTy} (v : View sig κ sp S4x512x512 e) (o o' z z' : Fin 3 → ℕ)
    (inb : ∀ a, o a + z a ≤ S4x512x512.size a) (inb' : ∀ a, o' a + z' a ≤ S4x512x512.size a)
    (w : (Rect.unit (s := S4x512x512) o' z' inb').shape.Idx → Elt Ideal e) (L : List (View.Piece (Elt Ideal) S4x512x512 e))
    (h : o' 0 + z' 0 ≤ o 0 ∨ o 0 + z 0 ≤ o' 0) :
    v.readCov (⟨Rect.unit o' z' inb', w⟩ :: L) (Rect.unit (s := S4x512x512) o z inb).toLoadRect
      = v.readCov L (Rect.unit (s := S4x512x512) o z inb).toLoadRect :=
  cov_skip v o o' z z' inb inb' w L h

end Cert.KernelIdeal.Val
-- ==== Proof.Attn.Load.lean ====
/- Loads of the body: the slices of its input blocks and of its scratch arrays, as the facts the steps take. -/
module

public import proofs.«01_k».proof.Proof.Attn.Finish
public import proofs.«01_k».proof.Proof.Attn.Cov
public import Idealize.ShloMosaic.Lib.WritesUnit

@[expose] public section

set_option maxRecDepth 16384

noncomputable section

open Idealize.ShloMosaic Idealize.ShloMosaic.TcCoe Idealize.SL.Sem

namespace Cert.KernelIdeal.Val

open Cert.KernelIdeal Cert.KernelIdeal.Gen Attn

variable (D : Data)

/-! ## A load through a unit-stride box, at coordinates -/

theorem ld2 {n0 n1 k0 k1 : ℕ} {φ : EltTy} (x : (⟨2, ![n0, n1]⟩ : Shape).Idx → Elt Ideal φ) (off : Fin 2 → ℕ) (inb) (a b : ℕ) (h0 : off 0 = a) (h1 : off 1 = b)
    (i : Fin k0) (j : Fin k1) (hi : a + i < n0) (hj : b + j < n1) :
    View.ld x (Rect.unit (s := ⟨2, ![n0, n1]⟩) off ![k0, k1] inb) (ix2 i j) = x (ix2 ⟨a + i, hi⟩ ⟨b + j, hj⟩) := by
  subst h0 h1
  rw [View.ld_apply]
  congr 1
  funext d
  apply Fin.ext
  rw [Rect.idx_unit_val]
  fin_cases d <;> rfl

theorem ld3 {n0 n1 n2 k1 k2 : ℕ} {φ : EltTy} (x : (⟨3, ![n0, n1, n2]⟩ : Shape).Idx → Elt Ideal φ) (h a : ℕ) (inb) (hh : h < n0)
    (i : Fin k1) (j : Fin k2) (hi : a + i < n1) (hj : j < n2) :
    View.ld x (Rect.unit (s := ⟨3, ![n0, n1, n2]⟩) ![h, a, 0] ![1, k1, k2] inb) (ix3 0 i j) = x (ix3 ⟨h, hh⟩ ⟨a + i, hi⟩ ⟨j, hj⟩) := by
  rw [View.ld_apply]
  congr 1
  funext d
  apply Fin.ext
  rw [Rect.idx_unit_val]
  fin_cases d
  · rfl
  · rfl
  · exact Nat.zero_add _

theorem ld4 {n0 n1 n2 n3 k2 k3 : ℕ} {φ : EltTy} (x : (⟨4, ![n0, n1, n2, n3]⟩ : Shape).Idx → Elt Ideal φ) (s h : ℕ) (inb) (hs : s < n0) (hh : h < n1)
    (i : Fin k2) (j : Fin k3) (hi : i < n2) (hj : j < n3) :
    View.ld x (Rect.unit (s := ⟨4, ![n0, n1, n2, n3]⟩) ![s, h, 0, 0] ![1, 1, k2, k3] inb) (ix4 0 0 i j) = x (ix4 ⟨s, hs⟩ ⟨h, hh⟩ ⟨i, hi⟩ ⟨j, hj⟩) := by
  rw [View.ld_apply]
  congr 1
  funext d
  apply Fin.ext
  rw [Rect.idx_unit_val]
  fin_cases d
  · rfl
  · rfl
  · exact Nat.zero_add _
  · exact Nat.zero_add _

/-- A load of part of the slice stored last reads that part of what was stored. -/
theorem cov3 {n0 n1 n2 k1 k1' k2 : ℕ} {φ : EltTy} {sig : RefSig} {κ} {sp} (v : View sig κ sp (⟨3, ![n0, n1, n2]⟩ : Shape) φ) (h a b : ℕ) (inb inb')
    (w : (Rect.unit (s := ⟨3, ![n0, n1, n2]⟩) ![h, a, 0] ![1, k1', k2] inb').shape.Idx → Elt Ideal φ)
    (L : List (View.Piece (Elt Ideal) (⟨3, ![n0, n1, n2]⟩ : Shape) φ)) (i : Fin k1) (j : Fin k2) (hb : a ≤ b) (hi : (b - a) + i < k1') :
    v.readCov (⟨Rect.unit ![h, a, 0] ![1, k1', k2] inb', w⟩ :: L) (Rect.unit (s := ⟨3, ![n0, n1, n2]⟩) ![h, b, 0] ![1, k1, k2] inb).toLoadRect (ix3 0 i j)
      = w (ix3 0 ⟨(b - a) + i, hi⟩ j) := by
  rw [View.readCov_eq_canon']
  show View.canon _ _ = _
  have e : (Rect.unit (s := ⟨3, ![n0, n1, n2]⟩) ![h, b, 0] ![1, k1, k2] inb).toLoadRect.idx (ix3 0 i j)
      = (Rect.unit (s := ⟨3, ![n0, n1, n2]⟩) ![h, a, 0] ![1, k1', k2] inb').emb (ix3 0 ⟨(b - a) + i, hi⟩ j) := by
    funext d
    apply Fin.ext
    show ![h, b, 0] d + 1 * _ = ![h, a, 0] d + 1 * _
    fin_cases d
    · rfl
    · show b + 1 * i.val = a + 1 * (b - a + i.val); omega
    · rfl
  rw [e]
  exact View.canon_cons_emb _ w L _

/-! ## The input blocks -/

def BlkQ (x : FVec Ideal S4096x512 .bf16) : Prop := ∀ (p : Fin 4096) (c : Fin 512), x (ix2 p c) = ((D.qr p c : ℝ) : EReal)
def BlkK (x : FVec Ideal S4096x512 .bf16) : Prop := ∀ (p : Fin 4096) (c : Fin 512), x (ix2 p c) = ((D.kr p c : ℝ) : EReal)
def BlkF (x : FVec Ideal S4096x128 .bf16) : Prop := ∀ (p : Fin 4096) (c : Fin 128), x (ix2 p c) = ((D.kf p c : ℝ) : EReal)
def BlkC (x : FVec Ideal S4x128 .f32) : Prop := ∀ (p : Fin 4) (c : Fin 128), x (ix2 p c) = ((D.cf p c : ℝ) : EReal)
def BlkV (x : FVec Ideal S576x4096 .bf16) : Prop := ∀ (p : Fin 576) (c : Fin 4096), x (ix2 p c) = ((D.vr p c : ℝ) : EReal)

theorem ldK {x : FVec Ideal S4096x512 .bf16} (hx : BlkK D x) (off : Fin 2 → ℕ) (inb) (h n : ℕ) (h0 : off 0 = n) (h1 : off 1 = h * 128)
    (hn : n + 512 ≤ 4096) (hh : h < 4) : IsK D h n (View.ld (Val := Elt Ideal) (e' := .bf16) x (Rect.unit (s := S4096x512) off ![512, 128] inb)) := by
  intro j c
  refine (ld2 (φ := .bf16) x off inb n (h * 128) h0 h1 j c (by omega) (by omega)).trans ?_
  exact hx _ _

theorem ldK' {x : FVec Ideal S4096x512 .bf16} (hx : BlkK D x) (off : Fin 2 → ℕ) (inb) (h n : ℕ) (h0 : off 0 = n) (h1 : off 1 = h * 128)
    (hn : n + 256 ≤ 4096) (hh : h < 4) : IsK' D h n (View.ld (Val := Elt Ideal) (e' := .bf16) x (Rect.unit (s := S4096x512) off ![256, 128] inb)) := by
  intro j c
  refine (ld2 (φ := .bf16) x off inb n (h * 128) h0 h1 j c (by omega) (by omega)).trans ?_
  exact hx _ _

theorem ldF {x : FVec Ideal S4096x128 .bf16} (hx : BlkF D x) (off : Fin 2 → ℕ) (inb) (n : ℕ) (h0 : off 0 = n) (h1 : off 1 = 0)
    (hn : n + 512 ≤ 4096) : IsF D n (View.ld (Val := Elt Ideal) (e' := .bf16) x (Rect.unit (s := S4096x128) off ![512, 128] inb)) := by
  intro j c
  refine (ld2 (φ := .bf16) x off inb n 0 h0 h1 j c (by omega) (by omega)).trans ?_
  refine (hx _ _).trans ?_
  simp only [Nat.zero_add]

theorem ldF' {x : FVec Ideal S4096x128 .bf16} (hx : BlkF D x) (off : Fin 2 → ℕ) (inb) (n : ℕ) (h0 : off 0 = n) (h1 : off 1 = 0)
    (hn : n + 256 ≤ 4096) : IsF' D n (View.ld (Val := Elt Ideal) (e' := .bf16) x (Rect.unit (s := S4096x128) off ![256, 128] inb)) := by
  intro j c
  refine (ld2 (φ := .bf16) x off inb n 0 h0 h1 j c (by omega) (by omega)).trans ?_
  refine (hx _ _).trans ?_
  simp only [Nat.zero_add]

theorem ldV {x : FVec Ideal S576x4096 .bf16} (hx : BlkV D x) (off : Fin 2 → ℕ) (inb) (h n : ℕ) (h0 : off 0 = h * 144) (h1 : off 1 = n)
    (hn : n + 512 ≤ 4096) (hh : h < 4) : IsV D h n (View.ld (Val := Elt Ideal) (e' := .bf16) x (Rect.unit (s := S576x4096) off ![144, 512] inb)) := by
  intro e j
  refine (ld2 (φ := .bf16) x off inb (h * 144) n h0 h1 e j (by omega) (by omega)).trans ?_
  exact hx _ _

theorem ldV' {x : FVec Ideal S576x4096 .bf16} (hx : BlkV D x) (off : Fin 2 → ℕ) (inb) (h n : ℕ) (h0 : off 0 = h * 144) (h1 : off 1 = n)
    (hn : n + 256 ≤ 4096) (hh : h < 4) : IsV' D h n (View.ld (Val := Elt Ideal) (e' := .bf16) x (Rect.unit (s := S576x4096) off ![144, 256] inb)) := by
  intro e j
  refine (ld2 (φ := .bf16) x off inb (h * 144) n h0 h1 e j (by omega) (by omega)).trans ?_
  exact hx _ _

/-! ## The scratch arrays -/

/-- Scores of block 0 for tile `i`. -/
def IsSX (i : ℕ) (x : FVec Ideal S4x512x512 .f32) : Prop :=
  ∀ (h : Fin 4) (j ql : Fin 512), x (ix3 h j ql) = ((S D h i ql j : ℝ) : EReal)
def IsRX (x : FVec Ideal S4x1x512 .f32) : Prop := ∀ (h : Fin 4) (ql : Fin 512), ∃ r : ℝ, x (ix3 h 0 ql) = (r : EReal)
def IsMX (x : FVec Ideal S2x512x512 .f32) : Prop :=
  ∀ (b : Fin 2) (j ql : Fin 512), x (ix3 b j ql) = if (j : ℕ) ≤ b * 256 + ql % 256 then (0 : EReal) else ⊥
def IsQX (s i : ℕ) (x : FVec Ideal S2x4x512x256 .bf16) : Prop :=
  ∀ (s' : Fin 2) (h : Fin 4) (ql : Fin 512) (c : Fin 256), s' = s → x (ix4 s' h ql c) = ((q2r D h i ql c : ℝ) : EReal)
def IsCX (x : FVec Ideal S2x4x512x256 .bf16) : Prop :=
  ∀ (s : Fin 2) (h : Fin 4) (ql : Fin 512) (c : Fin 256), 128 ≤ (c : ℕ) → x (ix4 s h ql c) = ((D.cf h (c - 128) : ℝ) : EReal)

theorem ldS {i : ℕ} {x : FVec Ideal S4x512x512 .f32} (hx : IsSX D i x) (h : ℕ) (inb) (hh : h < 4) :
    IsS D h i 0 (View.ld (Val := Elt Ideal) (e' := .f32) x (Rect.unit (s := S4x512x512) ![h, 0, 0] ![1, 512, 512] inb)) := by
  intro j ql
  refine (ld3 (φ := .f32) x h 0 inb hh j ql (by omega) ql.isLt).trans ?_
  exact hx _ _ _

theorem ldS' {i : ℕ} {x : FVec Ideal S4x512x512 .f32} (hx : IsSX D i x) (h : ℕ) (inb) (hh : h < 4) :
    IsS' D h i 0 (View.ld (Val := Elt Ideal) (e' := .f32) x (Rect.unit (s := S4x512x512) ![h, 0, 0] ![1, 256, 512] inb)) := by
  intro j ql
  refine (ld3 (φ := .f32) x h 0 inb hh j ql (by omega) ql.isLt).trans ?_
  exact hx _ _ _

theorem ldR {x : FVec Ideal S4x1x512 .f32} (hx : IsRX x) (h : ℕ) (inb) (hh : h < 4) :
    IsR (View.ld (Val := Elt Ideal) (e' := .f32) x (Rect.unit (s := S4x1x512) ![h, 0, 0] ![1, 1, 512] inb)) := by
  intro ql
  obtain ⟨r, hr⟩ := hx ⟨h, hh⟩ ql
  refine ⟨r, ?_⟩
  refine (ld3 (φ := .f32) x h 0 inb hh 0 ql (by decide) ql.isLt).trans ?_
  exact hr

theorem ldM {x : FVec Ideal S2x512x512 .f32} (hx : IsMX x) (inb) :
    IsM 256 (View.ld (Val := Elt Ideal) (e' := .f32) x (Rect.unit (s := S2x512x512) ![1, 0, 0] ![1, 512, 512] inb)) := by
  intro j ql
  refine (ld3 (φ := .f32) x 1 0 inb (by decide) j ql (by omega) ql.isLt).trans ?_
  refine (hx _ _ _).trans ?_
  simp only [Nat.zero_add, Nat.one_mul]

theorem ldM' {x : FVec Ideal S2x512x512 .f32} (hx : IsMX x) (inb) :
    IsM' 0 (View.ld (Val := Elt Ideal) (e' := .f32) x (Rect.unit (s := S2x512x512) ![0, 0, 0] ![1, 256, 512] inb)) := by
  intro j ql
  refine (ld3 (φ := .f32) x 0 0 inb (by decide) j ql (by omega) ql.isLt).trans ?_
  refine (hx _ _ _).trans ?_
  simp only [Nat.zero_add, Nat.zero_mul]

theorem ldQ {s i : ℕ} {x : FVec Ideal S2x4x512x256 .bf16} (hx : IsQX D s i x) (h : ℕ) (inb) (hs : s < 2) (hh : h < 4) :
    IsQ D h i (View.ld (Val := Elt Ideal) (e' := .bf16) x (Rect.unit (s := S2x4x512x256) ![s, h, 0, 0] ![1, 1, 512, 256] inb)) := by
  intro ql c
  refine (ld4 (φ := .bf16) x s h inb hs hh ql c ql.isLt c.isLt).trans ?_
  exact hx _ _ _ _ rfl

theorem ldQ' {s i : ℕ} {x : FVec Ideal S2x4x512x256 .bf16} (hx : IsQX D s i x) (off : Fin 4 → ℕ) (inb) (h : ℕ) (ho : off = ![s, h, 0, 0]) (hs : s < 2) (hh : h < 4) :
    IsQ D h i (View.ld (Val := Elt Ideal) (e' := .bf16) x (Rect.unit (s := S2x4x512x256) off ![1, 1, 512, 256] inb)) := by
  subst ho
  exact ldQ D hx h inb hs hh

theorem covS' {sig : RefSig} {κ} {sp} (v : View sig κ sp S4x512x512 .f32) (h i n : ℕ) (inb inb')
    (w : FVec Ideal S1x512x512 .f32) (L : List (View.Piece (Elt Ideal) S4x512x512 .f32)) (hw : IsS D h i n w) :
    IsS' D h i n (v.readCov (⟨Rect.unit ![h, 0, 0] ![1, 512, 512] inb', w⟩ :: L)
      (Rect.unit (s := S4x512x512) ![h, 0, 0] ![1, 256, 512] inb).toLoadRect) := by
  intro j ql
  refine (cov3 v h 0 0 inb inb' w L j ql (le_refl _) (by omega)).trans ((hw _ _).trans ?_)
  simp only [Nat.sub_self, Nat.zero_add]

theorem sx_tgt (h i : ℕ) (w : FVec Ideal S1x512x512 .f32) (hw : IsS D h i 0 w) (x : S1x512x512.Idx) (y : S4x512x512.Idx)
    (h0 : (y 0).val = h + (x 0).val) (h1 : (y 1).val = (x 1).val) (h2 : (y 2).val = (x 2).val) :
    w x = ((S D (y 0).val i (y 2).val (y 1).val : ℝ) : EReal) := by
  have hx0 : (x 0).val < 1 := (x 0).isLt
  have hx1 : (x 1).val < 512 := (x 1).isLt
  have hx2 : (x 2).val < 512 := (x 2).isLt
  have ex : x = (ix3 0 ⟨(x 1).val, hx1⟩ ⟨(x 2).val, hx2⟩ : S1x512x512.Idx) := by
    funext a
    fin_cases a
    · exact Fin.ext (by show (x 0).val = 0; omega)
    · rfl
    · rfl
  have e0 : (y 0).val = h := by omega
  rw [e0, h1, h2, ex]
  refine (hw _ _).trans ?_
  simp only [Nat.zero_add]
  rfl

theorem rx_tgt (h i : ℕ) (w : FVec Ideal S1x1x512 .f32) (hw : IsRM D h i 0 w) (x : S1x1x512.Idx) (y : S4x1x512.Idx)
    (h0 : (y 0).val = h + (x 0).val) (h2 : (y 2).val = (x 2).val) :
    w x = ((Mx D (y 0).val i 0 (y 2).val : ℝ) : EReal) := by
  have hx0 : (x 0).val < 1 := (x 0).isLt
  have hx1 : (x 1).val < 1 := (x 1).isLt
  have hx2 : (x 2).val < 512 := (x 2).isLt
  have ex : x = (ix3 0 0 ⟨(x 2).val, hx2⟩ : S1x1x512.Idx) := by
    funext a
    fin_cases a
    · exact Fin.ext (by show (x 0).val = 0; omega)
    · exact Fin.ext (by show (x 1).val = 0; omega)
    · rfl
  have e0 : (y 0).val = h := by omega
  rw [e0, h2, ex]
  exact hw _

theorem finCov {sig : RefSig} {κ} {sp} (v : View sig κ sp S4x144x512 .f32) (h i : ℕ) (hone : ∀ p, D.vr (h * 144 + 128) p = 1) (inb inb' inb'')
    (a : FVec Ideal S1x144x512 .f32) (L L' : List (View.Piece (Elt Ideal) S4x144x512 .f32))
    (hG : ∃ m, Good D h i (fun ql => qpos i ql + 1) m a) :
    Fin' D h i (v.readCov (⟨Rect.unit ![h, 0, 0] ![1, 144, 512] inb', a⟩ :: L) (Rect.unit (s := S4x144x512) ![h, 0, 0] ![1, 128, 512] inb).toLoadRect)
      (v.readCov (⟨Rect.unit ![h, 0, 0] ![1, 144, 512] inb', a⟩ :: L') (Rect.unit (s := S4x144x512) ![h, 128, 0] ![1, 1, 512] inb'').toLoadRect) := by
  obtain ⟨m, hG⟩ := hG
  refine fin_of D h i hone m a hG _ _ (fun d ql => ?_) (fun ql => ?_)
  · refine (cov3 v h 0 0 inb inb' a L d ql (le_refl _) (by omega)).trans ?_
    simp only [Nat.sub_self, Nat.zero_add]
  · exact cov3 v h 0 128 inb'' inb' a L' 0 ql (by omega) (by decide)

/-! ## The state carried from one tile to the next -/

structure Inv (i : ℕ) (q2 : FVec Ideal S2x4x512x256 .bf16) (mask : FVec Ideal S2x512x512 .f32) (sx : FVec Ideal S4x512x512 .f32) (sm : FVec Ideal S4x1x512 .f32) : Prop where
  q : IsQX D (i % 2) i q2
  c : IsCX D q2
  m : IsMX mask
  s : IsSX D i sx
  r : IsRX sm

end Cert.KernelIdeal.Val

end
-- ==== Proof.Attn.Queries.lean ====
/- The stacked queries of the next tile, written over one slot of the carried scratch array. -/
module

public import proofs.«01_k».proof.Proof.Attn.Load

@[expose] public section

set_option maxRecDepth 16384

noncomputable section

open Idealize.ShloMosaic Idealize.ShloMosaic.TcCoe Idealize.SL.Sem

namespace Cert.KernelIdeal.Val

open Cert.KernelIdeal Cert.KernelIdeal.Gen Attn

variable (D : Data)

/-- The first group's queries, the other lanes zero; and the second's. -/
def IsW0 (h i : ℕ) (w : FVec Ideal S1x1x256x128 .bf16) : Prop :=
  ∀ (r : Fin 256) (c : Fin 128), w (ix4 0 0 r c) = ((if (c : ℕ) < 64 then D.qr (i * 256 + r) (h * 128 + c) else 0 : ℝ) : EReal)
def IsW1 (h i : ℕ) (w : FVec Ideal S1x1x256x128 .bf16) : Prop :=
  ∀ (r : Fin 256) (c : Fin 128), w (ix4 0 0 r c) = ((if 64 ≤ (c : ℕ) then D.qr (i * 256 + r) (h * 128 + c) else 0 : ℝ) : EReal)
def IsQB (h i : ℕ) (q : FVec Ideal S256x128 .bf16) : Prop :=
  ∀ (r : Fin 256) (c : Fin 128), q (ix2 r c) = ((D.qr (i * 256 + r) (h * 128 + c) : ℝ) : EReal)

theorem ldQB {x : FVec Ideal S4096x512 .bf16} (hx : BlkQ D x) (off : Fin 2 → ℕ) (inb) (h i : ℕ) (h0 : off 0 = i * 256) (h1 : off 1 = h * 128)
    (hi : i < 16) (hh : h < 4) : IsQB D h i (View.ld (Val := Elt Ideal) (e' := .bf16) x (Rect.unit (s := S4096x512) off ![256, 128] inb)) := by
  intro j c
  refine (ld2 (φ := .bf16) x off inb (i * 256) (h * 128) h0 h1 j c (by omega) (by omega)).trans ?_
  exact hx _ _

theorem w0_of (h i : ℕ) (q : FVec Ideal S256x128 .bf16) (hq : IsQB D h i q) :
    IsW0 D h i (shapeCast S1x1x256x128 (select (cmpi .slt (iota .tc S256x128 32 [1] iota_S256x128_d1_w32) (broadcast S256x128 64#32))
      (shapeCast S256x128 q shapeCasts_S256x128_S256x128) (broadcast S256x128 (Scalar.ofBits .bf16 0x0000#16))) shapeCasts_S256x128_S1x1x256x128) := by
  intro r c
  pointwise
  rw [hq r c]
  have hc : ∀ c : Fin 128, (IntOp.cmpi CmpIPredicate.slt (BitVec.ofNat 32 c.val) 64#32) = if c.val < 64 then 1#1 else 0#1 := by decide +kernel
  rw [hc]
  split_ifs
  · rfl
  · rfl

theorem w1_of (h i : ℕ) (q : FVec Ideal S256x128 .bf16) (hq : IsQB D h i q) :
    IsW1 D h i (shapeCast S1x1x256x128 (select (cmpi .sge (iota .tc S256x128 32 [1] iota_S256x128_d1_w32) (broadcast S256x128 64#32))
      (shapeCast S256x128 q shapeCasts_S256x128_S256x128) (broadcast S256x128 (Scalar.ofBits .bf16 0x0000#16))) shapeCasts_S256x128_S1x1x256x128) := by
  intro r c
  pointwise
  rw [hq r c]
  have hc : ∀ c : Fin 128, (IntOp.cmpi CmpIPredicate.sge (BitVec.ofNat 32 c.val) 64#32) = if 64 ≤ c.val then 1#1 else 0#1 := by decide +kernel
  rw [hc]
  split_ifs
  · rfl
  · rfl

theorem q2_over0 (v : View sig .tc .vmem S2x4x512x256 .bf16) (f : v.ty.Contents (Elt Ideal)) (i : ℕ)
    (w00 : FVec Ideal S1x1x256x128 .bf16)
    (w01 : FVec Ideal S1x1x256x128 .bf16)
    (w10 : FVec Ideal S1x1x256x128 .bf16)
    (w11 : FVec Ideal S1x1x256x128 .bf16)
    (w20 : FVec Ideal S1x1x256x128 .bf16)
    (w21 : FVec Ideal S1x1x256x128 .bf16)
    (w30 : FVec Ideal S1x1x256x128 .bf16)
    (w31 : FVec Ideal S1x1x256x128 .bf16)
    (i00 i01 i10 i11 i20 i21 i30 i31)
    (P : FVec Ideal S2x4x512x256 .bf16) (hf : v.read (Elt Ideal) f = P) (hP : IsCX D P)
    (h00 : IsW0 D 0 i w00)
    (h01 : IsW1 D 0 i w01)
    (h10 : IsW0 D 1 i w10)
    (h11 : IsW1 D 1 i w11)
    (h20 : IsW0 D 2 i w20)
    (h21 : IsW1 D 2 i w21)
    (h30 : IsW0 D 3 i w30)
    (h31 : IsW1 D 3 i w31) :
    IsQX D 0 i (v.read (Elt Ideal) (v.writes (Elt Ideal) f [⟨Rect.unit (s := S2x4x512x256) ![0, 3, 256, 0] ![1, 1, 256, 128] i31, w31⟩,
        ⟨Rect.unit (s := S2x4x512x256) ![0, 3, 0, 0] ![1, 1, 256, 128] i30, w30⟩,
        ⟨Rect.unit (s := S2x4x512x256) ![0, 2, 256, 0] ![1, 1, 256, 128] i21, w21⟩,
        ⟨Rect.unit (s := S2x4x512x256) ![0, 2, 0, 0] ![1, 1, 256, 128] i20, w20⟩,
        ⟨Rect.unit (s := S2x4x512x256) ![0, 1, 256, 0] ![1, 1, 256, 128] i11, w11⟩,
        ⟨Rect.unit (s := S2x4x512x256) ![0, 1, 0, 0] ![1, 1, 256, 128] i10, w10⟩,
        ⟨Rect.unit (s := S2x4x512x256) ![0, 0, 256, 0] ![1, 1, 256, 128] i01, w01⟩,
        ⟨Rect.unit (s := S2x4x512x256) ![0, 0, 0, 0] ![1, 1, 256, 128] i00, w00⟩]))
    ∧ IsCX D (v.read (Elt Ideal) (v.writes (Elt Ideal) f [⟨Rect.unit (s := S2x4x512x256) ![0, 3, 256, 0] ![1, 1, 256, 128] i31, w31⟩,
        ⟨Rect.unit (s := S2x4x512x256) ![0, 3, 0, 0] ![1, 1, 256, 128] i30, w30⟩,
        ⟨Rect.unit (s := S2x4x512x256) ![0, 2, 256, 0] ![1, 1, 256, 128] i21, w21⟩,
        ⟨Rect.unit (s := S2x4x512x256) ![0, 2, 0, 0] ![1, 1, 256, 128] i20, w20⟩,
        ⟨Rect.unit (s := S2x4x512x256) ![0, 1, 256, 0] ![1, 1, 256, 128] i11, w11⟩,
        ⟨Rect.unit (s := S2x4x512x256) ![0, 1, 0, 0] ![1, 1, 256, 128] i10, w10⟩,
        ⟨Rect.unit (s := S2x4x512x256) ![0, 0, 256, 0] ![1, 1, 256, 128] i01, w01⟩,
        ⟨Rect.unit (s := S2x4x512x256) ![0, 0, 0, 0] ![1, 1, 256, 128] i00, w00⟩])) := by
  subst hf
  have hC : IsCX D (v.read (Elt Ideal) (v.writes (Elt Ideal) f [⟨Rect.unit (s := S2x4x512x256) ![0, 3, 256, 0] ![1, 1, 256, 128] i31, w31⟩,
        ⟨Rect.unit (s := S2x4x512x256) ![0, 3, 0, 0] ![1, 1, 256, 128] i30, w30⟩,
        ⟨Rect.unit (s := S2x4x512x256) ![0, 2, 256, 0] ![1, 1, 256, 128] i21, w21⟩,
        ⟨Rect.unit (s := S2x4x512x256) ![0, 2, 0, 0] ![1, 1, 256, 128] i20, w20⟩,
        ⟨Rect.unit (s := S2x4x512x256) ![0, 1, 256, 0] ![1, 1, 256, 128] i11, w11⟩,
        ⟨Rect.unit (s := S2x4x512x256) ![0, 1, 0, 0] ![1, 1, 256, 128] i10, w10⟩,
        ⟨Rect.unit (s := S2x4x512x256) ![0, 0, 256, 0] ![1, 1, 256, 128] i01, w01⟩,
        ⟨Rect.unit (s := S2x4x512x256) ![0, 0, 0, 0] ![1, 1, 256, 128] i00, w00⟩])) := by
    intro s' h ql c hc
    iterate 8
      rw [View.read_writes_cons_unit_of_not_mem v f _ _ _ _ rfl 3 (.inr (by show 0 + 128 ≤ c.val; omega))]
    exact hP s' h ql c hc
  refine ⟨fun s' h ql c hs => ?_, hC⟩
  by_cases hc : (c : ℕ) < 128
  · by_cases hq : (ql : ℕ) < 256
    · unfold q2r
      rw [if_pos hc, if_pos hq]
      obtain rfl : s' = ⟨0, by decide⟩ := Fin.ext hs
      match h with
      | ⟨0, _⟩ =>
        rw [View.read_writes_cons_unit_of_not_mem v f _ _ _ _ rfl 1 (.inl (by show 0 < 3; decide))]
        rw [View.read_writes_cons_unit_of_not_mem v f _ _ _ _ rfl 1 (.inl (by show 0 < 3; decide))]
        rw [View.read_writes_cons_unit_of_not_mem v f _ _ _ _ rfl 1 (.inl (by show 0 < 2; decide))]
        rw [View.read_writes_cons_unit_of_not_mem v f _ _ _ _ rfl 1 (.inl (by show 0 < 2; decide))]
        rw [View.read_writes_cons_unit_of_not_mem v f _ _ _ _ rfl 1 (.inl (by show 0 < 1; decide))]
        rw [View.read_writes_cons_unit_of_not_mem v f _ _ _ _ rfl 1 (.inl (by show 0 < 1; decide))]
        rw [View.read_writes_cons_unit_of_not_mem v f _ _ _ _ rfl 2 (.inl (by show ql.val < 256; exact hq))]
        exact (View.read_writes_cons_unit_of_mem v f _ _ _ _ (ix4 0 0 ⟨ql.val - 0, by omega⟩ ⟨c.val, hc⟩) rfl (fun a => by fin_cases a; exact rfl; exact rfl; (show ql.val = 0 + (ql.val - 0); omega); exact (Nat.zero_add _).symm)).trans (h00 _ _)
      | ⟨1, _⟩ =>
        rw [View.read_writes_cons_unit_of_not_mem v f _ _ _ _ rfl 1 (.inl (by show 1 < 3; decide))]
        rw [View.read_writes_cons_unit_of_not_mem v f _ _ _ _ rfl 1 (.inl (by show 1 < 3; decide))]
        rw [View.read_writes_cons_unit_of_not_mem v f _ _ _ _ rfl 1 (.inl (by show 1 < 2; decide))]
        rw [View.read_writes_cons_unit_of_not_mem v f _ _ _ _ rfl 1 (.inl (by show 1 < 2; decide))]
        rw [View.read_writes_cons_unit_of_not_mem v f _ _ _ _ rfl 2 (.inl (by show ql.val < 256; exact hq))]
        exact (View.read_writes_cons_unit_of_mem v f _ _ _ _ (ix4 0 0 ⟨ql.val - 0, by omega⟩ ⟨c.val, hc⟩) rfl (fun a => by fin_cases a; exact rfl; exact rfl; (show ql.val = 0 + (ql.val - 0); omega); exact (Nat.zero_add _).symm)).trans (h10 _ _)
      | ⟨2, _⟩ =>
        rw [View.read_writes_cons_unit_of_not_mem v f _ _ _ _ rfl 1 (.inl (by show 2 < 3; decide))]
        rw [View.read_writes_cons_unit_of_not_mem v f _ _ _ _ rfl 1 (.inl (by show 2 < 3; decide))]
        rw [View.read_writes_cons_unit_of_not_mem v f _ _ _ _ rfl 2 (.inl (by show ql.val < 256; exact hq))]
        exact (View.read_writes_cons_unit_of_mem v f _ _ _ _ (ix4 0 0 ⟨ql.val - 0, by omega⟩ ⟨c.val, hc⟩) rfl (fun a => by fin_cases a; exact rfl; exact rfl; (show ql.val = 0 + (ql.val - 0); omega); exact (Nat.zero_add _).symm)).trans (h20 _ _)
      | ⟨3, _⟩ =>
        rw [View.read_writes_cons_unit_of_not_mem v f _ _ _ _ rfl 2 (.inl (by show ql.val < 256; exact hq))]
        exact (View.read_writes_cons_unit_of_mem v f _ _ _ _ (ix4 0 0 ⟨ql.val - 0, by omega⟩ ⟨c.val, hc⟩) rfl (fun a => by fin_cases a; exact rfl; exact rfl; (show ql.val = 0 + (ql.val - 0); omega); exact (Nat.zero_add _).symm)).trans (h30 _ _)

    · unfold q2r
      rw [if_pos hc, if_neg hq]
      obtain rfl : s' = ⟨0, by decide⟩ := Fin.ext hs
      match h with
      | ⟨0, _⟩ =>
        rw [View.read_writes_cons_unit_of_not_mem v f _ _ _ _ rfl 1 (.inl (by show 0 < 3; decide))]
        rw [View.read_writes_cons_unit_of_not_mem v f _ _ _ _ rfl 1 (.inl (by show 0 < 3; decide))]
        rw [View.read_writes_cons_unit_of_not_mem v f _ _ _ _ rfl 1 (.inl (by show 0 < 2; decide))]
        rw [View.read_writes_cons_unit_of_not_mem v f _ _ _ _ rfl 1 (.inl (by show 0 < 2; decide))]
        rw [View.read_writes_cons_unit_of_not_mem v f _ _ _ _ rfl 1 (.inl (by show 0 < 1; decide))]
        rw [View.read_writes_cons_unit_of_not_mem v f _ _ _ _ rfl 1 (.inl (by show 0 < 1; decide))]
        exact (View.read_writes_cons_unit_of_mem v f _ _ _ _ (ix4 0 0 ⟨ql.val - 256, by omega⟩ ⟨c.val, hc⟩) rfl (fun a => by fin_cases a; exact rfl; exact rfl; (show ql.val = 256 + (ql.val - 256); omega); exact (Nat.zero_add _).symm)).trans (h01 _ _)
      | ⟨1, _⟩ =>
        rw [View.read_writes_cons_unit_of_not_mem v f _ _ _ _ rfl 1 (.inl (by show 1 < 3; decide))]
        rw [View.read_writes_cons_unit_of_not_mem v f _ _ _ _ rfl 1 (.inl (by show 1 < 3; decide))]
        rw [View.read_writes_cons_unit_of_not_mem v f _ _ _ _ rfl 1 (.inl (by show 1 < 2; decide))]
        rw [View.read_writes_cons_unit_of_not_mem v f _ _ _ _ rfl 1 (.inl (by show 1 < 2; decide))]
        exact (View.read_writes_cons_unit_of_mem v f _ _ _ _ (ix4 0 0 ⟨ql.val - 256, by omega⟩ ⟨c.val, hc⟩) rfl (fun a => by fin_cases a; exact rfl; exact rfl; (show ql.val = 256 + (ql.val - 256); omega); exact (Nat.zero_add _).symm)).trans (h11 _ _)
      | ⟨2, _⟩ =>
        rw [View.read_writes_cons_unit_of_not_mem v f _ _ _ _ rfl 1 (.inl (by show 2 < 3; decide))]
        rw [View.read_writes_cons_unit_of_not_mem v f _ _ _ _ rfl 1 (.inl (by show 2 < 3; decide))]
        exact (View.read_writes_cons_unit_of_mem v f _ _ _ _ (ix4 0 0 ⟨ql.val - 256, by omega⟩ ⟨c.val, hc⟩) rfl (fun a => by fin_cases a; exact rfl; exact rfl; (show ql.val = 256 + (ql.val - 256); omega); exact (Nat.zero_add _).symm)).trans (h21 _ _)
      | ⟨3, _⟩ =>
        exact (View.read_writes_cons_unit_of_mem v f _ _ _ _ (ix4 0 0 ⟨ql.val - 256, by omega⟩ ⟨c.val, hc⟩) rfl (fun a => by fin_cases a; exact rfl; exact rfl; (show ql.val = 256 + (ql.val - 256); omega); exact (Nat.zero_add _).symm)).trans (h31 _ _)

  · rw [hC s' h ql c (by omega)]
    unfold q2r
    rw [if_neg hc]

theorem q2_over1 (v : View sig .tc .vmem S2x4x512x256 .bf16) (f : v.ty.Contents (Elt Ideal)) (i : ℕ)
    (w00 : FVec Ideal S1x1x256x128 .bf16)
    (w01 : FVec Ideal S1x1x256x128 .bf16)
    (w10 : FVec Ideal S1x1x256x128 .bf16)
    (w11 : FVec Ideal S1x1x256x128 .bf16)
    (w20 : FVec Ideal S1x1x256x128 .bf16)
    (w21 : FVec Ideal S1x1x256x128 .bf16)
    (w30 : FVec Ideal S1x1x256x128 .bf16)
    (w31 : FVec Ideal S1x1x256x128 .bf16)
    (i00 i01 i10 i11 i20 i21 i30 i31)
    (P : FVec Ideal S2x4x512x256 .bf16) (hf : v.read (Elt Ideal) f = P) (hP : IsCX D P)
    (h00 : IsW0 D 0 i w00)
    (h01 : IsW1 D 0 i w01)
    (h10 : IsW0 D 1 i w10)
    (h11 : IsW1 D 1 i w11)
    (h20 : IsW0 D 2 i w20)
    (h21 : IsW1 D 2 i w21)
    (h30 : IsW0 D 3 i w30)
    (h31 : IsW1 D 3 i w31) :
    IsQX D 1 i (v.read (Elt Ideal) (v.writes (Elt Ideal) f [⟨Rect.unit (s := S2x4x512x256) ![1, 3, 256, 0] ![1, 1, 256, 128] i31, w31⟩,
        ⟨Rect.unit (s := S2x4x512x256) ![1, 3, 0, 0] ![1, 1, 256, 128] i30, w30⟩,
        ⟨Rect.unit (s := S2x4x512x256) ![1, 2, 256, 0] ![1, 1, 256, 128] i21, w21⟩,
        ⟨Rect.unit (s := S2x4x512x256) ![1, 2, 0, 0] ![1, 1, 256, 128] i20, w20⟩,
        ⟨Rect.unit (s := S2x4x512x256) ![1, 1, 256, 0] ![1, 1, 256, 128] i11, w11⟩,
        ⟨Rect.unit (s := S2x4x512x256) ![1, 1, 0, 0] ![1, 1, 256, 128] i10, w10⟩,
        ⟨Rect.unit (s := S2x4x512x256) ![1, 0, 256, 0] ![1, 1, 256, 128] i01, w01⟩,
        ⟨Rect.unit (s := S2x4x512x256) ![1, 0, 0, 0] ![1, 1, 256, 128] i00, w00⟩]))
    ∧ IsCX D (v.read (Elt Ideal) (v.writes (Elt Ideal) f [⟨Rect.unit (s := S2x4x512x256) ![1, 3, 256, 0] ![1, 1, 256, 128] i31, w31⟩,
        ⟨Rect.unit (s := S2x4x512x256) ![1, 3, 0, 0] ![1, 1, 256, 128] i30, w30⟩,
        ⟨Rect.unit (s := S2x4x512x256) ![1, 2, 256, 0] ![1, 1, 256, 128] i21, w21⟩,
        ⟨Rect.unit (s := S2x4x512x256) ![1, 2, 0, 0] ![1, 1, 256, 128] i20, w20⟩,
        ⟨Rect.unit (s := S2x4x512x256) ![1, 1, 256, 0] ![1, 1, 256, 128] i11, w11⟩,
        ⟨Rect.unit (s := S2x4x512x256) ![1, 1, 0, 0] ![1, 1, 256, 128] i10, w10⟩,
        ⟨Rect.unit (s := S2x4x512x256) ![1, 0, 256, 0] ![1, 1, 256, 128] i01, w01⟩,
        ⟨Rect.unit (s := S2x4x512x256) ![1, 0, 0, 0] ![1, 1, 256, 128] i00, w00⟩])) := by
  subst hf
  have hC : IsCX D (v.read (Elt Ideal) (v.writes (Elt Ideal) f [⟨Rect.unit (s := S2x4x512x256) ![1, 3, 256, 0] ![1, 1, 256, 128] i31, w31⟩,
        ⟨Rect.unit (s := S2x4x512x256) ![1, 3, 0, 0] ![1, 1, 256, 128] i30, w30⟩,
        ⟨Rect.unit (s := S2x4x512x256) ![1, 2, 256, 0] ![1, 1, 256, 128] i21, w21⟩,
        ⟨Rect.unit (s := S2x4x512x256) ![1, 2, 0, 0] ![1, 1, 256, 128] i20, w20⟩,
        ⟨Rect.unit (s := S2x4x512x256) ![1, 1, 256, 0] ![1, 1, 256, 128] i11, w11⟩,
        ⟨Rect.unit (s := S2x4x512x256) ![1, 1, 0, 0] ![1, 1, 256, 128] i10, w10⟩,
        ⟨Rect.unit (s := S2x4x512x256) ![1, 0, 256, 0] ![1, 1, 256, 128] i01, w01⟩,
        ⟨Rect.unit (s := S2x4x512x256) ![1, 0, 0, 0] ![1, 1, 256, 128] i00, w00⟩])) := by
    intro s' h ql c hc
    iterate 8
      rw [View.read_writes_cons_unit_of_not_mem v f _ _ _ _ rfl 3 (.inr (by show 0 + 128 ≤ c.val; omega))]
    exact hP s' h ql c hc
  refine ⟨fun s' h ql c hs => ?_, hC⟩
  by_cases hc : (c : ℕ) < 128
  · by_cases hq : (ql : ℕ) < 256
    · unfold q2r
      rw [if_pos hc, if_pos hq]
      obtain rfl : s' = ⟨1, by decide⟩ := Fin.ext hs
      match h with
      | ⟨0, _⟩ =>
        rw [View.read_writes_cons_unit_of_not_mem v f _ _ _ _ rfl 1 (.inl (by show 0 < 3; decide))]
        rw [View.read_writes_cons_unit_of_not_mem v f _ _ _ _ rfl 1 (.inl (by show 0 < 3; decide))]
        rw [View.read_writes_cons_unit_of_not_mem v f _ _ _ _ rfl 1 (.inl (by show 0 < 2; decide))]
        rw [View.read_writes_cons_unit_of_not_mem v f _ _ _ _ rfl 1 (.inl (by show 0 < 2; decide))]
        rw [View.read_writes_cons_unit_of_not_mem v f _ _ _ _ rfl 1 (.inl (by show 0 < 1; decide))]
        rw [View.read_writes_cons_unit_of_not_mem v f _ _ _ _ rfl 1 (.inl (by show 0 < 1; decide))]
        rw [View.read_writes_cons_unit_of_not_mem v f _ _ _ _ rfl 2 (.inl (by show ql.val < 256; exact hq))]
        exact (View.read_writes_cons_unit_of_mem v f _ _ _ _ (ix4 0 0 ⟨ql.val - 0, by omega⟩ ⟨c.val, hc⟩) rfl (fun a => by fin_cases a; exact rfl; exact rfl; (show ql.val = 0 + (ql.val - 0); omega); exact (Nat.zero_add _).symm)).trans (h00 _ _)
      | ⟨1, _⟩ =>
        rw [View.read_writes_cons_unit_of_not_mem v f _ _ _ _ rfl 1 (.inl (by show 1 < 3; decide))]
        rw [View.read_writes_cons_unit_of_not_mem v f _ _ _ _ rfl 1 (.inl (by show 1 < 3; decide))]
        rw [View.read_writes_cons_unit_of_not_mem v f _ _ _ _ rfl 1 (.inl (by show 1 < 2; decide))]
        rw [View.read_writes_cons_unit_of_not_mem v f _ _ _ _ rfl 1 (.inl (by show 1 < 2; decide))]
        rw [View.read_writes_cons_unit_of_not_mem v f _ _ _ _ rfl 2 (.inl (by show ql.val < 256; exact hq))]
        exact (View.read_writes_cons_unit_of_mem v f _ _ _ _ (ix4 0 0 ⟨ql.val - 0, by omega⟩ ⟨c.val, hc⟩) rfl (fun a => by fin_cases a; exact rfl; exact rfl; (show ql.val = 0 + (ql.val - 0); omega); exact (Nat.zero_add _).symm)).trans (h10 _ _)
      | ⟨2, _⟩ =>
        rw [View.read_writes_cons_unit_of_not_mem v f _ _ _ _ rfl 1 (.inl (by show 2 < 3; decide))]
        rw [View.read_writes_cons_unit_of_not_mem v f _ _ _ _ rfl 1 (.inl (by show 2 < 3; decide))]
        rw [View.read_writes_cons_unit_of_not_mem v f _ _ _ _ rfl 2 (.inl (by show ql.val < 256; exact hq))]
        exact (View.read_writes_cons_unit_of_mem v f _ _ _ _ (ix4 0 0 ⟨ql.val - 0, by omega⟩ ⟨c.val, hc⟩) rfl (fun a => by fin_cases a; exact rfl; exact rfl; (show ql.val = 0 + (ql.val - 0); omega); exact (Nat.zero_add _).symm)).trans (h20 _ _)
      | ⟨3, _⟩ =>
        rw [View.read_writes_cons_unit_of_not_mem v f _ _ _ _ rfl 2 (.inl (by show ql.val < 256; exact hq))]
        exact (View.read_writes_cons_unit_of_mem v f _ _ _ _ (ix4 0 0 ⟨ql.val - 0, by omega⟩ ⟨c.val, hc⟩) rfl (fun a => by fin_cases a; exact rfl; exact rfl; (show ql.val = 0 + (ql.val - 0); omega); exact (Nat.zero_add _).symm)).trans (h30 _ _)

    · unfold q2r
      rw [if_pos hc, if_neg hq]
      obtain rfl : s' = ⟨1, by decide⟩ := Fin.ext hs
      match h with
      | ⟨0, _⟩ =>
        rw [View.read_writes_cons_unit_of_not_mem v f _ _ _ _ rfl 1 (.inl (by show 0 < 3; decide))]
        rw [View.read_writes_cons_unit_of_not_mem v f _ _ _ _ rfl 1 (.inl (by show 0 < 3; decide))]
        rw [View.read_writes_cons_unit_of_not_mem v f _ _ _ _ rfl 1 (.inl (by show 0 < 2; decide))]
        rw [View.read_writes_cons_unit_of_not_mem v f _ _ _ _ rfl 1 (.inl (by show 0 < 2; decide))]
        rw [View.read_writes_cons_unit_of_not_mem v f _ _ _ _ rfl 1 (.inl (by show 0 < 1; decide))]
        rw [View.read_writes_cons_unit_of_not_mem v f _ _ _ _ rfl 1 (.inl (by show 0 < 1; decide))]
        exact (View.read_writes_cons_unit_of_mem v f _ _ _ _ (ix4 0 0 ⟨ql.val - 256, by omega⟩ ⟨c.val, hc⟩) rfl (fun a => by fin_cases a; exact rfl; exact rfl; (show ql.val = 256 + (ql.val - 256); omega); exact (Nat.zero_add _).symm)).trans (h01 _ _)
      | ⟨1, _⟩ =>
        rw [View.read_writes_cons_unit_of_not_mem v f _ _ _ _ rfl 1 (.inl (by show 1 < 3; decide))]
        rw [View.read_writes_cons_unit_of_not_mem v f _ _ _ _ rfl 1 (.inl (by show 1 < 3; decide))]
        rw [View.read_writes_cons_unit_of_not_mem v f _ _ _ _ rfl 1 (.inl (by show 1 < 2; decide))]
        rw [View.read_writes_cons_unit_of_not_mem v f _ _ _ _ rfl 1 (.inl (by show 1 < 2; decide))]
        exact (View.read_writes_cons_unit_of_mem v f _ _ _ _ (ix4 0 0 ⟨ql.val - 256, by omega⟩ ⟨c.val, hc⟩) rfl (fun a => by fin_cases a; exact rfl; exact rfl; (show ql.val = 256 + (ql.val - 256); omega); exact (Nat.zero_add _).symm)).trans (h11 _ _)
      | ⟨2, _⟩ =>
        rw [View.read_writes_cons_unit_of_not_mem v f _ _ _ _ rfl 1 (.inl (by show 2 < 3; decide))]
        rw [View.read_writes_cons_unit_of_not_mem v f _ _ _ _ rfl 1 (.inl (by show 2 < 3; decide))]
        exact (View.read_writes_cons_unit_of_mem v f _ _ _ _ (ix4 0 0 ⟨ql.val - 256, by omega⟩ ⟨c.val, hc⟩) rfl (fun a => by fin_cases a; exact rfl; exact rfl; (show ql.val = 256 + (ql.val - 256); omega); exact (Nat.zero_add _).symm)).trans (h21 _ _)
      | ⟨3, _⟩ =>
        exact (View.read_writes_cons_unit_of_mem v f _ _ _ _ (ix4 0 0 ⟨ql.val - 256, by omega⟩ ⟨c.val, hc⟩) rfl (fun a => by fin_cases a; exact rfl; exact rfl; (show ql.val = 256 + (ql.val - 256); omega); exact (Nat.zero_add _).symm)).trans (h31 _ _)

  · rw [hC s' h ql c (by omega)]
    unfold q2r
    rw [if_neg hc]

end Cert.KernelIdeal.Val

end
-- ==== Proof.Attn.Point.lean ====
/- One grid point: what its input blocks hold, what the scratch arrays carry, and what it stores. -/
module

public import proofs.«01_k».proof.Proof.Gen.KernelIdeal.Value
public import proofs.«01_k».proof.Proof.Attn.Queries

@[expose] public section

set_option maxRecDepth 16384

noncomputable section

open Idealize.ShloMosaic Idealize.ShloMosaic.TcCoe Idealize.SL.Sem

namespace Cert.KernelIdeal.Val

open Cert.KernelIdeal Cert.KernelIdeal.Gen Attn

variable (D : Data) (lr : ℝ)

/-- The result of tile `i`. -/
def tgt (g : FVec Ideal S1x128 .f32) (i : ℕ) (j : S256x512.Idx) : EReal :=
  nrm (fun k => ((dif D lr ((j 1).val / 128) i (j 0).val k : ℝ) : EReal)) (fun k => g (ix2 0 k)) ⟨(j 1).val % 128, Nat.mod_lt _ (by decide)⟩

theorem fin_tgt (g : FVec Ideal S1x128 .f32) (h i : ℕ) (A : FVec Ideal S1x128x512 .f32) (L : FVec Ideal S1x1x512 .f32) (lam : FVec Ideal S1x1 .f32)
    (x : S256x128.Idx) (j : S256x512.Idx) (h0 : (j 0).val = (x 0).val) (h1 : (j 1).val = h * 128 + (x 1).val)
    (hF : Fin' D h i A L) (hl : lam (ix2 0 0) = (lr : EReal)) : fin A L lam g x = tgt D lr g i j := by
  have hx1 : (x 1).val < 128 := (x 1).isLt
  have hx0 : (x 0).val < 256 := (x 0).isLt
  have ex : x = (ix2 ⟨(x 0).val, hx0⟩ ⟨(x 1).val, hx1⟩ : S256x128.Idx) := by
    funext a; fin_cases a <;> rfl
  rw [ex]
  refine (fin_at D h i A L hF lam lr hl g _ _).trans ?_
  unfold tgt
  have e1 : (j 1).val / 128 = h := by omega
  have e2 : (j 1).val % 128 = (x 1).val := by omega
  simp only [e1, e2, h0]

theorem ldL {x : FVec Ideal S8x128 .f32} (hx : x (ix2 0 0) = (lr : EReal)) (inb) :
    View.ld (Val := Elt Ideal) (e' := .f32) x (Rect.unit (s := S8x128) ![0, 0] ![1, 1] inb) (ix2 0 0) = (lr : EReal) :=
  (ld2 (φ := .f32) x ![0, 0] inb 0 0 rfl rfl 0 0 (by decide) (by decide)).trans hx

variable (m : (ℓ : Loc nD τ sig) → Buf (Elt Ideal) ℓ)

/-- The input blocks of a point. -/
structure Blk (c : Dev nD) (t : Fin cfg0.N) : Prop where
  q : BlkQ D (iblk m c 0 t)
  k : BlkK D (iblk m c 1 t)
  f : BlkF D (iblk m c 2 t)
  cc : BlkC D (iblk m c 3 t)
  v : BlkV D (iblk m c 4 t)
  l : (iblk m c 5 t : FVec Ideal S8x128 .f32) (ix2 0 0) = (lr : EReal)
  o0 : ∀ p, D.vr (0 * 144 + 128) p = 1
  o1 : ∀ p, D.vr (1 * 144 + 128) p = 1
  o2 : ∀ p, D.vr (2 * 144 + 128) p = 1
  o3 : ∀ p, D.vr (3 * 144 + 128) p = 1

theorem rd0 (x) : View.read (Elt Ideal) (View.whole cc0_scratch0) ((Memref.isWhole_whole cc0_scratch0).unread x) = x :=
  (Memref.isWhole_whole cc0_scratch0).read_unread x

theorem rd1 (x) : View.read (Elt Ideal) (View.whole cc0_scratch1) ((Memref.isWhole_whole cc0_scratch1).unread x) = x :=
  (Memref.isWhole_whole cc0_scratch1).read_unread x

theorem rd2 (x) : View.read (Elt Ideal) (View.whole cc0_scratch2) ((Memref.isWhole_whole cc0_scratch2).unread x) = x :=
  (Memref.isWhole_whole cc0_scratch2).read_unread x

theorem rd4 (x) : View.read (Elt Ideal) (View.whole cc0_scratch4) ((Memref.isWhole_whole cc0_scratch4).unread x) = x :=
  (Memref.isWhole_whole cc0_scratch4).read_unread x

theorem coords2 : ∀ t : Fin cfg0.N, ((grid0.coords t) 2).val = t.val % 16 :=
  (by decide +kernel : ∀ t : Fin grid0.N, _)

/-- The state before tile `i`, left by the point before. -/
def InvAt (i : ℕ) (c : Dev nD) (n : ℕ) (hn : n < cfg0.N) : Prop :=
  Inv D i (outsAt0 m c n hn).2.1 (outsAt0 m c n hn).2.2.1 (outsAt0 m c n hn).2.2.2.1 (outsAt0 m c n hn).2.2.2.2

end Cert.KernelIdeal.Val

end
-- ==== Proof.Attn.Offs.lean ====
/- The offsets of the loads whose place depends on the tile, as functions of the point. -/
module

public import proofs.«01_k».proof.Proof.Attn.Point

@[expose] public section

set_option maxRecDepth 16384

noncomputable section

open Idealize.ShloMosaic Idealize.ShloMosaic.TcCoe Idealize.SL.Sem

namespace Cert.KernelIdeal.Val

open Cert.KernelIdeal Cert.KernelIdeal.Gen

@[simp] theorem o2 : ∀ t : Fin cfg0.N, k0_off2 (grid0.coords t) = ![t.val % 16 % 2, 0, 0, 0] := (by decide +kernel : ∀ t : Fin grid0.N, _)
@[simp] theorem o3 : ∀ t : Fin cfg0.N, k0_off3 (grid0.coords t) = ![t.val % 16 % 2, 1, 0, 0] := (by decide +kernel : ∀ t : Fin grid0.N, _)
@[simp] theorem o4 : ∀ t : Fin cfg0.N, k0_off4 (grid0.coords t) = ![t.val % 16 % 2, 2, 0, 0] := (by decide +kernel : ∀ t : Fin grid0.N, _)
@[simp] theorem o5 : ∀ t : Fin cfg0.N, k0_off5 (grid0.coords t) = ![t.val % 16 % 2, 3, 0, 0] := (by decide +kernel : ∀ t : Fin grid0.N, _)
@[simp] theorem o6 : ∀ t : Fin cfg0.N, k0_off6 (grid0.coords t) = ![t.val % 16 % 2, 0, 0, 0] := (by decide +kernel : ∀ t : Fin grid0.N, _)
@[simp] theorem o7 : ∀ t : Fin cfg0.N, k0_off7 (grid0.coords t) = ![t.val % 16 % 2, 1, 0, 0] := (by decide +kernel : ∀ t : Fin grid0.N, _)
@[simp] theorem o8 : ∀ t : Fin cfg0.N, k0_off8 (grid0.coords t) = ![t.val % 16 % 2, 2, 0, 0] := (by decide +kernel : ∀ t : Fin grid0.N, _)
@[simp] theorem o9 : ∀ t : Fin cfg0.N, k0_off9 (grid0.coords t) = ![t.val % 16 % 2, 3, 0, 0] := (by decide +kernel : ∀ t : Fin grid0.N, _)
@[simp] theorem o10 : ∀ t : Fin cfg0.N, k0_off10 (grid0.coords t) = ![t.val % 16 % 2, 0, 0, 0] := (by decide +kernel : ∀ t : Fin grid0.N, _)
@[simp] theorem o11 : ∀ t : Fin cfg0.N, k0_off11 (grid0.coords t) = ![t.val % 16 % 2, 1, 0, 0] := (by decide +kernel : ∀ t : Fin grid0.N, _)
@[simp] theorem o12 : ∀ t : Fin cfg0.N, k0_off12 (grid0.coords t) = ![t.val % 16 % 2, 2, 0, 0] := (by decide +kernel : ∀ t : Fin grid0.N, _)
@[simp] theorem o13 : ∀ t : Fin cfg0.N, k0_off13 (grid0.coords t) = ![t.val % 16 % 2, 3, 0, 0] := (by decide +kernel : ∀ t : Fin grid0.N, _)
@[simp] theorem o14 : ∀ t : Fin cfg0.N, k0_off14 (grid0.coords t) = ![512 * (t.val % 16 / 2), 0] := (by decide +kernel : ∀ t : Fin grid0.N, _)
@[simp] theorem o15 : ∀ t : Fin cfg0.N, k0_off15 (grid0.coords t) = ![512 * (t.val % 16 / 2), 0] := (by decide +kernel : ∀ t : Fin grid0.N, _)
@[simp] theorem o16 : ∀ t : Fin cfg0.N, k0_off16 (grid0.coords t) = ![512 * (t.val % 16 / 2), 128] := (by decide +kernel : ∀ t : Fin grid0.N, _)
@[simp] theorem o17 : ∀ t : Fin cfg0.N, k0_off17 (grid0.coords t) = ![512 * (t.val % 16 / 2), 256] := (by decide +kernel : ∀ t : Fin grid0.N, _)
@[simp] theorem o18 : ∀ t : Fin cfg0.N, k0_off18 (grid0.coords t) = ![512 * (t.val % 16 / 2), 384] := (by decide +kernel : ∀ t : Fin grid0.N, _)
@[simp] theorem o19 : ∀ t : Fin cfg0.N, 2 ≤ t.val % 16 → k0_off19 (grid0.coords t) = ![0, 512 * (t.val % 16 / 2 - 1)] := (by decide +kernel : ∀ t : Fin grid0.N, _)
@[simp] theorem o20 : ∀ t : Fin cfg0.N, 2 ≤ t.val % 16 → k0_off20 (grid0.coords t) = ![144, 512 * (t.val % 16 / 2 - 1)] := (by decide +kernel : ∀ t : Fin grid0.N, _)
@[simp] theorem o21 : ∀ t : Fin cfg0.N, 2 ≤ t.val % 16 → k0_off21 (grid0.coords t) = ![288, 512 * (t.val % 16 / 2 - 1)] := (by decide +kernel : ∀ t : Fin grid0.N, _)
@[simp] theorem o22 : ∀ t : Fin cfg0.N, 2 ≤ t.val % 16 → k0_off22 (grid0.coords t) = ![432, 512 * (t.val % 16 / 2 - 1)] := (by decide +kernel : ∀ t : Fin grid0.N, _)
@[simp] theorem o23 : ∀ t : Fin cfg0.N, k0_off23 (grid0.coords t) = ![0, 512 * (t.val % 16 / 2)] := (by decide +kernel : ∀ t : Fin grid0.N, _)
@[simp] theorem o24 : ∀ t : Fin cfg0.N, k0_off24 (grid0.coords t) = ![144, 512 * (t.val % 16 / 2)] := (by decide +kernel : ∀ t : Fin grid0.N, _)
@[simp] theorem o25 : ∀ t : Fin cfg0.N, k0_off25 (grid0.coords t) = ![288, 512 * (t.val % 16 / 2)] := (by decide +kernel : ∀ t : Fin grid0.N, _)
@[simp] theorem o26 : ∀ t : Fin cfg0.N, k0_off26 (grid0.coords t) = ![432, 512 * (t.val % 16 / 2)] := (by decide +kernel : ∀ t : Fin grid0.N, _)
@[simp] theorem o31 : ∀ t : Fin cfg0.N, k0_off31 (grid0.coords t) = ![0, 512 * (t.val % 16 / 2)] := (by decide +kernel : ∀ t : Fin grid0.N, _)
@[simp] theorem o32 : ∀ t : Fin cfg0.N, k0_off32 (grid0.coords t) = ![144, 512 * (t.val % 16 / 2)] := (by decide +kernel : ∀ t : Fin grid0.N, _)
@[simp] theorem o33 : ∀ t : Fin cfg0.N, k0_off33 (grid0.coords t) = ![288, 512 * (t.val % 16 / 2)] := (by decide +kernel : ∀ t : Fin grid0.N, _)
@[simp] theorem o34 : ∀ t : Fin cfg0.N, k0_off34 (grid0.coords t) = ![432, 512 * (t.val % 16 / 2)] := (by decide +kernel : ∀ t : Fin grid0.N, _)
@[simp] theorem o39 : ∀ t : Fin cfg0.N, k0_off39 (grid0.coords t) = ![512 * (t.val % 16 / 2), 0] := (by decide +kernel : ∀ t : Fin grid0.N, _)
@[simp] theorem o40 : ∀ t : Fin cfg0.N, k0_off40 (grid0.coords t) = ![512 * (t.val % 16 / 2), 0] := (by decide +kernel : ∀ t : Fin grid0.N, _)
@[simp] theorem o41 : ∀ t : Fin cfg0.N, k0_off41 (grid0.coords t) = ![512 * (t.val % 16 / 2), 128] := (by decide +kernel : ∀ t : Fin grid0.N, _)
@[simp] theorem o42 : ∀ t : Fin cfg0.N, k0_off42 (grid0.coords t) = ![512 * (t.val % 16 / 2), 256] := (by decide +kernel : ∀ t : Fin grid0.N, _)
@[simp] theorem o43 : ∀ t : Fin cfg0.N, k0_off43 (grid0.coords t) = ![512 * (t.val % 16 / 2), 384] := (by decide +kernel : ∀ t : Fin grid0.N, _)
@[simp] theorem o44 : ∀ t : Fin cfg0.N, 2 ≤ t.val % 16 → k0_off44 (grid0.coords t) = ![0, 512 * (t.val % 16 / 2 - 1)] := (by decide +kernel : ∀ t : Fin grid0.N, _)
@[simp] theorem o45 : ∀ t : Fin cfg0.N, 2 ≤ t.val % 16 → k0_off45 (grid0.coords t) = ![144, 512 * (t.val % 16 / 2 - 1)] := (by decide +kernel : ∀ t : Fin grid0.N, _)
@[simp] theorem o46 : ∀ t : Fin cfg0.N, 2 ≤ t.val % 16 → k0_off46 (grid0.coords t) = ![288, 512 * (t.val % 16 / 2 - 1)] := (by decide +kernel : ∀ t : Fin grid0.N, _)
@[simp] theorem o47 : ∀ t : Fin cfg0.N, 2 ≤ t.val % 16 → k0_off47 (grid0.coords t) = ![432, 512 * (t.val % 16 / 2 - 1)] := (by decide +kernel : ∀ t : Fin grid0.N, _)
@[simp] theorem o48 : ∀ t : Fin cfg0.N, k0_off48 (grid0.coords t) = ![0, 512 * (t.val % 16 / 2)] := (by decide +kernel : ∀ t : Fin grid0.N, _)
@[simp] theorem o49 : ∀ t : Fin cfg0.N, k0_off49 (grid0.coords t) = ![144, 512 * (t.val % 16 / 2)] := (by decide +kernel : ∀ t : Fin grid0.N, _)
@[simp] theorem o50 : ∀ t : Fin cfg0.N, k0_off50 (grid0.coords t) = ![288, 512 * (t.val % 16 / 2)] := (by decide +kernel : ∀ t : Fin grid0.N, _)
@[simp] theorem o51 : ∀ t : Fin cfg0.N, k0_off51 (grid0.coords t) = ![432, 512 * (t.val % 16 / 2)] := (by decide +kernel : ∀ t : Fin grid0.N, _)
@[simp] theorem o56 : ∀ t : Fin cfg0.N, k0_off56 (grid0.coords t) = ![0, 512 * (t.val % 16 / 2)] := (by decide +kernel : ∀ t : Fin grid0.N, _)
@[simp] theorem o57 : ∀ t : Fin cfg0.N, k0_off57 (grid0.coords t) = ![144, 512 * (t.val % 16 / 2)] := (by decide +kernel : ∀ t : Fin grid0.N, _)
@[simp] theorem o58 : ∀ t : Fin cfg0.N, k0_off58 (grid0.coords t) = ![288, 512 * (t.val % 16 / 2)] := (by decide +kernel : ∀ t : Fin grid0.N, _)
@[simp] theorem o59 : ∀ t : Fin cfg0.N, k0_off59 (grid0.coords t) = ![432, 512 * (t.val % 16 / 2)] := (by decide +kernel : ∀ t : Fin grid0.N, _)
@[simp] theorem o27 : ∀ t : Fin cfg0.N, k0_off27 (grid0.coords t) = ![256 * (min (t.val % 16 + 1) 15), 0] := (by decide +kernel : ∀ t : Fin grid0.N, _)
@[simp] theorem o28 : ∀ t : Fin cfg0.N, k0_off28 (grid0.coords t) = ![256 * (min (t.val % 16 + 1) 15), 128] := (by decide +kernel : ∀ t : Fin grid0.N, _)
@[simp] theorem o29 : ∀ t : Fin cfg0.N, k0_off29 (grid0.coords t) = ![256 * (min (t.val % 16 + 1) 15), 256] := (by decide +kernel : ∀ t : Fin grid0.N, _)
@[simp] theorem o30 : ∀ t : Fin cfg0.N, k0_off30 (grid0.coords t) = ![256 * (min (t.val % 16 + 1) 15), 384] := (by decide +kernel : ∀ t : Fin grid0.N, _)
@[simp] theorem o35 : ∀ t : Fin cfg0.N, k0_off35 (grid0.coords t) = ![256 * (min (t.val % 16 + 1) 15), 0] := (by decide +kernel : ∀ t : Fin grid0.N, _)
@[simp] theorem o36 : ∀ t : Fin cfg0.N, k0_off36 (grid0.coords t) = ![256 * (min (t.val % 16 + 1) 15), 128] := (by decide +kernel : ∀ t : Fin grid0.N, _)
@[simp] theorem o37 : ∀ t : Fin cfg0.N, k0_off37 (grid0.coords t) = ![256 * (min (t.val % 16 + 1) 15), 256] := (by decide +kernel : ∀ t : Fin grid0.N, _)
@[simp] theorem o38 : ∀ t : Fin cfg0.N, k0_off38 (grid0.coords t) = ![256 * (min (t.val % 16 + 1) 15), 384] := (by decide +kernel : ∀ t : Fin grid0.N, _)
@[simp] theorem o52 : ∀ t : Fin cfg0.N, k0_off52 (grid0.coords t) = ![256 * (min (t.val % 16 + 1) 15), 0] := (by decide +kernel : ∀ t : Fin grid0.N, _)
@[simp] theorem o53 : ∀ t : Fin cfg0.N, k0_off53 (grid0.coords t) = ![256 * (min (t.val % 16 + 1) 15), 128] := (by decide +kernel : ∀ t : Fin grid0.N, _)
@[simp] theorem o54 : ∀ t : Fin cfg0.N, k0_off54 (grid0.coords t) = ![256 * (min (t.val % 16 + 1) 15), 256] := (by decide +kernel : ∀ t : Fin grid0.N, _)
@[simp] theorem o55 : ∀ t : Fin cfg0.N, k0_off55 (grid0.coords t) = ![256 * (min (t.val % 16 + 1) 15), 384] := (by decide +kernel : ∀ t : Fin grid0.N, _)
@[simp] theorem o60 : ∀ t : Fin cfg0.N, k0_off60 (grid0.coords t) = ![256 * (min (t.val % 16 + 1) 15), 0] := (by decide +kernel : ∀ t : Fin grid0.N, _)
@[simp] theorem o61 : ∀ t : Fin cfg0.N, k0_off61 (grid0.coords t) = ![256 * (min (t.val % 16 + 1) 15), 128] := (by decide +kernel : ∀ t : Fin grid0.N, _)
@[simp] theorem o62 : ∀ t : Fin cfg0.N, k0_off62 (grid0.coords t) = ![256 * (min (t.val % 16 + 1) 15), 256] := (by decide +kernel : ∀ t : Fin grid0.N, _)
@[simp] theorem o63 : ∀ t : Fin cfg0.N, k0_off63 (grid0.coords t) = ![256 * (min (t.val % 16 + 1) 15), 384] := (by decide +kernel : ∀ t : Fin grid0.N, _)

end Cert.KernelIdeal.Val

end
-- ==== Proof.Attn.Store.lean ====
/- The scratch arrays the last stores of a tile leave: four slices stored one after another, over whatever was there. -/
module

public import proofs.«01_k».proof.Proof.Attn.Offs
public import Idealize.ShloMosaic.Lib.Pipeline.CanonAppend

@[expose] public section

set_option maxRecDepth 16384

noncomputable section

open Idealize.ShloMosaic Idealize.ShloMosaic.TcCoe Idealize.SL.Sem

namespace Cert.KernelIdeal.Val

open Cert.KernelIdeal Cert.KernelIdeal.Gen Attn

variable (D : Data)

theorem s4 (i : ℕ) (i3 i2 i1 i0) (w3 w2 w1 w0 : FVec Ideal S1x512x512 .f32) (L : List (View.Piece (Elt Ideal) S4x512x512 .f32))
    (h3 : IsS D 3 i 0 w3) (h2 : IsS D 2 i 0 w2) (h1 : IsS D 1 i 0 w1) (h0 : IsS D 0 i 0 w0) (y : S4x512x512.Idx) :
    View.canon ((⟨Rect.unit (s := S4x512x512) ![3, 0, 0] ![1, 512, 512] i3, w3⟩ : View.Piece (Elt Ideal) S4x512x512 .f32) :: (⟨Rect.unit (s := S4x512x512) ![2, 0, 0] ![1, 512, 512] i2, w2⟩ : View.Piece (Elt Ideal) S4x512x512 .f32) :: (⟨Rect.unit (s := S4x512x512) ![1, 0, 0] ![1, 512, 512] i1, w1⟩ : View.Piece (Elt Ideal) S4x512x512 .f32) :: (⟨Rect.unit (s := S4x512x512) ![0, 0, 0] ![1, 512, 512] i0, w0⟩ : View.Piece (Elt Ideal) S4x512x512 .f32) :: L) y = ((S D (y 0).val i (y 2).val (y 1).val : ℝ) : EReal) := by
  refine View.canon_append_of_pieces (fun y => ((S D (y 0).val i (y 2).val (y 1).val : ℝ) : EReal)) L [(⟨Rect.unit (s := S4x512x512) ![3, 0, 0] ![1, 512, 512] i3, w3⟩ : View.Piece (Elt Ideal) S4x512x512 .f32), (⟨Rect.unit (s := S4x512x512) ![2, 0, 0] ![1, 512, 512] i2, w2⟩ : View.Piece (Elt Ideal) S4x512x512 .f32), (⟨Rect.unit (s := S4x512x512) ![1, 0, 0] ![1, 512, 512] i1, w1⟩ : View.Piece (Elt Ideal) S4x512x512 .f32), (⟨Rect.unit (s := S4x512x512) ![0, 0, 0] ![1, 512, 512] i0, w0⟩ : View.Piece (Elt Ideal) S4x512x512 .f32)] ?_ y ?_
  · intro p hp
    simp only [List.mem_cons, List.not_mem_nil, or_false] at hp
    rcases hp with rfl | rfl | rfl | rfl
    · exact fun x => sx_tgt D 3 i w3 h3 x _ (by show 3 + 1 * _ = _; rw [Nat.one_mul]) (by show 0 + 1 * _ = _; omega) (by show 0 + 1 * _ = _; omega)
    · exact fun x => sx_tgt D 2 i w2 h2 x _ (by show 2 + 1 * _ = _; rw [Nat.one_mul]) (by show 0 + 1 * _ = _; omega) (by show 0 + 1 * _ = _; omega)
    · exact fun x => sx_tgt D 1 i w1 h1 x _ (by show 1 + 1 * _ = _; rw [Nat.one_mul]) (by show 0 + 1 * _ = _; omega) (by show 0 + 1 * _ = _; omega)
    · exact fun x => sx_tgt D 0 i w0 h0 x _ (by show 0 + 1 * _ = _; rw [Nat.one_mul]) (by show 0 + 1 * _ = _; omega) (by show 0 + 1 * _ = _; omega)
  · have hy0 : (y 0).val < 4 := (y 0).isLt
    have hy1 : (y 1).val < 512 := (y 1).isLt
    have hy2 : (y 2).val < 512 := (y 2).isLt
    have mem : ∀ h : ℕ, (y 0).val = h → ∀ inb, y ∈ (Rect.unit (s := S4x512x512) ![h, 0, 0] ![1, 512, 512] inb).set := by
      intro h hh inb
      rw [Rect.mem_set_unit]
      intro a
      fin_cases a
      · exact ⟨hh.ge, by show (y 0).val < h + 1; omega⟩
      · exact ⟨Nat.zero_le _, by show (y 1).val < 0 + 512; omega⟩
      · exact ⟨Nat.zero_le _, by show (y 2).val < 0 + 512; omega⟩
    rcases (by omega : (y 0).val = 3 ∨ (y 0).val = 2 ∨ (y 0).val = 1 ∨ (y 0).val = 0) with e | e | e | e
    · exact (List.exists_mem_cons_iff _ _ _).mpr (.inl (mem 3 e i3))
    · exact (List.exists_mem_cons_iff _ _ _).mpr (.inr ((List.exists_mem_cons_iff _ _ _).mpr (.inl (mem 2 e i2))))
    · exact (List.exists_mem_cons_iff _ _ _).mpr (.inr ((List.exists_mem_cons_iff _ _ _).mpr (.inr ((List.exists_mem_cons_iff _ _ _).mpr (.inl (mem 1 e i1))))))
    · exact (List.exists_mem_cons_iff _ _ _).mpr (.inr ((List.exists_mem_cons_iff _ _ _).mpr (.inr ((List.exists_mem_cons_iff _ _ _).mpr (.inr ((List.exists_mem_cons_iff _ _ _).mpr (.inl (mem 0 e i0))))))))

theorem r4 (i : ℕ) (i3 i2 i1 i0) (w3 w2 w1 w0 : FVec Ideal S1x1x512 .f32) (L : List (View.Piece (Elt Ideal) S4x1x512 .f32))
    (h3 : IsRM D 3 i 0 w3) (h2 : IsRM D 2 i 0 w2) (h1 : IsRM D 1 i 0 w1) (h0 : IsRM D 0 i 0 w0) (y : S4x1x512.Idx) :
    View.canon ((⟨Rect.unit (s := S4x1x512) ![3, 0, 0] ![1, 1, 512] i3, w3⟩ : View.Piece (Elt Ideal) S4x1x512 .f32) :: (⟨Rect.unit (s := S4x1x512) ![2, 0, 0] ![1, 1, 512] i2, w2⟩ : View.Piece (Elt Ideal) S4x1x512 .f32) :: (⟨Rect.unit (s := S4x1x512) ![1, 0, 0] ![1, 1, 512] i1, w1⟩ : View.Piece (Elt Ideal) S4x1x512 .f32) :: (⟨Rect.unit (s := S4x1x512) ![0, 0, 0] ![1, 1, 512] i0, w0⟩ : View.Piece (Elt Ideal) S4x1x512 .f32) :: L) y = ((Mx D (y 0).val i 0 (y 2).val : ℝ) : EReal) := by
  refine View.canon_append_of_pieces (fun y => ((Mx D (y 0).val i 0 (y 2).val : ℝ) : EReal)) L [(⟨Rect.unit (s := S4x1x512) ![3, 0, 0] ![1, 1, 512] i3, w3⟩ : View.Piece (Elt Ideal) S4x1x512 .f32), (⟨Rect.unit (s := S4x1x512) ![2, 0, 0] ![1, 1, 512] i2, w2⟩ : View.Piece (Elt Ideal) S4x1x512 .f32), (⟨Rect.unit (s := S4x1x512) ![1, 0, 0] ![1, 1, 512] i1, w1⟩ : View.Piece (Elt Ideal) S4x1x512 .f32), (⟨Rect.unit (s := S4x1x512) ![0, 0, 0] ![1, 1, 512] i0, w0⟩ : View.Piece (Elt Ideal) S4x1x512 .f32)] ?_ y ?_
  · intro p hp
    simp only [List.mem_cons, List.not_mem_nil, or_false] at hp
    rcases hp with rfl | rfl | rfl | rfl
    · exact fun x => rx_tgt D 3 i w3 h3 x _ (by show 3 + 1 * _ = _; rw [Nat.one_mul]) (by show 0 + 1 * _ = _; omega)
    · exact fun x => rx_tgt D 2 i w2 h2 x _ (by show 2 + 1 * _ = _; rw [Nat.one_mul]) (by show 0 + 1 * _ = _; omega)
    · exact fun x => rx_tgt D 1 i w1 h1 x _ (by show 1 + 1 * _ = _; rw [Nat.one_mul]) (by show 0 + 1 * _ = _; omega)
    · exact fun x => rx_tgt D 0 i w0 h0 x _ (by show 0 + 1 * _ = _; rw [Nat.one_mul]) (by show 0 + 1 * _ = _; omega)
  · have hy0 : (y 0).val < 4 := (y 0).isLt
    have hy1 : (y 1).val < 1 := (y 1).isLt
    have hy2 : (y 2).val < 512 := (y 2).isLt
    have mem : ∀ h : ℕ, (y 0).val = h → ∀ inb, y ∈ (Rect.unit (s := S4x1x512) ![h, 0, 0] ![1, 1, 512] inb).set := by
      intro h hh inb
      rw [Rect.mem_set_unit]
      intro a
      fin_cases a
      · exact ⟨hh.ge, by show (y 0).val < h + 1; omega⟩
      · exact ⟨Nat.zero_le _, by show (y 1).val < 0 + 1; omega⟩
      · exact ⟨Nat.zero_le _, by show (y 2).val < 0 + 512; omega⟩
    rcases (by omega : (y 0).val = 3 ∨ (y 0).val = 2 ∨ (y 0).val = 1 ∨ (y 0).val = 0) with e | e | e | e
    · exact (List.exists_mem_cons_iff _ _ _).mpr (.inl (mem 3 e i3))
    · exact (List.exists_mem_cons_iff _ _ _).mpr (.inr ((List.exists_mem_cons_iff _ _ _).mpr (.inl (mem 2 e i2))))
    · exact (List.exists_mem_cons_iff _ _ _).mpr (.inr ((List.exists_mem_cons_iff _ _ _).mpr (.inr ((List.exists_mem_cons_iff _ _ _).mpr (.inl (mem 1 e i1))))))
    · exact (List.exists_mem_cons_iff _ _ _).mpr (.inr ((List.exists_mem_cons_iff _ _ _).mpr (.inr ((List.exists_mem_cons_iff _ _ _).mpr (.inr ((List.exists_mem_cons_iff _ _ _).mpr (.inl (mem 0 e i0))))))))

end Cert.KernelIdeal.Val

end
-- ==== Proof.Attn.First.lean ====
/- Tile 0: the masks, the feature lanes and the first queries, as stored. -/
module

public import proofs.«01_k».proof.Proof.Attn.Store

@[expose] public section

set_option maxRecDepth 16384

noncomputable section

open Idealize.ShloMosaic Idealize.ShloMosaic.TcCoe Idealize.SL.Sem

namespace Cert.KernelIdeal.Val

open Cert.KernelIdeal Cert.KernelIdeal.Gen Attn

variable (D : Data)

@[simp] theorem o1_0 : ∀ t : Fin cfg0.N, k0_off1 (grid0.coords t) 0#32 = ![0, 0] := (by decide +kernel : ∀ t : Fin grid0.N, _)
@[simp] theorem o1_1 : ∀ t : Fin cfg0.N, k0_off1 (grid0.coords t) 1#32 = ![1, 0] := (by decide +kernel : ∀ t : Fin grid0.N, _)
@[simp] theorem o1_2 : ∀ t : Fin cfg0.N, k0_off1 (grid0.coords t) 2#32 = ![2, 0] := (by decide +kernel : ∀ t : Fin grid0.N, _)
@[simp] theorem o1_3 : ∀ t : Fin cfg0.N, k0_off1 (grid0.coords t) 3#32 = ![3, 0] := (by decide +kernel : ∀ t : Fin grid0.N, _)

/-! ## The masks -/

theorem qry_at (ql : Fin 512) : (Scalar.select (IntOp.cmpi CmpIPredicate.sge (BitVec.ofNat 32 ql.val) 256#32) (IntOp.subi (BitVec.ofNat 32 ql.val) 256#32) (BitVec.ofNat 32 ql.val))
    = BitVec.ofNat 32 (ql.val % 256) :=
  (by decide +kernel : ∀ ql : Fin 512, (Scalar.select (IntOp.cmpi CmpIPredicate.sge (BitVec.ofNat 32 ql.val) 256#32) (IntOp.subi (BitVec.ofNat 32 ql.val) 256#32) (BitVec.ofNat 32 ql.val))
    = BitVec.ofNat 32 (ql.val % 256)) ql

theorem int_at (j : Fin 512) : (BitVec.ofNat 32 j.val).toInt = (j.val : ℤ) :=
  (by decide +kernel : ∀ j : Fin 512, (BitVec.ofNat 32 j.val).toInt = (j.val : ℤ)) j

theorem int_at' (j : Fin 512) : (IntOp.subi (BitVec.ofNat 32 j.val) 256#32).toInt = (j.val : ℤ) - 256 :=
  (by decide +kernel : ∀ j : Fin 512, (IntOp.subi (BitVec.ofNat 32 j.val) 256#32).toInt = (j.val : ℤ) - 256) j

theorem le_at (x y : BitVec 32) (a b : EReal) : Scalar.select (IntOp.cmpi CmpIPredicate.sle x y) a b = if x.toInt ≤ y.toInt then a else b := by
  have e : IntOp.cmpi CmpIPredicate.sle x y = BitVec.ofBool (x.sle y) := rfl
  rw [e, BitVec.sle_eq_decide]
  by_cases h : x.toInt ≤ y.toInt <;> simp [h, Scalar.select]

theorem mask0 (j ql : Fin 512) :
          shapeCast S1x512x512
            (select
              (cmpi CmpIPredicate.sle (iota Kind.tc S512x512 32 [0] iota_S512x512_d0_w32)
                (select
                  (cmpi CmpIPredicate.sge (iota Kind.tc S512x512 32 [1] iota_S512x512_d1_w32)
                    (broadcast S512x512 256#32))
                  (subi (iota Kind.tc S512x512 32 [1] iota_S512x512_d1_w32) (broadcast S512x512 256#32))
                  (iota Kind.tc S512x512 32 [1] iota_S512x512_d1_w32)))
              (broadcast S512x512 (Scalar.ofBits (F := Ideal) FTy.f32 0#32))
              (broadcast S512x512 (Scalar.ofBits FTy.f32 4286578688#32)))
            shapeCasts_S512x512_S1x512x512 (ix3 0 j ql) = if (j : ℕ) ≤ 0 * 256 + ql % 256 then (0 : EReal) else ⊥ := by
  pointwise
  have hb : Ideal.ofBits FTy.f32 4286578688#32 = ⊥ := ofBits_ninf
  rw [qry_at, le_at, int_at, int_at ⟨ql.val % 256, by omega⟩]
  simp only [hb]
  by_cases h : (j : ℕ) ≤ ql % 256
  · rw [if_pos h, if_pos (by show (j.val : ℤ) ≤ ((ql.val % 256 : ℕ) : ℤ); omega)]
  · rw [if_neg h, if_neg (by show ¬ (j.val : ℤ) ≤ ((ql.val % 256 : ℕ) : ℤ); omega)]

theorem mask1 (j ql : Fin 512) :
          shapeCast S1x512x512
            (select
              (cmpi CmpIPredicate.sle
                (subi (iota Kind.tc S512x512 32 [0] iota_S512x512_d0_w32) (broadcast S512x512 256#32))
                (select
                  (cmpi CmpIPredicate.sge (iota Kind.tc S512x512 32 [1] iota_S512x512_d1_w32)
                    (broadcast S512x512 256#32))
                  (subi (iota Kind.tc S512x512 32 [1] iota_S512x512_d1_w32) (broadcast S512x512 256#32))
                  (iota Kind.tc S512x512 32 [1] iota_S512x512_d1_w32)))
              (broadcast S512x512 (Scalar.ofBits (F := Ideal) FTy.f32 0#32))
              (broadcast S512x512 (Scalar.ofBits FTy.f32 4286578688#32)))
            shapeCasts_S512x512_S1x512x512 (ix3 0 j ql) = if (j : ℕ) ≤ 1 * 256 + ql % 256 then (0 : EReal) else ⊥ := by
  pointwise
  have hb : Ideal.ofBits FTy.f32 4286578688#32 = ⊥ := ofBits_ninf
  rw [qry_at, le_at, int_at', int_at ⟨ql.val % 256, by omega⟩]
  simp only [hb]
  by_cases h : (j : ℕ) ≤ 256 + ql % 256
  · rw [if_pos h, if_pos (by show (j.val : ℤ) - 256 ≤ ((ql.val % 256 : ℕ) : ℤ); omega)]
  · rw [if_neg h, if_neg (by show ¬ (j.val : ℤ) - 256 ≤ ((ql.val % 256 : ℕ) : ℤ); omega)]

theorem mk_tgt (b : ℕ) (w : FVec Ideal S1x512x512 .f32) (hw : ∀ j ql : Fin 512, w (ix3 0 j ql) = if (j : ℕ) ≤ b * 256 + ql % 256 then (0 : EReal) else ⊥)
    (x : S1x512x512.Idx) (y : S2x512x512.Idx) (h0 : (y 0).val = b + (x 0).val) (h1 : (y 1).val = (x 1).val) (h2 : (y 2).val = (x 2).val) :
    w x = if (y 1).val ≤ (y 0).val * 256 + (y 2).val % 256 then (0 : EReal) else ⊥ := by
  have hx0 : (x 0).val < 1 := (x 0).isLt
  have hx1 : (x 1).val < 512 := (x 1).isLt
  have hx2 : (x 2).val < 512 := (x 2).isLt
  have ex : x = (ix3 0 ⟨(x 1).val, hx1⟩ ⟨(x 2).val, hx2⟩ : S1x512x512.Idx) := by
    funext a
    fin_cases a
    · exact Fin.ext (by show (x 0).val = 0; omega)
    · rfl
    · rfl
  have e0 : (y 0).val = b := by omega
  rw [e0, h1, h2, ex]
  exact hw _ _

theorem covM' {sig : RefSig} {κ} {sp} (v : View sig κ sp S2x512x512 .f32) (inb) (L : List (View.Piece (Elt Ideal) S2x512x512 .f32))
    (hL : ∀ y : S2x512x512.Idx, View.canon L y = if (y 1).val ≤ (y 0).val * 256 + (y 2).val % 256 then (0 : EReal) else ⊥) :
    IsM' 0 (v.readCov L (Rect.unit (s := S2x512x512) ![0, 0, 0] ![1, 256, 512] inb).toLoadRect) := by
  intro j ql
  rw [View.readCov_eq_canon']
  refine (hL _).trans ?_
  have e0 : ((Rect.unit (s := S2x512x512) ![0, 0, 0] ![1, 256, 512] inb).toLoadRect.idx (ix3 0 j ql) 0).val = 0 := rfl
  have e1 : ((Rect.unit (s := S2x512x512) ![0, 0, 0] ![1, 256, 512] inb).toLoadRect.idx (ix3 0 j ql) 1).val = j.val := (Rect.idx_unit_val ..).trans (Nat.zero_add _)
  have e2 : ((Rect.unit (s := S2x512x512) ![0, 0, 0] ![1, 256, 512] inb).toLoadRect.idx (ix3 0 j ql) 2).val = ql.val := (Rect.idx_unit_val ..).trans (Nat.zero_add _)
  rw [e0, e1, e2]

/-! ## The queries -/

theorem q_idx {n k : ℕ} (x : (⟨4, ![1, 1, n, k]⟩ : Shape).Idx) : ∃ (r : Fin n) (c : Fin k), x = ix4 0 0 r c ∧ (x 2).val = r.val ∧ (x 3).val = c.val ∧ (x 0).val = 0 ∧ (x 1).val = 0 := by
  have hx0 : (x 0).val < 1 := (x 0).isLt
  have hx1 : (x 1).val < 1 := (x 1).isLt
  refine ⟨x 2, x 3, ?_, rfl, rfl, by omega, by omega⟩
  funext a
  fin_cases a
  · exact Fin.ext (by show (x 0).val = 0; omega)
  · exact Fin.ext (by show (x 1).val = 0; omega)
  · rfl
  · rfl

theorem w0_tgt (h i : ℕ) (w : FVec Ideal S1x1x256x128 .bf16) (hw : IsW0 D h i w) (x : S1x1x256x128.Idx) (y : S2x4x512x256.Idx)
    (h0 : (y 0).val = i + (x 0).val) (h1 : (y 1).val = h + (x 1).val) (h2 : (y 2).val = (x 2).val) (h3 : (y 3).val = (x 3).val) :
    w x = ((q2r D (y 1).val (y 0).val (y 2).val (y 3).val : ℝ) : EReal) := by
  obtain ⟨r, c, hx, e2, e3, e0, e1⟩ := q_idx x
  have hr := r.isLt
  have hc := c.isLt
  rw [h0, h1, h2, h3, e0, e1, e2, e3, hx, Nat.add_zero, Nat.add_zero]
  refine (hw r c).trans ?_
  unfold q2r
  rw [if_pos hc, if_pos hr]

theorem w1_tgt (h i : ℕ) (w : FVec Ideal S1x1x256x128 .bf16) (hw : IsW1 D h i w) (x : S1x1x256x128.Idx) (y : S2x4x512x256.Idx)
    (h0 : (y 0).val = i + (x 0).val) (h1 : (y 1).val = h + (x 1).val) (h2 : (y 2).val = 256 + (x 2).val) (h3 : (y 3).val = (x 3).val) :
    w x = ((q2r D (y 1).val (y 0).val (y 2).val (y 3).val : ℝ) : EReal) := by
  obtain ⟨r, c, hx, e2, e3, e0, e1⟩ := q_idx x
  have hr := r.isLt
  have hc := c.isLt
  rw [h0, h1, h2, h3, e0, e1, e2, e3, hx, Nat.add_zero, Nat.add_zero]
  refine (hw r c).trans ?_
  unfold q2r
  rw [if_pos hc, if_neg (show ¬ (256 + r.val < 256) by omega), Nat.add_sub_cancel_left]

def IsWC (h : ℕ) (w : FVec Ideal S1x1x512x128 .bf16) : Prop :=
  ∀ (r : Fin 512) (c : Fin 128), w (ix4 0 0 r c) = ((D.cf h c : ℝ) : EReal)

theorem wc_tgt (h i : ℕ) (w : FVec Ideal S1x1x512x128 .bf16) (hw : IsWC D h w) (x : S1x1x512x128.Idx) (y : S2x4x512x256.Idx)
    (h0 : (y 0).val = i + (x 0).val) (h1 : (y 1).val = h + (x 1).val) (h2 : (y 2).val = (x 2).val) (h3 : (y 3).val = 128 + (x 3).val) :
    w x = ((q2r D (y 1).val (y 0).val (y 2).val (y 3).val : ℝ) : EReal) := by
  obtain ⟨r, c, hx, e2, e3, e0, e1⟩ := q_idx x
  have hr := r.isLt
  have hc := c.isLt
  rw [h0, h1, h2, h3, e0, e1, e2, e3, hx, Nat.add_zero, Nat.add_zero]
  refine (hw r c).trans ?_
  unfold q2r
  rw [if_neg (by omega), Nat.add_sub_cancel_left]

theorem ldC {x : FVec Ideal S4x128 .f32} (hx : BlkC D x) (off : Fin 2 → ℕ) (inb) (h : ℕ) (h0 : off = ![h, 0]) (hh : h < 4) (c : Fin 128) :
    View.ld (Val := Elt Ideal) (e' := .f32) x (Rect.unit (s := S4x128) off ![1, 128] inb) (ix2 0 c) = ((D.cf h c : ℝ) : EReal) := by
  subst h0
  refine (ld2 (φ := .f32) x _ inb h 0 rfl rfl 0 c (by show h + 0 < 4; omega) (by omega)).trans ?_
  refine (hx _ _).trans ?_
  simp only [Nat.zero_add]
  rfl

theorem covQ {s : ℕ} {sig : RefSig} {κ} {sp} (v : View sig κ sp S2x4x512x256 .bf16) (h : ℕ) (hh : h < 4) (hs : s < 2) (inb) (L : List (View.Piece (Elt Ideal) S2x4x512x256 .bf16))
    (hL : ∀ y : S2x4x512x256.Idx, (y 0).val = s → View.canon L y = ((q2r D (y 1).val (y 0).val (y 2).val (y 3).val : ℝ) : EReal)) :
    IsQ D h s (v.readCov L (Rect.unit (s := S2x4x512x256) ![s, h, 0, 0] ![1, 1, 512, 256] inb).toLoadRect) := by
  intro ql c
  rw [View.readCov_eq_canon']
  have e0 : ((Rect.unit (s := S2x4x512x256) ![s, h, 0, 0] ![1, 1, 512, 256] inb).toLoadRect.idx (ix4 0 0 ql c) 0).val = s := rfl
  refine (hL _ e0).trans ?_
  have e1 : ((Rect.unit (s := S2x4x512x256) ![s, h, 0, 0] ![1, 1, 512, 256] inb).toLoadRect.idx (ix4 0 0 ql c) 1).val = h := rfl
  have e2 : ((Rect.unit (s := S2x4x512x256) ![s, h, 0, 0] ![1, 1, 512, 256] inb).toLoadRect.idx (ix4 0 0 ql c) 2).val = ql.val := (Rect.idx_unit_val ..).trans (Nat.zero_add _)
  have e3 : ((Rect.unit (s := S2x4x512x256) ![s, h, 0, 0] ![1, 1, 512, 256] inb).toLoadRect.idx (ix4 0 0 ql c) 3).val = c.val := (Rect.idx_unit_val ..).trans (Nat.zero_add _)
  rw [e0, e1, e2, e3]

theorem in_unit (o0 o1 o2 o3 n2 n3 : ℕ) (inb) (y : S2x4x512x256.Idx) (h0 : (y 0).val = o0) (h1 : (y 1).val = o1) (h2 : o2 ≤ (y 2).val ∧ (y 2).val < o2 + n2)
    (h3 : o3 ≤ (y 3).val ∧ (y 3).val < o3 + n3) : y ∈ (Rect.unit (s := S2x4x512x256) ![o0, o1, o2, o3] ![1, 1, n2, n3] inb).set := by
  refine Rect.mem_set_unit.mpr fun a => ?_
  match a with
  | 0 => exact ⟨h0.ge, by show (y 0).val < o0 + 1; omega⟩
  | 1 => exact ⟨h1.ge, by show (y 1).val < o1 + 1; omega⟩
  | 2 => exact h2
  | 3 => exact h3

/-- The twenty-four rectangles the first point stores into the scratch of prepared queries. -/
def q2Rects : List (Rect S2x4x512x256) :=
  [Rect.unit (s := S2x4x512x256) ![1, 3, 256, 0] ![1, 1, 256, 128] (by decide),
    Rect.unit (s := S2x4x512x256) ![1, 3, 0, 0] ![1, 1, 256, 128] (by decide),
    Rect.unit (s := S2x4x512x256) ![1, 2, 256, 0] ![1, 1, 256, 128] (by decide),
    Rect.unit (s := S2x4x512x256) ![1, 2, 0, 0] ![1, 1, 256, 128] (by decide),
    Rect.unit (s := S2x4x512x256) ![1, 1, 256, 0] ![1, 1, 256, 128] (by decide),
    Rect.unit (s := S2x4x512x256) ![1, 1, 0, 0] ![1, 1, 256, 128] (by decide),
    Rect.unit (s := S2x4x512x256) ![1, 0, 256, 0] ![1, 1, 256, 128] (by decide),
    Rect.unit (s := S2x4x512x256) ![1, 0, 0, 0] ![1, 1, 256, 128] (by decide),
    Rect.unit (s := S2x4x512x256) ![0, 3, 256, 0] ![1, 1, 256, 128] (by decide),
    Rect.unit (s := S2x4x512x256) ![0, 3, 0, 0] ![1, 1, 256, 128] (by decide),
    Rect.unit (s := S2x4x512x256) ![0, 2, 256, 0] ![1, 1, 256, 128] (by decide),
    Rect.unit (s := S2x4x512x256) ![0, 2, 0, 0] ![1, 1, 256, 128] (by decide),
    Rect.unit (s := S2x4x512x256) ![0, 1, 256, 0] ![1, 1, 256, 128] (by decide),
    Rect.unit (s := S2x4x512x256) ![0, 1, 0, 0] ![1, 1, 256, 128] (by decide),
    Rect.unit (s := S2x4x512x256) ![0, 0, 256, 0] ![1, 1, 256, 128] (by decide),
    Rect.unit (s := S2x4x512x256) ![0, 0, 0, 0] ![1, 1, 256, 128] (by decide),
    Rect.unit (s := S2x4x512x256) ![1, 3, 0, 128] ![1, 1, 512, 128] (by decide),
    Rect.unit (s := S2x4x512x256) ![0, 3, 0, 128] ![1, 1, 512, 128] (by decide),
    Rect.unit (s := S2x4x512x256) ![1, 2, 0, 128] ![1, 1, 512, 128] (by decide),
    Rect.unit (s := S2x4x512x256) ![0, 2, 0, 128] ![1, 1, 512, 128] (by decide),
    Rect.unit (s := S2x4x512x256) ![1, 1, 0, 128] ![1, 1, 512, 128] (by decide),
    Rect.unit (s := S2x4x512x256) ![0, 1, 0, 128] ![1, 1, 512, 128] (by decide),
    Rect.unit (s := S2x4x512x256) ![1, 0, 0, 128] ![1, 1, 512, 128] (by decide),
    Rect.unit (s := S2x4x512x256) ![0, 0, 0, 128] ![1, 1, 512, 128] (by decide)]

theorem q2Rects_cover (y : S2x4x512x256.Idx) : ∃ r ∈ q2Rects, y ∈ r.set := by
  have l0 : (y 0).val < 2 := (y 0).isLt
  have l1 : (y 1).val < 4 := (y 1).isLt
  have l2 : (y 2).val < 512 := (y 2).isLt
  have l3 : (y 3).val < 256 := (y 3).isLt
  have d0 : (y 0).val = 0 ∨ (y 0).val = 1 := by omega
  have d1 : (y 1).val = 0 ∨ (y 1).val = 1 ∨ (y 1).val = 2 ∨ (y 1).val = 3 := by omega
  rcases lt_or_ge (y 3).val 128 with d3 | d3
  · rcases lt_or_ge (y 2).val 256 with d2 | d2
    · rcases d0 with d0 | d0
      · rcases d1 with d1 | d1 | d1 | d1
        · exact ⟨_, (.tail _ (.tail _ (.tail _ (.tail _ (.tail _ (.tail _ (.tail _ (.tail _ (.tail _ (.tail _ (.tail _ (.tail _ (.tail _ (.tail _ (.tail _ (.head _)))))))))))))))), in_unit _ _ _ _ _ _ _ _ (by omega) (by omega) (by omega) (by omega)⟩
        · exact ⟨_, (.tail _ (.tail _ (.tail _ (.tail _ (.tail _ (.tail _ (.tail _ (.tail _ (.tail _ (.tail _ (.tail _ (.tail _ (.tail _ (.head _)))))))))))))), in_unit _ _ _ _ _ _ _ _ (by omega) (by omega) (by omega) (by omega)⟩
        · exact ⟨_, (.tail _ (.tail _ (.tail _ (.tail _ (.tail _ (.tail _ (.tail _ (.tail _ (.tail _ (.tail _ (.tail _ (.head _)))))))))))), in_unit _ _ _ _ _ _ _ _ (by omega) (by omega) (by omega) (by omega)⟩
        · exact ⟨_, (.tail _ (.tail _ (.tail _ (.tail _ (.tail _ (.tail _ (.tail _ (.tail _ (.tail _ (.head _)))))))))), in_unit _ _ _ _ _ _ _ _ (by omega) (by omega) (by omega) (by omega)⟩
      · rcases d1 with d1 | d1 | d1 | d1
        · exact ⟨_, (.tail _ (.tail _ (.tail _ (.tail _ (.tail _ (.tail _ (.tail _ (.head _)))))))), in_unit _ _ _ _ _ _ _ _ (by omega) (by omega) (by omega) (by omega)⟩
        · exact ⟨_, (.tail _ (.tail _ (.tail _ (.tail _ (.tail _ (.head _)))))), in_unit _ _ _ _ _ _ _ _ (by omega) (by omega) (by omega) (by omega)⟩
        · exact ⟨_, (.tail _ (.tail _ (.tail _ (.head _)))), in_unit _ _ _ _ _ _ _ _ (by omega) (by omega) (by omega) (by omega)⟩
        · exact ⟨_, (.tail _ (.head _)), in_unit _ _ _ _ _ _ _ _ (by omega) (by omega) (by omega) (by omega)⟩
    · rcases d0 with d0 | d0
      · rcases d1 with d1 | d1 | d1 | d1
        · exact ⟨_, (.tail _ (.tail _ (.tail _ (.tail _ (.tail _ (.tail _ (.tail _ (.tail _ (.tail _ (.tail _ (.tail _ (.tail _ (.tail _ (.tail _ (.head _))))))))))))))), in_unit _ _ _ _ _ _ _ _ (by omega) (by omega) (by omega) (by omega)⟩
        · exact ⟨_, (.tail _ (.tail _ (.tail _ (.tail _ (.tail _ (.tail _ (.tail _ (.tail _ (.tail _ (.tail _ (.tail _ (.tail _ (.head _))))))))))))), in_unit _ _ _ _ _ _ _ _ (by omega) (by omega) (by omega) (by omega)⟩
        · exact ⟨_, (.tail _ (.tail _ (.tail _ (.tail _ (.tail _ (.tail _ (.tail _ (.tail _ (.tail _ (.tail _ (.head _))))))))))), in_unit _ _ _ _ _ _ _ _ (by omega) (by omega) (by omega) (by omega)⟩
        · exact ⟨_, (.tail _ (.tail _ (.tail _ (.tail _ (.tail _ (.tail _ (.tail _ (.tail _ (.head _))))))))), in_unit _ _ _ _ _ _ _ _ (by omega) (by omega) (by omega) (by omega)⟩
      · rcases d1 with d1 | d1 | d1 | d1
        · exact ⟨_, (.tail _ (.tail _ (.tail _ (.tail _ (.tail _ (.tail _ (.head _))))))), in_unit _ _ _ _ _ _ _ _ (by omega) (by omega) (by omega) (by omega)⟩
        · exact ⟨_, (.tail _ (.tail _ (.tail _ (.tail _ (.head _))))), in_unit _ _ _ _ _ _ _ _ (by omega) (by omega) (by omega) (by omega)⟩
        · exact ⟨_, (.tail _ (.tail _ (.head _))), in_unit _ _ _ _ _ _ _ _ (by omega) (by omega) (by omega) (by omega)⟩
        · exact ⟨_, (.head _), in_unit _ _ _ _ _ _ _ _ (by omega) (by omega) (by omega) (by omega)⟩
  · rcases d0 with d0 | d0
    · rcases d1 with d1 | d1 | d1 | d1
      · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), in_unit _ _ _ _ _ _ _ _ (by omega) (by omega) (by omega) (by omega)⟩
      · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), in_unit _ _ _ _ _ _ _ _ (by omega) (by omega) (by omega) (by omega)⟩
      · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), in_unit _ _ _ _ _ _ _ _ (by omega) (by omega) (by omega) (by omega)⟩
      · exact ⟨_, (.tail _ (.tail _ (.tail _ (.tail _ (.tail _ (.tail _ (.tail _ (.tail _ (.tail _ (.tail _ (.tail _ (.tail _ (.tail _ (.tail _ (.tail _ (.tail _ (.tail _ (.head _)))))))))))))))))), in_unit _ _ _ _ _ _ _ _ (by omega) (by omega) (by omega) (by omega)⟩
    · rcases d1 with d1 | d1 | d1 | d1
      · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), in_unit _ _ _ _ _ _ _ _ (by omega) (by omega) (by omega) (by omega)⟩
      · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), in_unit _ _ _ _ _ _ _ _ (by omega) (by omega) (by omega) (by omega)⟩
      · exact ⟨_, (.tail _ (.tail _ (.tail _ (.tail _ (.tail _ (.tail _ (.tail _ (.tail _ (.tail _ (.tail _ (.tail _ (.tail _ (.tail _ (.tail _ (.tail _ (.tail _ (.tail _ (.tail _ (.head _))))))))))))))))))), in_unit _ _ _ _ _ _ _ _ (by omega) (by omega) (by omega) (by omega)⟩
      · exact ⟨_, (.tail _ (.tail _ (.tail _ (.tail _ (.tail _ (.tail _ (.tail _ (.tail _ (.tail _ (.tail _ (.tail _ (.tail _ (.tail _ (.tail _ (.tail _ (.tail _ (.head _))))))))))))))))), in_unit _ _ _ _ _ _ _ _ (by omega) (by omega) (by omega) (by omega)⟩

theorem q2_cover (L : List (View.Piece (Elt Ideal) S2x4x512x256 .bf16)) (hL : L.map (fun p => p.1) = q2Rects) (y : S2x4x512x256.Idx) :
    ∃ p ∈ L, y ∈ p.1.set := by
  obtain ⟨r, hr, hy⟩ := q2Rects_cover y
  rw [← hL] at hr
  obtain ⟨p, hp, rfl⟩ := List.mem_map.mp hr
  exact ⟨p, hp, hy⟩

theorem canon_slot (p : View.Piece (Elt Ideal) S2x4x512x256 .bf16) (L : List (View.Piece (Elt Ideal) S2x4x512x256 .bf16))
    (hL : ∀ y : S2x4x512x256.Idx, (y 0).val = 0 → View.canon (p :: L) y = ((q2r D (y 1).val (y 0).val (y 2).val (y 3).val : ℝ) : EReal))
    (hp : ∀ y : S2x4x512x256.Idx, (y 0).val = 0 → y ∉ p.1.set)
    (y : S2x4x512x256.Idx) (hy : (y 0).val = 0) : View.canon L y = ((q2r D (y 1).val (y 0).val (y 2).val (y 3).val : ℝ) : EReal) :=
  (View.canon_cons_of_not_mem p L (hp y hy)).symm.trans (hL y hy)

theorem slot_out (h r : ℕ) (inb : ∀ a, (![1, h, r, 0] : Fin 4 → ℕ) a + (![1, 1, 256, 128] : Fin 4 → ℕ) a ≤ S2x4x512x256.size a) (y : S2x4x512x256.Idx) (hy : (y 0).val = 0) :
    y ∉ (Rect.unit (s := S2x4x512x256) ![1, h, r, 0] ![1, 1, 256, 128] inb).set := by
  intro hm
  have := (Rect.mem_set_unit.mp hm 0).1
  rw [hy] at this
  exact absurd this (by show ¬ (1 ≤ 0); decide)

end Cert.KernelIdeal.Val

end
-- ==== Proof.Attn.CaseA.lean ====
module

public import proofs.«01_k».proof.Proof.Attn.First

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_A (c : Dev nD) (t : Fin cfg0.N) (h : t.val % 16 = 0) (hb : Blk D lr m c t) (y : S2x4x512x256.Idx) :
    (outsAt0 m c t.val t.isLt).2.1 y = ((q2r D (y 1).val (y 0).val (y 2).val (y 3).val : ℝ) : EReal) := by
  rw [outsAt0_A m c t (by omega) (by omega) (by omega) (by omega) (by omega) (by omega) (by omega) (by omega)]
  frame_out
  canon_tiles x hx using q2_cover _ rfl _
  case piece0 =>
    open_payloads
    refine w1_tgt D 3 1 _ ?_ x y (by omega) (by omega) (by omega) (by omega)
    refine w1_of D 3 1 _ ?_
    exact ldQB D hb.q _ _ 3 1 (by first | rfl | (simp [h]; done)) (by first | rfl | (simp [h]; done)) (by decide) (by decide)
  case piece1 =>
    open_payloads
    refine w0_tgt D 3 1 _ ?_ x y (by omega) (by omega) (by omega) (by omega)
    refine w0_of D 3 1 _ ?_
    exact ldQB D hb.q _ _ 3 1 (by first | rfl | (simp [h]; done)) (by first | rfl | (simp [h]; done)) (by decide) (by decide)
  case piece2 =>
    open_payloads
    refine w1_tgt D 2 1 _ ?_ x y (by omega) (by omega) (by omega) (by omega)
    refine w1_of D 2 1 _ ?_
    exact ldQB D hb.q _ _ 2 1 (by first | rfl | (simp [h]; done)) (by first | rfl | (simp [h]; done)) (by decide) (by decide)
  case piece3 =>
    open_payloads
    refine w0_tgt D 2 1 _ ?_ x y (by omega) (by omega) (by omega) (by omega)
    refine w0_of D 2 1 _ ?_
    exact ldQB D hb.q _ _ 2 1 (by first | rfl | (simp [h]; done)) (by first | rfl | (simp [h]; done)) (by decide) (by decide)
  case piece4 =>
    open_payloads
    refine w1_tgt D 1 1 _ ?_ x y (by omega) (by omega) (by omega) (by omega)
    refine w1_of D 1 1 _ ?_
    exact ldQB D hb.q _ _ 1 1 (by first | rfl | (simp [h]; done)) (by first | rfl | (simp [h]; done)) (by decide) (by decide)
  case piece5 =>
    open_payloads
    refine w0_tgt D 1 1 _ ?_ x y (by omega) (by omega) (by omega) (by omega)
    refine w0_of D 1 1 _ ?_
    exact ldQB D hb.q _ _ 1 1 (by first | rfl | (simp [h]; done)) (by first | rfl | (simp [h]; done)) (by decide) (by decide)
  case piece6 =>
    open_payloads
    refine w1_tgt D 0 1 _ ?_ x y (by omega) (by omega) (by omega) (by omega)
    refine w1_of D 0 1 _ ?_
    exact ldQB D hb.q _ _ 0 1 (by first | rfl | (simp [h]; done)) (by first | rfl | (simp [h]; done)) (by decide) (by decide)
  case piece7 =>
    open_payloads
    refine w0_tgt D 0 1 _ ?_ x y (by omega) (by omega) (by omega) (by omega)
    refine w0_of D 0 1 _ ?_
    exact ldQB D hb.q _ _ 0 1 (by first | rfl | (simp [h]; done)) (by first | rfl | (simp [h]; done)) (by decide) (by decide)
  case piece8 =>
    open_payloads
    refine w1_tgt D 3 0 _ ?_ x y (by omega) (by omega) (by omega) (by omega)
    refine w1_of D 3 0 _ ?_
    exact ldQB D hb.q _ _ 3 0 (by first | rfl | (simp [h]; done)) (by first | rfl | (simp [h]; done)) (by decide) (by decide)
  case piece9 =>
    open_payloads
    refine w0_tgt D 3 0 _ ?_ x y (by omega) (by omega) (by omega) (by omega)
    refine w0_of D 3 0 _ ?_
    exact ldQB D hb.q _ _ 3 0 (by first | rfl | (simp [h]; done)) (by first | rfl | (simp [h]; done)) (by decide) (by decide)
  case piece10 =>
    open_payloads
    refine w1_tgt D 2 0 _ ?_ x y (by omega) (by omega) (by omega) (by omega)
    refine w1_of D 2 0 _ ?_
    exact ldQB D hb.q _ _ 2 0 (by first | rfl | (simp [h]; done)) (by first | rfl | (simp [h]; done)) (by decide) (by decide)
  case piece11 =>
    open_payloads
    refine w0_tgt D 2 0 _ ?_ x y (by omega) (by omega) (by omega) (by omega)
    refine w0_of D 2 0 _ ?_
    exact ldQB D hb.q _ _ 2 0 (by first | rfl | (simp [h]; done)) (by first | rfl | (simp [h]; done)) (by decide) (by decide)
  case piece12 =>
    open_payloads
    refine w1_tgt D 1 0 _ ?_ x y (by omega) (by omega) (by omega) (by omega)
    refine w1_of D 1 0 _ ?_
    exact ldQB D hb.q _ _ 1 0 (by first | rfl | (simp [h]; done)) (by first | rfl | (simp [h]; done)) (by decide) (by decide)
  case piece13 =>
    open_payloads
    refine w0_tgt D 1 0 _ ?_ x y (by omega) (by omega) (by omega) (by omega)
    refine w0_of D 1 0 _ ?_
    exact ldQB D hb.q _ _ 1 0 (by first | rfl | (simp [h]; done)) (by first | rfl | (simp [h]; done)) (by decide) (by decide)
  case piece14 =>
    open_payloads
    refine w1_tgt D 0 0 _ ?_ x y (by omega) (by omega) (by omega) (by omega)
    refine w1_of D 0 0 _ ?_
    exact ldQB D hb.q _ _ 0 0 (by first | rfl | (simp [h]; done)) (by first | rfl | (simp [h]; done)) (by decide) (by decide)
  case piece15 =>
    open_payloads
    refine w0_tgt D 0 0 _ ?_ x y (by omega) (by omega) (by omega) (by omega)
    refine w0_of D 0 0 _ ?_
    exact ldQB D hb.q _ _ 0 0 (by first | rfl | (simp [h]; done)) (by first | rfl | (simp [h]; done)) (by decide) (by decide)
  case piece16 =>
    open_payloads
    refine wc_tgt D 3 1 _ ?_ x y (by omega) (by omega) (by omega) (by omega)
    intro r c'
    pointwise
    refine (hb.cc _ _).trans ?_
    simp
  case piece17 =>
    open_payloads
    refine wc_tgt D 3 0 _ ?_ x y (by omega) (by omega) (by omega) (by omega)
    intro r c'
    pointwise
    refine (hb.cc _ _).trans ?_
    simp
  case piece18 =>
    open_payloads
    refine wc_tgt D 2 1 _ ?_ x y (by omega) (by omega) (by omega) (by omega)
    intro r c'
    pointwise
    refine (hb.cc _ _).trans ?_
    simp
  case piece19 =>
    open_payloads
    refine wc_tgt D 2 0 _ ?_ x y (by omega) (by omega) (by omega) (by omega)
    intro r c'
    pointwise
    refine (hb.cc _ _).trans ?_
    simp
  case piece20 =>
    open_payloads
    refine wc_tgt D 1 1 _ ?_ x y (by omega) (by omega) (by omega) (by omega)
    intro r c'
    pointwise
    refine (hb.cc _ _).trans ?_
    simp
  case piece21 =>
    open_payloads
    refine wc_tgt D 1 0 _ ?_ x y (by omega) (by omega) (by omega) (by omega)
    intro r c'
    pointwise
    refine (hb.cc _ _).trans ?_
    simp
  case piece22 =>
    open_payloads
    refine wc_tgt D 0 1 _ ?_ x y (by omega) (by omega) (by omega) (by omega)
    intro r c'
    pointwise
    refine (hb.cc _ _).trans ?_
    simp
  case piece23 =>
    open_payloads
    refine wc_tgt D 0 0 _ ?_ x y (by omega) (by omega) (by omega) (by omega)
    intro r c'
    pointwise
    refine (hb.cc _ _).trans ?_
    simp

theorem m_A (c : Dev nD) (t : Fin cfg0.N) (h : t.val % 16 = 0) (hb : Blk D lr m c t) (y : S2x512x512.Idx) :
    (outsAt0 m c t.val t.isLt).2.2.1 y = if (y 1).val ≤ (y 0).val * 256 + (y 2).val % 256 then (0 : EReal) else ⊥ := by
  rw [outsAt0_A m c t (by omega) (by omega) (by omega) (by omega) (by omega) (by omega) (by omega) (by omega)]
  frame_out
  canon_tiles x hx
  case piece0 =>
    open_payloads
    exact mk_tgt 1 _ mask1 x y (by omega) (by omega) (by omega)
  case piece1 =>
    open_payloads
    exact mk_tgt 0 _ mask0 x y (by omega) (by omega) (by omega)

theorem s_A (c : Dev nD) (t : Fin cfg0.N) (h : t.val % 16 = 0) (hb : Blk D lr m c t) (y : S4x512x512.Idx) :
    (outsAt0 m c t.val t.isLt).2.2.2.1 y = ((S D (y 0).val 1 (y 2).val (y 1).val : ℝ) : EReal) := by
  have hq := q_A D lr m c t h hb
  rw [outsAt0_A m c t (by omega) (by omega) (by omega) (by omega) (by omega) (by omega) (by omega) (by omega)] at hq ⊢
  frame_out at hq
  frame_out
  refine s4 D 1 _ _ _ _ _ _ _ _ _ ?_ ?_ ?_ ?_ y
  · intro a b
    open_payloads
    refine score D 3 1 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact covQ D (s := 1) _ 3 (by decide) (by decide) _ _ (fun y _ => hq y)
  · intro a b
    open_payloads
    refine score D 2 1 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact covQ D (s := 1) _ 2 (by decide) (by decide) _ _ (fun y _ => hq y)
  · intro a b
    open_payloads
    refine score D 1 1 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact covQ D (s := 1) _ 1 (by decide) (by decide) _ _ (fun y _ => hq y)
  · intro a b
    open_payloads
    refine score D 0 1 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact covQ D (s := 1) _ 0 (by decide) (by decide) _ _ (fun y _ => hq y)

theorem r_A (c : Dev nD) (t : Fin cfg0.N) (h : t.val % 16 = 0) (hb : Blk D lr m c t) (y : S4x1x512.Idx) :
    (outsAt0 m c t.val t.isLt).2.2.2.2 y = ((Mx D (y 0).val 1 0 (y 2).val : ℝ) : EReal) := by
  have hq := q_A D lr m c t h hb
  rw [outsAt0_A m c t (by omega) (by omega) (by omega) (by omega) (by omega) (by omega) (by omega) (by omega)] at hq ⊢
  frame_out at hq
  frame_out
  refine r4 D 1 _ _ _ _ _ _ _ _ _ ?_ ?_ ?_ ?_ y
  · intro a
    open_payloads
    refine smaxM D 3 1 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact covQ D (s := 1) _ 3 (by decide) (by decide) _ _ (fun y _ => hq y)
  · intro a
    open_payloads
    refine smaxM D 2 1 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact covQ D (s := 1) _ 2 (by decide) (by decide) _ _ (fun y _ => hq y)
  · intro a
    open_payloads
    refine smaxM D 1 1 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact covQ D (s := 1) _ 1 (by decide) (by decide) _ _ (fun y _ => hq y)
  · intro a
    open_payloads
    refine smaxM D 0 1 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact covQ D (s := 1) _ 0 (by decide) (by decide) _ _ (fun y _ => hq y)

theorem out_A (c : Dev nD) (t : Fin cfg0.N) (h : t.val % 16 = 0) (hb : Blk D lr m c t) (j : S256x512.Idx) :
    (outsAt0 m c t.val t.isLt).1 j = tgt D lr (iblk m c 6 t) 0 j := by
  have hq := q_A D lr m c t h hb
  rw [outsAt0_A m c t (by omega) (by omega) (by omega) (by omega) (by omega) (by omega) (by omega) (by omega)] at hq ⊢
  frame_out at hq
  frame_out
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 0 _ _ _ _ j (by omega) (by omega) ?_ (ldL lr hb.l _)
    refine finCov D _ 3 0 hb.o3 _ _ _ _ _ _ ?_
    refine mstep' D 3 0 0 0 rfl (by decide) _ _ _ _ _ ?_ ?_ ?_ ?_
    · refine score' D 3 0 0 _ _ _ ?_ ?_ ?_
      · exact ldK' D hb.k _ _ 3 0 (by first | rfl | (simp [h]; done)) (by first | rfl | (simp [h]; done)) (by decide) (by decide)
      · exact ldF' D hb.f _ _ 0 (by first | rfl | (simp [h]; done)) (by first | rfl | (simp [h]; done)) (by decide)
      · refine covQ D (s := 0) _ 3 (by decide) (by decide) _ _ ?_
        have h0 : ∀ y : S2x4x512x256.Idx, (y 0).val = 0 → _ := fun y _ => hq y
        replace h0 := canon_slot D _ _ h0 (fun y hy => slot_out 3 256 (by decide) y hy)
        replace h0 := canon_slot D _ _ h0 (fun y hy => slot_out 3 0 (by decide) y hy)
        replace h0 := canon_slot D _ _ h0 (fun y hy => slot_out 2 256 (by decide) y hy)
        replace h0 := canon_slot D _ _ h0 (fun y hy => slot_out 2 0 (by decide) y hy)
        replace h0 := canon_slot D _ _ h0 (fun y hy => slot_out 1 256 (by decide) y hy)
        replace h0 := canon_slot D _ _ h0 (fun y hy => slot_out 1 0 (by decide) y hy)
        replace h0 := canon_slot D _ _ h0 (fun y hy => slot_out 0 256 (by decide) y hy)
        replace h0 := canon_slot D _ _ h0 (fun y hy => slot_out 0 0 (by decide) y hy)
        exact h0
    · refine covM' _ _ _ ?_
      intro y
      clear hx0 hx1 x0_lt x1_lt
      clear x
      canon_tiles x hx
      case piece0 =>
        skip
        exact mk_tgt 1 _ mask1 x y (by omega) (by omega) (by omega)
      case piece1 =>
        skip
        exact mk_tgt 0 _ mask0 x y (by omega) (by omega) (by omega)
    · exact ldV' D hb.v _ _ 3 0 (by first | rfl | (simp [h]; done)) (by first | rfl | (simp [h]; done)) (by decide) (by decide)
    · exact start D 3 0
  case piece1 =>
    open_payloads
    refine fin_tgt D lr (iblk m c 6 t) 2 0 _ _ _ _ j (by omega) (by omega) ?_ (ldL lr hb.l _)
    refine finCov D _ 2 0 hb.o2 _ _ _ _ _ _ ?_
    refine mstep' D 2 0 0 0 rfl (by decide) _ _ _ _ _ ?_ ?_ ?_ ?_
    · refine score' D 2 0 0 _ _ _ ?_ ?_ ?_
      · exact ldK' D hb.k _ _ 2 0 (by first | rfl | (simp [h]; done)) (by first | rfl | (simp [h]; done)) (by decide) (by decide)
      · exact ldF' D hb.f _ _ 0 (by first | rfl | (simp [h]; done)) (by first | rfl | (simp [h]; done)) (by decide)
      · refine covQ D (s := 0) _ 2 (by decide) (by decide) _ _ ?_
        have h0 : ∀ y : S2x4x512x256.Idx, (y 0).val = 0 → _ := fun y _ => hq y
        replace h0 := canon_slot D _ _ h0 (fun y hy => slot_out 3 256 (by decide) y hy)
        replace h0 := canon_slot D _ _ h0 (fun y hy => slot_out 3 0 (by decide) y hy)
        replace h0 := canon_slot D _ _ h0 (fun y hy => slot_out 2 256 (by decide) y hy)
        replace h0 := canon_slot D _ _ h0 (fun y hy => slot_out 2 0 (by decide) y hy)
        replace h0 := canon_slot D _ _ h0 (fun y hy => slot_out 1 256 (by decide) y hy)
        replace h0 := canon_slot D _ _ h0 (fun y hy => slot_out 1 0 (by decide) y hy)
        replace h0 := canon_slot D _ _ h0 (fun y hy => slot_out 0 256 (by decide) y hy)
        replace h0 := canon_slot D _ _ h0 (fun y hy => slot_out 0 0 (by decide) y hy)
        exact h0
    · refine covM' _ _ _ ?_
      intro y
      clear hx0 hx1 x0_lt x1_lt
      clear x
      canon_tiles x hx
      case piece0 =>
        skip
        exact mk_tgt 1 _ mask1 x y (by omega) (by omega) (by omega)
      case piece1 =>
        skip
        exact mk_tgt 0 _ mask0 x y (by omega) (by omega) (by omega)
    · exact ldV' D hb.v _ _ 2 0 (by first | rfl | (simp [h]; done)) (by first | rfl | (simp [h]; done)) (by decide) (by decide)
    · exact start D 2 0
  case piece2 =>
    open_payloads
    refine fin_tgt D lr (iblk m c 6 t) 1 0 _ _ _ _ j (by omega) (by omega) ?_ (ldL lr hb.l _)
    refine finCov D _ 1 0 hb.o1 _ _ _ _ _ _ ?_
    refine mstep' D 1 0 0 0 rfl (by decide) _ _ _ _ _ ?_ ?_ ?_ ?_
    · refine score' D 1 0 0 _ _ _ ?_ ?_ ?_
      · exact ldK' D hb.k _ _ 1 0 (by first | rfl | (simp [h]; done)) (by first | rfl | (simp [h]; done)) (by decide) (by decide)
      · exact ldF' D hb.f _ _ 0 (by first | rfl | (simp [h]; done)) (by first | rfl | (simp [h]; done)) (by decide)
      · refine covQ D (s := 0) _ 1 (by decide) (by decide) _ _ ?_
        have h0 : ∀ y : S2x4x512x256.Idx, (y 0).val = 0 → _ := fun y _ => hq y
        replace h0 := canon_slot D _ _ h0 (fun y hy => slot_out 3 256 (by decide) y hy)
        replace h0 := canon_slot D _ _ h0 (fun y hy => slot_out 3 0 (by decide) y hy)
        replace h0 := canon_slot D _ _ h0 (fun y hy => slot_out 2 256 (by decide) y hy)
        replace h0 := canon_slot D _ _ h0 (fun y hy => slot_out 2 0 (by decide) y hy)
        replace h0 := canon_slot D _ _ h0 (fun y hy => slot_out 1 256 (by decide) y hy)
        replace h0 := canon_slot D _ _ h0 (fun y hy => slot_out 1 0 (by decide) y hy)
        replace h0 := canon_slot D _ _ h0 (fun y hy => slot_out 0 256 (by decide) y hy)
        replace h0 := canon_slot D _ _ h0 (fun y hy => slot_out 0 0 (by decide) y hy)
        exact h0
    · refine covM' _ _ _ ?_
      intro y
      clear hx0 hx1 x0_lt x1_lt
      clear x
      canon_tiles x hx
      case piece0 =>
        skip
        exact mk_tgt 1 _ mask1 x y (by omega) (by omega) (by omega)
      case piece1 =>
        skip
        exact mk_tgt 0 _ mask0 x y (by omega) (by omega) (by omega)
    · exact ldV' D hb.v _ _ 1 0 (by first | rfl | (simp [h]; done)) (by first | rfl | (simp [h]; done)) (by decide) (by decide)
    · exact start D 1 0
  case piece3 =>
    open_payloads
    refine fin_tgt D lr (iblk m c 6 t) 0 0 _ _ _ _ j (by omega) (by omega) ?_ (ldL lr hb.l _)
    refine finCov D _ 0 0 hb.o0 _ _ _ _ _ _ ?_
    refine mstep' D 0 0 0 0 rfl (by decide) _ _ _ _ _ ?_ ?_ ?_ ?_
    · refine score' D 0 0 0 _ _ _ ?_ ?_ ?_
      · exact ldK' D hb.k _ _ 0 0 (by first | rfl | (simp [h]; done)) (by first | rfl | (simp [h]; done)) (by decide) (by decide)
      · exact ldF' D hb.f _ _ 0 (by first | rfl | (simp [h]; done)) (by first | rfl | (simp [h]; done)) (by decide)
      · refine covQ D (s := 0) _ 0 (by decide) (by decide) _ _ ?_
        have h0 : ∀ y : S2x4x512x256.Idx, (y 0).val = 0 → _ := fun y _ => hq y
        replace h0 := canon_slot D _ _ h0 (fun y hy => slot_out 3 256 (by decide) y hy)
        replace h0 := canon_slot D _ _ h0 (fun y hy => slot_out 3 0 (by decide) y hy)
        replace h0 := canon_slot D _ _ h0 (fun y hy => slot_out 2 256 (by decide) y hy)
        replace h0 := canon_slot D _ _ h0 (fun y hy => slot_out 2 0 (by decide) y hy)
        replace h0 := canon_slot D _ _ h0 (fun y hy => slot_out 1 256 (by decide) y hy)
        replace h0 := canon_slot D _ _ h0 (fun y hy => slot_out 1 0 (by decide) y hy)
        replace h0 := canon_slot D _ _ h0 (fun y hy => slot_out 0 256 (by decide) y hy)
        replace h0 := canon_slot D _ _ h0 (fun y hy => slot_out 0 0 (by decide) y hy)
        exact h0
    · refine covM' _ _ _ ?_
      intro y
      clear hx0 hx1 x0_lt x1_lt
      clear x
      canon_tiles x hx
      case piece0 =>
        skip
        exact mk_tgt 1 _ mask1 x y (by omega) (by omega) (by omega)
      case piece1 =>
        skip
        exact mk_tgt 0 _ mask0 x y (by omega) (by omega) (by omega)
    · exact ldV' D hb.v _ _ 0 0 (by first | rfl | (simp [h]; done)) (by first | rfl | (simp [h]; done)) (by decide) (by decide)
    · exact start D 0 0
theorem inv_A (c : Dev nD) (t : Fin cfg0.N) (h : t.val % 16 = 0) (hb : Blk D lr m c t) : InvAt D m 1 c t.val t.isLt := by
  have hq := q_A D lr m c t h hb
  refine ⟨fun s' a ql b hs => ?_, fun s' a ql b hc => ?_, fun b j ql => m_A D lr m c t h hb (ix3 b j ql), fun a b d => s_A D lr m c t h hb (ix3 a b d), fun a d => ⟨_, r_A D lr m c t h hb (ix3 a 0 d)⟩⟩
  · refine (hq _).trans ?_
    show ((q2r D a.val s'.val ql.val b.val : ℝ) : EReal) = _
    rw [hs]
  · refine (hq _).trans ?_
    show ((q2r D a.val s'.val ql.val b.val : ℝ) : EReal) = _
    unfold q2r
    rw [if_neg (by omega)]

end Cert.KernelIdeal.Val

end
-- ==== Proof.Attn.CaseB.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_B (c : Dev nD) (t : Fin cfg0.N) (h : t.val % 16 = 1) (hb : Blk D lr m c t)
    (hI : InvAt D m 1 c (t.val - 1) (Nat.lt_of_le_of_lt (Nat.sub_le _ _) t.isLt)) (j : S256x512.Idx) :
    (outsAt0 m c t.val t.isLt).1 j = tgt D lr (iblk m c 6 t) 1 j := by
  rw [outsAt0_B m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 1 _ _ _ _ j (by omega) (by omega) ?_ (ldL lr hb.l _)
    refine finCov D _ 3 1 hb.o3 _ _ _ _ _ _ ?_
    refine mstep D 3 1 0 256 rfl (by decide) _ _ _ _ _ ?_ ?_ ?_ ?_
    · exact ldS D hIs 3 _ (by decide)
    · exact ldM hIm _
    · exact ldV D hb.v _ _ 3 0 (by first | rfl | (simp [h]; done)) (by first | rfl | (simp [h]; done)) (by decide) (by decide)
    exact start D 3 1
  case piece1 =>
    open_payloads
    refine fin_tgt D lr (iblk m c 6 t) 2 1 _ _ _ _ j (by omega) (by omega) ?_ (ldL lr hb.l _)
    refine finCov D _ 2 1 hb.o2 _ _ _ _ _ _ ?_
    refine mstep D 2 1 0 256 rfl (by decide) _ _ _ _ _ ?_ ?_ ?_ ?_
    · exact ldS D hIs 2 _ (by decide)
    · exact ldM hIm _
    · exact ldV D hb.v _ _ 2 0 (by first | rfl | (simp [h]; done)) (by first | rfl | (simp [h]; done)) (by decide) (by decide)
    exact start D 2 1
  case piece2 =>
    open_payloads
    refine fin_tgt D lr (iblk m c 6 t) 1 1 _ _ _ _ j (by omega) (by omega) ?_ (ldL lr hb.l _)
    refine finCov D _ 1 1 hb.o1 _ _ _ _ _ _ ?_
    refine mstep D 1 1 0 256 rfl (by decide) _ _ _ _ _ ?_ ?_ ?_ ?_
    · exact ldS D hIs 1 _ (by decide)
    · exact ldM hIm _
    · exact ldV D hb.v _ _ 1 0 (by first | rfl | (simp [h]; done)) (by first | rfl | (simp [h]; done)) (by decide) (by decide)
    exact start D 1 1
  case piece3 =>
    open_payloads
    refine fin_tgt D lr (iblk m c 6 t) 0 1 _ _ _ _ j (by omega) (by omega) ?_ (ldL lr hb.l _)
    refine finCov D _ 0 1 hb.o0 _ _ _ _ _ _ ?_
    refine mstep D 0 1 0 256 rfl (by decide) _ _ _ _ _ ?_ ?_ ?_ ?_
    · exact ldS D hIs 0 _ (by decide)
    · exact ldM hIm _
    · exact ldV D hb.v _ _ 0 0 (by first | rfl | (simp [h]; done)) (by first | rfl | (simp [h]; done)) (by decide) (by decide)
    exact start D 0 1
end Cert.KernelIdeal.Val

end
-- ==== Proof.Attn.InvB.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_B (c : Dev nD) (t : Fin cfg0.N) (h : t.val % 16 = 1) (hb : Blk D lr m c t)
    (hI : InvAt D m 1 c (t.val - 1) (Nat.lt_of_le_of_lt (Nat.sub_le _ _) t.isLt)) :
    IsQX D 0 2 (outsAt0 m c t.val t.isLt).2.1 ∧ IsCX D (outsAt0 m c t.val t.isLt).2.1 := by
  obtain ⟨hIq, hIc, hIm, hIs, hIr⟩ := hI
  rw [outsAt0_B m c t (by omega) (by omega) (by omega) (by omega) (by omega) (by omega) (by omega) (by omega)]
  frame_out
  refine q2_over0 D _ _ 2 _ _ _ _ _ _ _ _ _ _ _ _ _ _ _ _ _ (rd0 _) hIc ?_ ?_ ?_ ?_ ?_ ?_ ?_ ?_
  · intro r c'
    open_payloads
    refine w0_of D 0 2 _ ?_ r c'
    exact ldQB D hb.q _ _ 0 2 (by first | rfl | (simp [h]; done)) (by first | rfl | (simp [h]; done)) (by decide) (by decide)
  · intro r c'
    open_payloads
    refine w1_of D 0 2 _ ?_ r c'
    exact ldQB D hb.q _ _ 0 2 (by first | rfl | (simp [h]; done)) (by first | rfl | (simp [h]; done)) (by decide) (by decide)
  · intro r c'
    open_payloads
    refine w0_of D 1 2 _ ?_ r c'
    exact ldQB D hb.q _ _ 1 2 (by first | rfl | (simp [h]; done)) (by first | rfl | (simp [h]; done)) (by decide) (by decide)
  · intro r c'
    open_payloads
    refine w1_of D 1 2 _ ?_ r c'
    exact ldQB D hb.q _ _ 1 2 (by first | rfl | (simp [h]; done)) (by first | rfl | (simp [h]; done)) (by decide) (by decide)
  · intro r c'
    open_payloads
    refine w0_of D 2 2 _ ?_ r c'
    exact ldQB D hb.q _ _ 2 2 (by first | rfl | (simp [h]; done)) (by first | rfl | (simp [h]; done)) (by decide) (by decide)
  · intro r c'
    open_payloads
    refine w1_of D 2 2 _ ?_ r c'
    exact ldQB D hb.q _ _ 2 2 (by first | rfl | (simp [h]; done)) (by first | rfl | (simp [h]; done)) (by decide) (by decide)
  · intro r c'
    open_payloads
    refine w0_of D 3 2 _ ?_ r c'
    exact ldQB D hb.q _ _ 3 2 (by first | rfl | (simp [h]; done)) (by first | rfl | (simp [h]; done)) (by decide) (by decide)
  · intro r c'
    open_payloads
    refine w1_of D 3 2 _ ?_ r c'
    exact ldQB D hb.q _ _ 3 2 (by first | rfl | (simp [h]; done)) (by first | rfl | (simp [h]; done)) (by decide) (by decide)

theorem s_B (c : Dev nD) (t : Fin cfg0.N) (h : t.val % 16 = 1) (hb : Blk D lr m c t)
    (hI : InvAt D m 1 c (t.val - 1) (Nat.lt_of_le_of_lt (Nat.sub_le _ _) t.isLt)) (y : S4x512x512.Idx) :
    (outsAt0 m c t.val t.isLt).2.2.2.1 y = ((S D (y 0).val 2 (y 2).val (y 1).val : ℝ) : EReal) := by
  have hq := (q_B D lr m c t h hb hI).1
  rw [outsAt0_B m c t (by omega) (by omega) (by omega) (by omega) (by omega) (by omega) (by omega) (by omega)] at hq ⊢
  frame_out at hq
  frame_out
  refine s4 D 2 _ _ _ _ _ _ _ _ _ ?_ ?_ ?_ ?_ y
  · intro a b
    open_payloads
    refine score D 3 2 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 2 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 2 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 2 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_B (c : Dev nD) (t : Fin cfg0.N) (h : t.val % 16 = 1) (hb : Blk D lr m c t)
    (hI : InvAt D m 1 c (t.val - 1) (Nat.lt_of_le_of_lt (Nat.sub_le _ _) t.isLt)) (y : S4x1x512.Idx) :
    (outsAt0 m c t.val t.isLt).2.2.2.2 y = ((Mx D (y 0).val 2 0 (y 2).val : ℝ) : EReal) := by
  have hq := (q_B D lr m c t h hb hI).1
  rw [outsAt0_B m c t (by omega) (by omega) (by omega) (by omega) (by omega) (by omega) (by omega) (by omega)] at hq ⊢
  frame_out at hq
  frame_out
  refine r4 D 2 _ _ _ _ _ _ _ _ _ ?_ ?_ ?_ ?_ y
  · intro a
    open_payloads
    refine smaxM D 3 2 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 2 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 2 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 2 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_B (c : Dev nD) (t : Fin cfg0.N) (h : t.val % 16 = 1) (hb : Blk D lr m c t)
    (hI : InvAt D m 1 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_B m c t (by omega) (by omega) (by omega) (by omega) (by omega) (by omega) (by omega) (by omega)]
  simp only [sout0_B_1]
  try simp only [rd1]

theorem inv_B (c : Dev nD) (t : Fin cfg0.N) (h : t.val % 16 = 1) (hb : Blk D lr m c t)
    (hI : InvAt D m 1 c (t.val - 1) (Nat.lt_of_le_of_lt (Nat.sub_le _ _) t.isLt)) : InvAt D m 2 c t.val t.isLt := by
  obtain ⟨h0, h1⟩ := q_B D lr m c t h hb hI
  refine ⟨h0, h1, ?_, fun a b d => s_B D lr m c t h hb hI (ix3 a b d), fun a d => ⟨_, r_B D lr m c t h hb hI (ix3 a 0 d)⟩⟩
  rw [m_B D lr m c t h hb hI]
  exact hI.m

end Cert.KernelIdeal.Val

end
-- ==== Proof.Attn.CaseC.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_C (c : Dev nD) (t : Fin cfg0.N) (h : t.val % 16 = 2) (hb : Blk D lr m c t)
    (hI : InvAt D m 2 c (t.val - 1) (Nat.lt_of_le_of_lt (Nat.sub_le _ _) t.isLt)) (j : S256x512.Idx) :
    (outsAt0 m c t.val t.isLt).1 j = tgt D lr (iblk m c 6 t) 2 j := by
  rw [outsAt0_C m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 2 _ _ _ _ j (by omega) (by omega) ?_ (ldL lr hb.l _)
    refine finCov D _ 3 2 hb.o3 _ _ _ _ _ _ ?_
    refine mstep' D 3 2 512 0 rfl (by decide) _ _ _ _ _ ?_ ?_ ?_ ?_
    · refine score' D 3 2 512 _ _ _ ?_ ?_ ?_
      · exact ldK' D hb.k _ _ 3 512 (by first | rfl | (simp [h]; done)) (by first | rfl | (simp [h]; done)) (by decide) (by decide)
      · exact ldF' D hb.f _ _ 512 (by first | rfl | (simp [h]; done)) (by first | rfl | (simp [h]; done)) (by decide)
      · exact ldQ' D hIq _ _ 3 (by first | rfl | (simp [h]; done)) (by decide) (by decide)
    · exact ldM' hIm _
    · exact ldV' D hb.v _ _ 3 512 (by first | rfl | (simp [h]; done)) (by first | rfl | (simp [h]; done)) (by decide) (by decide)
    refine step D 3 2 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 2
  case piece1 =>
    open_payloads
    refine fin_tgt D lr (iblk m c 6 t) 2 2 _ _ _ _ j (by omega) (by omega) ?_ (ldL lr hb.l _)
    refine finCov D _ 2 2 hb.o2 _ _ _ _ _ _ ?_
    refine mstep' D 2 2 512 0 rfl (by decide) _ _ _ _ _ ?_ ?_ ?_ ?_
    · refine score' D 2 2 512 _ _ _ ?_ ?_ ?_
      · exact ldK' D hb.k _ _ 2 512 (by first | rfl | (simp [h]; done)) (by first | rfl | (simp [h]; done)) (by decide) (by decide)
      · exact ldF' D hb.f _ _ 512 (by first | rfl | (simp [h]; done)) (by first | rfl | (simp [h]; done)) (by decide)
      · exact ldQ' D hIq _ _ 2 (by first | rfl | (simp [h]; done)) (by decide) (by decide)
    · exact ldM' hIm _
    · exact ldV' D hb.v _ _ 2 512 (by first | rfl | (simp [h]; done)) (by first | rfl | (simp [h]; done)) (by decide) (by decide)
    refine step D 2 2 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 2
  case piece2 =>
    open_payloads
    refine fin_tgt D lr (iblk m c 6 t) 1 2 _ _ _ _ j (by omega) (by omega) ?_ (ldL lr hb.l _)
    refine finCov D _ 1 2 hb.o1 _ _ _ _ _ _ ?_
    refine mstep' D 1 2 512 0 rfl (by decide) _ _ _ _ _ ?_ ?_ ?_ ?_
    · refine score' D 1 2 512 _ _ _ ?_ ?_ ?_
      · exact ldK' D hb.k _ _ 1 512 (by first | rfl | (simp [h]; done)) (by first | rfl | (simp [h]; done)) (by decide) (by decide)
      · exact ldF' D hb.f _ _ 512 (by first | rfl | (simp [h]; done)) (by first | rfl | (simp [h]; done)) (by decide)
      · exact ldQ' D hIq _ _ 1 (by first | rfl | (simp [h]; done)) (by decide) (by decide)
    · exact ldM' hIm _
    · exact ldV' D hb.v _ _ 1 512 (by first | rfl | (simp [h]; done)) (by first | rfl | (simp [h]; done)) (by decide) (by decide)
    refine step D 1 2 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 2
  case piece3 =>
    open_payloads
    refine fin_tgt D lr (iblk m c 6 t) 0 2 _ _ _ _ j (by omega) (by omega) ?_ (ldL lr hb.l _)
    refine finCov D _ 0 2 hb.o0 _ _ _ _ _ _ ?_
    refine mstep' D 0 2 512 0 rfl (by decide) _ _ _ _ _ ?_ ?_ ?_ ?_
    · refine score' D 0 2 512 _ _ _ ?_ ?_ ?_
      · exact ldK' D hb.k _ _ 0 512 (by first | rfl | (simp [h]; done)) (by first | rfl | (simp [h]; done)) (by decide) (by decide)
      · exact ldF' D hb.f _ _ 512 (by first | rfl | (simp [h]; done)) (by first | rfl | (simp [h]; done)) (by decide)
      · exact ldQ' D hIq _ _ 0 (by first | rfl | (simp [h]; done)) (by decide) (by decide)
    · exact ldM' hIm _
    · exact ldV' D hb.v _ _ 0 512 (by first | rfl | (simp [h]; done)) (by first | rfl | (simp [h]; done)) (by decide) (by decide)
    refine step D 0 2 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 2
end Cert.KernelIdeal.Val

end
-- ==== Proof.Attn.InvC.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_C (c : Dev nD) (t : Fin cfg0.N) (h : t.val % 16 = 2) (hb : Blk D lr m c t)
    (hI : InvAt D m 2 c (t.val - 1) (Nat.lt_of_le_of_lt (Nat.sub_le _ _) t.isLt)) :
    IsQX D 1 3 (outsAt0 m c t.val t.isLt).2.1 ∧ IsCX D (outsAt0 m c t.val t.isLt).2.1 := by
  obtain ⟨hIq, hIc, hIm, hIs, hIr⟩ := hI
  rw [outsAt0_C m c t (by omega) (by omega) (by omega) (by omega) (by omega) (by omega) (by omega) (by omega)]
  frame_out
  refine q2_over1 D _ _ 3 _ _ _ _ _ _ _ _ _ _ _ _ _ _ _ _ _ (rd0 _) hIc ?_ ?_ ?_ ?_ ?_ ?_ ?_ ?_
  · intro r c'
    open_payloads
    refine w0_of D 0 3 _ ?_ r c'
    exact ldQB D hb.q _ _ 0 3 (by first | rfl | (simp [h]; done)) (by first | rfl | (simp [h]; done)) (by decide) (by decide)
  · intro r c'
    open_payloads
    refine w1_of D 0 3 _ ?_ r c'
    exact ldQB D hb.q _ _ 0 3 (by first | rfl | (simp [h]; done)) (by first | rfl | (simp [h]; done)) (by decide) (by decide)
  · intro r c'
    open_payloads
    refine w0_of D 1 3 _ ?_ r c'
    exact ldQB D hb.q _ _ 1 3 (by first | rfl | (simp [h]; done)) (by first | rfl | (simp [h]; done)) (by decide) (by decide)
  · intro r c'
    open_payloads
    refine w1_of D 1 3 _ ?_ r c'
    exact ldQB D hb.q _ _ 1 3 (by first | rfl | (simp [h]; done)) (by first | rfl | (simp [h]; done)) (by decide) (by decide)
  · intro r c'
    open_payloads
    refine w0_of D 2 3 _ ?_ r c'
    exact ldQB D hb.q _ _ 2 3 (by first | rfl | (simp [h]; done)) (by first | rfl | (simp [h]; done)) (by decide) (by decide)
  · intro r c'
    open_payloads
    refine w1_of D 2 3 _ ?_ r c'
    exact ldQB D hb.q _ _ 2 3 (by first | rfl | (simp [h]; done)) (by first | rfl | (simp [h]; done)) (by decide) (by decide)
  · intro r c'
    open_payloads
    refine w0_of D 3 3 _ ?_ r c'
    exact ldQB D hb.q _ _ 3 3 (by first | rfl | (simp [h]; done)) (by first | rfl | (simp [h]; done)) (by decide) (by decide)
  · intro r c'
    open_payloads
    refine w1_of D 3 3 _ ?_ r c'
    exact ldQB D hb.q _ _ 3 3 (by first | rfl | (simp [h]; done)) (by first | rfl | (simp [h]; done)) (by decide) (by decide)

theorem s_C (c : Dev nD) (t : Fin cfg0.N) (h : t.val % 16 = 2) (hb : Blk D lr m c t)
    (hI : InvAt D m 2 c (t.val - 1) (Nat.lt_of_le_of_lt (Nat.sub_le _ _) t.isLt)) (y : S4x512x512.Idx) :
    (outsAt0 m c t.val t.isLt).2.2.2.1 y = ((S D (y 0).val 3 (y 2).val (y 1).val : ℝ) : EReal) := by
  have hq := (q_C D lr m c t h hb hI).1
  rw [outsAt0_C m c t (by omega) (by omega) (by omega) (by omega) (by omega) (by omega) (by omega) (by omega)] at hq ⊢
  frame_out at hq
  frame_out
  refine s4 D 3 _ _ _ _ _ _ _ _ _ ?_ ?_ ?_ ?_ y
  · intro a b
    open_payloads
    refine score D 3 3 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 3 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 3 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 3 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_C (c : Dev nD) (t : Fin cfg0.N) (h : t.val % 16 = 2) (hb : Blk D lr m c t)
    (hI : InvAt D m 2 c (t.val - 1) (Nat.lt_of_le_of_lt (Nat.sub_le _ _) t.isLt)) (y : S4x1x512.Idx) :
    (outsAt0 m c t.val t.isLt).2.2.2.2 y = ((Mx D (y 0).val 3 0 (y 2).val : ℝ) : EReal) := by
  have hq := (q_C D lr m c t h hb hI).1
  rw [outsAt0_C m c t (by omega) (by omega) (by omega) (by omega) (by omega) (by omega) (by omega) (by omega)] at hq ⊢
  frame_out at hq
  frame_out
  refine r4 D 3 _ _ _ _ _ _ _ _ _ ?_ ?_ ?_ ?_ y
  · intro a
    open_payloads
    refine smaxM D 3 3 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 3 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 3 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 3 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_C (c : Dev nD) (t : Fin cfg0.N) (h : t.val % 16 = 2) (hb : Blk D lr m c t)
    (hI : InvAt D m 2 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_C m c t (by omega) (by omega) (by omega) (by omega) (by omega) (by omega) (by omega) (by omega)]
  simp only [sout0_C_1]
  try simp only [rd1]

theorem inv_C (c : Dev nD) (t : Fin cfg0.N) (h : t.val % 16 = 2) (hb : Blk D lr m c t)
    (hI : InvAt D m 2 c (t.val - 1) (Nat.lt_of_le_of_lt (Nat.sub_le _ _) t.isLt)) : InvAt D m 3 c t.val t.isLt := by
  obtain ⟨h0, h1⟩ := q_C D lr m c t h hb hI
  refine ⟨h0, h1, ?_, fun a b d => s_C D lr m c t h hb hI (ix3 a b d), fun a d => ⟨_, r_C D lr m c t h hb hI (ix3 a 0 d)⟩⟩
  rw [m_C D lr m c t h hb hI]
  exact hI.m

end Cert.KernelIdeal.Val

end
-- ==== Proof.Attn.CaseD.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_D (c : Dev nD) (t : Fin cfg0.N) (h : t.val % 16 = 3) (hb : Blk D lr m c t)
    (hI : InvAt D m 3 c (t.val - 1) (Nat.lt_of_le_of_lt (Nat.sub_le _ _) t.isLt)) (j : S256x512.Idx) :
    (outsAt0 m c t.val t.isLt).1 j = tgt D lr (iblk m c 6 t) 3 j := by
  rw [outsAt0_D m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 3 _ _ _ _ j (by omega) (by omega) ?_ (ldL lr hb.l _)
    refine finCov D _ 3 3 hb.o3 _ _ _ _ _ _ ?_
    refine mstep D 3 3 512 256 rfl (by decide) _ _ _ _ _ ?_ ?_ ?_ ?_
    · refine score D 3 3 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldM hIm _
    · exact ldV D hb.v _ _ 3 512 (by first | rfl | (simp [h]; done)) (by first | rfl | (simp [h]; done)) (by decide) (by decide)
    refine step D 3 3 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 3
  case piece1 =>
    open_payloads
    refine fin_tgt D lr (iblk m c 6 t) 2 3 _ _ _ _ j (by omega) (by omega) ?_ (ldL lr hb.l _)
    refine finCov D _ 2 3 hb.o2 _ _ _ _ _ _ ?_
    refine mstep D 2 3 512 256 rfl (by decide) _ _ _ _ _ ?_ ?_ ?_ ?_
    · refine score D 2 3 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldM hIm _
    · exact ldV D hb.v _ _ 2 512 (by first | rfl | (simp [h]; done)) (by first | rfl | (simp [h]; done)) (by decide) (by decide)
    refine step D 2 3 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 3
  case piece2 =>
    open_payloads
    refine fin_tgt D lr (iblk m c 6 t) 1 3 _ _ _ _ j (by omega) (by omega) ?_ (ldL lr hb.l _)
    refine finCov D _ 1 3 hb.o1 _ _ _ _ _ _ ?_
    refine mstep D 1 3 512 256 rfl (by decide) _ _ _ _ _ ?_ ?_ ?_ ?_
    · refine score D 1 3 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldM hIm _
    · exact ldV D hb.v _ _ 1 512 (by first | rfl | (simp [h]; done)) (by first | rfl | (simp [h]; done)) (by decide) (by decide)
    refine step D 1 3 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 3
  case piece3 =>
    open_payloads
    refine fin_tgt D lr (iblk m c 6 t) 0 3 _ _ _ _ j (by omega) (by omega) ?_ (ldL lr hb.l _)
    refine finCov D _ 0 3 hb.o0 _ _ _ _ _ _ ?_
    refine mstep D 0 3 512 256 rfl (by decide) _ _ _ _ _ ?_ ?_ ?_ ?_
    · refine score D 0 3 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldM hIm _
    · exact ldV D hb.v _ _ 0 512 (by first | rfl | (simp [h]; done)) (by first | rfl | (simp [h]; done)) (by decide) (by decide)
    refine step D 0 3 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 3
end Cert.KernelIdeal.Val

end
-- ==== Proof.Attn.InvD.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_D (c : Dev nD) (t : Fin cfg0.N) (h : t.val % 16 = 3) (hb : Blk D lr m c t)
    (hI : InvAt D m 3 c (t.val - 1) (Nat.lt_of_le_of_lt (Nat.sub_le _ _) t.isLt)) :
    IsQX D 0 4 (outsAt0 m c t.val t.isLt).2.1 ∧ IsCX D (outsAt0 m c t.val t.isLt).2.1 := by
  obtain ⟨hIq, hIc, hIm, hIs, hIr⟩ := hI
  rw [outsAt0_D m c t (by omega) (by omega) (by omega) (by omega) (by omega) (by omega) (by omega) (by omega)]
  frame_out
  refine q2_over0 D _ _ 4 _ _ _ _ _ _ _ _ _ _ _ _ _ _ _ _ _ (rd0 _) hIc ?_ ?_ ?_ ?_ ?_ ?_ ?_ ?_
  · intro r c'
    open_payloads
    refine w0_of D 0 4 _ ?_ r c'
    exact ldQB D hb.q _ _ 0 4 (by first | rfl | (simp [h]; done)) (by first | rfl | (simp [h]; done)) (by decide) (by decide)
  · intro r c'
    open_payloads
    refine w1_of D 0 4 _ ?_ r c'
    exact ldQB D hb.q _ _ 0 4 (by first | rfl | (simp [h]; done)) (by first | rfl | (simp [h]; done)) (by decide) (by decide)
  · intro r c'
    open_payloads
    refine w0_of D 1 4 _ ?_ r c'
    exact ldQB D hb.q _ _ 1 4 (by first | rfl | (simp [h]; done)) (by first | rfl | (simp [h]; done)) (by decide) (by decide)
  · intro r c'
    open_payloads
    refine w1_of D 1 4 _ ?_ r c'
    exact ldQB D hb.q _ _ 1 4 (by first | rfl | (simp [h]; done)) (by first | rfl | (simp [h]; done)) (by decide) (by decide)
  · intro r c'
    open_payloads
    refine w0_of D 2 4 _ ?_ r c'
    exact ldQB D hb.q _ _ 2 4 (by first | rfl | (simp [h]; done)) (by first | rfl | (simp [h]; done)) (by decide) (by decide)
  · intro r c'
    open_payloads
    refine w1_of D 2 4 _ ?_ r c'
    exact ldQB D hb.q _ _ 2 4 (by first | rfl | (simp [h]; done)) (by first | rfl | (simp [h]; done)) (by decide) (by decide)
  · intro r c'
    open_payloads
    refine w0_of D 3 4 _ ?_ r c'
    exact ldQB D hb.q _ _ 3 4 (by first | rfl | (simp [h]; done)) (by first | rfl | (simp [h]; done)) (by decide) (by decide)
  · intro r c'
    open_payloads
    refine w1_of D 3 4 _ ?_ r c'
    exact ldQB D hb.q _ _ 3 4 (by first | rfl | (simp [h]; done)) (by first | rfl | (simp [h]; done)) (by decide) (by decide)

theorem s_D (c : Dev nD) (t : Fin cfg0.N) (h : t.val % 16 = 3) (hb : Blk D lr m c t)
    (hI : InvAt D m 3 c (t.val - 1) (Nat.lt_of_le_of_lt (Nat.sub_le _ _) t.isLt)) (y : S4x512x512.Idx) :
    (outsAt0 m c t.val t.isLt).2.2.2.1 y = ((S D (y 0).val 4 (y 2).val (y 1).val : ℝ) : EReal) := by
  have hq := (q_D D lr m c t h hb hI).1
  rw [outsAt0_D m c t (by omega) (by omega) (by omega) (by omega) (by omega) (by omega) (by omega) (by omega)] at hq ⊢
  frame_out at hq
  frame_out
  refine s4 D 4 _ _ _ _ _ _ _ _ _ ?_ ?_ ?_ ?_ y
  · intro a b
    open_payloads
    refine score D 3 4 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 4 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 4 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 4 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_D (c : Dev nD) (t : Fin cfg0.N) (h : t.val % 16 = 3) (hb : Blk D lr m c t)
    (hI : InvAt D m 3 c (t.val - 1) (Nat.lt_of_le_of_lt (Nat.sub_le _ _) t.isLt)) (y : S4x1x512.Idx) :
    (outsAt0 m c t.val t.isLt).2.2.2.2 y = ((Mx D (y 0).val 4 0 (y 2).val : ℝ) : EReal) := by
  have hq := (q_D D lr m c t h hb hI).1
  rw [outsAt0_D m c t (by omega) (by omega) (by omega) (by omega) (by omega) (by omega) (by omega) (by omega)] at hq ⊢
  frame_out at hq
  frame_out
  refine r4 D 4 _ _ _ _ _ _ _ _ _ ?_ ?_ ?_ ?_ y
  · intro a
    open_payloads
    refine smaxM D 3 4 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 4 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 4 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 4 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_D (c : Dev nD) (t : Fin cfg0.N) (h : t.val % 16 = 3) (hb : Blk D lr m c t)
    (hI : InvAt D m 3 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_D m c t (by omega) (by omega) (by omega) (by omega) (by omega) (by omega) (by omega) (by omega)]
  simp only [sout0_D_1]
  try simp only [rd1]

theorem inv_D (c : Dev nD) (t : Fin cfg0.N) (h : t.val % 16 = 3) (hb : Blk D lr m c t)
    (hI : InvAt D m 3 c (t.val - 1) (Nat.lt_of_le_of_lt (Nat.sub_le _ _) t.isLt)) : InvAt D m 4 c t.val t.isLt := by
  obtain ⟨h0, h1⟩ := q_D D lr m c t h hb hI
  refine ⟨h0, h1, ?_, fun a b d => s_D D lr m c t h hb hI (ix3 a b d), fun a d => ⟨_, r_D D lr m c t h hb hI (ix3 a 0 d)⟩⟩
  rw [m_D D lr m c t h hb hI]
  exact hI.m

end Cert.KernelIdeal.Val

end
-- ==== Proof.Attn.CaseE.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_E (c : Dev nD) (t : Fin cfg0.N) (h : t.val % 16 = 4) (hb : Blk D lr m c t)
    (hI : InvAt D m 4 c (t.val - 1) (Nat.lt_of_le_of_lt (Nat.sub_le _ _) t.isLt)) (j : S256x512.Idx) :
    (outsAt0 m c t.val t.isLt).1 j = tgt D lr (iblk m c 6 t) 4 j := by
  rw [outsAt0_E m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 4 _ _ _ _ j (by omega) (by omega) ?_ (ldL lr hb.l _)
    refine finCov D _ 3 4 hb.o3 _ _ _ _ _ _ ?_
    refine mstep' D 3 4 1024 0 rfl (by decide) _ _ _ _ _ ?_ ?_ ?_ ?_
    · refine covS' D _ 3 4 1024 _ _ _ _ ?_
      refine score D 3 4 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · exact ldM' hIm _
    · exact ldV' D hb.v _ _ 3 1024 (by first | rfl | (simp [h]; done)) (by first | rfl | (simp [h]; done)) (by decide) (by decide)
    refine step D 3 4 512 1024 rfl _ _ _ _ _ ?_ ?_ ?_ ?_
    · refine score D 3 4 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · refine smax D 3 4 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldV D hb.v _ _ 3 512 (by first | rfl | (simp [h]; done)) (by first | rfl | (simp [h]; done)) (by decide) (by decide)
    refine step D 3 4 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 4
  case piece1 =>
    open_payloads
    refine fin_tgt D lr (iblk m c 6 t) 2 4 _ _ _ _ j (by omega) (by omega) ?_ (ldL lr hb.l _)
    refine finCov D _ 2 4 hb.o2 _ _ _ _ _ _ ?_
    refine mstep' D 2 4 1024 0 rfl (by decide) _ _ _ _ _ ?_ ?_ ?_ ?_
    · refine covS' D _ 2 4 1024 _ _ _ _ ?_
      refine score D 2 4 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · exact ldM' hIm _
    · exact ldV' D hb.v _ _ 2 1024 (by first | rfl | (simp [h]; done)) (by first | rfl | (simp [h]; done)) (by decide) (by decide)
    refine step D 2 4 512 1024 rfl _ _ _ _ _ ?_ ?_ ?_ ?_
    · refine score D 2 4 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · refine smax D 2 4 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldV D hb.v _ _ 2 512 (by first | rfl | (simp [h]; done)) (by first | rfl | (simp [h]; done)) (by decide) (by decide)
    refine step D 2 4 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 4
  case piece2 =>
    open_payloads
    refine fin_tgt D lr (iblk m c 6 t) 1 4 _ _ _ _ j (by omega) (by omega) ?_ (ldL lr hb.l _)
    refine finCov D _ 1 4 hb.o1 _ _ _ _ _ _ ?_
    refine mstep' D 1 4 1024 0 rfl (by decide) _ _ _ _ _ ?_ ?_ ?_ ?_
    · refine covS' D _ 1 4 1024 _ _ _ _ ?_
      refine score D 1 4 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · exact ldM' hIm _
    · exact ldV' D hb.v _ _ 1 1024 (by first | rfl | (simp [h]; done)) (by first | rfl | (simp [h]; done)) (by decide) (by decide)
    refine step D 1 4 512 1024 rfl _ _ _ _ _ ?_ ?_ ?_ ?_
    · refine score D 1 4 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · refine smax D 1 4 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldV D hb.v _ _ 1 512 (by first | rfl | (simp [h]; done)) (by first | rfl | (simp [h]; done)) (by decide) (by decide)
    refine step D 1 4 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 4
  case piece3 =>
    open_payloads
    refine fin_tgt D lr (iblk m c 6 t) 0 4 _ _ _ _ j (by omega) (by omega) ?_ (ldL lr hb.l _)
    refine finCov D _ 0 4 hb.o0 _ _ _ _ _ _ ?_
    refine mstep' D 0 4 1024 0 rfl (by decide) _ _ _ _ _ ?_ ?_ ?_ ?_
    · refine covS' D _ 0 4 1024 _ _ _ _ ?_
      refine score D 0 4 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · exact ldM' hIm _
    · exact ldV' D hb.v _ _ 0 1024 (by first | rfl | (simp [h]; done)) (by first | rfl | (simp [h]; done)) (by decide) (by decide)
    refine step D 0 4 512 1024 rfl _ _ _ _ _ ?_ ?_ ?_ ?_
    · refine score D 0 4 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · refine smax D 0 4 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldV D hb.v _ _ 0 512 (by first | rfl | (simp [h]; done)) (by first | rfl | (simp [h]; done)) (by decide) (by decide)
    refine step D 0 4 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 4
end Cert.KernelIdeal.Val

end
-- ==== Proof.Attn.InvE.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_E (c : Dev nD) (t : Fin cfg0.N) (h : t.val % 16 = 4) (hb : Blk D lr m c t)
    (hI : InvAt D m 4 c (t.val - 1) (Nat.lt_of_le_of_lt (Nat.sub_le _ _) t.isLt)) :
    IsQX D 1 5 (outsAt0 m c t.val t.isLt).2.1 ∧ IsCX D (outsAt0 m c t.val t.isLt).2.1 := by
  obtain ⟨hIq, hIc, hIm, hIs, hIr⟩ := hI
  rw [outsAt0_E m c t (by omega) (by omega) (by omega) (by omega) (by omega) (by omega) (by omega) (by omega)]
  frame_out
  refine q2_over1 D _ _ 5 _ _ _ _ _ _ _ _ _ _ _ _ _ _ _ _ _ (rd0 _) hIc ?_ ?_ ?_ ?_ ?_ ?_ ?_ ?_
  · intro r c'
    open_payloads
    refine w0_of D 0 5 _ ?_ r c'
    exact ldQB D hb.q _ _ 0 5 (by first | rfl | (simp [h]; done)) (by first | rfl | (simp [h]; done)) (by decide) (by decide)
  · intro r c'
    open_payloads
    refine w1_of D 0 5 _ ?_ r c'
    exact ldQB D hb.q _ _ 0 5 (by first | rfl | (simp [h]; done)) (by first | rfl | (simp [h]; done)) (by decide) (by decide)
  · intro r c'
    open_payloads
    refine w0_of D 1 5 _ ?_ r c'
    exact ldQB D hb.q _ _ 1 5 (by first | rfl | (simp [h]; done)) (by first | rfl | (simp [h]; done)) (by decide) (by decide)
  · intro r c'
    open_payloads
    refine w1_of D 1 5 _ ?_ r c'
    exact ldQB D hb.q _ _ 1 5 (by first | rfl | (simp [h]; done)) (by first | rfl | (simp [h]; done)) (by decide) (by decide)
  · intro r c'
    open_payloads
    refine w0_of D 2 5 _ ?_ r c'
    exact ldQB D hb.q _ _ 2 5 (by first | rfl | (simp [h]; done)) (by first | rfl | (simp [h]; done)) (by decide) (by decide)
  · intro r c'
    open_payloads
    refine w1_of D 2 5 _ ?_ r c'
    exact ldQB D hb.q _ _ 2 5 (by first | rfl | (simp [h]; done)) (by first | rfl | (simp [h]; done)) (by decide) (by decide)
  · intro r c'
    open_payloads
    refine w0_of D 3 5 _ ?_ r c'
    exact ldQB D hb.q _ _ 3 5 (by first | rfl | (simp [h]; done)) (by first | rfl | (simp [h]; done)) (by decide) (by decide)
  · intro r c'
    open_payloads
    refine w1_of D 3 5 _ ?_ r c'
    exact ldQB D hb.q _ _ 3 5 (by first | rfl | (simp [h]; done)) (by first | rfl | (simp [h]; done)) (by decide) (by decide)

theorem s_E (c : Dev nD) (t : Fin cfg0.N) (h : t.val % 16 = 4) (hb : Blk D lr m c t)
    (hI : InvAt D m 4 c (t.val - 1) (Nat.lt_of_le_of_lt (Nat.sub_le _ _) t.isLt)) (y : S4x512x512.Idx) :
    (outsAt0 m c t.val t.isLt).2.2.2.1 y = ((S D (y 0).val 5 (y 2).val (y 1).val : ℝ) : EReal) := by
  have hq := (q_E D lr m c t h hb hI).1
  rw [outsAt0_E m c t (by omega) (by omega) (by omega) (by omega) (by omega) (by omega) (by omega) (by omega)] at hq ⊢
  frame_out at hq
  frame_out
  refine s4 D 5 _ _ _ _ _ _ _ _ _ ?_ ?_ ?_ ?_ y
  · intro a b
    open_payloads
    refine score D 3 5 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 5 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 5 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 5 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_E (c : Dev nD) (t : Fin cfg0.N) (h : t.val % 16 = 4) (hb : Blk D lr m c t)
    (hI : InvAt D m 4 c (t.val - 1) (Nat.lt_of_le_of_lt (Nat.sub_le _ _) t.isLt)) (y : S4x1x512.Idx) :
    (outsAt0 m c t.val t.isLt).2.2.2.2 y = ((Mx D (y 0).val 5 0 (y 2).val : ℝ) : EReal) := by
  have hq := (q_E D lr m c t h hb hI).1
  rw [outsAt0_E m c t (by omega) (by omega) (by omega) (by omega) (by omega) (by omega) (by omega) (by omega)] at hq ⊢
  frame_out at hq
  frame_out
  refine r4 D 5 _ _ _ _ _ _ _ _ _ ?_ ?_ ?_ ?_ y
  · intro a
    open_payloads
    refine smaxM D 3 5 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 5 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 5 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 5 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_E (c : Dev nD) (t : Fin cfg0.N) (h : t.val % 16 = 4) (hb : Blk D lr m c t)
    (hI : InvAt D m 4 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_E m c t (by omega) (by omega) (by omega) (by omega) (by omega) (by omega) (by omega) (by omega)]
  simp only [sout0_E_1]
  try simp only [rd1]

theorem inv_E (c : Dev nD) (t : Fin cfg0.N) (h : t.val % 16 = 4) (hb : Blk D lr m c t)
    (hI : InvAt D m 4 c (t.val - 1) (Nat.lt_of_le_of_lt (Nat.sub_le _ _) t.isLt)) : InvAt D m 5 c t.val t.isLt := by
  obtain ⟨h0, h1⟩ := q_E D lr m c t h hb hI
  refine ⟨h0, h1, ?_, fun a b d => s_E D lr m c t h hb hI (ix3 a b d), fun a d => ⟨_, r_E D lr m c t h hb hI (ix3 a 0 d)⟩⟩
  rw [m_E D lr m c t h hb hI]
  exact hI.m

end Cert.KernelIdeal.Val

end
-- ==== Proof.Attn.CaseF.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_F (c : Dev nD) (t : Fin cfg0.N) (h : t.val % 16 = 5) (hb : Blk D lr m c t)
    (hI : InvAt D m 5 c (t.val - 1) (Nat.lt_of_le_of_lt (Nat.sub_le _ _) t.isLt)) (j : S256x512.Idx) :
    (outsAt0 m c t.val t.isLt).1 j = tgt D lr (iblk m c 6 t) 5 j := by
  rw [outsAt0_F m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 5 _ _ _ _ j (by omega) (by omega) ?_ (ldL lr hb.l _)
    refine finCov D _ 3 5 hb.o3 _ _ _ _ _ _ ?_
    refine mstep D 3 5 1024 256 rfl (by decide) _ _ _ _ _ ?_ ?_ ?_ ?_
    · refine score D 3 5 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · exact ldM hIm _
    · exact ldV D hb.v _ _ 3 1024 (by first | rfl | (simp [h]; done)) (by first | rfl | (simp [h]; done)) (by decide) (by decide)
    refine step D 3 5 512 1024 rfl _ _ _ _ _ ?_ ?_ ?_ ?_
    · refine score D 3 5 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · refine smax D 3 5 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldV D hb.v _ _ 3 512 (by first | rfl | (simp [h]; done)) (by first | rfl | (simp [h]; done)) (by decide) (by decide)
    refine step D 3 5 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 5
  case piece1 =>
    open_payloads
    refine fin_tgt D lr (iblk m c 6 t) 2 5 _ _ _ _ j (by omega) (by omega) ?_ (ldL lr hb.l _)
    refine finCov D _ 2 5 hb.o2 _ _ _ _ _ _ ?_
    refine mstep D 2 5 1024 256 rfl (by decide) _ _ _ _ _ ?_ ?_ ?_ ?_
    · refine score D 2 5 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · exact ldM hIm _
    · exact ldV D hb.v _ _ 2 1024 (by first | rfl | (simp [h]; done)) (by first | rfl | (simp [h]; done)) (by decide) (by decide)
    refine step D 2 5 512 1024 rfl _ _ _ _ _ ?_ ?_ ?_ ?_
    · refine score D 2 5 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · refine smax D 2 5 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldV D hb.v _ _ 2 512 (by first | rfl | (simp [h]; done)) (by first | rfl | (simp [h]; done)) (by decide) (by decide)
    refine step D 2 5 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 5
  case piece2 =>
    open_payloads
    refine fin_tgt D lr (iblk m c 6 t) 1 5 _ _ _ _ j (by omega) (by omega) ?_ (ldL lr hb.l _)
    refine finCov D _ 1 5 hb.o1 _ _ _ _ _ _ ?_
    refine mstep D 1 5 1024 256 rfl (by decide) _ _ _ _ _ ?_ ?_ ?_ ?_
    · refine score D 1 5 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · exact ldM hIm _
    · exact ldV D hb.v _ _ 1 1024 (by first | rfl | (simp [h]; done)) (by first | rfl | (simp [h]; done)) (by decide) (by decide)
    refine step D 1 5 512 1024 rfl _ _ _ _ _ ?_ ?_ ?_ ?_
    · refine score D 1 5 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · refine smax D 1 5 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldV D hb.v _ _ 1 512 (by first | rfl | (simp [h]; done)) (by first | rfl | (simp [h]; done)) (by decide) (by decide)
    refine step D 1 5 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 5
  case piece3 =>
    open_payloads
    refine fin_tgt D lr (iblk m c 6 t) 0 5 _ _ _ _ j (by omega) (by omega) ?_ (ldL lr hb.l _)
    refine finCov D _ 0 5 hb.o0 _ _ _ _ _ _ ?_
    refine mstep D 0 5 1024 256 rfl (by decide) _ _ _ _ _ ?_ ?_ ?_ ?_
    · refine score D 0 5 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · exact ldM hIm _
    · exact ldV D hb.v _ _ 0 1024 (by first | rfl | (simp [h]; done)) (by first | rfl | (simp [h]; done)) (by decide) (by decide)
    refine step D 0 5 512 1024 rfl _ _ _ _ _ ?_ ?_ ?_ ?_
    · refine score D 0 5 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · refine smax D 0 5 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldV D hb.v _ _ 0 512 (by first | rfl | (simp [h]; done)) (by first | rfl | (simp [h]; done)) (by decide) (by decide)
    refine step D 0 5 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 5
end Cert.KernelIdeal.Val

end
-- ==== Proof.Attn.InvF.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_F (c : Dev nD) (t : Fin cfg0.N) (h : t.val % 16 = 5) (hb : Blk D lr m c t)
    (hI : InvAt D m 5 c (t.val - 1) (Nat.lt_of_le_of_lt (Nat.sub_le _ _) t.isLt)) :
    IsQX D 0 6 (outsAt0 m c t.val t.isLt).2.1 ∧ IsCX D (outsAt0 m c t.val t.isLt).2.1 := by
  obtain ⟨hIq, hIc, hIm, hIs, hIr⟩ := hI
  rw [outsAt0_F m c t (by omega) (by omega) (by omega) (by omega) (by omega) (by omega) (by omega) (by omega)]
  frame_out
  refine q2_over0 D _ _ 6 _ _ _ _ _ _ _ _ _ _ _ _ _ _ _ _ _ (rd0 _) hIc ?_ ?_ ?_ ?_ ?_ ?_ ?_ ?_
  · intro r c'
    open_payloads
    refine w0_of D 0 6 _ ?_ r c'
    exact ldQB D hb.q _ _ 0 6 (by first | rfl | (simp [h]; done)) (by first | rfl | (simp [h]; done)) (by decide) (by decide)
  · intro r c'
    open_payloads
    refine w1_of D 0 6 _ ?_ r c'
    exact ldQB D hb.q _ _ 0 6 (by first | rfl | (simp [h]; done)) (by first | rfl | (simp [h]; done)) (by decide) (by decide)
  · intro r c'
    open_payloads
    refine w0_of D 1 6 _ ?_ r c'
    exact ldQB D hb.q _ _ 1 6 (by first | rfl | (simp [h]; done)) (by first | rfl | (simp [h]; done)) (by decide) (by decide)
  · intro r c'
    open_payloads
    refine w1_of D 1 6 _ ?_ r c'
    exact ldQB D hb.q _ _ 1 6 (by first | rfl | (simp [h]; done)) (by first | rfl | (simp [h]; done)) (by decide) (by decide)
  · intro r c'
    open_payloads
    refine w0_of D 2 6 _ ?_ r c'
    exact ldQB D hb.q _ _ 2 6 (by first | rfl | (simp [h]; done)) (by first | rfl | (simp [h]; done)) (by decide) (by decide)
  · intro r c'
    open_payloads
    refine w1_of D 2 6 _ ?_ r c'
    exact ldQB D hb.q _ _ 2 6 (by first | rfl | (simp [h]; done)) (by first | rfl | (simp [h]; done)) (by decide) (by decide)
  · intro r c'
    open_payloads
    refine w0_of D 3 6 _ ?_ r c'
    exact ldQB D hb.q _ _ 3 6 (by first | rfl | (simp [h]; done)) (by first | rfl | (simp [h]; done)) (by decide) (by decide)
  · intro r c'
    open_payloads
    refine w1_of D 3 6 _ ?_ r c'
    exact ldQB D hb.q _ _ 3 6 (by first | rfl | (simp [h]; done)) (by first | rfl | (simp [h]; done)) (by decide) (by decide)

theorem s_F (c : Dev nD) (t : Fin cfg0.N) (h : t.val % 16 = 5) (hb : Blk D lr m c t)
    (hI : InvAt D m 5 c (t.val - 1) (Nat.lt_of_le_of_lt (Nat.sub_le _ _) t.isLt)) (y : S4x512x512.Idx) :
    (outsAt0 m c t.val t.isLt).2.2.2.1 y = ((S D (y 0).val 6 (y 2).val (y 1).val : ℝ) : EReal) := by
  have hq := (q_F D lr m c t h hb hI).1
  rw [outsAt0_F m c t (by omega) (by omega) (by omega) (by omega) (by omega) (by omega) (by omega) (by omega)] at hq ⊢
  frame_out at hq
  frame_out
  refine s4 D 6 _ _ _ _ _ _ _ _ _ ?_ ?_ ?_ ?_ y
  · intro a b
    open_payloads
    refine score D 3 6 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 6 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 6 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 6 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_F (c : Dev nD) (t : Fin cfg0.N) (h : t.val % 16 = 5) (hb : Blk D lr m c t)
    (hI : InvAt D m 5 c (t.val - 1) (Nat.lt_of_le_of_lt (Nat.sub_le _ _) t.isLt)) (y : S4x1x512.Idx) :
    (outsAt0 m c t.val t.isLt).2.2.2.2 y = ((Mx D (y 0).val 6 0 (y 2).val : ℝ) : EReal) := by
  have hq := (q_F D lr m c t h hb hI).1
  rw [outsAt0_F m c t (by omega) (by omega) (by omega) (by omega) (by omega) (by omega) (by omega) (by omega)] at hq ⊢
  frame_out at hq
  frame_out
  refine r4 D 6 _ _ _ _ _ _ _ _ _ ?_ ?_ ?_ ?_ y
  · intro a
    open_payloads
    refine smaxM D 3 6 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 6 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 6 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 6 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_F (c : Dev nD) (t : Fin cfg0.N) (h : t.val % 16 = 5) (hb : Blk D lr m c t)
    (hI : InvAt D m 5 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_F m c t (by omega) (by omega) (by omega) (by omega) (by omega) (by omega) (by omega) (by omega)]
  simp only [sout0_F_1]
  try simp only [rd1]

theorem inv_F (c : Dev nD) (t : Fin cfg0.N) (h : t.val % 16 = 5) (hb : Blk D lr m c t)
    (hI : InvAt D m 5 c (t.val - 1) (Nat.lt_of_le_of_lt (Nat.sub_le _ _) t.isLt)) : InvAt D m 6 c t.val t.isLt := by
  obtain ⟨h0, h1⟩ := q_F D lr m c t h hb hI
  refine ⟨h0, h1, ?_, fun a b d => s_F D lr m c t h hb hI (ix3 a b d), fun a d => ⟨_, r_F D lr m c t h hb hI (ix3 a 0 d)⟩⟩
  rw [m_F D lr m c t h hb hI]
  exact hI.m

end Cert.KernelIdeal.Val

end
-- ==== Proof.Attn.CaseG.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_G (c : Dev nD) (t : Fin cfg0.N) (h : t.val % 16 = 6) (hb : Blk D lr m c t)
    (hI : InvAt D m 6 c (t.val - 1) (Nat.lt_of_le_of_lt (Nat.sub_le _ _) t.isLt)) (j : S256x512.Idx) :
    (outsAt0 m c t.val t.isLt).1 j = tgt D lr (iblk m c 6 t) 6 j := by
  rw [outsAt0_G m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 6 _ _ _ _ j (by omega) (by omega) ?_ (ldL lr hb.l _)
    refine finCov D _ 3 6 hb.o3 _ _ _ _ _ _ ?_
    refine mstep' D 3 6 1536 0 rfl (by decide) _ _ _ _ _ ?_ ?_ ?_ ?_
    · refine score' D 3 6 1536 _ _ _ ?_ ?_ ?_
      · exact ldK' D hb.k _ _ 3 1536 (by first | rfl | (simp [h]; done)) (by first | rfl | (simp [h]; done)) (by decide) (by decide)
      · exact ldF' D hb.f _ _ 1536 (by first | rfl | (simp [h]; done)) (by first | rfl | (simp [h]; done)) (by decide)
      · exact ldQ' D hIq _ _ 3 (by first | rfl | (simp [h]; done)) (by decide) (by decide)
    · exact ldM' hIm _
    · exact ldV' D hb.v _ _ 3 1536 (by first | rfl | (simp [h]; done)) (by first | rfl | (simp [h]; done)) (by decide) (by decide)
    refine step D 3 6 1024 1536 rfl _ _ _ _ _ ?_ ?_ ?_ ?_
    · refine score D 3 6 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · refine smax D 3 6 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · exact ldV D hb.v _ _ 3 1024 (by first | rfl | (simp [h]; done)) (by first | rfl | (simp [h]; done)) (by decide) (by decide)
    refine step D 3 6 512 1024 rfl _ _ _ _ _ ?_ ?_ ?_ ?_
    · refine score D 3 6 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · refine smax D 3 6 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldV D hb.v _ _ 3 512 (by first | rfl | (simp [h]; done)) (by first | rfl | (simp [h]; done)) (by decide) (by decide)
    refine step D 3 6 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 6
  case piece1 =>
    open_payloads
    refine fin_tgt D lr (iblk m c 6 t) 2 6 _ _ _ _ j (by omega) (by omega) ?_ (ldL lr hb.l _)
    refine finCov D _ 2 6 hb.o2 _ _ _ _ _ _ ?_
    refine mstep' D 2 6 1536 0 rfl (by decide) _ _ _ _ _ ?_ ?_ ?_ ?_
    · refine score' D 2 6 1536 _ _ _ ?_ ?_ ?_
      · exact ldK' D hb.k _ _ 2 1536 (by first | rfl | (simp [h]; done)) (by first | rfl | (simp [h]; done)) (by decide) (by decide)
      · exact ldF' D hb.f _ _ 1536 (by first | rfl | (simp [h]; done)) (by first | rfl | (simp [h]; done)) (by decide)
      · exact ldQ' D hIq _ _ 2 (by first | rfl | (simp [h]; done)) (by decide) (by decide)
    · exact ldM' hIm _
    · exact ldV' D hb.v _ _ 2 1536 (by first | rfl | (simp [h]; done)) (by first | rfl | (simp [h]; done)) (by decide) (by decide)
    refine step D 2 6 1024 1536 rfl _ _ _ _ _ ?_ ?_ ?_ ?_
    · refine score D 2 6 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · refine smax D 2 6 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · exact ldV D hb.v _ _ 2 1024 (by first | rfl | (simp [h]; done)) (by first | rfl | (simp [h]; done)) (by decide) (by decide)
    refine step D 2 6 512 1024 rfl _ _ _ _ _ ?_ ?_ ?_ ?_
    · refine score D 2 6 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · refine smax D 2 6 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldV D hb.v _ _ 2 512 (by first | rfl | (simp [h]; done)) (by first | rfl | (simp [h]; done)) (by decide) (by decide)
    refine step D 2 6 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 6
  case piece2 =>
    open_payloads
    refine fin_tgt D lr (iblk m c 6 t) 1 6 _ _ _ _ j (by omega) (by omega) ?_ (ldL lr hb.l _)
    refine finCov D _ 1 6 hb.o1 _ _ _ _ _ _ ?_
    refine mstep' D 1 6 1536 0 rfl (by decide) _ _ _ _ _ ?_ ?_ ?_ ?_
    · refine score' D 1 6 1536 _ _ _ ?_ ?_ ?_
      · exact ldK' D hb.k _ _ 1 1536 (by first | rfl | (simp [h]; done)) (by first | rfl | (simp [h]; done)) (by decide) (by decide)
      · exact ldF' D hb.f _ _ 1536 (by first | rfl | (simp [h]; done)) (by first | rfl | (simp [h]; done)) (by decide)
      · exact ldQ' D hIq _ _ 1 (by first | rfl | (simp [h]; done)) (by decide) (by decide)
    · exact ldM' hIm _
    · exact ldV' D hb.v _ _ 1 1536 (by first | rfl | (simp [h]; done)) (by first | rfl | (simp [h]; done)) (by decide) (by decide)
    refine step D 1 6 1024 1536 rfl _ _ _ _ _ ?_ ?_ ?_ ?_
    · refine score D 1 6 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · refine smax D 1 6 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · exact ldV D hb.v _ _ 1 1024 (by first | rfl | (simp [h]; done)) (by first | rfl | (simp [h]; done)) (by decide) (by decide)
    refine step D 1 6 512 1024 rfl _ _ _ _ _ ?_ ?_ ?_ ?_
    · refine score D 1 6 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · refine smax D 1 6 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldV D hb.v _ _ 1 512 (by first | rfl | (simp [h]; done)) (by first | rfl | (simp [h]; done)) (by decide) (by decide)
    refine step D 1 6 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 6
  case piece3 =>
    open_payloads
    refine fin_tgt D lr (iblk m c 6 t) 0 6 _ _ _ _ j (by omega) (by omega) ?_ (ldL lr hb.l _)
    refine finCov D _ 0 6 hb.o0 _ _ _ _ _ _ ?_
    refine mstep' D 0 6 1536 0 rfl (by decide) _ _ _ _ _ ?_ ?_ ?_ ?_
    · refine score' D 0 6 1536 _ _ _ ?_ ?_ ?_
      · exact ldK' D hb.k _ _ 0 1536 (by first | rfl | (simp [h]; done)) (by first | rfl | (simp [h]; done)) (by decide) (by decide)
      · exact ldF' D hb.f _ _ 1536 (by first | rfl | (simp [h]; done)) (by first | rfl | (simp [h]; done)) (by decide)
      · exact ldQ' D hIq _ _ 0 (by first | rfl | (simp [h]; done)) (by decide) (by decide)
    · exact ldM' hIm _
    · exact ldV' D hb.v _ _ 0 1536 (by first | rfl | (simp [h]; done)) (by first | rfl | (simp [h]; done)) (by decide) (by decide)
    refine step D 0 6 1024 1536 rfl _ _ _ _ _ ?_ ?_ ?_ ?_
    · refine score D 0 6 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · refine smax D 0 6 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · exact ldV D hb.v _ _ 0 1024 (by first | rfl | (simp [h]; done)) (by first | rfl | (simp [h]; done)) (by decide) (by decide)
    refine step D 0 6 512 1024 rfl _ _ _ _ _ ?_ ?_ ?_ ?_
    · refine score D 0 6 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · refine smax D 0 6 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldV D hb.v _ _ 0 512 (by first | rfl | (simp [h]; done)) (by first | rfl | (simp [h]; done)) (by decide) (by decide)
    refine step D 0 6 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 6
end Cert.KernelIdeal.Val

end
-- ==== Proof.Attn.InvG.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_G (c : Dev nD) (t : Fin cfg0.N) (h : t.val % 16 = 6) (hb : Blk D lr m c t)
    (hI : InvAt D m 6 c (t.val - 1) (Nat.lt_of_le_of_lt (Nat.sub_le _ _) t.isLt)) :
    IsQX D 1 7 (outsAt0 m c t.val t.isLt).2.1 ∧ IsCX D (outsAt0 m c t.val t.isLt).2.1 := by
  obtain ⟨hIq, hIc, hIm, hIs, hIr⟩ := hI
  rw [outsAt0_G m c t (by omega) (by omega) (by omega) (by omega) (by omega) (by omega) (by omega) (by omega)]
  frame_out
  refine q2_over1 D _ _ 7 _ _ _ _ _ _ _ _ _ _ _ _ _ _ _ _ _ (rd0 _) hIc ?_ ?_ ?_ ?_ ?_ ?_ ?_ ?_
  · intro r c'
    open_payloads
    refine w0_of D 0 7 _ ?_ r c'
    exact ldQB D hb.q _ _ 0 7 (by first | rfl | (simp [h]; done)) (by first | rfl | (simp [h]; done)) (by decide) (by decide)
  · intro r c'
    open_payloads
    refine w1_of D 0 7 _ ?_ r c'
    exact ldQB D hb.q _ _ 0 7 (by first | rfl | (simp [h]; done)) (by first | rfl | (simp [h]; done)) (by decide) (by decide)
  · intro r c'
    open_payloads
    refine w0_of D 1 7 _ ?_ r c'
    exact ldQB D hb.q _ _ 1 7 (by first | rfl | (simp [h]; done)) (by first | rfl | (simp [h]; done)) (by decide) (by decide)
  · intro r c'
    open_payloads
    refine w1_of D 1 7 _ ?_ r c'
    exact ldQB D hb.q _ _ 1 7 (by first | rfl | (simp [h]; done)) (by first | rfl | (simp [h]; done)) (by decide) (by decide)
  · intro r c'
    open_payloads
    refine w0_of D 2 7 _ ?_ r c'
    exact ldQB D hb.q _ _ 2 7 (by first | rfl | (simp [h]; done)) (by first | rfl | (simp [h]; done)) (by decide) (by decide)
  · intro r c'
    open_payloads
    refine w1_of D 2 7 _ ?_ r c'
    exact ldQB D hb.q _ _ 2 7 (by first | rfl | (simp [h]; done)) (by first | rfl | (simp [h]; done)) (by decide) (by decide)
  · intro r c'
    open_payloads
    refine w0_of D 3 7 _ ?_ r c'
    exact ldQB D hb.q _ _ 3 7 (by first | rfl | (simp [h]; done)) (by first | rfl | (simp [h]; done)) (by decide) (by decide)
  · intro r c'
    open_payloads
    refine w1_of D 3 7 _ ?_ r c'
    exact ldQB D hb.q _ _ 3 7 (by first | rfl | (simp [h]; done)) (by first | rfl | (simp [h]; done)) (by decide) (by decide)

theorem s_G (c : Dev nD) (t : Fin cfg0.N) (h : t.val % 16 = 6) (hb : Blk D lr m c t)
    (hI : InvAt D m 6 c (t.val - 1) (Nat.lt_of_le_of_lt (Nat.sub_le _ _) t.isLt)) (y : S4x512x512.Idx) :
    (outsAt0 m c t.val t.isLt).2.2.2.1 y = ((S D (y 0).val 7 (y 2).val (y 1).val : ℝ) : EReal) := by
  have hq := (q_G D lr m c t h hb hI).1
  rw [outsAt0_G m c t (by omega) (by omega) (by omega) (by omega) (by omega) (by omega) (by omega) (by omega)] at hq ⊢
  frame_out at hq
  frame_out
  refine s4 D 7 _ _ _ _ _ _ _ _ _ ?_ ?_ ?_ ?_ y
  · intro a b
    open_payloads
    refine score D 3 7 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 7 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 7 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 7 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_G (c : Dev nD) (t : Fin cfg0.N) (h : t.val % 16 = 6) (hb : Blk D lr m c t)
    (hI : InvAt D m 6 c (t.val - 1) (Nat.lt_of_le_of_lt (Nat.sub_le _ _) t.isLt)) (y : S4x1x512.Idx) :
    (outsAt0 m c t.val t.isLt).2.2.2.2 y = ((Mx D (y 0).val 7 0 (y 2).val : ℝ) : EReal) := by
  have hq := (q_G D lr m c t h hb hI).1
  rw [outsAt0_G m c t (by omega) (by omega) (by omega) (by omega) (by omega) (by omega) (by omega) (by omega)] at hq ⊢
  frame_out at hq
  frame_out
  refine r4 D 7 _ _ _ _ _ _ _ _ _ ?_ ?_ ?_ ?_ y
  · intro a
    open_payloads
    refine smaxM D 3 7 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 7 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 7 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 7 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_G (c : Dev nD) (t : Fin cfg0.N) (h : t.val % 16 = 6) (hb : Blk D lr m c t)
    (hI : InvAt D m 6 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_G m c t (by omega) (by omega) (by omega) (by omega) (by omega) (by omega) (by omega) (by omega)]
  simp only [sout0_G_1]
  try simp only [rd1]

theorem inv_G (c : Dev nD) (t : Fin cfg0.N) (h : t.val % 16 = 6) (hb : Blk D lr m c t)
    (hI : InvAt D m 6 c (t.val - 1) (Nat.lt_of_le_of_lt (Nat.sub_le _ _) t.isLt)) : InvAt D m 7 c t.val t.isLt := by
  obtain ⟨h0, h1⟩ := q_G D lr m c t h hb hI
  refine ⟨h0, h1, ?_, fun a b d => s_G D lr m c t h hb hI (ix3 a b d), fun a d => ⟨_, r_G D lr m c t h hb hI (ix3 a 0 d)⟩⟩
  rw [m_G D lr m c t h hb hI]
  exact hI.m

end Cert.KernelIdeal.Val

end
-- ==== Proof.Attn.CaseH.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_H (c : Dev nD) (t : Fin cfg0.N) (h : t.val % 16 = 7) (hb : Blk D lr m c t)
    (hI : InvAt D m 7 c (t.val - 1) (Nat.lt_of_le_of_lt (Nat.sub_le _ _) t.isLt)) (j : S256x512.Idx) :
    (outsAt0 m c t.val t.isLt).1 j = tgt D lr (iblk m c 6 t) 7 j := by
  rw [outsAt0_H m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 7 _ _ _ _ j (by omega) (by omega) ?_ (ldL lr hb.l _)
    refine finCov D _ 3 7 hb.o3 _ _ _ _ _ _ ?_
    refine mstep D 3 7 1536 256 rfl (by decide) _ _ _ _ _ ?_ ?_ ?_ ?_
    · refine score D 3 7 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · exact ldM hIm _
    · exact ldV D hb.v _ _ 3 1536 (by first | rfl | (simp [h]; done)) (by first | rfl | (simp [h]; done)) (by decide) (by decide)
    refine step D 3 7 1024 1536 rfl _ _ _ _ _ ?_ ?_ ?_ ?_
    · refine score D 3 7 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · refine smax D 3 7 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · exact ldV D hb.v _ _ 3 1024 (by first | rfl | (simp [h]; done)) (by first | rfl | (simp [h]; done)) (by decide) (by decide)
    refine step D 3 7 512 1024 rfl _ _ _ _ _ ?_ ?_ ?_ ?_
    · refine score D 3 7 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · refine smax D 3 7 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldV D hb.v _ _ 3 512 (by first | rfl | (simp [h]; done)) (by first | rfl | (simp [h]; done)) (by decide) (by decide)
    refine step D 3 7 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 7
  case piece1 =>
    open_payloads
    refine fin_tgt D lr (iblk m c 6 t) 2 7 _ _ _ _ j (by omega) (by omega) ?_ (ldL lr hb.l _)
    refine finCov D _ 2 7 hb.o2 _ _ _ _ _ _ ?_
    refine mstep D 2 7 1536 256 rfl (by decide) _ _ _ _ _ ?_ ?_ ?_ ?_
    · refine score D 2 7 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · exact ldM hIm _
    · exact ldV D hb.v _ _ 2 1536 (by first | rfl | (simp [h]; done)) (by first | rfl | (simp [h]; done)) (by decide) (by decide)
    refine step D 2 7 1024 1536 rfl _ _ _ _ _ ?_ ?_ ?_ ?_
    · refine score D 2 7 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · refine smax D 2 7 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · exact ldV D hb.v _ _ 2 1024 (by first | rfl | (simp [h]; done)) (by first | rfl | (simp [h]; done)) (by decide) (by decide)
    refine step D 2 7 512 1024 rfl _ _ _ _ _ ?_ ?_ ?_ ?_
    · refine score D 2 7 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · refine smax D 2 7 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldV D hb.v _ _ 2 512 (by first | rfl | (simp [h]; done)) (by first | rfl | (simp [h]; done)) (by decide) (by decide)
    refine step D 2 7 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 7
  case piece2 =>
    open_payloads
    refine fin_tgt D lr (iblk m c 6 t) 1 7 _ _ _ _ j (by omega) (by omega) ?_ (ldL lr hb.l _)
    refine finCov D _ 1 7 hb.o1 _ _ _ _ _ _ ?_
    refine mstep D 1 7 1536 256 rfl (by decide) _ _ _ _ _ ?_ ?_ ?_ ?_
    · refine score D 1 7 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · exact ldM hIm _
    · exact ldV D hb.v _ _ 1 1536 (by first | rfl | (simp [h]; done)) (by first | rfl | (simp [h]; done)) (by decide) (by decide)
    refine step D 1 7 1024 1536 rfl _ _ _ _ _ ?_ ?_ ?_ ?_
    · refine score D 1 7 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · refine smax D 1 7 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · exact ldV D hb.v _ _ 1 1024 (by first | rfl | (simp [h]; done)) (by first | rfl | (simp [h]; done)) (by decide) (by decide)
    refine step D 1 7 512 1024 rfl _ _ _ _ _ ?_ ?_ ?_ ?_
    · refine score D 1 7 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · refine smax D 1 7 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldV D hb.v _ _ 1 512 (by first | rfl | (simp [h]; done)) (by first | rfl | (simp [h]; done)) (by decide) (by decide)
    refine step D 1 7 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 7
  case piece3 =>
    open_payloads
    refine fin_tgt D lr (iblk m c 6 t) 0 7 _ _ _ _ j (by omega) (by omega) ?_ (ldL lr hb.l _)
    refine finCov D _ 0 7 hb.o0 _ _ _ _ _ _ ?_
    refine mstep D 0 7 1536 256 rfl (by decide) _ _ _ _ _ ?_ ?_ ?_ ?_
    · refine score D 0 7 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · exact ldM hIm _
    · exact ldV D hb.v _ _ 0 1536 (by first | rfl | (simp [h]; done)) (by first | rfl | (simp [h]; done)) (by decide) (by decide)
    refine step D 0 7 1024 1536 rfl _ _ _ _ _ ?_ ?_ ?_ ?_
    · refine score D 0 7 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · refine smax D 0 7 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · exact ldV D hb.v _ _ 0 1024 (by first | rfl | (simp [h]; done)) (by first | rfl | (simp [h]; done)) (by decide) (by decide)
    refine step D 0 7 512 1024 rfl _ _ _ _ _ ?_ ?_ ?_ ?_
    · refine score D 0 7 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · refine smax D 0 7 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldV D hb.v _ _ 0 512 (by first | rfl | (simp [h]; done)) (by first | rfl | (simp [h]; done)) (by decide) (by decide)
    refine step D 0 7 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 7
end Cert.KernelIdeal.Val

end
-- ==== Proof.Attn.InvH.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_H (c : Dev nD) (t : Fin cfg0.N) (h : t.val % 16 = 7) (hb : Blk D lr m c t)
    (hI : InvAt D m 7 c (t.val - 1) (Nat.lt_of_le_of_lt (Nat.sub_le _ _) t.isLt)) :
    IsQX D 0 8 (outsAt0 m c t.val t.isLt).2.1 ∧ IsCX D (outsAt0 m c t.val t.isLt).2.1 := by
  obtain ⟨hIq, hIc, hIm, hIs, hIr⟩ := hI
  rw [outsAt0_H m c t (by omega) (by omega) (by omega) (by omega) (by omega) (by omega) (by omega) (by omega)]
  frame_out
  refine q2_over0 D _ _ 8 _ _ _ _ _ _ _ _ _ _ _ _ _ _ _ _ _ (rd0 _) hIc ?_ ?_ ?_ ?_ ?_ ?_ ?_ ?_
  · intro r c'
    open_payloads
    refine w0_of D 0 8 _ ?_ r c'
    exact ldQB D hb.q _ _ 0 8 (by first | rfl | (simp [h]; done)) (by first | rfl | (simp [h]; done)) (by decide) (by decide)
  · intro r c'
    open_payloads
    refine w1_of D 0 8 _ ?_ r c'
    exact ldQB D hb.q _ _ 0 8 (by first | rfl | (simp [h]; done)) (by first | rfl | (simp [h]; done)) (by decide) (by decide)
  · intro r c'
    open_payloads
    refine w0_of D 1 8 _ ?_ r c'
    exact ldQB D hb.q _ _ 1 8 (by first | rfl | (simp [h]; done)) (by first | rfl | (simp [h]; done)) (by decide) (by decide)
  · intro r c'
    open_payloads
    refine w1_of D 1 8 _ ?_ r c'
    exact ldQB D hb.q _ _ 1 8 (by first | rfl | (simp [h]; done)) (by first | rfl | (simp [h]; done)) (by decide) (by decide)
  · intro r c'
    open_payloads
    refine w0_of D 2 8 _ ?_ r c'
    exact ldQB D hb.q _ _ 2 8 (by first | rfl | (simp [h]; done)) (by first | rfl | (simp [h]; done)) (by decide) (by decide)
  · intro r c'
    open_payloads
    refine w1_of D 2 8 _ ?_ r c'
    exact ldQB D hb.q _ _ 2 8 (by first | rfl | (simp [h]; done)) (by first | rfl | (simp [h]; done)) (by decide) (by decide)
  · intro r c'
    open_payloads
    refine w0_of D 3 8 _ ?_ r c'
    exact ldQB D hb.q _ _ 3 8 (by first | rfl | (simp [h]; done)) (by first | rfl | (simp [h]; done)) (by decide) (by decide)
  · intro r c'
    open_payloads
    refine w1_of D 3 8 _ ?_ r c'
    exact ldQB D hb.q _ _ 3 8 (by first | rfl | (simp [h]; done)) (by first | rfl | (simp [h]; done)) (by decide) (by decide)

theorem s_H (c : Dev nD) (t : Fin cfg0.N) (h : t.val % 16 = 7) (hb : Blk D lr m c t)
    (hI : InvAt D m 7 c (t.val - 1) (Nat.lt_of_le_of_lt (Nat.sub_le _ _) t.isLt)) (y : S4x512x512.Idx) :
    (outsAt0 m c t.val t.isLt).2.2.2.1 y = ((S D (y 0).val 8 (y 2).val (y 1).val : ℝ) : EReal) := by
  have hq := (q_H D lr m c t h hb hI).1
  rw [outsAt0_H m c t (by omega) (by omega) (by omega) (by omega) (by omega) (by omega) (by omega) (by omega)] at hq ⊢
  frame_out at hq
  frame_out
  refine s4 D 8 _ _ _ _ _ _ _ _ _ ?_ ?_ ?_ ?_ y
  · intro a b
    open_payloads
    refine score D 3 8 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 8 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 8 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 8 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_H (c : Dev nD) (t : Fin cfg0.N) (h : t.val % 16 = 7) (hb : Blk D lr m c t)
    (hI : InvAt D m 7 c (t.val - 1) (Nat.lt_of_le_of_lt (Nat.sub_le _ _) t.isLt)) (y : S4x1x512.Idx) :
    (outsAt0 m c t.val t.isLt).2.2.2.2 y = ((Mx D (y 0).val 8 0 (y 2).val : ℝ) : EReal) := by
  have hq := (q_H D lr m c t h hb hI).1
  rw [outsAt0_H m c t (by omega) (by omega) (by omega) (by omega) (by omega) (by omega) (by omega) (by omega)] at hq ⊢
  frame_out at hq
  frame_out
  refine r4 D 8 _ _ _ _ _ _ _ _ _ ?_ ?_ ?_ ?_ y
  · intro a
    open_payloads
    refine smaxM D 3 8 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 8 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 8 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 8 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_H (c : Dev nD) (t : Fin cfg0.N) (h : t.val % 16 = 7) (hb : Blk D lr m c t)
    (hI : InvAt D m 7 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_H m c t (by omega) (by omega) (by omega) (by omega) (by omega) (by omega) (by omega) (by omega)]
  simp only [sout0_H_1]
  try simp only [rd1]

theorem inv_H (c : Dev nD) (t : Fin cfg0.N) (h : t.val % 16 = 7) (hb : Blk D lr m c t)
    (hI : InvAt D m 7 c (t.val - 1) (Nat.lt_of_le_of_lt (Nat.sub_le _ _) t.isLt)) : InvAt D m 8 c t.val t.isLt := by
  obtain ⟨h0, h1⟩ := q_H D lr m c t h hb hI
  refine ⟨h0, h1, ?_, fun a b d => s_H D lr m c t h hb hI (ix3 a b d), fun a d => ⟨_, r_H D lr m c t h hb hI (ix3 a 0 d)⟩⟩
  rw [m_H D lr m c t h hb hI]
  exact hI.m

end Cert.KernelIdeal.Val

end
-- ==== Proof.Attn.CaseI.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_I (c : Dev nD) (t : Fin cfg0.N) (h : t.val % 16 = 8) (hb : Blk D lr m c t)
    (hI : InvAt D m 8 c (t.val - 1) (Nat.lt_of_le_of_lt (Nat.sub_le _ _) t.isLt)) (j : S256x512.Idx) :
    (outsAt0 m c t.val t.isLt).1 j = tgt D lr (iblk m c 6 t) 8 j := by
  rw [outsAt0_I m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 8 _ _ _ _ j (by omega) (by omega) ?_ (ldL lr hb.l _)
    refine finCov D _ 3 8 hb.o3 _ _ _ _ _ _ ?_
    refine mstep' D 3 8 2048 0 rfl (by decide) _ _ _ _ _ ?_ ?_ ?_ ?_
    · refine covS' D _ 3 8 2048 _ _ _ _ ?_
      refine score D 3 8 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · exact ldM' hIm _
    · exact ldV' D hb.v _ _ 3 2048 (by first | rfl | (simp [h]; done)) (by first | rfl | (simp [h]; done)) (by decide) (by decide)
    refine step D 3 8 1536 2048 rfl _ _ _ _ _ ?_ ?_ ?_ ?_
    · refine score D 3 8 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · refine smax D 3 8 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · exact ldV D hb.v _ _ 3 1536 (by first | rfl | (simp [h]; done)) (by first | rfl | (simp [h]; done)) (by decide) (by decide)
    refine step D 3 8 1024 1536 rfl _ _ _ _ _ ?_ ?_ ?_ ?_
    · refine score D 3 8 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · refine smax D 3 8 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · exact ldV D hb.v _ _ 3 1024 (by first | rfl | (simp [h]; done)) (by first | rfl | (simp [h]; done)) (by decide) (by decide)
    refine step D 3 8 512 1024 rfl _ _ _ _ _ ?_ ?_ ?_ ?_
    · refine score D 3 8 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · refine smax D 3 8 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldV D hb.v _ _ 3 512 (by first | rfl | (simp [h]; done)) (by first | rfl | (simp [h]; done)) (by decide) (by decide)
    refine step D 3 8 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 8
  case piece1 =>
    open_payloads
    refine fin_tgt D lr (iblk m c 6 t) 2 8 _ _ _ _ j (by omega) (by omega) ?_ (ldL lr hb.l _)
    refine finCov D _ 2 8 hb.o2 _ _ _ _ _ _ ?_
    refine mstep' D 2 8 2048 0 rfl (by decide) _ _ _ _ _ ?_ ?_ ?_ ?_
    · refine covS' D _ 2 8 2048 _ _ _ _ ?_
      refine score D 2 8 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · exact ldM' hIm _
    · exact ldV' D hb.v _ _ 2 2048 (by first | rfl | (simp [h]; done)) (by first | rfl | (simp [h]; done)) (by decide) (by decide)
    refine step D 2 8 1536 2048 rfl _ _ _ _ _ ?_ ?_ ?_ ?_
    · refine score D 2 8 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · refine smax D 2 8 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · exact ldV D hb.v _ _ 2 1536 (by first | rfl | (simp [h]; done)) (by first | rfl | (simp [h]; done)) (by decide) (by decide)
    refine step D 2 8 1024 1536 rfl _ _ _ _ _ ?_ ?_ ?_ ?_
    · refine score D 2 8 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · refine smax D 2 8 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · exact ldV D hb.v _ _ 2 1024 (by first | rfl | (simp [h]; done)) (by first | rfl | (simp [h]; done)) (by decide) (by decide)
    refine step D 2 8 512 1024 rfl _ _ _ _ _ ?_ ?_ ?_ ?_
    · refine score D 2 8 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · refine smax D 2 8 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldV D hb.v _ _ 2 512 (by first | rfl | (simp [h]; done)) (by first | rfl | (simp [h]; done)) (by decide) (by decide)
    refine step D 2 8 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 8
  case piece2 =>
    open_payloads
    refine fin_tgt D lr (iblk m c 6 t) 1 8 _ _ _ _ j (by omega) (by omega) ?_ (ldL lr hb.l _)
    refine finCov D _ 1 8 hb.o1 _ _ _ _ _ _ ?_
    refine mstep' D 1 8 2048 0 rfl (by decide) _ _ _ _ _ ?_ ?_ ?_ ?_
    · refine covS' D _ 1 8 2048 _ _ _ _ ?_
      refine score D 1 8 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · exact ldM' hIm _
    · exact ldV' D hb.v _ _ 1 2048 (by first | rfl | (simp [h]; done)) (by first | rfl | (simp [h]; done)) (by decide) (by decide)
    refine step D 1 8 1536 2048 rfl _ _ _ _ _ ?_ ?_ ?_ ?_
    · refine score D 1 8 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · refine smax D 1 8 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · exact ldV D hb.v _ _ 1 1536 (by first | rfl | (simp [h]; done)) (by first | rfl | (simp [h]; done)) (by decide) (by decide)
    refine step D 1 8 1024 1536 rfl _ _ _ _ _ ?_ ?_ ?_ ?_
    · refine score D 1 8 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · refine smax D 1 8 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · exact ldV D hb.v _ _ 1 1024 (by first | rfl | (simp [h]; done)) (by first | rfl | (simp [h]; done)) (by decide) (by decide)
    refine step D 1 8 512 1024 rfl _ _ _ _ _ ?_ ?_ ?_ ?_
    · refine score D 1 8 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · refine smax D 1 8 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldV D hb.v _ _ 1 512 (by first | rfl | (simp [h]; done)) (by first | rfl | (simp [h]; done)) (by decide) (by decide)
    refine step D 1 8 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 8
  case piece3 =>
    open_payloads
    refine fin_tgt D lr (iblk m c 6 t) 0 8 _ _ _ _ j (by omega) (by omega) ?_ (ldL lr hb.l _)
    refine finCov D _ 0 8 hb.o0 _ _ _ _ _ _ ?_
    refine mstep' D 0 8 2048 0 rfl (by decide) _ _ _ _ _ ?_ ?_ ?_ ?_
    · refine covS' D _ 0 8 2048 _ _ _ _ ?_
      refine score D 0 8 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · exact ldM' hIm _
    · exact ldV' D hb.v _ _ 0 2048 (by first | rfl | (simp [h]; done)) (by first | rfl | (simp [h]; done)) (by decide) (by decide)
    refine step D 0 8 1536 2048 rfl _ _ _ _ _ ?_ ?_ ?_ ?_
    · refine score D 0 8 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · refine smax D 0 8 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · exact ldV D hb.v _ _ 0 1536 (by first | rfl | (simp [h]; done)) (by first | rfl | (simp [h]; done)) (by decide) (by decide)
    refine step D 0 8 1024 1536 rfl _ _ _ _ _ ?_ ?_ ?_ ?_
    · refine score D 0 8 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · refine smax D 0 8 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · exact ldV D hb.v _ _ 0 1024 (by first | rfl | (simp [h]; done)) (by first | rfl | (simp [h]; done)) (by decide) (by decide)
    refine step D 0 8 512 1024 rfl _ _ _ _ _ ?_ ?_ ?_ ?_
    · refine score D 0 8 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · refine smax D 0 8 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldV D hb.v _ _ 0 512 (by first | rfl | (simp [h]; done)) (by first | rfl | (simp [h]; done)) (by decide) (by decide)
    refine step D 0 8 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 8
end Cert.KernelIdeal.Val

end
-- ==== Proof.Attn.InvI.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_I (c : Dev nD) (t : Fin cfg0.N) (h : t.val % 16 = 8) (hb : Blk D lr m c t)
    (hI : InvAt D m 8 c (t.val - 1) (Nat.lt_of_le_of_lt (Nat.sub_le _ _) t.isLt)) :
    IsQX D 1 9 (outsAt0 m c t.val t.isLt).2.1 ∧ IsCX D (outsAt0 m c t.val t.isLt).2.1 := by
  obtain ⟨hIq, hIc, hIm, hIs, hIr⟩ := hI
  rw [outsAt0_I m c t (by omega) (by omega) (by omega) (by omega) (by omega) (by omega) (by omega) (by omega)]
  frame_out
  refine q2_over1 D _ _ 9 _ _ _ _ _ _ _ _ _ _ _ _ _ _ _ _ _ (rd0 _) hIc ?_ ?_ ?_ ?_ ?_ ?_ ?_ ?_
  · intro r c'
    open_payloads
    refine w0_of D 0 9 _ ?_ r c'
    exact ldQB D hb.q _ _ 0 9 (by first | rfl | (simp [h]; done)) (by first | rfl | (simp [h]; done)) (by decide) (by decide)
  · intro r c'
    open_payloads
    refine w1_of D 0 9 _ ?_ r c'
    exact ldQB D hb.q _ _ 0 9 (by first | rfl | (simp [h]; done)) (by first | rfl | (simp [h]; done)) (by decide) (by decide)
  · intro r c'
    open_payloads
    refine w0_of D 1 9 _ ?_ r c'
    exact ldQB D hb.q _ _ 1 9 (by first | rfl | (simp [h]; done)) (by first | rfl | (simp [h]; done)) (by decide) (by decide)
  · intro r c'
    open_payloads
    refine w1_of D 1 9 _ ?_ r c'
    exact ldQB D hb.q _ _ 1 9 (by first | rfl | (simp [h]; done)) (by first | rfl | (simp [h]; done)) (by decide) (by decide)
  · intro r c'
    open_payloads
    refine w0_of D 2 9 _ ?_ r c'
    exact ldQB D hb.q _ _ 2 9 (by first | rfl | (simp [h]; done)) (by first | rfl | (simp [h]; done)) (by decide) (by decide)
  · intro r c'
    open_payloads
    refine w1_of D 2 9 _ ?_ r c'
    exact ldQB D hb.q _ _ 2 9 (by first | rfl | (simp [h]; done)) (by first | rfl | (simp [h]; done)) (by decide) (by decide)
  · intro r c'
    open_payloads
    refine w0_of D 3 9 _ ?_ r c'
    exact ldQB D hb.q _ _ 3 9 (by first | rfl | (simp [h]; done)) (by first | rfl | (simp [h]; done)) (by decide) (by decide)
  · intro r c'
    open_payloads
    refine w1_of D 3 9 _ ?_ r c'
    exact ldQB D hb.q _ _ 3 9 (by first | rfl | (simp [h]; done)) (by first | rfl | (simp [h]; done)) (by decide) (by decide)

theorem s_I (c : Dev nD) (t : Fin cfg0.N) (h : t.val % 16 = 8) (hb : Blk D lr m c t)
    (hI : InvAt D m 8 c (t.val - 1) (Nat.lt_of_le_of_lt (Nat.sub_le _ _) t.isLt)) (y : S4x512x512.Idx) :
    (outsAt0 m c t.val t.isLt).2.2.2.1 y = ((S D (y 0).val 9 (y 2).val (y 1).val : ℝ) : EReal) := by
  have hq := (q_I D lr m c t h hb hI).1
  rw [outsAt0_I m c t (by omega) (by omega) (by omega) (by omega) (by omega) (by omega) (by omega) (by omega)] at hq ⊢
  frame_out at hq
  frame_out
  refine s4 D 9 _ _ _ _ _ _ _ _ _ ?_ ?_ ?_ ?_ y
  · intro a b
    open_payloads
    refine score D 3 9 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 9 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 9 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 9 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_I (c : Dev nD) (t : Fin cfg0.N) (h : t.val % 16 = 8) (hb : Blk D lr m c t)
    (hI : InvAt D m 8 c (t.val - 1) (Nat.lt_of_le_of_lt (Nat.sub_le _ _) t.isLt)) (y : S4x1x512.Idx) :
    (outsAt0 m c t.val t.isLt).2.2.2.2 y = ((Mx D (y 0).val 9 0 (y 2).val : ℝ) : EReal) := by
  have hq := (q_I D lr m c t h hb hI).1
  rw [outsAt0_I m c t (by omega) (by omega) (by omega) (by omega) (by omega) (by omega) (by omega) (by omega)] at hq ⊢
  frame_out at hq
  frame_out
  refine r4 D 9 _ _ _ _ _ _ _ _ _ ?_ ?_ ?_ ?_ y
  · intro a
    open_payloads
    refine smaxM D 3 9 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 9 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 9 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 9 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_I (c : Dev nD) (t : Fin cfg0.N) (h : t.val % 16 = 8) (hb : Blk D lr m c t)
    (hI : InvAt D m 8 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_I m c t (by omega) (by omega) (by omega) (by omega) (by omega) (by omega) (by omega) (by omega)]
  simp only [sout0_I_1]
  try simp only [rd1]

theorem inv_I (c : Dev nD) (t : Fin cfg0.N) (h : t.val % 16 = 8) (hb : Blk D lr m c t)
    (hI : InvAt D m 8 c (t.val - 1) (Nat.lt_of_le_of_lt (Nat.sub_le _ _) t.isLt)) : InvAt D m 9 c t.val t.isLt := by
  obtain ⟨h0, h1⟩ := q_I D lr m c t h hb hI
  refine ⟨h0, h1, ?_, fun a b d => s_I D lr m c t h hb hI (ix3 a b d), fun a d => ⟨_, r_I D lr m c t h hb hI (ix3 a 0 d)⟩⟩
  rw [m_I D lr m c t h hb hI]
  exact hI.m

end Cert.KernelIdeal.Val

end
-- ==== Proof.Attn.CaseJ.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_J (c : Dev nD) (t : Fin cfg0.N) (h : t.val % 16 = 9) (hb : Blk D lr m c t)
    (hI : InvAt D m 9 c (t.val - 1) (Nat.lt_of_le_of_lt (Nat.sub_le _ _) t.isLt)) (j : S256x512.Idx) :
    (outsAt0 m c t.val t.isLt).1 j = tgt D lr (iblk m c 6 t) 9 j := by
  rw [outsAt0_J m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 9 _ _ _ _ j (by omega) (by omega) ?_ (ldL lr hb.l _)
    refine finCov D _ 3 9 hb.o3 _ _ _ _ _ _ ?_
    refine mstep D 3 9 2048 256 rfl (by decide) _ _ _ _ _ ?_ ?_ ?_ ?_
    · refine score D 3 9 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · exact ldM hIm _
    · exact ldV D hb.v _ _ 3 2048 (by first | rfl | (simp [h]; done)) (by first | rfl | (simp [h]; done)) (by decide) (by decide)
    refine step D 3 9 1536 2048 rfl _ _ _ _ _ ?_ ?_ ?_ ?_
    · refine score D 3 9 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · refine smax D 3 9 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · exact ldV D hb.v _ _ 3 1536 (by first | rfl | (simp [h]; done)) (by first | rfl | (simp [h]; done)) (by decide) (by decide)
    refine step D 3 9 1024 1536 rfl _ _ _ _ _ ?_ ?_ ?_ ?_
    · refine score D 3 9 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · refine smax D 3 9 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · exact ldV D hb.v _ _ 3 1024 (by first | rfl | (simp [h]; done)) (by first | rfl | (simp [h]; done)) (by decide) (by decide)
    refine step D 3 9 512 1024 rfl _ _ _ _ _ ?_ ?_ ?_ ?_
    · refine score D 3 9 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · refine smax D 3 9 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldV D hb.v _ _ 3 512 (by first | rfl | (simp [h]; done)) (by first | rfl | (simp [h]; done)) (by decide) (by decide)
    refine step D 3 9 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 9
  case piece1 =>
    open_payloads
    refine fin_tgt D lr (iblk m c 6 t) 2 9 _ _ _ _ j (by omega) (by omega) ?_ (ldL lr hb.l _)
    refine finCov D _ 2 9 hb.o2 _ _ _ _ _ _ ?_
    refine mstep D 2 9 2048 256 rfl (by decide) _ _ _ _ _ ?_ ?_ ?_ ?_
    · refine score D 2 9 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · exact ldM hIm _
    · exact ldV D hb.v _ _ 2 2048 (by first | rfl | (simp [h]; done)) (by first | rfl | (simp [h]; done)) (by decide) (by decide)
    refine step D 2 9 1536 2048 rfl _ _ _ _ _ ?_ ?_ ?_ ?_
    · refine score D 2 9 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · refine smax D 2 9 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · exact ldV D hb.v _ _ 2 1536 (by first | rfl | (simp [h]; done)) (by first | rfl | (simp [h]; done)) (by decide) (by decide)
    refine step D 2 9 1024 1536 rfl _ _ _ _ _ ?_ ?_ ?_ ?_
    · refine score D 2 9 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · refine smax D 2 9 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · exact ldV D hb.v _ _ 2 1024 (by first | rfl | (simp [h]; done)) (by first | rfl | (simp [h]; done)) (by decide) (by decide)
    refine step D 2 9 512 1024 rfl _ _ _ _ _ ?_ ?_ ?_ ?_
    · refine score D 2 9 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · refine smax D 2 9 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldV D hb.v _ _ 2 512 (by first | rfl | (simp [h]; done)) (by first | rfl | (simp [h]; done)) (by decide) (by decide)
    refine step D 2 9 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 9
  case piece2 =>
    open_payloads
    refine fin_tgt D lr (iblk m c 6 t) 1 9 _ _ _ _ j (by omega) (by omega) ?_ (ldL lr hb.l _)
    refine finCov D _ 1 9 hb.o1 _ _ _ _ _ _ ?_
    refine mstep D 1 9 2048 256 rfl (by decide) _ _ _ _ _ ?_ ?_ ?_ ?_
    · refine score D 1 9 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · exact ldM hIm _
    · exact ldV D hb.v _ _ 1 2048 (by first | rfl | (simp [h]; done)) (by first | rfl | (simp [h]; done)) (by decide) (by decide)
    refine step D 1 9 1536 2048 rfl _ _ _ _ _ ?_ ?_ ?_ ?_
    · refine score D 1 9 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · refine smax D 1 9 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · exact ldV D hb.v _ _ 1 1536 (by first | rfl | (simp [h]; done)) (by first | rfl | (simp [h]; done)) (by decide) (by decide)
    refine step D 1 9 1024 1536 rfl _ _ _ _ _ ?_ ?_ ?_ ?_
    · refine score D 1 9 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · refine smax D 1 9 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · exact ldV D hb.v _ _ 1 1024 (by first | rfl | (simp [h]; done)) (by first | rfl | (simp [h]; done)) (by decide) (by decide)
    refine step D 1 9 512 1024 rfl _ _ _ _ _ ?_ ?_ ?_ ?_
    · refine score D 1 9 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · refine smax D 1 9 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldV D hb.v _ _ 1 512 (by first | rfl | (simp [h]; done)) (by first | rfl | (simp [h]; done)) (by decide) (by decide)
    refine step D 1 9 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 9
  case piece3 =>
    open_payloads
    refine fin_tgt D lr (iblk m c 6 t) 0 9 _ _ _ _ j (by omega) (by omega) ?_ (ldL lr hb.l _)
    refine finCov D _ 0 9 hb.o0 _ _ _ _ _ _ ?_
    refine mstep D 0 9 2048 256 rfl (by decide) _ _ _ _ _ ?_ ?_ ?_ ?_
    · refine score D 0 9 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · exact ldM hIm _
    · exact ldV D hb.v _ _ 0 2048 (by first | rfl | (simp [h]; done)) (by first | rfl | (simp [h]; done)) (by decide) (by decide)
    refine step D 0 9 1536 2048 rfl _ _ _ _ _ ?_ ?_ ?_ ?_
    · refine score D 0 9 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · refine smax D 0 9 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · exact ldV D hb.v _ _ 0 1536 (by first | rfl | (simp [h]; done)) (by first | rfl | (simp [h]; done)) (by decide) (by decide)
    refine step D 0 9 1024 1536 rfl _ _ _ _ _ ?_ ?_ ?_ ?_
    · refine score D 0 9 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · refine smax D 0 9 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · exact ldV D hb.v _ _ 0 1024 (by first | rfl | (simp [h]; done)) (by first | rfl | (simp [h]; done)) (by decide) (by decide)
    refine step D 0 9 512 1024 rfl _ _ _ _ _ ?_ ?_ ?_ ?_
    · refine score D 0 9 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · refine smax D 0 9 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldV D hb.v _ _ 0 512 (by first | rfl | (simp [h]; done)) (by first | rfl | (simp [h]; done)) (by decide) (by decide)
    refine step D 0 9 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 9
end Cert.KernelIdeal.Val

end
-- ==== Proof.Attn.InvJ.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_J (c : Dev nD) (t : Fin cfg0.N) (h : t.val % 16 = 9) (hb : Blk D lr m c t)
    (hI : InvAt D m 9 c (t.val - 1) (Nat.lt_of_le_of_lt (Nat.sub_le _ _) t.isLt)) :
    IsQX D 0 10 (outsAt0 m c t.val t.isLt).2.1 ∧ IsCX D (outsAt0 m c t.val t.isLt).2.1 := by
  obtain ⟨hIq, hIc, hIm, hIs, hIr⟩ := hI
  rw [outsAt0_J m c t (by omega) (by omega) (by omega) (by omega) (by omega) (by omega) (by omega) (by omega)]
  frame_out
  refine q2_over0 D _ _ 10 _ _ _ _ _ _ _ _ _ _ _ _ _ _ _ _ _ (rd0 _) hIc ?_ ?_ ?_ ?_ ?_ ?_ ?_ ?_
  · intro r c'
    open_payloads
    refine w0_of D 0 10 _ ?_ r c'
    exact ldQB D hb.q _ _ 0 10 (by first | rfl | (simp [h]; done)) (by first | rfl | (simp [h]; done)) (by decide) (by decide)
  · intro r c'
    open_payloads
    refine w1_of D 0 10 _ ?_ r c'
    exact ldQB D hb.q _ _ 0 10 (by first | rfl | (simp [h]; done)) (by first | rfl | (simp [h]; done)) (by decide) (by decide)
  · intro r c'
    open_payloads
    refine w0_of D 1 10 _ ?_ r c'
    exact ldQB D hb.q _ _ 1 10 (by first | rfl | (simp [h]; done)) (by first | rfl | (simp [h]; done)) (by decide) (by decide)
  · intro r c'
    open_payloads
    refine w1_of D 1 10 _ ?_ r c'
    exact ldQB D hb.q _ _ 1 10 (by first | rfl | (simp [h]; done)) (by first | rfl | (simp [h]; done)) (by decide) (by decide)
  · intro r c'
    open_payloads
    refine w0_of D 2 10 _ ?_ r c'
    exact ldQB D hb.q _ _ 2 10 (by first | rfl | (simp [h]; done)) (by first | rfl | (simp [h]; done)) (by decide) (by decide)
  · intro r c'
    open_payloads
    refine w1_of D 2 10 _ ?_ r c'
    exact ldQB D hb.q _ _ 2 10 (by first | rfl | (simp [h]; done)) (by first | rfl | (simp [h]; done)) (by decide) (by decide)
  · intro r c'
    open_payloads
    refine w0_of D 3 10 _ ?_ r c'
    exact ldQB D hb.q _ _ 3 10 (by first | rfl | (simp [h]; done)) (by first | rfl | (simp [h]; done)) (by decide) (by decide)
  · intro r c'
    open_payloads
    refine w1_of D 3 10 _ ?_ r c'
    exact ldQB D hb.q _ _ 3 10 (by first | rfl | (simp [h]; done)) (by first | rfl | (simp [h]; done)) (by decide) (by decide)

theorem s_J (c : Dev nD) (t : Fin cfg0.N) (h : t.val % 16 = 9) (hb : Blk D lr m c t)
    (hI : InvAt D m 9 c (t.val - 1) (Nat.lt_of_le_of_lt (Nat.sub_le _ _) t.isLt)) (y : S4x512x512.Idx) :
    (outsAt0 m c t.val t.isLt).2.2.2.1 y = ((S D (y 0).val 10 (y 2).val (y 1).val : ℝ) : EReal) := by
  have hq := (q_J D lr m c t h hb hI).1
  rw [outsAt0_J m c t (by omega) (by omega) (by omega) (by omega) (by omega) (by omega) (by omega) (by omega)] at hq ⊢
  frame_out at hq
  frame_out
  refine s4 D 10 _ _ _ _ _ _ _ _ _ ?_ ?_ ?_ ?_ y
  · intro a b
    open_payloads
    refine score D 3 10 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 10 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 10 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 10 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_J (c : Dev nD) (t : Fin cfg0.N) (h : t.val % 16 = 9) (hb : Blk D lr m c t)
    (hI : InvAt D m 9 c (t.val - 1) (Nat.lt_of_le_of_lt (Nat.sub_le _ _) t.isLt)) (y : S4x1x512.Idx) :
    (outsAt0 m c t.val t.isLt).2.2.2.2 y = ((Mx D (y 0).val 10 0 (y 2).val : ℝ) : EReal) := by
  have hq := (q_J D lr m c t h hb hI).1
  rw [outsAt0_J m c t (by omega) (by omega) (by omega) (by omega) (by omega) (by omega) (by omega) (by omega)] at hq ⊢
  frame_out at hq
  frame_out
  refine r4 D 10 _ _ _ _ _ _ _ _ _ ?_ ?_ ?_ ?_ y
  · intro a
    open_payloads
    refine smaxM D 3 10 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 10 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 10 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 10 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_J (c : Dev nD) (t : Fin cfg0.N) (h : t.val % 16 = 9) (hb : Blk D lr m c t)
    (hI : InvAt D m 9 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_J m c t (by omega) (by omega) (by omega) (by omega) (by omega) (by omega) (by omega) (by omega)]
  simp only [sout0_J_1]
  try simp only [rd1]

theorem inv_J (c : Dev nD) (t : Fin cfg0.N) (h : t.val % 16 = 9) (hb : Blk D lr m c t)
    (hI : InvAt D m 9 c (t.val - 1) (Nat.lt_of_le_of_lt (Nat.sub_le _ _) t.isLt)) : InvAt D m 10 c t.val t.isLt := by
  obtain ⟨h0, h1⟩ := q_J D lr m c t h hb hI
  refine ⟨h0, h1, ?_, fun a b d => s_J D lr m c t h hb hI (ix3 a b d), fun a d => ⟨_, r_J D lr m c t h hb hI (ix3 a 0 d)⟩⟩
  rw [m_J D lr m c t h hb hI]
  exact hI.m

end Cert.KernelIdeal.Val

end
-- ==== Proof.Attn.CaseK.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_K (c : Dev nD) (t : Fin cfg0.N) (h : t.val % 16 = 10) (hb : Blk D lr m c t)
    (hI : InvAt D m 10 c (t.val - 1) (Nat.lt_of_le_of_lt (Nat.sub_le _ _) t.isLt)) (j : S256x512.Idx) :
    (outsAt0 m c t.val t.isLt).1 j = tgt D lr (iblk m c 6 t) 10 j := by
  rw [outsAt0_K m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 10 _ _ _ _ j (by omega) (by omega) ?_ (ldL lr hb.l _)
    refine finCov D _ 3 10 hb.o3 _ _ _ _ _ _ ?_
    refine mstep' D 3 10 2560 0 rfl (by decide) _ _ _ _ _ ?_ ?_ ?_ ?_
    · refine score' D 3 10 2560 _ _ _ ?_ ?_ ?_
      · exact ldK' D hb.k _ _ 3 2560 (by first | rfl | (simp [h]; done)) (by first | rfl | (simp [h]; done)) (by decide) (by decide)
      · exact ldF' D hb.f _ _ 2560 (by first | rfl | (simp [h]; done)) (by first | rfl | (simp [h]; done)) (by decide)
      · exact ldQ' D hIq _ _ 3 (by first | rfl | (simp [h]; done)) (by decide) (by decide)
    · exact ldM' hIm _
    · exact ldV' D hb.v _ _ 3 2560 (by first | rfl | (simp [h]; done)) (by first | rfl | (simp [h]; done)) (by decide) (by decide)
    refine step D 3 10 2048 2560 rfl _ _ _ _ _ ?_ ?_ ?_ ?_
    · refine score D 3 10 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · refine smax D 3 10 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · exact ldV D hb.v _ _ 3 2048 (by first | rfl | (simp [h]; done)) (by first | rfl | (simp [h]; done)) (by decide) (by decide)
    refine step D 3 10 1536 2048 rfl _ _ _ _ _ ?_ ?_ ?_ ?_
    · refine score D 3 10 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · refine smax D 3 10 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · exact ldV D hb.v _ _ 3 1536 (by first | rfl | (simp [h]; done)) (by first | rfl | (simp [h]; done)) (by decide) (by decide)
    refine step D 3 10 1024 1536 rfl _ _ _ _ _ ?_ ?_ ?_ ?_
    · refine score D 3 10 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · refine smax D 3 10 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · exact ldV D hb.v _ _ 3 1024 (by first | rfl | (simp [h]; done)) (by first | rfl | (simp [h]; done)) (by decide) (by decide)
    refine step D 3 10 512 1024 rfl _ _ _ _ _ ?_ ?_ ?_ ?_
    · refine score D 3 10 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · refine smax D 3 10 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldV D hb.v _ _ 3 512 (by first | rfl | (simp [h]; done)) (by first | rfl | (simp [h]; done)) (by decide) (by decide)
    refine step D 3 10 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 10
  case piece1 =>
    open_payloads
    refine fin_tgt D lr (iblk m c 6 t) 2 10 _ _ _ _ j (by omega) (by omega) ?_ (ldL lr hb.l _)
    refine finCov D _ 2 10 hb.o2 _ _ _ _ _ _ ?_
    refine mstep' D 2 10 2560 0 rfl (by decide) _ _ _ _ _ ?_ ?_ ?_ ?_
    · refine score' D 2 10 2560 _ _ _ ?_ ?_ ?_
      · exact ldK' D hb.k _ _ 2 2560 (by first | rfl | (simp [h]; done)) (by first | rfl | (simp [h]; done)) (by decide) (by decide)
      · exact ldF' D hb.f _ _ 2560 (by first | rfl | (simp [h]; done)) (by first | rfl | (simp [h]; done)) (by decide)
      · exact ldQ' D hIq _ _ 2 (by first | rfl | (simp [h]; done)) (by decide) (by decide)
    · exact ldM' hIm _
    · exact ldV' D hb.v _ _ 2 2560 (by first | rfl | (simp [h]; done)) (by first | rfl | (simp [h]; done)) (by decide) (by decide)
    refine step D 2 10 2048 2560 rfl _ _ _ _ _ ?_ ?_ ?_ ?_
    · refine score D 2 10 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · refine smax D 2 10 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · exact ldV D hb.v _ _ 2 2048 (by first | rfl | (simp [h]; done)) (by first | rfl | (simp [h]; done)) (by decide) (by decide)
    refine step D 2 10 1536 2048 rfl _ _ _ _ _ ?_ ?_ ?_ ?_
    · refine score D 2 10 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · refine smax D 2 10 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · exact ldV D hb.v _ _ 2 1536 (by first | rfl | (simp [h]; done)) (by first | rfl | (simp [h]; done)) (by decide) (by decide)
    refine step D 2 10 1024 1536 rfl _ _ _ _ _ ?_ ?_ ?_ ?_
    · refine score D 2 10 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · refine smax D 2 10 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · exact ldV D hb.v _ _ 2 1024 (by first | rfl | (simp [h]; done)) (by first | rfl | (simp [h]; done)) (by decide) (by decide)
    refine step D 2 10 512 1024 rfl _ _ _ _ _ ?_ ?_ ?_ ?_
    · refine score D 2 10 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · refine smax D 2 10 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldV D hb.v _ _ 2 512 (by first | rfl | (simp [h]; done)) (by first | rfl | (simp [h]; done)) (by decide) (by decide)
    refine step D 2 10 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 10
  case piece2 =>
    open_payloads
    refine fin_tgt D lr (iblk m c 6 t) 1 10 _ _ _ _ j (by omega) (by omega) ?_ (ldL lr hb.l _)
    refine finCov D _ 1 10 hb.o1 _ _ _ _ _ _ ?_
    refine mstep' D 1 10 2560 0 rfl (by decide) _ _ _ _ _ ?_ ?_ ?_ ?_
    · refine score' D 1 10 2560 _ _ _ ?_ ?_ ?_
      · exact ldK' D hb.k _ _ 1 2560 (by first | rfl | (simp [h]; done)) (by first | rfl | (simp [h]; done)) (by decide) (by decide)
      · exact ldF' D hb.f _ _ 2560 (by first | rfl | (simp [h]; done)) (by first | rfl | (simp [h]; done)) (by decide)
      · exact ldQ' D hIq _ _ 1 (by first | rfl | (simp [h]; done)) (by decide) (by decide)
    · exact ldM' hIm _
    · exact ldV' D hb.v _ _ 1 2560 (by first | rfl | (simp [h]; done)) (by first | rfl | (simp [h]; done)) (by decide) (by decide)
    refine step D 1 10 2048 2560 rfl _ _ _ _ _ ?_ ?_ ?_ ?_
    · refine score D 1 10 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · refine smax D 1 10 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · exact ldV D hb.v _ _ 1 2048 (by first | rfl | (simp [h]; done)) (by first | rfl | (simp [h]; done)) (by decide) (by decide)
    refine step D 1 10 1536 2048 rfl _ _ _ _ _ ?_ ?_ ?_ ?_
    · refine score D 1 10 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · refine smax D 1 10 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · exact ldV D hb.v _ _ 1 1536 (by first | rfl | (simp [h]; done)) (by first | rfl | (simp [h]; done)) (by decide) (by decide)
    refine step D 1 10 1024 1536 rfl _ _ _ _ _ ?_ ?_ ?_ ?_
    · refine score D 1 10 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · refine smax D 1 10 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · exact ldV D hb.v _ _ 1 1024 (by first | rfl | (simp [h]; done)) (by first | rfl | (simp [h]; done)) (by decide) (by decide)
    refine step D 1 10 512 1024 rfl _ _ _ _ _ ?_ ?_ ?_ ?_
    · refine score D 1 10 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · refine smax D 1 10 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldV D hb.v _ _ 1 512 (by first | rfl | (simp [h]; done)) (by first | rfl | (simp [h]; done)) (by decide) (by decide)
    refine step D 1 10 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 10
  case piece3 =>
    open_payloads
    refine fin_tgt D lr (iblk m c 6 t) 0 10 _ _ _ _ j (by omega) (by omega) ?_ (ldL lr hb.l _)
    refine finCov D _ 0 10 hb.o0 _ _ _ _ _ _ ?_
    refine mstep' D 0 10 2560 0 rfl (by decide) _ _ _ _ _ ?_ ?_ ?_ ?_
    · refine score' D 0 10 2560 _ _ _ ?_ ?_ ?_
      · exact ldK' D hb.k _ _ 0 2560 (by first | rfl | (simp [h]; done)) (by first | rfl | (simp [h]; done)) (by decide) (by decide)
      · exact ldF' D hb.f _ _ 2560 (by first | rfl | (simp [h]; done)) (by first | rfl | (simp [h]; done)) (by decide)
      · exact ldQ' D hIq _ _ 0 (by first | rfl | (simp [h]; done)) (by decide) (by decide)
    · exact ldM' hIm _
    · exact ldV' D hb.v _ _ 0 2560 (by first | rfl | (simp [h]; done)) (by first | rfl | (simp [h]; done)) (by decide) (by decide)
    refine step D 0 10 2048 2560 rfl _ _ _ _ _ ?_ ?_ ?_ ?_
    · refine score D 0 10 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · refine smax D 0 10 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · exact ldV D hb.v _ _ 0 2048 (by first | rfl | (simp [h]; done)) (by first | rfl | (simp [h]; done)) (by decide) (by decide)
    refine step D 0 10 1536 2048 rfl _ _ _ _ _ ?_ ?_ ?_ ?_
    · refine score D 0 10 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · refine smax D 0 10 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · exact ldV D hb.v _ _ 0 1536 (by first | rfl | (simp [h]; done)) (by first | rfl | (simp [h]; done)) (by decide) (by decide)
    refine step D 0 10 1024 1536 rfl _ _ _ _ _ ?_ ?_ ?_ ?_
    · refine score D 0 10 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · refine smax D 0 10 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · exact ldV D hb.v _ _ 0 1024 (by first | rfl | (simp [h]; done)) (by first | rfl | (simp [h]; done)) (by decide) (by decide)
    refine step D 0 10 512 1024 rfl _ _ _ _ _ ?_ ?_ ?_ ?_
    · refine score D 0 10 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · refine smax D 0 10 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldV D hb.v _ _ 0 512 (by first | rfl | (simp [h]; done)) (by first | rfl | (simp [h]; done)) (by decide) (by decide)
    refine step D 0 10 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 10
end Cert.KernelIdeal.Val

end
-- ==== Proof.Attn.InvK.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_K (c : Dev nD) (t : Fin cfg0.N) (h : t.val % 16 = 10) (hb : Blk D lr m c t)
    (hI : InvAt D m 10 c (t.val - 1) (Nat.lt_of_le_of_lt (Nat.sub_le _ _) t.isLt)) :
    IsQX D 1 11 (outsAt0 m c t.val t.isLt).2.1 ∧ IsCX D (outsAt0 m c t.val t.isLt).2.1 := by
  obtain ⟨hIq, hIc, hIm, hIs, hIr⟩ := hI
  rw [outsAt0_K m c t (by omega) (by omega) (by omega) (by omega) (by omega) (by omega) (by omega) (by omega)]
  frame_out
  refine q2_over1 D _ _ 11 _ _ _ _ _ _ _ _ _ _ _ _ _ _ _ _ _ (rd0 _) hIc ?_ ?_ ?_ ?_ ?_ ?_ ?_ ?_
  · intro r c'
    open_payloads
    refine w0_of D 0 11 _ ?_ r c'
    exact ldQB D hb.q _ _ 0 11 (by first | rfl | (simp [h]; done)) (by first | rfl | (simp [h]; done)) (by decide) (by decide)
  · intro r c'
    open_payloads
    refine w1_of D 0 11 _ ?_ r c'
    exact ldQB D hb.q _ _ 0 11 (by first | rfl | (simp [h]; done)) (by first | rfl | (simp [h]; done)) (by decide) (by decide)
  · intro r c'
    open_payloads
    refine w0_of D 1 11 _ ?_ r c'
    exact ldQB D hb.q _ _ 1 11 (by first | rfl | (simp [h]; done)) (by first | rfl | (simp [h]; done)) (by decide) (by decide)
  · intro r c'
    open_payloads
    refine w1_of D 1 11 _ ?_ r c'
    exact ldQB D hb.q _ _ 1 11 (by first | rfl | (simp [h]; done)) (by first | rfl | (simp [h]; done)) (by decide) (by decide)
  · intro r c'
    open_payloads
    refine w0_of D 2 11 _ ?_ r c'
    exact ldQB D hb.q _ _ 2 11 (by first | rfl | (simp [h]; done)) (by first | rfl | (simp [h]; done)) (by decide) (by decide)
  · intro r c'
    open_payloads
    refine w1_of D 2 11 _ ?_ r c'
    exact ldQB D hb.q _ _ 2 11 (by first | rfl | (simp [h]; done)) (by first | rfl | (simp [h]; done)) (by decide) (by decide)
  · intro r c'
    open_payloads
    refine w0_of D 3 11 _ ?_ r c'
    exact ldQB D hb.q _ _ 3 11 (by first | rfl | (simp [h]; done)) (by first | rfl | (simp [h]; done)) (by decide) (by decide)
  · intro r c'
    open_payloads
    refine w1_of D 3 11 _ ?_ r c'
    exact ldQB D hb.q _ _ 3 11 (by first | rfl | (simp [h]; done)) (by first | rfl | (simp [h]; done)) (by decide) (by decide)

theorem s_K (c : Dev nD) (t : Fin cfg0.N) (h : t.val % 16 = 10) (hb : Blk D lr m c t)
    (hI : InvAt D m 10 c (t.val - 1) (Nat.lt_of_le_of_lt (Nat.sub_le _ _) t.isLt)) (y : S4x512x512.Idx) :
    (outsAt0 m c t.val t.isLt).2.2.2.1 y = ((S D (y 0).val 11 (y 2).val (y 1).val : ℝ) : EReal) := by
  have hq := (q_K D lr m c t h hb hI).1
  rw [outsAt0_K m c t (by omega) (by omega) (by omega) (by omega) (by omega) (by omega) (by omega) (by omega)] at hq ⊢
  frame_out at hq
  frame_out
  refine s4 D 11 _ _ _ _ _ _ _ _ _ ?_ ?_ ?_ ?_ y
  · intro a b
    open_payloads
    refine score D 3 11 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 11 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 11 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 11 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_K (c : Dev nD) (t : Fin cfg0.N) (h : t.val % 16 = 10) (hb : Blk D lr m c t)
    (hI : InvAt D m 10 c (t.val - 1) (Nat.lt_of_le_of_lt (Nat.sub_le _ _) t.isLt)) (y : S4x1x512.Idx) :
    (outsAt0 m c t.val t.isLt).2.2.2.2 y = ((Mx D (y 0).val 11 0 (y 2).val : ℝ) : EReal) := by
  have hq := (q_K D lr m c t h hb hI).1
  rw [outsAt0_K m c t (by omega) (by omega) (by omega) (by omega) (by omega) (by omega) (by omega) (by omega)] at hq ⊢
  frame_out at hq
  frame_out
  refine r4 D 11 _ _ _ _ _ _ _ _ _ ?_ ?_ ?_ ?_ y
  · intro a
    open_payloads
    refine smaxM D 3 11 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 11 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 11 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 11 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_K (c : Dev nD) (t : Fin cfg0.N) (h : t.val % 16 = 10) (hb : Blk D lr m c t)
    (hI : InvAt D m 10 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_K m c t (by omega) (by omega) (by omega) (by omega) (by omega) (by omega) (by omega) (by omega)]
  simp only [sout0_K_1]
  try simp only [rd1]

theorem inv_K (c : Dev nD) (t : Fin cfg0.N) (h : t.val % 16 = 10) (hb : Blk D lr m c t)
    (hI : InvAt D m 10 c (t.val - 1) (Nat.lt_of_le_of_lt (Nat.sub_le _ _) t.isLt)) : InvAt D m 11 c t.val t.isLt := by
  obtain ⟨h0, h1⟩ := q_K D lr m c t h hb hI
  refine ⟨h0, h1, ?_, fun a b d => s_K D lr m c t h hb hI (ix3 a b d), fun a d => ⟨_, r_K D lr m c t h hb hI (ix3 a 0 d)⟩⟩
  rw [m_K D lr m c t h hb hI]
  exact hI.m

end Cert.KernelIdeal.Val

end
-- ==== Proof.Attn.CaseL.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_L (c : Dev nD) (t : Fin cfg0.N) (h : t.val % 16 = 11) (hb : Blk D lr m c t)
    (hI : InvAt D m 11 c (t.val - 1) (Nat.lt_of_le_of_lt (Nat.sub_le _ _) t.isLt)) (j : S256x512.Idx) :
    (outsAt0 m c t.val t.isLt).1 j = tgt D lr (iblk m c 6 t) 11 j := by
  rw [outsAt0_L m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 11 _ _ _ _ j (by omega) (by omega) ?_ (ldL lr hb.l _)
    refine finCov D _ 3 11 hb.o3 _ _ _ _ _ _ ?_
    refine mstep D 3 11 2560 256 rfl (by decide) _ _ _ _ _ ?_ ?_ ?_ ?_
    · refine score D 3 11 2560 _ _ _ ?_ ?_ ?_
      · exact ldK D hb.k _ _ 3 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 3 (by first | rfl | (simp [h]; done)) (by decide) (by decide)
    · exact ldM hIm _
    · exact ldV D hb.v _ _ 3 2560 (by first | rfl | (simp [h]; done)) (by first | rfl | (simp [h]; done)) (by decide) (by decide)
    refine step D 3 11 2048 2560 rfl _ _ _ _ _ ?_ ?_ ?_ ?_
    · refine score D 3 11 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · refine smax D 3 11 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · exact ldV D hb.v _ _ 3 2048 (by first | rfl | (simp [h]; done)) (by first | rfl | (simp [h]; done)) (by decide) (by decide)
    refine step D 3 11 1536 2048 rfl _ _ _ _ _ ?_ ?_ ?_ ?_
    · refine score D 3 11 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · refine smax D 3 11 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · exact ldV D hb.v _ _ 3 1536 (by first | rfl | (simp [h]; done)) (by first | rfl | (simp [h]; done)) (by decide) (by decide)
    refine step D 3 11 1024 1536 rfl _ _ _ _ _ ?_ ?_ ?_ ?_
    · refine score D 3 11 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · refine smax D 3 11 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · exact ldV D hb.v _ _ 3 1024 (by first | rfl | (simp [h]; done)) (by first | rfl | (simp [h]; done)) (by decide) (by decide)
    refine step D 3 11 512 1024 rfl _ _ _ _ _ ?_ ?_ ?_ ?_
    · refine score D 3 11 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · refine smax D 3 11 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldV D hb.v _ _ 3 512 (by first | rfl | (simp [h]; done)) (by first | rfl | (simp [h]; done)) (by decide) (by decide)
    refine step D 3 11 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 11
  case piece1 =>
    open_payloads
    refine fin_tgt D lr (iblk m c 6 t) 2 11 _ _ _ _ j (by omega) (by omega) ?_ (ldL lr hb.l _)
    refine finCov D _ 2 11 hb.o2 _ _ _ _ _ _ ?_
    refine mstep D 2 11 2560 256 rfl (by decide) _ _ _ _ _ ?_ ?_ ?_ ?_
    · refine score D 2 11 2560 _ _ _ ?_ ?_ ?_
      · exact ldK D hb.k _ _ 2 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 2 (by first | rfl | (simp [h]; done)) (by decide) (by decide)
    · exact ldM hIm _
    · exact ldV D hb.v _ _ 2 2560 (by first | rfl | (simp [h]; done)) (by first | rfl | (simp [h]; done)) (by decide) (by decide)
    refine step D 2 11 2048 2560 rfl _ _ _ _ _ ?_ ?_ ?_ ?_
    · refine score D 2 11 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · refine smax D 2 11 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · exact ldV D hb.v _ _ 2 2048 (by first | rfl | (simp [h]; done)) (by first | rfl | (simp [h]; done)) (by decide) (by decide)
    refine step D 2 11 1536 2048 rfl _ _ _ _ _ ?_ ?_ ?_ ?_
    · refine score D 2 11 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · refine smax D 2 11 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · exact ldV D hb.v _ _ 2 1536 (by first | rfl | (simp [h]; done)) (by first | rfl | (simp [h]; done)) (by decide) (by decide)
    refine step D 2 11 1024 1536 rfl _ _ _ _ _ ?_ ?_ ?_ ?_
    · refine score D 2 11 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · refine smax D 2 11 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · exact ldV D hb.v _ _ 2 1024 (by first | rfl | (simp [h]; done)) (by first | rfl | (simp [h]; done)) (by decide) (by decide)
    refine step D 2 11 512 1024 rfl _ _ _ _ _ ?_ ?_ ?_ ?_
    · refine score D 2 11 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · refine smax D 2 11 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldV D hb.v _ _ 2 512 (by first | rfl | (simp [h]; done)) (by first | rfl | (simp [h]; done)) (by decide) (by decide)
    refine step D 2 11 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 11
  case piece2 =>
    open_payloads
    refine fin_tgt D lr (iblk m c 6 t) 1 11 _ _ _ _ j (by omega) (by omega) ?_ (ldL lr hb.l _)
    refine finCov D _ 1 11 hb.o1 _ _ _ _ _ _ ?_
    refine mstep D 1 11 2560 256 rfl (by decide) _ _ _ _ _ ?_ ?_ ?_ ?_
    · refine score D 1 11 2560 _ _ _ ?_ ?_ ?_
      · exact ldK D hb.k _ _ 1 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 1 (by first | rfl | (simp [h]; done)) (by decide) (by decide)
    · exact ldM hIm _
    · exact ldV D hb.v _ _ 1 2560 (by first | rfl | (simp [h]; done)) (by first | rfl | (simp [h]; done)) (by decide) (by decide)
    refine step D 1 11 2048 2560 rfl _ _ _ _ _ ?_ ?_ ?_ ?_
    · refine score D 1 11 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · refine smax D 1 11 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · exact ldV D hb.v _ _ 1 2048 (by first | rfl | (simp [h]; done)) (by first | rfl | (simp [h]; done)) (by decide) (by decide)
    refine step D 1 11 1536 2048 rfl _ _ _ _ _ ?_ ?_ ?_ ?_
    · refine score D 1 11 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · refine smax D 1 11 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · exact ldV D hb.v _ _ 1 1536 (by first | rfl | (simp [h]; done)) (by first | rfl | (simp [h]; done)) (by decide) (by decide)
    refine step D 1 11 1024 1536 rfl _ _ _ _ _ ?_ ?_ ?_ ?_
    · refine score D 1 11 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · refine smax D 1 11 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · exact ldV D hb.v _ _ 1 1024 (by first | rfl | (simp [h]; done)) (by first | rfl | (simp [h]; done)) (by decide) (by decide)
    refine step D 1 11 512 1024 rfl _ _ _ _ _ ?_ ?_ ?_ ?_
    · refine score D 1 11 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · refine smax D 1 11 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldV D hb.v _ _ 1 512 (by first | rfl | (simp [h]; done)) (by first | rfl | (simp [h]; done)) (by decide) (by decide)
    refine step D 1 11 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 11
  case piece3 =>
    open_payloads
    refine fin_tgt D lr (iblk m c 6 t) 0 11 _ _ _ _ j (by omega) (by omega) ?_ (ldL lr hb.l _)
    refine finCov D _ 0 11 hb.o0 _ _ _ _ _ _ ?_
    refine mstep D 0 11 2560 256 rfl (by decide) _ _ _ _ _ ?_ ?_ ?_ ?_
    · refine score D 0 11 2560 _ _ _ ?_ ?_ ?_
      · exact ldK D hb.k _ _ 0 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 0 (by first | rfl | (simp [h]; done)) (by decide) (by decide)
    · exact ldM hIm _
    · exact ldV D hb.v _ _ 0 2560 (by first | rfl | (simp [h]; done)) (by first | rfl | (simp [h]; done)) (by decide) (by decide)
    refine step D 0 11 2048 2560 rfl _ _ _ _ _ ?_ ?_ ?_ ?_
    · refine score D 0 11 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · refine smax D 0 11 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · exact ldV D hb.v _ _ 0 2048 (by first | rfl | (simp [h]; done)) (by first | rfl | (simp [h]; done)) (by decide) (by decide)
    refine step D 0 11 1536 2048 rfl _ _ _ _ _ ?_ ?_ ?_ ?_
    · refine score D 0 11 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · refine smax D 0 11 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · exact ldV D hb.v _ _ 0 1536 (by first | rfl | (simp [h]; done)) (by first | rfl | (simp [h]; done)) (by decide) (by decide)
    refine step D 0 11 1024 1536 rfl _ _ _ _ _ ?_ ?_ ?_ ?_
    · refine score D 0 11 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · refine smax D 0 11 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · exact ldV D hb.v _ _ 0 1024 (by first | rfl | (simp [h]; done)) (by first | rfl | (simp [h]; done)) (by decide) (by decide)
    refine step D 0 11 512 1024 rfl _ _ _ _ _ ?_ ?_ ?_ ?_
    · refine score D 0 11 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · refine smax D 0 11 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldV D hb.v _ _ 0 512 (by first | rfl | (simp [h]; done)) (by first | rfl | (simp [h]; done)) (by decide) (by decide)
    refine step D 0 11 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 11
end Cert.KernelIdeal.Val

end
-- ==== Proof.Attn.InvL.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_L (c : Dev nD) (t : Fin cfg0.N) (h : t.val % 16 = 11) (hb : Blk D lr m c t)
    (hI : InvAt D m 11 c (t.val - 1) (Nat.lt_of_le_of_lt (Nat.sub_le _ _) t.isLt)) :
    IsQX D 0 12 (outsAt0 m c t.val t.isLt).2.1 ∧ IsCX D (outsAt0 m c t.val t.isLt).2.1 := by
  obtain ⟨hIq, hIc, hIm, hIs, hIr⟩ := hI
  rw [outsAt0_L m c t (by omega) (by omega) (by omega) (by omega) (by omega) (by omega) (by omega) (by omega)]
  frame_out
  refine q2_over0 D _ _ 12 _ _ _ _ _ _ _ _ _ _ _ _ _ _ _ _ _ (rd0 _) hIc ?_ ?_ ?_ ?_ ?_ ?_ ?_ ?_
  · intro r c'
    open_payloads
    refine w0_of D 0 12 _ ?_ r c'
    exact ldQB D hb.q _ _ 0 12 (by first | rfl | (simp [h]; done)) (by first | rfl | (simp [h]; done)) (by decide) (by decide)
  · intro r c'
    open_payloads
    refine w1_of D 0 12 _ ?_ r c'
    exact ldQB D hb.q _ _ 0 12 (by first | rfl | (simp [h]; done)) (by first | rfl | (simp [h]; done)) (by decide) (by decide)
  · intro r c'
    open_payloads
    refine w0_of D 1 12 _ ?_ r c'
    exact ldQB D hb.q _ _ 1 12 (by first | rfl | (simp [h]; done)) (by first | rfl | (simp [h]; done)) (by decide) (by decide)
  · intro r c'
    open_payloads
    refine w1_of D 1 12 _ ?_ r c'
    exact ldQB D hb.q _ _ 1 12 (by first | rfl | (simp [h]; done)) (by first | rfl | (simp [h]; done)) (by decide) (by decide)
  · intro r c'
    open_payloads
    refine w0_of D 2 12 _ ?_ r c'
    exact ldQB D hb.q _ _ 2 12 (by first | rfl | (simp [h]; done)) (by first | rfl | (simp [h]; done)) (by decide) (by decide)
  · intro r c'
    open_payloads
    refine w1_of D 2 12 _ ?_ r c'
    exact ldQB D hb.q _ _ 2 12 (by first | rfl | (simp [h]; done)) (by first | rfl | (simp [h]; done)) (by decide) (by decide)
  · intro r c'
    open_payloads
    refine w0_of D 3 12 _ ?_ r c'
    exact ldQB D hb.q _ _ 3 12 (by first | rfl | (simp [h]; done)) (by first | rfl | (simp [h]; done)) (by decide) (by decide)
  · intro r c'
    open_payloads
    refine w1_of D 3 12 _ ?_ r c'
    exact ldQB D hb.q _ _ 3 12 (by first | rfl | (simp [h]; done)) (by first | rfl | (simp [h]; done)) (by decide) (by decide)

theorem s_L (c : Dev nD) (t : Fin cfg0.N) (h : t.val % 16 = 11) (hb : Blk D lr m c t)
    (hI : InvAt D m 11 c (t.val - 1) (Nat.lt_of_le_of_lt (Nat.sub_le _ _) t.isLt)) (y : S4x512x512.Idx) :
    (outsAt0 m c t.val t.isLt).2.2.2.1 y = ((S D (y 0).val 12 (y 2).val (y 1).val : ℝ) : EReal) := by
  have hq := (q_L D lr m c t h hb hI).1
  rw [outsAt0_L m c t (by omega) (by omega) (by omega) (by omega) (by omega) (by omega) (by omega) (by omega)] at hq ⊢
  frame_out at hq
  frame_out
  refine s4 D 12 _ _ _ _ _ _ _ _ _ ?_ ?_ ?_ ?_ y
  · intro a b
    open_payloads
    refine score D 3 12 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 12 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 12 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 12 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_L (c : Dev nD) (t : Fin cfg0.N) (h : t.val % 16 = 11) (hb : Blk D lr m c t)
    (hI : InvAt D m 11 c (t.val - 1) (Nat.lt_of_le_of_lt (Nat.sub_le _ _) t.isLt)) (y : S4x1x512.Idx) :
    (outsAt0 m c t.val t.isLt).2.2.2.2 y = ((Mx D (y 0).val 12 0 (y 2).val : ℝ) : EReal) := by
  have hq := (q_L D lr m c t h hb hI).1
  rw [outsAt0_L m c t (by omega) (by omega) (by omega) (by omega) (by omega) (by omega) (by omega) (by omega)] at hq ⊢
  frame_out at hq
  frame_out
  refine r4 D 12 _ _ _ _ _ _ _ _ _ ?_ ?_ ?_ ?_ y
  · intro a
    open_payloads
    refine smaxM D 3 12 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 12 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 12 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 12 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_L (c : Dev nD) (t : Fin cfg0.N) (h : t.val % 16 = 11) (hb : Blk D lr m c t)
    (hI : InvAt D m 11 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_L m c t (by omega) (by omega) (by omega) (by omega) (by omega) (by omega) (by omega) (by omega)]
  simp only [sout0_L_1]
  try simp only [rd1]

theorem inv_L (c : Dev nD) (t : Fin cfg0.N) (h : t.val % 16 = 11) (hb : Blk D lr m c t)
    (hI : InvAt D m 11 c (t.val - 1) (Nat.lt_of_le_of_lt (Nat.sub_le _ _) t.isLt)) : InvAt D m 12 c t.val t.isLt := by
  obtain ⟨h0, h1⟩ := q_L D lr m c t h hb hI
  refine ⟨h0, h1, ?_, fun a b d => s_L D lr m c t h hb hI (ix3 a b d), fun a d => ⟨_, r_L D lr m c t h hb hI (ix3 a 0 d)⟩⟩
  rw [m_L D lr m c t h hb hI]
  exact hI.m

end Cert.KernelIdeal.Val

end
-- ==== Proof.Attn.CaseM.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_M (c : Dev nD) (t : Fin cfg0.N) (h : t.val % 16 = 12) (hb : Blk D lr m c t)
    (hI : InvAt D m 12 c (t.val - 1) (Nat.lt_of_le_of_lt (Nat.sub_le _ _) t.isLt)) (j : S256x512.Idx) :
    (outsAt0 m c t.val t.isLt).1 j = tgt D lr (iblk m c 6 t) 12 j := by
  rw [outsAt0_M m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 12 _ _ _ _ j (by omega) (by omega) ?_ (ldL lr hb.l _)
    refine finCov D _ 3 12 hb.o3 _ _ _ _ _ _ ?_
    refine mstep' D 3 12 3072 0 rfl (by decide) _ _ _ _ _ ?_ ?_ ?_ ?_
    · refine covS' D _ 3 12 3072 _ _ _ _ ?_
      refine score D 3 12 3072 _ _ _ ?_ ?_ ?_
      · exact ldK D hb.k _ _ 3 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 3 (by first | rfl | (simp [h]; done)) (by decide) (by decide)
    · exact ldM' hIm _
    · exact ldV' D hb.v _ _ 3 3072 (by first | rfl | (simp [h]; done)) (by first | rfl | (simp [h]; done)) (by decide) (by decide)
    refine step D 3 12 2560 3072 rfl _ _ _ _ _ ?_ ?_ ?_ ?_
    · refine score D 3 12 2560 _ _ _ ?_ ?_ ?_
      · exact ldK D hb.k _ _ 3 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 3 (by first | rfl | (simp [h]; done)) (by decide) (by decide)
    · refine smax D 3 12 2560 _ _ _ ?_ ?_ ?_
      · exact ldK D hb.k _ _ 3 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 3 (by first | rfl | (simp [h]; done)) (by decide) (by decide)
    · exact ldV D hb.v _ _ 3 2560 (by first | rfl | (simp [h]; done)) (by first | rfl | (simp [h]; done)) (by decide) (by decide)
    refine step D 3 12 2048 2560 rfl _ _ _ _ _ ?_ ?_ ?_ ?_
    · refine score D 3 12 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · refine smax D 3 12 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · exact ldV D hb.v _ _ 3 2048 (by first | rfl | (simp [h]; done)) (by first | rfl | (simp [h]; done)) (by decide) (by decide)
    refine step D 3 12 1536 2048 rfl _ _ _ _ _ ?_ ?_ ?_ ?_
    · refine score D 3 12 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · refine smax D 3 12 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · exact ldV D hb.v _ _ 3 1536 (by first | rfl | (simp [h]; done)) (by first | rfl | (simp [h]; done)) (by decide) (by decide)
    refine step D 3 12 1024 1536 rfl _ _ _ _ _ ?_ ?_ ?_ ?_
    · refine score D 3 12 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · refine smax D 3 12 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · exact ldV D hb.v _ _ 3 1024 (by first | rfl | (simp [h]; done)) (by first | rfl | (simp [h]; done)) (by decide) (by decide)
    refine step D 3 12 512 1024 rfl _ _ _ _ _ ?_ ?_ ?_ ?_
    · refine score D 3 12 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · refine smax D 3 12 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldV D hb.v _ _ 3 512 (by first | rfl | (simp [h]; done)) (by first | rfl | (simp [h]; done)) (by decide) (by decide)
    refine step D 3 12 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 12
  case piece1 =>
    open_payloads
    refine fin_tgt D lr (iblk m c 6 t) 2 12 _ _ _ _ j (by omega) (by omega) ?_ (ldL lr hb.l _)
    refine finCov D _ 2 12 hb.o2 _ _ _ _ _ _ ?_
    refine mstep' D 2 12 3072 0 rfl (by decide) _ _ _ _ _ ?_ ?_ ?_ ?_
    · refine covS' D _ 2 12 3072 _ _ _ _ ?_
      refine score D 2 12 3072 _ _ _ ?_ ?_ ?_
      · exact ldK D hb.k _ _ 2 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 2 (by first | rfl | (simp [h]; done)) (by decide) (by decide)
    · exact ldM' hIm _
    · exact ldV' D hb.v _ _ 2 3072 (by first | rfl | (simp [h]; done)) (by first | rfl | (simp [h]; done)) (by decide) (by decide)
    refine step D 2 12 2560 3072 rfl _ _ _ _ _ ?_ ?_ ?_ ?_
    · refine score D 2 12 2560 _ _ _ ?_ ?_ ?_
      · exact ldK D hb.k _ _ 2 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 2 (by first | rfl | (simp [h]; done)) (by decide) (by decide)
    · refine smax D 2 12 2560 _ _ _ ?_ ?_ ?_
      · exact ldK D hb.k _ _ 2 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 2 (by first | rfl | (simp [h]; done)) (by decide) (by decide)
    · exact ldV D hb.v _ _ 2 2560 (by first | rfl | (simp [h]; done)) (by first | rfl | (simp [h]; done)) (by decide) (by decide)
    refine step D 2 12 2048 2560 rfl _ _ _ _ _ ?_ ?_ ?_ ?_
    · refine score D 2 12 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · refine smax D 2 12 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · exact ldV D hb.v _ _ 2 2048 (by first | rfl | (simp [h]; done)) (by first | rfl | (simp [h]; done)) (by decide) (by decide)
    refine step D 2 12 1536 2048 rfl _ _ _ _ _ ?_ ?_ ?_ ?_
    · refine score D 2 12 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · refine smax D 2 12 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · exact ldV D hb.v _ _ 2 1536 (by first | rfl | (simp [h]; done)) (by first | rfl | (simp [h]; done)) (by decide) (by decide)
    refine step D 2 12 1024 1536 rfl _ _ _ _ _ ?_ ?_ ?_ ?_
    · refine score D 2 12 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · refine smax D 2 12 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · exact ldV D hb.v _ _ 2 1024 (by first | rfl | (simp [h]; done)) (by first | rfl | (simp [h]; done)) (by decide) (by decide)
    refine step D 2 12 512 1024 rfl _ _ _ _ _ ?_ ?_ ?_ ?_
    · refine score D 2 12 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · refine smax D 2 12 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldV D hb.v _ _ 2 512 (by first | rfl | (simp [h]; done)) (by first | rfl | (simp [h]; done)) (by decide) (by decide)
    refine step D 2 12 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 12
  case piece2 =>
    open_payloads
    refine fin_tgt D lr (iblk m c 6 t) 1 12 _ _ _ _ j (by omega) (by omega) ?_ (ldL lr hb.l _)
    refine finCov D _ 1 12 hb.o1 _ _ _ _ _ _ ?_
    refine mstep' D 1 12 3072 0 rfl (by decide) _ _ _ _ _ ?_ ?_ ?_ ?_
    · refine covS' D _ 1 12 3072 _ _ _ _ ?_
      refine score D 1 12 3072 _ _ _ ?_ ?_ ?_
      · exact ldK D hb.k _ _ 1 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 1 (by first | rfl | (simp [h]; done)) (by decide) (by decide)
    · exact ldM' hIm _
    · exact ldV' D hb.v _ _ 1 3072 (by first | rfl | (simp [h]; done)) (by first | rfl | (simp [h]; done)) (by decide) (by decide)
    refine step D 1 12 2560 3072 rfl _ _ _ _ _ ?_ ?_ ?_ ?_
    · refine score D 1 12 2560 _ _ _ ?_ ?_ ?_
      · exact ldK D hb.k _ _ 1 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 1 (by first | rfl | (simp [h]; done)) (by decide) (by decide)
    · refine smax D 1 12 2560 _ _ _ ?_ ?_ ?_
      · exact ldK D hb.k _ _ 1 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 1 (by first | rfl | (simp [h]; done)) (by decide) (by decide)
    · exact ldV D hb.v _ _ 1 2560 (by first | rfl | (simp [h]; done)) (by first | rfl | (simp [h]; done)) (by decide) (by decide)
    refine step D 1 12 2048 2560 rfl _ _ _ _ _ ?_ ?_ ?_ ?_
    · refine score D 1 12 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · refine smax D 1 12 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · exact ldV D hb.v _ _ 1 2048 (by first | rfl | (simp [h]; done)) (by first | rfl | (simp [h]; done)) (by decide) (by decide)
    refine step D 1 12 1536 2048 rfl _ _ _ _ _ ?_ ?_ ?_ ?_
    · refine score D 1 12 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · refine smax D 1 12 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · exact ldV D hb.v _ _ 1 1536 (by first | rfl | (simp [h]; done)) (by first | rfl | (simp [h]; done)) (by decide) (by decide)
    refine step D 1 12 1024 1536 rfl _ _ _ _ _ ?_ ?_ ?_ ?_
    · refine score D 1 12 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · refine smax D 1 12 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · exact ldV D hb.v _ _ 1 1024 (by first | rfl | (simp [h]; done)) (by first | rfl | (simp [h]; done)) (by decide) (by decide)
    refine step D 1 12 512 1024 rfl _ _ _ _ _ ?_ ?_ ?_ ?_
    · refine score D 1 12 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · refine smax D 1 12 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldV D hb.v _ _ 1 512 (by first | rfl | (simp [h]; done)) (by first | rfl | (simp [h]; done)) (by decide) (by decide)
    refine step D 1 12 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 12
  case piece3 =>
    open_payloads
    refine fin_tgt D lr (iblk m c 6 t) 0 12 _ _ _ _ j (by omega) (by omega) ?_ (ldL lr hb.l _)
    refine finCov D _ 0 12 hb.o0 _ _ _ _ _ _ ?_
    refine mstep' D 0 12 3072 0 rfl (by decide) _ _ _ _ _ ?_ ?_ ?_ ?_
    · refine covS' D _ 0 12 3072 _ _ _ _ ?_
      refine score D 0 12 3072 _ _ _ ?_ ?_ ?_
      · exact ldK D hb.k _ _ 0 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 0 (by first | rfl | (simp [h]; done)) (by decide) (by decide)
    · exact ldM' hIm _
    · exact ldV' D hb.v _ _ 0 3072 (by first | rfl | (simp [h]; done)) (by first | rfl | (simp [h]; done)) (by decide) (by decide)
    refine step D 0 12 2560 3072 rfl _ _ _ _ _ ?_ ?_ ?_ ?_
    · refine score D 0 12 2560 _ _ _ ?_ ?_ ?_
      · exact ldK D hb.k _ _ 0 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 0 (by first | rfl | (simp [h]; done)) (by decide) (by decide)
    · refine smax D 0 12 2560 _ _ _ ?_ ?_ ?_
      · exact ldK D hb.k _ _ 0 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 0 (by first | rfl | (simp [h]; done)) (by decide) (by decide)
    · exact ldV D hb.v _ _ 0 2560 (by first | rfl | (simp [h]; done)) (by first | rfl | (simp [h]; done)) (by decide) (by decide)
    refine step D 0 12 2048 2560 rfl _ _ _ _ _ ?_ ?_ ?_ ?_
    · refine score D 0 12 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · refine smax D 0 12 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · exact ldV D hb.v _ _ 0 2048 (by first | rfl | (simp [h]; done)) (by first | rfl | (simp [h]; done)) (by decide) (by decide)
    refine step D 0 12 1536 2048 rfl _ _ _ _ _ ?_ ?_ ?_ ?_
    · refine score D 0 12 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · refine smax D 0 12 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · exact ldV D hb.v _ _ 0 1536 (by first | rfl | (simp [h]; done)) (by first | rfl | (simp [h]; done)) (by decide) (by decide)
    refine step D 0 12 1024 1536 rfl _ _ _ _ _ ?_ ?_ ?_ ?_
    · refine score D 0 12 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · refine smax D 0 12 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · exact ldV D hb.v _ _ 0 1024 (by first | rfl | (simp [h]; done)) (by first | rfl | (simp [h]; done)) (by decide) (by decide)
    refine step D 0 12 512 1024 rfl _ _ _ _ _ ?_ ?_ ?_ ?_
    · refine score D 0 12 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · refine smax D 0 12 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldV D hb.v _ _ 0 512 (by first | rfl | (simp [h]; done)) (by first | rfl | (simp [h]; done)) (by decide) (by decide)
    refine step D 0 12 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 12
end Cert.KernelIdeal.Val

end
-- ==== Proof.Attn.InvM.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_M (c : Dev nD) (t : Fin cfg0.N) (h : t.val % 16 = 12) (hb : Blk D lr m c t)
    (hI : InvAt D m 12 c (t.val - 1) (Nat.lt_of_le_of_lt (Nat.sub_le _ _) t.isLt)) :
    IsQX D 1 13 (outsAt0 m c t.val t.isLt).2.1 ∧ IsCX D (outsAt0 m c t.val t.isLt).2.1 := by
  obtain ⟨hIq, hIc, hIm, hIs, hIr⟩ := hI
  rw [outsAt0_M m c t (by omega) (by omega) (by omega) (by omega) (by omega) (by omega) (by omega) (by omega)]
  frame_out
  refine q2_over1 D _ _ 13 _ _ _ _ _ _ _ _ _ _ _ _ _ _ _ _ _ (rd0 _) hIc ?_ ?_ ?_ ?_ ?_ ?_ ?_ ?_
  · intro r c'
    open_payloads
    refine w0_of D 0 13 _ ?_ r c'
    exact ldQB D hb.q _ _ 0 13 (by first | rfl | (simp [h]; done)) (by first | rfl | (simp [h]; done)) (by decide) (by decide)
  · intro r c'
    open_payloads
    refine w1_of D 0 13 _ ?_ r c'
    exact ldQB D hb.q _ _ 0 13 (by first | rfl | (simp [h]; done)) (by first | rfl | (simp [h]; done)) (by decide) (by decide)
  · intro r c'
    open_payloads
    refine w0_of D 1 13 _ ?_ r c'
    exact ldQB D hb.q _ _ 1 13 (by first | rfl | (simp [h]; done)) (by first | rfl | (simp [h]; done)) (by decide) (by decide)
  · intro r c'
    open_payloads
    refine w1_of D 1 13 _ ?_ r c'
    exact ldQB D hb.q _ _ 1 13 (by first | rfl | (simp [h]; done)) (by first | rfl | (simp [h]; done)) (by decide) (by decide)
  · intro r c'
    open_payloads
    refine w0_of D 2 13 _ ?_ r c'
    exact ldQB D hb.q _ _ 2 13 (by first | rfl | (simp [h]; done)) (by first | rfl | (simp [h]; done)) (by decide) (by decide)
  · intro r c'
    open_payloads
    refine w1_of D 2 13 _ ?_ r c'
    exact ldQB D hb.q _ _ 2 13 (by first | rfl | (simp [h]; done)) (by first | rfl | (simp [h]; done)) (by decide) (by decide)
  · intro r c'
    open_payloads
    refine w0_of D 3 13 _ ?_ r c'
    exact ldQB D hb.q _ _ 3 13 (by first | rfl | (simp [h]; done)) (by first | rfl | (simp [h]; done)) (by decide) (by decide)
  · intro r c'
    open_payloads
    refine w1_of D 3 13 _ ?_ r c'
    exact ldQB D hb.q _ _ 3 13 (by first | rfl | (simp [h]; done)) (by first | rfl | (simp [h]; done)) (by decide) (by decide)

theorem s_M (c : Dev nD) (t : Fin cfg0.N) (h : t.val % 16 = 12) (hb : Blk D lr m c t)
    (hI : InvAt D m 12 c (t.val - 1) (Nat.lt_of_le_of_lt (Nat.sub_le _ _) t.isLt)) (y : S4x512x512.Idx) :
    (outsAt0 m c t.val t.isLt).2.2.2.1 y = ((S D (y 0).val 13 (y 2).val (y 1).val : ℝ) : EReal) := by
  have hq := (q_M D lr m c t h hb hI).1
  rw [outsAt0_M m c t (by omega) (by omega) (by omega) (by omega) (by omega) (by omega) (by omega) (by omega)] at hq ⊢
  frame_out at hq
  frame_out
  refine s4 D 13 _ _ _ _ _ _ _ _ _ ?_ ?_ ?_ ?_ y
  · intro a b
    open_payloads
    refine score D 3 13 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 13 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 13 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 13 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_M (c : Dev nD) (t : Fin cfg0.N) (h : t.val % 16 = 12) (hb : Blk D lr m c t)
    (hI : InvAt D m 12 c (t.val - 1) (Nat.lt_of_le_of_lt (Nat.sub_le _ _) t.isLt)) (y : S4x1x512.Idx) :
    (outsAt0 m c t.val t.isLt).2.2.2.2 y = ((Mx D (y 0).val 13 0 (y 2).val : ℝ) : EReal) := by
  have hq := (q_M D lr m c t h hb hI).1
  rw [outsAt0_M m c t (by omega) (by omega) (by omega) (by omega) (by omega) (by omega) (by omega) (by omega)] at hq ⊢
  frame_out at hq
  frame_out
  refine r4 D 13 _ _ _ _ _ _ _ _ _ ?_ ?_ ?_ ?_ y
  · intro a
    open_payloads
    refine smaxM D 3 13 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 13 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 13 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 13 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_M (c : Dev nD) (t : Fin cfg0.N) (h : t.val % 16 = 12) (hb : Blk D lr m c t)
    (hI : InvAt D m 12 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_M m c t (by omega) (by omega) (by omega) (by omega) (by omega) (by omega) (by omega) (by omega)]
  simp only [sout0_M_1]
  try simp only [rd1]

theorem inv_M (c : Dev nD) (t : Fin cfg0.N) (h : t.val % 16 = 12) (hb : Blk D lr m c t)
    (hI : InvAt D m 12 c (t.val - 1) (Nat.lt_of_le_of_lt (Nat.sub_le _ _) t.isLt)) : InvAt D m 13 c t.val t.isLt := by
  obtain ⟨h0, h1⟩ := q_M D lr m c t h hb hI
  refine ⟨h0, h1, ?_, fun a b d => s_M D lr m c t h hb hI (ix3 a b d), fun a d => ⟨_, r_M D lr m c t h hb hI (ix3 a 0 d)⟩⟩
  rw [m_M D lr m c t h hb hI]
  exact hI.m

end Cert.KernelIdeal.Val

end
-- ==== Proof.Attn.CaseN.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_N (c : Dev nD) (t : Fin cfg0.N) (h : t.val % 16 = 13) (hb : Blk D lr m c t)
    (hI : InvAt D m 13 c (t.val - 1) (Nat.lt_of_le_of_lt (Nat.sub_le _ _) t.isLt)) (j : S256x512.Idx) :
    (outsAt0 m c t.val t.isLt).1 j = tgt D lr (iblk m c 6 t) 13 j := by
  rw [outsAt0_N m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 13 _ _ _ _ j (by omega) (by omega) ?_ (ldL lr hb.l _)
    refine finCov D _ 3 13 hb.o3 _ _ _ _ _ _ ?_
    refine mstep D 3 13 3072 256 rfl (by decide) _ _ _ _ _ ?_ ?_ ?_ ?_
    · refine score D 3 13 3072 _ _ _ ?_ ?_ ?_
      · exact ldK D hb.k _ _ 3 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 3 (by first | rfl | (simp [h]; done)) (by decide) (by decide)
    · exact ldM hIm _
    · exact ldV D hb.v _ _ 3 3072 (by first | rfl | (simp [h]; done)) (by first | rfl | (simp [h]; done)) (by decide) (by decide)
    refine step D 3 13 2560 3072 rfl _ _ _ _ _ ?_ ?_ ?_ ?_
    · refine score D 3 13 2560 _ _ _ ?_ ?_ ?_
      · exact ldK D hb.k _ _ 3 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 3 (by first | rfl | (simp [h]; done)) (by decide) (by decide)
    · refine smax D 3 13 2560 _ _ _ ?_ ?_ ?_
      · exact ldK D hb.k _ _ 3 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 3 (by first | rfl | (simp [h]; done)) (by decide) (by decide)
    · exact ldV D hb.v _ _ 3 2560 (by first | rfl | (simp [h]; done)) (by first | rfl | (simp [h]; done)) (by decide) (by decide)
    refine step D 3 13 2048 2560 rfl _ _ _ _ _ ?_ ?_ ?_ ?_
    · refine score D 3 13 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · refine smax D 3 13 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · exact ldV D hb.v _ _ 3 2048 (by first | rfl | (simp [h]; done)) (by first | rfl | (simp [h]; done)) (by decide) (by decide)
    refine step D 3 13 1536 2048 rfl _ _ _ _ _ ?_ ?_ ?_ ?_
    · refine score D 3 13 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · refine smax D 3 13 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · exact ldV D hb.v _ _ 3 1536 (by first | rfl | (simp [h]; done)) (by first | rfl | (simp [h]; done)) (by decide) (by decide)
    refine step D 3 13 1024 1536 rfl _ _ _ _ _ ?_ ?_ ?_ ?_
    · refine score D 3 13 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · refine smax D 3 13 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · exact ldV D hb.v _ _ 3 1024 (by first | rfl | (simp [h]; done)) (by first | rfl | (simp [h]; done)) (by decide) (by decide)
    refine step D 3 13 512 1024 rfl _ _ _ _ _ ?_ ?_ ?_ ?_
    · refine score D 3 13 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · refine smax D 3 13 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldV D hb.v _ _ 3 512 (by first | rfl | (simp [h]; done)) (by first | rfl | (simp [h]; done)) (by decide) (by decide)
    refine step D 3 13 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 13
  case piece1 =>
    open_payloads
    refine fin_tgt D lr (iblk m c 6 t) 2 13 _ _ _ _ j (by omega) (by omega) ?_ (ldL lr hb.l _)
    refine finCov D _ 2 13 hb.o2 _ _ _ _ _ _ ?_
    refine mstep D 2 13 3072 256 rfl (by decide) _ _ _ _ _ ?_ ?_ ?_ ?_
    · refine score D 2 13 3072 _ _ _ ?_ ?_ ?_
      · exact ldK D hb.k _ _ 2 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 2 (by first | rfl | (simp [h]; done)) (by decide) (by decide)
    · exact ldM hIm _
    · exact ldV D hb.v _ _ 2 3072 (by first | rfl | (simp [h]; done)) (by first | rfl | (simp [h]; done)) (by decide) (by decide)
    refine step D 2 13 2560 3072 rfl _ _ _ _ _ ?_ ?_ ?_ ?_
    · refine score D 2 13 2560 _ _ _ ?_ ?_ ?_
      · exact ldK D hb.k _ _ 2 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 2 (by first | rfl | (simp [h]; done)) (by decide) (by decide)
    · refine smax D 2 13 2560 _ _ _ ?_ ?_ ?_
      · exact ldK D hb.k _ _ 2 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 2 (by first | rfl | (simp [h]; done)) (by decide) (by decide)
    · exact ldV D hb.v _ _ 2 2560 (by first | rfl | (simp [h]; done)) (by first | rfl | (simp [h]; done)) (by decide) (by decide)
    refine step D 2 13 2048 2560 rfl _ _ _ _ _ ?_ ?_ ?_ ?_
    · refine score D 2 13 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · refine smax D 2 13 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · exact ldV D hb.v _ _ 2 2048 (by first | rfl | (simp [h]; done)) (by first | rfl | (simp [h]; done)) (by decide) (by decide)
    refine step D 2 13 1536 2048 rfl _ _ _ _ _ ?_ ?_ ?_ ?_
    · refine score D 2 13 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · refine smax D 2 13 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · exact ldV D hb.v _ _ 2 1536 (by first | rfl | (simp [h]; done)) (by first | rfl | (simp [h]; done)) (by decide) (by decide)
    refine step D 2 13 1024 1536 rfl _ _ _ _ _ ?_ ?_ ?_ ?_
    · refine score D 2 13 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · refine smax D 2 13 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · exact ldV D hb.v _ _ 2 1024 (by first | rfl | (simp [h]; done)) (by first | rfl | (simp [h]; done)) (by decide) (by decide)
    refine step D 2 13 512 1024 rfl _ _ _ _ _ ?_ ?_ ?_ ?_
    · refine score D 2 13 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · refine smax D 2 13 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldV D hb.v _ _ 2 512 (by first | rfl | (simp [h]; done)) (by first | rfl | (simp [h]; done)) (by decide) (by decide)
    refine step D 2 13 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 13
  case piece2 =>
    open_payloads
    refine fin_tgt D lr (iblk m c 6 t) 1 13 _ _ _ _ j (by omega) (by omega) ?_ (ldL lr hb.l _)
    refine finCov D _ 1 13 hb.o1 _ _ _ _ _ _ ?_
    refine mstep D 1 13 3072 256 rfl (by decide) _ _ _ _ _ ?_ ?_ ?_ ?_
    · refine score D 1 13 3072 _ _ _ ?_ ?_ ?_
      · exact ldK D hb.k _ _ 1 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 1 (by first | rfl | (simp [h]; done)) (by decide) (by decide)
    · exact ldM hIm _
    · exact ldV D hb.v _ _ 1 3072 (by first | rfl | (simp [h]; done)) (by first | rfl | (simp [h]; done)) (by decide) (by decide)
    refine step D 1 13 2560 3072 rfl _ _ _ _ _ ?_ ?_ ?_ ?_
    · refine score D 1 13 2560 _ _ _ ?_ ?_ ?_
      · exact ldK D hb.k _ _ 1 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 1 (by first | rfl | (simp [h]; done)) (by decide) (by decide)
    · refine smax D 1 13 2560 _ _ _ ?_ ?_ ?_
      · exact ldK D hb.k _ _ 1 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 1 (by first | rfl | (simp [h]; done)) (by decide) (by decide)
    · exact ldV D hb.v _ _ 1 2560 (by first | rfl | (simp [h]; done)) (by first | rfl | (simp [h]; done)) (by decide) (by decide)
    refine step D 1 13 2048 2560 rfl _ _ _ _ _ ?_ ?_ ?_ ?_
    · refine score D 1 13 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · refine smax D 1 13 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · exact ldV D hb.v _ _ 1 2048 (by first | rfl | (simp [h]; done)) (by first | rfl | (simp [h]; done)) (by decide) (by decide)
    refine step D 1 13 1536 2048 rfl _ _ _ _ _ ?_ ?_ ?_ ?_
    · refine score D 1 13 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · refine smax D 1 13 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · exact ldV D hb.v _ _ 1 1536 (by first | rfl | (simp [h]; done)) (by first | rfl | (simp [h]; done)) (by decide) (by decide)
    refine step D 1 13 1024 1536 rfl _ _ _ _ _ ?_ ?_ ?_ ?_
    · refine score D 1 13 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · refine smax D 1 13 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · exact ldV D hb.v _ _ 1 1024 (by first | rfl | (simp [h]; done)) (by first | rfl | (simp [h]; done)) (by decide) (by decide)
    refine step D 1 13 512 1024 rfl _ _ _ _ _ ?_ ?_ ?_ ?_
    · refine score D 1 13 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · refine smax D 1 13 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldV D hb.v _ _ 1 512 (by first | rfl | (simp [h]; done)) (by first | rfl | (simp [h]; done)) (by decide) (by decide)
    refine step D 1 13 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 13
  case piece3 =>
    open_payloads
    refine fin_tgt D lr (iblk m c 6 t) 0 13 _ _ _ _ j (by omega) (by omega) ?_ (ldL lr hb.l _)
    refine finCov D _ 0 13 hb.o0 _ _ _ _ _ _ ?_
    refine mstep D 0 13 3072 256 rfl (by decide) _ _ _ _ _ ?_ ?_ ?_ ?_
    · refine score D 0 13 3072 _ _ _ ?_ ?_ ?_
      · exact ldK D hb.k _ _ 0 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 0 (by first | rfl | (simp [h]; done)) (by decide) (by decide)
    · exact ldM hIm _
    · exact ldV D hb.v _ _ 0 3072 (by first | rfl | (simp [h]; done)) (by first | rfl | (simp [h]; done)) (by decide) (by decide)
    refine step D 0 13 2560 3072 rfl _ _ _ _ _ ?_ ?_ ?_ ?_
    · refine score D 0 13 2560 _ _ _ ?_ ?_ ?_
      · exact ldK D hb.k _ _ 0 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 0 (by first | rfl | (simp [h]; done)) (by decide) (by decide)
    · refine smax D 0 13 2560 _ _ _ ?_ ?_ ?_
      · exact ldK D hb.k _ _ 0 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 0 (by first | rfl | (simp [h]; done)) (by decide) (by decide)
    · exact ldV D hb.v _ _ 0 2560 (by first | rfl | (simp [h]; done)) (by first | rfl | (simp [h]; done)) (by decide) (by decide)
    refine step D 0 13 2048 2560 rfl _ _ _ _ _ ?_ ?_ ?_ ?_
    · refine score D 0 13 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · refine smax D 0 13 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · exact ldV D hb.v _ _ 0 2048 (by first | rfl | (simp [h]; done)) (by first | rfl | (simp [h]; done)) (by decide) (by decide)
    refine step D 0 13 1536 2048 rfl _ _ _ _ _ ?_ ?_ ?_ ?_
    · refine score D 0 13 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · refine smax D 0 13 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · exact ldV D hb.v _ _ 0 1536 (by first | rfl | (simp [h]; done)) (by first | rfl | (simp [h]; done)) (by decide) (by decide)
    refine step D 0 13 1024 1536 rfl _ _ _ _ _ ?_ ?_ ?_ ?_
    · refine score D 0 13 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · refine smax D 0 13 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · exact ldV D hb.v _ _ 0 1024 (by first | rfl | (simp [h]; done)) (by first | rfl | (simp [h]; done)) (by decide) (by decide)
    refine step D 0 13 512 1024 rfl _ _ _ _ _ ?_ ?_ ?_ ?_
    · refine score D 0 13 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · refine smax D 0 13 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldV D hb.v _ _ 0 512 (by first | rfl | (simp [h]; done)) (by first | rfl | (simp [h]; done)) (by decide) (by decide)
    refine step D 0 13 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 13
end Cert.KernelIdeal.Val

end
-- ==== Proof.Attn.InvN.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_N (c : Dev nD) (t : Fin cfg0.N) (h : t.val % 16 = 13) (hb : Blk D lr m c t)
    (hI : InvAt D m 13 c (t.val - 1) (Nat.lt_of_le_of_lt (Nat.sub_le _ _) t.isLt)) :
    IsQX D 0 14 (outsAt0 m c t.val t.isLt).2.1 ∧ IsCX D (outsAt0 m c t.val t.isLt).2.1 := by
  obtain ⟨hIq, hIc, hIm, hIs, hIr⟩ := hI
  rw [outsAt0_N m c t (by omega) (by omega) (by omega) (by omega) (by omega) (by omega) (by omega) (by omega)]
  frame_out
  refine q2_over0 D _ _ 14 _ _ _ _ _ _ _ _ _ _ _ _ _ _ _ _ _ (rd0 _) hIc ?_ ?_ ?_ ?_ ?_ ?_ ?_ ?_
  · intro r c'
    open_payloads
    refine w0_of D 0 14 _ ?_ r c'
    exact ldQB D hb.q _ _ 0 14 (by first | rfl | (simp [h]; done)) (by first | rfl | (simp [h]; done)) (by decide) (by decide)
  · intro r c'
    open_payloads
    refine w1_of D 0 14 _ ?_ r c'
    exact ldQB D hb.q _ _ 0 14 (by first | rfl | (simp [h]; done)) (by first | rfl | (simp [h]; done)) (by decide) (by decide)
  · intro r c'
    open_payloads
    refine w0_of D 1 14 _ ?_ r c'
    exact ldQB D hb.q _ _ 1 14 (by first | rfl | (simp [h]; done)) (by first | rfl | (simp [h]; done)) (by decide) (by decide)
  · intro r c'
    open_payloads
    refine w1_of D 1 14 _ ?_ r c'
    exact ldQB D hb.q _ _ 1 14 (by first | rfl | (simp [h]; done)) (by first | rfl | (simp [h]; done)) (by decide) (by decide)
  · intro r c'
    open_payloads
    refine w0_of D 2 14 _ ?_ r c'
    exact ldQB D hb.q _ _ 2 14 (by first | rfl | (simp [h]; done)) (by first | rfl | (simp [h]; done)) (by decide) (by decide)
  · intro r c'
    open_payloads
    refine w1_of D 2 14 _ ?_ r c'
    exact ldQB D hb.q _ _ 2 14 (by first | rfl | (simp [h]; done)) (by first | rfl | (simp [h]; done)) (by decide) (by decide)
  · intro r c'
    open_payloads
    refine w0_of D 3 14 _ ?_ r c'
    exact ldQB D hb.q _ _ 3 14 (by first | rfl | (simp [h]; done)) (by first | rfl | (simp [h]; done)) (by decide) (by decide)
  · intro r c'
    open_payloads
    refine w1_of D 3 14 _ ?_ r c'
    exact ldQB D hb.q _ _ 3 14 (by first | rfl | (simp [h]; done)) (by first | rfl | (simp [h]; done)) (by decide) (by decide)

theorem s_N (c : Dev nD) (t : Fin cfg0.N) (h : t.val % 16 = 13) (hb : Blk D lr m c t)
    (hI : InvAt D m 13 c (t.val - 1) (Nat.lt_of_le_of_lt (Nat.sub_le _ _) t.isLt)) (y : S4x512x512.Idx) :
    (outsAt0 m c t.val t.isLt).2.2.2.1 y = ((S D (y 0).val 14 (y 2).val (y 1).val : ℝ) : EReal) := by
  have hq := (q_N D lr m c t h hb hI).1
  rw [outsAt0_N m c t (by omega) (by omega) (by omega) (by omega) (by omega) (by omega) (by omega) (by omega)] at hq ⊢
  frame_out at hq
  frame_out
  refine s4 D 14 _ _ _ _ _ _ _ _ _ ?_ ?_ ?_ ?_ y
  · intro a b
    open_payloads
    refine score D 3 14 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 14 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 14 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 14 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_N (c : Dev nD) (t : Fin cfg0.N) (h : t.val % 16 = 13) (hb : Blk D lr m c t)
    (hI : InvAt D m 13 c (t.val - 1) (Nat.lt_of_le_of_lt (Nat.sub_le _ _) t.isLt)) (y : S4x1x512.Idx) :
    (outsAt0 m c t.val t.isLt).2.2.2.2 y = ((Mx D (y 0).val 14 0 (y 2).val : ℝ) : EReal) := by
  have hq := (q_N D lr m c t h hb hI).1
  rw [outsAt0_N m c t (by omega) (by omega) (by omega) (by omega) (by omega) (by omega) (by omega) (by omega)] at hq ⊢
  frame_out at hq
  frame_out
  refine r4 D 14 _ _ _ _ _ _ _ _ _ ?_ ?_ ?_ ?_ y
  · intro a
    open_payloads
    refine smaxM D 3 14 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 14 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 14 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 14 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_N (c : Dev nD) (t : Fin cfg0.N) (h : t.val % 16 = 13) (hb : Blk D lr m c t)
    (hI : InvAt D m 13 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_N m c t (by omega) (by omega) (by omega) (by omega) (by omega) (by omega) (by omega) (by omega)]
  simp only [sout0_N_1]
  try simp only [rd1]

theorem inv_N (c : Dev nD) (t : Fin cfg0.N) (h : t.val % 16 = 13) (hb : Blk D lr m c t)
    (hI : InvAt D m 13 c (t.val - 1) (Nat.lt_of_le_of_lt (Nat.sub_le _ _) t.isLt)) : InvAt D m 14 c t.val t.isLt := by
  obtain ⟨h0, h1⟩ := q_N D lr m c t h hb hI
  refine ⟨h0, h1, ?_, fun a b d => s_N D lr m c t h hb hI (ix3 a b d), fun a d => ⟨_, r_N D lr m c t h hb hI (ix3 a 0 d)⟩⟩
  rw [m_N D lr m c t h hb hI]
  exact hI.m

end Cert.KernelIdeal.Val

end
-- ==== Proof.Attn.CaseO.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_O (c : Dev nD) (t : Fin cfg0.N) (h : t.val % 16 = 14) (hb : Blk D lr m c t)
    (hI : InvAt D m 14 c (t.val - 1) (Nat.lt_of_le_of_lt (Nat.sub_le _ _) t.isLt)) (j : S256x512.Idx) :
    (outsAt0 m c t.val t.isLt).1 j = tgt D lr (iblk m c 6 t) 14 j := by
  rw [outsAt0_O m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 14 _ _ _ _ j (by omega) (by omega) ?_ (ldL lr hb.l _)
    refine finCov D _ 3 14 hb.o3 _ _ _ _ _ _ ?_
    refine mstep' D 3 14 3584 0 rfl (by decide) _ _ _ _ _ ?_ ?_ ?_ ?_
    · refine score' D 3 14 3584 _ _ _ ?_ ?_ ?_
      · exact ldK' D hb.k _ _ 3 3584 (by first | rfl | (simp [h]; done)) (by first | rfl | (simp [h]; done)) (by decide) (by decide)
      · exact ldF' D hb.f _ _ 3584 (by first | rfl | (simp [h]; done)) (by first | rfl | (simp [h]; done)) (by decide)
      · exact ldQ' D hIq _ _ 3 (by first | rfl | (simp [h]; done)) (by decide) (by decide)
    · exact ldM' hIm _
    · exact ldV' D hb.v _ _ 3 3584 (by first | rfl | (simp [h]; done)) (by first | rfl | (simp [h]; done)) (by decide) (by decide)
    refine step D 3 14 3072 3584 rfl _ _ _ _ _ ?_ ?_ ?_ ?_
    · refine score D 3 14 3072 _ _ _ ?_ ?_ ?_
      · exact ldK D hb.k _ _ 3 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 3 (by first | rfl | (simp [h]; done)) (by decide) (by decide)
    · refine smax D 3 14 3072 _ _ _ ?_ ?_ ?_
      · exact ldK D hb.k _ _ 3 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 3 (by first | rfl | (simp [h]; done)) (by decide) (by decide)
    · exact ldV D hb.v _ _ 3 3072 (by first | rfl | (simp [h]; done)) (by first | rfl | (simp [h]; done)) (by decide) (by decide)
    refine step D 3 14 2560 3072 rfl _ _ _ _ _ ?_ ?_ ?_ ?_
    · refine score D 3 14 2560 _ _ _ ?_ ?_ ?_
      · exact ldK D hb.k _ _ 3 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 3 (by first | rfl | (simp [h]; done)) (by decide) (by decide)
    · refine smax D 3 14 2560 _ _ _ ?_ ?_ ?_
      · exact ldK D hb.k _ _ 3 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 3 (by first | rfl | (simp [h]; done)) (by decide) (by decide)
    · exact ldV D hb.v _ _ 3 2560 (by first | rfl | (simp [h]; done)) (by first | rfl | (simp [h]; done)) (by decide) (by decide)
    refine step D 3 14 2048 2560 rfl _ _ _ _ _ ?_ ?_ ?_ ?_
    · refine score D 3 14 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · refine smax D 3 14 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · exact ldV D hb.v _ _ 3 2048 (by first | rfl | (simp [h]; done)) (by first | rfl | (simp [h]; done)) (by decide) (by decide)
    refine step D 3 14 1536 2048 rfl _ _ _ _ _ ?_ ?_ ?_ ?_
    · refine score D 3 14 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · refine smax D 3 14 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · exact ldV D hb.v _ _ 3 1536 (by first | rfl | (simp [h]; done)) (by first | rfl | (simp [h]; done)) (by decide) (by decide)
    refine step D 3 14 1024 1536 rfl _ _ _ _ _ ?_ ?_ ?_ ?_
    · refine score D 3 14 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · refine smax D 3 14 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · exact ldV D hb.v _ _ 3 1024 (by first | rfl | (simp [h]; done)) (by first | rfl | (simp [h]; done)) (by decide) (by decide)
    refine step D 3 14 512 1024 rfl _ _ _ _ _ ?_ ?_ ?_ ?_
    · refine score D 3 14 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · refine smax D 3 14 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldV D hb.v _ _ 3 512 (by first | rfl | (simp [h]; done)) (by first | rfl | (simp [h]; done)) (by decide) (by decide)
    refine step D 3 14 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 14
  case piece1 =>
    open_payloads
    refine fin_tgt D lr (iblk m c 6 t) 2 14 _ _ _ _ j (by omega) (by omega) ?_ (ldL lr hb.l _)
    refine finCov D _ 2 14 hb.o2 _ _ _ _ _ _ ?_
    refine mstep' D 2 14 3584 0 rfl (by decide) _ _ _ _ _ ?_ ?_ ?_ ?_
    · refine score' D 2 14 3584 _ _ _ ?_ ?_ ?_
      · exact ldK' D hb.k _ _ 2 3584 (by first | rfl | (simp [h]; done)) (by first | rfl | (simp [h]; done)) (by decide) (by decide)
      · exact ldF' D hb.f _ _ 3584 (by first | rfl | (simp [h]; done)) (by first | rfl | (simp [h]; done)) (by decide)
      · exact ldQ' D hIq _ _ 2 (by first | rfl | (simp [h]; done)) (by decide) (by decide)
    · exact ldM' hIm _
    · exact ldV' D hb.v _ _ 2 3584 (by first | rfl | (simp [h]; done)) (by first | rfl | (simp [h]; done)) (by decide) (by decide)
    refine step D 2 14 3072 3584 rfl _ _ _ _ _ ?_ ?_ ?_ ?_
    · refine score D 2 14 3072 _ _ _ ?_ ?_ ?_
      · exact ldK D hb.k _ _ 2 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 2 (by first | rfl | (simp [h]; done)) (by decide) (by decide)
    · refine smax D 2 14 3072 _ _ _ ?_ ?_ ?_
      · exact ldK D hb.k _ _ 2 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 2 (by first | rfl | (simp [h]; done)) (by decide) (by decide)
    · exact ldV D hb.v _ _ 2 3072 (by first | rfl | (simp [h]; done)) (by first | rfl | (simp [h]; done)) (by decide) (by decide)
    refine step D 2 14 2560 3072 rfl _ _ _ _ _ ?_ ?_ ?_ ?_
    · refine score D 2 14 2560 _ _ _ ?_ ?_ ?_
      · exact ldK D hb.k _ _ 2 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 2 (by first | rfl | (simp [h]; done)) (by decide) (by decide)
    · refine smax D 2 14 2560 _ _ _ ?_ ?_ ?_
      · exact ldK D hb.k _ _ 2 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 2 (by first | rfl | (simp [h]; done)) (by decide) (by decide)
    · exact ldV D hb.v _ _ 2 2560 (by first | rfl | (simp [h]; done)) (by first | rfl | (simp [h]; done)) (by decide) (by decide)
    refine step D 2 14 2048 2560 rfl _ _ _ _ _ ?_ ?_ ?_ ?_
    · refine score D 2 14 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · refine smax D 2 14 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · exact ldV D hb.v _ _ 2 2048 (by first | rfl | (simp [h]; done)) (by first | rfl | (simp [h]; done)) (by decide) (by decide)
    refine step D 2 14 1536 2048 rfl _ _ _ _ _ ?_ ?_ ?_ ?_
    · refine score D 2 14 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · refine smax D 2 14 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · exact ldV D hb.v _ _ 2 1536 (by first | rfl | (simp [h]; done)) (by first | rfl | (simp [h]; done)) (by decide) (by decide)
    refine step D 2 14 1024 1536 rfl _ _ _ _ _ ?_ ?_ ?_ ?_
    · refine score D 2 14 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · refine smax D 2 14 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · exact ldV D hb.v _ _ 2 1024 (by first | rfl | (simp [h]; done)) (by first | rfl | (simp [h]; done)) (by decide) (by decide)
    refine step D 2 14 512 1024 rfl _ _ _ _ _ ?_ ?_ ?_ ?_
    · refine score D 2 14 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · refine smax D 2 14 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldV D hb.v _ _ 2 512 (by first | rfl | (simp [h]; done)) (by first | rfl | (simp [h]; done)) (by decide) (by decide)
    refine step D 2 14 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 14
  case piece2 =>
    open_payloads
    refine fin_tgt D lr (iblk m c 6 t) 1 14 _ _ _ _ j (by omega) (by omega) ?_ (ldL lr hb.l _)
    refine finCov D _ 1 14 hb.o1 _ _ _ _ _ _ ?_
    refine mstep' D 1 14 3584 0 rfl (by decide) _ _ _ _ _ ?_ ?_ ?_ ?_
    · refine score' D 1 14 3584 _ _ _ ?_ ?_ ?_
      · exact ldK' D hb.k _ _ 1 3584 (by first | rfl | (simp [h]; done)) (by first | rfl | (simp [h]; done)) (by decide) (by decide)
      · exact ldF' D hb.f _ _ 3584 (by first | rfl | (simp [h]; done)) (by first | rfl | (simp [h]; done)) (by decide)
      · exact ldQ' D hIq _ _ 1 (by first | rfl | (simp [h]; done)) (by decide) (by decide)
    · exact ldM' hIm _
    · exact ldV' D hb.v _ _ 1 3584 (by first | rfl | (simp [h]; done)) (by first | rfl | (simp [h]; done)) (by decide) (by decide)
    refine step D 1 14 3072 3584 rfl _ _ _ _ _ ?_ ?_ ?_ ?_
    · refine score D 1 14 3072 _ _ _ ?_ ?_ ?_
      · exact ldK D hb.k _ _ 1 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 1 (by first | rfl | (simp [h]; done)) (by decide) (by decide)
    · refine smax D 1 14 3072 _ _ _ ?_ ?_ ?_
      · exact ldK D hb.k _ _ 1 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 1 (by first | rfl | (simp [h]; done)) (by decide) (by decide)
    · exact ldV D hb.v _ _ 1 3072 (by first | rfl | (simp [h]; done)) (by first | rfl | (simp [h]; done)) (by decide) (by decide)
    refine step D 1 14 2560 3072 rfl _ _ _ _ _ ?_ ?_ ?_ ?_
    · refine score D 1 14 2560 _ _ _ ?_ ?_ ?_
      · exact ldK D hb.k _ _ 1 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 1 (by first | rfl | (simp [h]; done)) (by decide) (by decide)
    · refine smax D 1 14 2560 _ _ _ ?_ ?_ ?_
      · exact ldK D hb.k _ _ 1 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 1 (by first | rfl | (simp [h]; done)) (by decide) (by decide)
    · exact ldV D hb.v _ _ 1 2560 (by first | rfl | (simp [h]; done)) (by first | rfl | (simp [h]; done)) (by decide) (by decide)
    refine step D 1 14 2048 2560 rfl _ _ _ _ _ ?_ ?_ ?_ ?_
    · refine score D 1 14 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · refine smax D 1 14 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · exact ldV D hb.v _ _ 1 2048 (by first | rfl | (simp [h]; done)) (by first | rfl | (simp [h]; done)) (by decide) (by decide)
    refine step D 1 14 1536 2048 rfl _ _ _ _ _ ?_ ?_ ?_ ?_
    · refine score D 1 14 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · refine smax D 1 14 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · exact ldV D hb.v _ _ 1 1536 (by first | rfl | (simp [h]; done)) (by first | rfl | (simp [h]; done)) (by decide) (by decide)
    refine step D 1 14 1024 1536 rfl _ _ _ _ _ ?_ ?_ ?_ ?_
    · refine score D 1 14 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · refine smax D 1 14 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · exact ldV D hb.v _ _ 1 1024 (by first | rfl | (simp [h]; done)) (by first | rfl | (simp [h]; done)) (by decide) (by decide)
    refine step D 1 14 512 1024 rfl _ _ _ _ _ ?_ ?_ ?_ ?_
    · refine score D 1 14 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · refine smax D 1 14 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldV D hb.v _ _ 1 512 (by first | rfl | (simp [h]; done)) (by first | rfl | (simp [h]; done)) (by decide) (by decide)
    refine step D 1 14 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 14
  case piece3 =>
    open_payloads
    refine fin_tgt D lr (iblk m c 6 t) 0 14 _ _ _ _ j (by omega) (by omega) ?_ (ldL lr hb.l _)
    refine finCov D _ 0 14 hb.o0 _ _ _ _ _ _ ?_
    refine mstep' D 0 14 3584 0 rfl (by decide) _ _ _ _ _ ?_ ?_ ?_ ?_
    · refine score' D 0 14 3584 _ _ _ ?_ ?_ ?_
      · exact ldK' D hb.k _ _ 0 3584 (by first | rfl | (simp [h]; done)) (by first | rfl | (simp [h]; done)) (by decide) (by decide)
      · exact ldF' D hb.f _ _ 3584 (by first | rfl | (simp [h]; done)) (by first | rfl | (simp [h]; done)) (by decide)
      · exact ldQ' D hIq _ _ 0 (by first | rfl | (simp [h]; done)) (by decide) (by decide)
    · exact ldM' hIm _
    · exact ldV' D hb.v _ _ 0 3584 (by first | rfl | (simp [h]; done)) (by first | rfl | (simp [h]; done)) (by decide) (by decide)
    refine step D 0 14 3072 3584 rfl _ _ _ _ _ ?_ ?_ ?_ ?_
    · refine score D 0 14 3072 _ _ _ ?_ ?_ ?_
      · exact ldK D hb.k _ _ 0 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 0 (by first | rfl | (simp [h]; done)) (by decide) (by decide)
    · refine smax D 0 14 3072 _ _ _ ?_ ?_ ?_
      · exact ldK D hb.k _ _ 0 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 0 (by first | rfl | (simp [h]; done)) (by decide) (by decide)
    · exact ldV D hb.v _ _ 0 3072 (by first | rfl | (simp [h]; done)) (by first | rfl | (simp [h]; done)) (by decide) (by decide)
    refine step D 0 14 2560 3072 rfl _ _ _ _ _ ?_ ?_ ?_ ?_
    · refine score D 0 14 2560 _ _ _ ?_ ?_ ?_
      · exact ldK D hb.k _ _ 0 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 0 (by first | rfl | (simp [h]; done)) (by decide) (by decide)
    · refine smax D 0 14 2560 _ _ _ ?_ ?_ ?_
      · exact ldK D hb.k _ _ 0 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 0 (by first | rfl | (simp [h]; done)) (by decide) (by decide)
    · exact ldV D hb.v _ _ 0 2560 (by first | rfl | (simp [h]; done)) (by first | rfl | (simp [h]; done)) (by decide) (by decide)
    refine step D 0 14 2048 2560 rfl _ _ _ _ _ ?_ ?_ ?_ ?_
    · refine score D 0 14 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · refine smax D 0 14 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · exact ldV D hb.v _ _ 0 2048 (by first | rfl | (simp [h]; done)) (by first | rfl | (simp [h]; done)) (by decide) (by decide)
    refine step D 0 14 1536 2048 rfl _ _ _ _ _ ?_ ?_ ?_ ?_
    · refine score D 0 14 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · refine smax D 0 14 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · exact ldV D hb.v _ _ 0 1536 (by first | rfl | (simp [h]; done)) (by first | rfl | (simp [h]; done)) (by decide) (by decide)
    refine step D 0 14 1024 1536 rfl _ _ _ _ _ ?_ ?_ ?_ ?_
    · refine score D 0 14 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · refine smax D 0 14 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · exact ldV D hb.v _ _ 0 1024 (by first | rfl | (simp [h]; done)) (by first | rfl | (simp [h]; done)) (by decide) (by decide)
    refine step D 0 14 512 1024 rfl _ _ _ _ _ ?_ ?_ ?_ ?_
    · refine score D 0 14 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · refine smax D 0 14 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldV D hb.v _ _ 0 512 (by first | rfl | (simp [h]; done)) (by first | rfl | (simp [h]; done)) (by decide) (by decide)
    refine step D 0 14 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 14
end Cert.KernelIdeal.Val

end
-- ==== Proof.Attn.InvO.lean ====
module

public import proofs.«01_k».proof.Proof.Attn.Store

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem q_O (c : Dev nD) (t : Fin cfg0.N) (h : t.val % 16 = 14) (hb : Blk D lr m c t)
    (hI : InvAt D m 14 c (t.val - 1) (Nat.lt_of_le_of_lt (Nat.sub_le _ _) t.isLt)) :
    IsQX D 1 15 (outsAt0 m c t.val t.isLt).2.1 ∧ IsCX D (outsAt0 m c t.val t.isLt).2.1 := by
  obtain ⟨hIq, hIc, hIm, hIs, hIr⟩ := hI
  rw [outsAt0_O m c t (by omega) (by omega) (by omega) (by omega) (by omega) (by omega) (by omega) (by omega)]
  frame_out
  refine q2_over1 D _ _ 15 _ _ _ _ _ _ _ _ _ _ _ _ _ _ _ _ _ (rd0 _) hIc ?_ ?_ ?_ ?_ ?_ ?_ ?_ ?_
  · intro r c'
    open_payloads
    refine w0_of D 0 15 _ ?_ r c'
    exact ldQB D hb.q _ _ 0 15 (by first | rfl | (simp [h]; done)) (by first | rfl | (simp [h]; done)) (by decide) (by decide)
  · intro r c'
    open_payloads
    refine w1_of D 0 15 _ ?_ r c'
    exact ldQB D hb.q _ _ 0 15 (by first | rfl | (simp [h]; done)) (by first | rfl | (simp [h]; done)) (by decide) (by decide)
  · intro r c'
    open_payloads
    refine w0_of D 1 15 _ ?_ r c'
    exact ldQB D hb.q _ _ 1 15 (by first | rfl | (simp [h]; done)) (by first | rfl | (simp [h]; done)) (by decide) (by decide)
  · intro r c'
    open_payloads
    refine w1_of D 1 15 _ ?_ r c'
    exact ldQB D hb.q _ _ 1 15 (by first | rfl | (simp [h]; done)) (by first | rfl | (simp [h]; done)) (by decide) (by decide)
  · intro r c'
    open_payloads
    refine w0_of D 2 15 _ ?_ r c'
    exact ldQB D hb.q _ _ 2 15 (by first | rfl | (simp [h]; done)) (by first | rfl | (simp [h]; done)) (by decide) (by decide)
  · intro r c'
    open_payloads
    refine w1_of D 2 15 _ ?_ r c'
    exact ldQB D hb.q _ _ 2 15 (by first | rfl | (simp [h]; done)) (by first | rfl | (simp [h]; done)) (by decide) (by decide)
  · intro r c'
    open_payloads
    refine w0_of D 3 15 _ ?_ r c'
    exact ldQB D hb.q _ _ 3 15 (by first | rfl | (simp [h]; done)) (by first | rfl | (simp [h]; done)) (by decide) (by decide)
  · intro r c'
    open_payloads
    refine w1_of D 3 15 _ ?_ r c'
    exact ldQB D hb.q _ _ 3 15 (by first | rfl | (simp [h]; done)) (by first | rfl | (simp [h]; done)) (by decide) (by decide)

theorem s_O (c : Dev nD) (t : Fin cfg0.N) (h : t.val % 16 = 14) (hb : Blk D lr m c t)
    (hI : InvAt D m 14 c (t.val - 1) (Nat.lt_of_le_of_lt (Nat.sub_le _ _) t.isLt)) (y : S4x512x512.Idx) :
    (outsAt0 m c t.val t.isLt).2.2.2.1 y = ((S D (y 0).val 15 (y 2).val (y 1).val : ℝ) : EReal) := by
  have hq := (q_O D lr m c t h hb hI).1
  rw [outsAt0_O m c t (by omega) (by omega) (by omega) (by omega) (by omega) (by omega) (by omega) (by omega)] at hq ⊢
  frame_out at hq
  frame_out
  refine s4 D 15 _ _ _ _ _ _ _ _ _ ?_ ?_ ?_ ?_ y
  · intro a b
    open_payloads
    refine score D 3 15 0 _ _ _ ?_ ?_ ?_ a b
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a b
    open_payloads
    refine score D 2 15 0 _ _ _ ?_ ?_ ?_ a b
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a b
    open_payloads
    refine score D 1 15 0 _ _ _ ?_ ?_ ?_ a b
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a b
    open_payloads
    refine score D 0 15 0 _ _ _ ?_ ?_ ?_ a b
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem r_O (c : Dev nD) (t : Fin cfg0.N) (h : t.val % 16 = 14) (hb : Blk D lr m c t)
    (hI : InvAt D m 14 c (t.val - 1) (Nat.lt_of_le_of_lt (Nat.sub_le _ _) t.isLt)) (y : S4x1x512.Idx) :
    (outsAt0 m c t.val t.isLt).2.2.2.2 y = ((Mx D (y 0).val 15 0 (y 2).val : ℝ) : EReal) := by
  have hq := (q_O D lr m c t h hb hI).1
  rw [outsAt0_O m c t (by omega) (by omega) (by omega) (by omega) (by omega) (by omega) (by omega) (by omega)] at hq ⊢
  frame_out at hq
  frame_out
  refine r4 D 15 _ _ _ _ _ _ _ _ _ ?_ ?_ ?_ ?_ y
  · intro a
    open_payloads
    refine smaxM D 3 15 0 _ _ _ ?_ ?_ ?_ a
    · exact ldK D hb.k _ _ 3 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 3 (by first | rfl | (simp [h]; done)) (by decide) (by decide)
  · intro a
    open_payloads
    refine smaxM D 2 15 0 _ _ _ ?_ ?_ ?_ a
    · exact ldK D hb.k _ _ 2 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 2 (by first | rfl | (simp [h]; done)) (by decide) (by decide)
  · intro a
    open_payloads
    refine smaxM D 1 15 0 _ _ _ ?_ ?_ ?_ a
    · exact ldK D hb.k _ _ 1 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 1 (by first | rfl | (simp [h]; done)) (by decide) (by decide)
  · intro a
    open_payloads
    refine smaxM D 0 15 0 _ _ _ ?_ ?_ ?_ a
    · exact ldK D hb.k _ _ 0 0 (by first | rfl | (simp [h]; done)) (by first | rfl | (simp [h]; done)) (by decide) (by decide)
    · exact ldF D hb.f _ _ 0 (by first | rfl | (simp [h]; done)) (by first | rfl | (simp [h]; done)) (by decide)
    · exact ldQ' D hq _ _ 0 (by first | rfl | (simp [h]; done)) (by decide) (by decide)

theorem m_O (c : Dev nD) (t : Fin cfg0.N) (h : t.val % 16 = 14) (hb : Blk D lr m c t)
    (hI : InvAt D m 14 c (t.val - 1) (Nat.lt_of_le_of_lt (Nat.sub_le _ _) t.isLt)) :
    (outsAt0 m c t.val t.isLt).2.2.1 = (outsAt0 m c (t.val - 1) (Nat.lt_of_le_of_lt (Nat.sub_le _ _) t.isLt)).2.2.1 := by
  rw [outsAt0_O m c t (by omega) (by omega) (by omega) (by omega) (by omega) (by omega) (by omega) (by omega)]
  simp only [sout0_O_1]
  try simp only [rd1]

theorem inv_O (c : Dev nD) (t : Fin cfg0.N) (h : t.val % 16 = 14) (hb : Blk D lr m c t)
    (hI : InvAt D m 14 c (t.val - 1) (Nat.lt_of_le_of_lt (Nat.sub_le _ _) t.isLt)) : InvAt D m 15 c t.val t.isLt := by
  obtain ⟨h0, h1⟩ := q_O D lr m c t h hb hI
  refine ⟨h0, h1, ?_, fun a b d => s_O D lr m c t h hb hI (ix3 a b d), fun a d => ⟨_, r_O D lr m c t h hb hI (ix3 a 0 d)⟩⟩
  rw [m_O D lr m c t h hb hI]
  exact hI.m

end Cert.KernelIdeal.Val

end
-- ==== Proof.Attn.CaseP.lean ====
module

public import proofs.«01_k».proof.Proof.Attn.Offs

@[expose] public section

set_option maxRecDepth 16384
set_option maxHeartbeats 1000000

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

theorem out_P (c : Dev nD) (t : Fin cfg0.N) (h : t.val % 16 = 15) (hb : Blk D lr m c t)
    (hI : InvAt D m 15 c (t.val - 1) (Nat.lt_of_le_of_lt (Nat.sub_le _ _) t.isLt)) (j : S256x512.Idx) :
    (outsAt0 m c t.val t.isLt).1 j = tgt D lr (iblk m c 6 t) 15 j := by
  rw [outsAt0_P m c t (by omega) (by omega) (by omega) (by omega) (by omega) (by omega) (by omega) (by omega)]
  frame_out
  unfold InvAt at hI
  obtain ⟨hIq, hIc, hIm, hIs, hIr⟩ := hI
  simp only [rd0, rd1, rd2, rd4, View.readCov_cons_toLoadRect, cov_skip_S4x144x512, cov_skip_S4x1x512, cov_skip_S4x512x512, Matrix.cons_val_zero, Nat.reduceAdd, Nat.reduceLeDiff, true_or, or_true]
  canon_tiles x hx
  case piece0 =>
    open_payloads
    refine fin_tgt D lr (iblk m c 6 t) 3 15 _ _ _ _ j (by omega) (by omega) ?_ (ldL lr hb.l _)
    refine finCov D _ 3 15 hb.o3 _ _ _ _ _ _ ?_
    refine mstep D 3 15 3584 256 rfl (by decide) _ _ _ _ _ ?_ ?_ ?_ ?_
    · refine score D 3 15 3584 _ _ _ ?_ ?_ ?_
      · exact ldK D hb.k _ _ 3 3584 (by first | rfl | (simp [h]; done)) (by first | rfl | (simp [h]; done)) (by decide) (by decide)
      · exact ldF D hb.f _ _ 3584 (by first | rfl | (simp [h]; done)) (by first | rfl | (simp [h]; done)) (by decide)
      · exact ldQ' D hIq _ _ 3 (by first | rfl | (simp [h]; done)) (by decide) (by decide)
    · exact ldM hIm _
    · exact ldV D hb.v _ _ 3 3584 (by first | rfl | (simp [h]; done)) (by first | rfl | (simp [h]; done)) (by decide) (by decide)
    refine step D 3 15 3072 3584 rfl _ _ _ _ _ ?_ ?_ ?_ ?_
    · refine score D 3 15 3072 _ _ _ ?_ ?_ ?_
      · exact ldK D hb.k _ _ 3 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 3 (by first | rfl | (simp [h]; done)) (by decide) (by decide)
    · refine smax D 3 15 3072 _ _ _ ?_ ?_ ?_
      · exact ldK D hb.k _ _ 3 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 3 (by first | rfl | (simp [h]; done)) (by decide) (by decide)
    · exact ldV D hb.v _ _ 3 3072 (by first | rfl | (simp [h]; done)) (by first | rfl | (simp [h]; done)) (by decide) (by decide)
    refine step D 3 15 2560 3072 rfl _ _ _ _ _ ?_ ?_ ?_ ?_
    · refine score D 3 15 2560 _ _ _ ?_ ?_ ?_
      · exact ldK D hb.k _ _ 3 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 3 (by first | rfl | (simp [h]; done)) (by decide) (by decide)
    · refine smax D 3 15 2560 _ _ _ ?_ ?_ ?_
      · exact ldK D hb.k _ _ 3 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 3 (by first | rfl | (simp [h]; done)) (by decide) (by decide)
    · exact ldV D hb.v _ _ 3 2560 (by first | rfl | (simp [h]; done)) (by first | rfl | (simp [h]; done)) (by decide) (by decide)
    refine step D 3 15 2048 2560 rfl _ _ _ _ _ ?_ ?_ ?_ ?_
    · refine score D 3 15 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · refine smax D 3 15 2048 _ _ _ ?_ ?_ ?_
      · exact ldK D hb.k _ _ 3 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 3 (by first | rfl | (simp [h]; done)) (by decide) (by decide)
    · exact ldV D hb.v _ _ 3 2048 (by first | rfl | (simp [h]; done)) (by first | rfl | (simp [h]; done)) (by decide) (by decide)
    refine step D 3 15 1536 2048 rfl _ _ _ _ _ ?_ ?_ ?_ ?_
    · refine score D 3 15 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · refine smax D 3 15 1536 _ _ _ ?_ ?_ ?_
      · exact ldK D hb.k _ _ 3 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 3 (by first | rfl | (simp [h]; done)) (by decide) (by decide)
    · exact ldV D hb.v _ _ 3 1536 (by first | rfl | (simp [h]; done)) (by first | rfl | (simp [h]; done)) (by decide) (by decide)
    refine step D 3 15 1024 1536 rfl _ _ _ _ _ ?_ ?_ ?_ ?_
    · refine score D 3 15 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · refine smax D 3 15 1024 _ _ _ ?_ ?_ ?_
      · exact ldK D hb.k _ _ 3 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 3 (by first | rfl | (simp [h]; done)) (by decide) (by decide)
    · exact ldV D hb.v _ _ 3 1024 (by first | rfl | (simp [h]; done)) (by first | rfl | (simp [h]; done)) (by decide) (by decide)
    refine step D 3 15 512 1024 rfl _ _ _ _ _ ?_ ?_ ?_ ?_
    · refine score D 3 15 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · refine smax D 3 15 512 _ _ _ ?_ ?_ ?_
      · exact ldK D hb.k _ _ 3 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 3 (by first | rfl | (simp [h]; done)) (by decide) (by decide)
    · exact ldV D hb.v _ _ 3 512 (by first | rfl | (simp [h]; done)) (by first | rfl | (simp [h]; done)) (by decide) (by decide)
    refine step D 3 15 0 512 rfl _ _ _ _ _ ?_ ?_ ?_ ?_
    · exact ldS D hIs 3 _ (by decide)
    · exact ldR hIr 3 _ (by decide)
    · exact ldV D hb.v _ _ 3 0 (by first | rfl | (simp [h]; done)) (by first | rfl | (simp [h]; done)) (by decide) (by decide)
    exact start D 3 15
  case piece1 =>
    open_payloads
    refine fin_tgt D lr (iblk m c 6 t) 2 15 _ _ _ _ j (by omega) (by omega) ?_ (ldL lr hb.l _)
    refine finCov D _ 2 15 hb.o2 _ _ _ _ _ _ ?_
    refine mstep D 2 15 3584 256 rfl (by decide) _ _ _ _ _ ?_ ?_ ?_ ?_
    · refine score D 2 15 3584 _ _ _ ?_ ?_ ?_
      · exact ldK D hb.k _ _ 2 3584 (by first | rfl | (simp [h]; done)) (by first | rfl | (simp [h]; done)) (by decide) (by decide)
      · exact ldF D hb.f _ _ 3584 (by first | rfl | (simp [h]; done)) (by first | rfl | (simp [h]; done)) (by decide)
      · exact ldQ' D hIq _ _ 2 (by first | rfl | (simp [h]; done)) (by decide) (by decide)
    · exact ldM hIm _
    · exact ldV D hb.v _ _ 2 3584 (by first | rfl | (simp [h]; done)) (by first | rfl | (simp [h]; done)) (by decide) (by decide)
    refine step D 2 15 3072 3584 rfl _ _ _ _ _ ?_ ?_ ?_ ?_
    · refine score D 2 15 3072 _ _ _ ?_ ?_ ?_
      · exact ldK D hb.k _ _ 2 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 2 (by first | rfl | (simp [h]; done)) (by decide) (by decide)
    · refine smax D 2 15 3072 _ _ _ ?_ ?_ ?_
      · exact ldK D hb.k _ _ 2 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 2 (by first | rfl | (simp [h]; done)) (by decide) (by decide)
    · exact ldV D hb.v _ _ 2 3072 (by first | rfl | (simp [h]; done)) (by first | rfl | (simp [h]; done)) (by decide) (by decide)
    refine step D 2 15 2560 3072 rfl _ _ _ _ _ ?_ ?_ ?_ ?_
    · refine score D 2 15 2560 _ _ _ ?_ ?_ ?_
      · exact ldK D hb.k _ _ 2 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 2 (by first | rfl | (simp [h]; done)) (by decide) (by decide)
    · refine smax D 2 15 2560 _ _ _ ?_ ?_ ?_
      · exact ldK D hb.k _ _ 2 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 2 (by first | rfl | (simp [h]; done)) (by decide) (by decide)
    · exact ldV D hb.v _ _ 2 2560 (by first | rfl | (simp [h]; done)) (by first | rfl | (simp [h]; done)) (by decide) (by decide)
    refine step D 2 15 2048 2560 rfl _ _ _ _ _ ?_ ?_ ?_ ?_
    · refine score D 2 15 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · refine smax D 2 15 2048 _ _ _ ?_ ?_ ?_
      · exact ldK D hb.k _ _ 2 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 2 (by first | rfl | (simp [h]; done)) (by decide) (by decide)
    · exact ldV D hb.v _ _ 2 2048 (by first | rfl | (simp [h]; done)) (by first | rfl | (simp [h]; done)) (by decide) (by decide)
    refine step D 2 15 1536 2048 rfl _ _ _ _ _ ?_ ?_ ?_ ?_
    · refine score D 2 15 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · refine smax D 2 15 1536 _ _ _ ?_ ?_ ?_
      · exact ldK D hb.k _ _ 2 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 2 (by first | rfl | (simp [h]; done)) (by decide) (by decide)
    · exact ldV D hb.v _ _ 2 1536 (by first | rfl | (simp [h]; done)) (by first | rfl | (simp [h]; done)) (by decide) (by decide)
    refine step D 2 15 1024 1536 rfl _ _ _ _ _ ?_ ?_ ?_ ?_
    · refine score D 2 15 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · refine smax D 2 15 1024 _ _ _ ?_ ?_ ?_
      · exact ldK D hb.k _ _ 2 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 2 (by first | rfl | (simp [h]; done)) (by decide) (by decide)
    · exact ldV D hb.v _ _ 2 1024 (by first | rfl | (simp [h]; done)) (by first | rfl | (simp [h]; done)) (by decide) (by decide)
    refine step D 2 15 512 1024 rfl _ _ _ _ _ ?_ ?_ ?_ ?_
    · refine score D 2 15 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · refine smax D 2 15 512 _ _ _ ?_ ?_ ?_
      · exact ldK D hb.k _ _ 2 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 2 (by first | rfl | (simp [h]; done)) (by decide) (by decide)
    · exact ldV D hb.v _ _ 2 512 (by first | rfl | (simp [h]; done)) (by first | rfl | (simp [h]; done)) (by decide) (by decide)
    refine step D 2 15 0 512 rfl _ _ _ _ _ ?_ ?_ ?_ ?_
    · exact ldS D hIs 2 _ (by decide)
    · exact ldR hIr 2 _ (by decide)
    · exact ldV D hb.v _ _ 2 0 (by first | rfl | (simp [h]; done)) (by first | rfl | (simp [h]; done)) (by decide) (by decide)
    exact start D 2 15
  case piece2 =>
    open_payloads
    refine fin_tgt D lr (iblk m c 6 t) 1 15 _ _ _ _ j (by omega) (by omega) ?_ (ldL lr hb.l _)
    refine finCov D _ 1 15 hb.o1 _ _ _ _ _ _ ?_
    refine mstep D 1 15 3584 256 rfl (by decide) _ _ _ _ _ ?_ ?_ ?_ ?_
    · refine score D 1 15 3584 _ _ _ ?_ ?_ ?_
      · exact ldK D hb.k _ _ 1 3584 (by first | rfl | (simp [h]; done)) (by first | rfl | (simp [h]; done)) (by decide) (by decide)
      · exact ldF D hb.f _ _ 3584 (by first | rfl | (simp [h]; done)) (by first | rfl | (simp [h]; done)) (by decide)
      · exact ldQ' D hIq _ _ 1 (by first | rfl | (simp [h]; done)) (by decide) (by decide)
    · exact ldM hIm _
    · exact ldV D hb.v _ _ 1 3584 (by first | rfl | (simp [h]; done)) (by first | rfl | (simp [h]; done)) (by decide) (by decide)
    refine step D 1 15 3072 3584 rfl _ _ _ _ _ ?_ ?_ ?_ ?_
    · refine score D 1 15 3072 _ _ _ ?_ ?_ ?_
      · exact ldK D hb.k _ _ 1 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 1 (by first | rfl | (simp [h]; done)) (by decide) (by decide)
    · refine smax D 1 15 3072 _ _ _ ?_ ?_ ?_
      · exact ldK D hb.k _ _ 1 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 1 (by first | rfl | (simp [h]; done)) (by decide) (by decide)
    · exact ldV D hb.v _ _ 1 3072 (by first | rfl | (simp [h]; done)) (by first | rfl | (simp [h]; done)) (by decide) (by decide)
    refine step D 1 15 2560 3072 rfl _ _ _ _ _ ?_ ?_ ?_ ?_
    · refine score D 1 15 2560 _ _ _ ?_ ?_ ?_
      · exact ldK D hb.k _ _ 1 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 1 (by first | rfl | (simp [h]; done)) (by decide) (by decide)
    · refine smax D 1 15 2560 _ _ _ ?_ ?_ ?_
      · exact ldK D hb.k _ _ 1 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 1 (by first | rfl | (simp [h]; done)) (by decide) (by decide)
    · exact ldV D hb.v _ _ 1 2560 (by first | rfl | (simp [h]; done)) (by first | rfl | (simp [h]; done)) (by decide) (by decide)
    refine step D 1 15 2048 2560 rfl _ _ _ _ _ ?_ ?_ ?_ ?_
    · refine score D 1 15 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · refine smax D 1 15 2048 _ _ _ ?_ ?_ ?_
      · exact ldK D hb.k _ _ 1 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 1 (by first | rfl | (simp [h]; done)) (by decide) (by decide)
    · exact ldV D hb.v _ _ 1 2048 (by first | rfl | (simp [h]; done)) (by first | rfl | (simp [h]; done)) (by decide) (by decide)
    refine step D 1 15 1536 2048 rfl _ _ _ _ _ ?_ ?_ ?_ ?_
    · refine score D 1 15 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · refine smax D 1 15 1536 _ _ _ ?_ ?_ ?_
      · exact ldK D hb.k _ _ 1 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 1 (by first | rfl | (simp [h]; done)) (by decide) (by decide)
    · exact ldV D hb.v _ _ 1 1536 (by first | rfl | (simp [h]; done)) (by first | rfl | (simp [h]; done)) (by decide) (by decide)
    refine step D 1 15 1024 1536 rfl _ _ _ _ _ ?_ ?_ ?_ ?_
    · refine score D 1 15 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · refine smax D 1 15 1024 _ _ _ ?_ ?_ ?_
      · exact ldK D hb.k _ _ 1 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 1 (by first | rfl | (simp [h]; done)) (by decide) (by decide)
    · exact ldV D hb.v _ _ 1 1024 (by first | rfl | (simp [h]; done)) (by first | rfl | (simp [h]; done)) (by decide) (by decide)
    refine step D 1 15 512 1024 rfl _ _ _ _ _ ?_ ?_ ?_ ?_
    · refine score D 1 15 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · refine smax D 1 15 512 _ _ _ ?_ ?_ ?_
      · exact ldK D hb.k _ _ 1 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 1 (by first | rfl | (simp [h]; done)) (by decide) (by decide)
    · exact ldV D hb.v _ _ 1 512 (by first | rfl | (simp [h]; done)) (by first | rfl | (simp [h]; done)) (by decide) (by decide)
    refine step D 1 15 0 512 rfl _ _ _ _ _ ?_ ?_ ?_ ?_
    · exact ldS D hIs 1 _ (by decide)
    · exact ldR hIr 1 _ (by decide)
    · exact ldV D hb.v _ _ 1 0 (by first | rfl | (simp [h]; done)) (by first | rfl | (simp [h]; done)) (by decide) (by decide)
    exact start D 1 15
  case piece3 =>
    open_payloads
    refine fin_tgt D lr (iblk m c 6 t) 0 15 _ _ _ _ j (by omega) (by omega) ?_ (ldL lr hb.l _)
    refine finCov D _ 0 15 hb.o0 _ _ _ _ _ _ ?_
    refine mstep D 0 15 3584 256 rfl (by decide) _ _ _ _ _ ?_ ?_ ?_ ?_
    · refine score D 0 15 3584 _ _ _ ?_ ?_ ?_
      · exact ldK D hb.k _ _ 0 3584 (by first | rfl | (simp [h]; done)) (by first | rfl | (simp [h]; done)) (by decide) (by decide)
      · exact ldF D hb.f _ _ 3584 (by first | rfl | (simp [h]; done)) (by first | rfl | (simp [h]; done)) (by decide)
      · exact ldQ' D hIq _ _ 0 (by first | rfl | (simp [h]; done)) (by decide) (by decide)
    · exact ldM hIm _
    · exact ldV D hb.v _ _ 0 3584 (by first | rfl | (simp [h]; done)) (by first | rfl | (simp [h]; done)) (by decide) (by decide)
    refine step D 0 15 3072 3584 rfl _ _ _ _ _ ?_ ?_ ?_ ?_
    · refine score D 0 15 3072 _ _ _ ?_ ?_ ?_
      · exact ldK D hb.k _ _ 0 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 0 (by first | rfl | (simp [h]; done)) (by decide) (by decide)
    · refine smax D 0 15 3072 _ _ _ ?_ ?_ ?_
      · exact ldK D hb.k _ _ 0 3072 (by first | rfl | (simp [h]; done)) (by first | rfl | (simp [h]; done)) (by decide) (by decide)
      · exact ldF D hb.f _ _ 3072 (by first | rfl | (simp [h]; done)) (by first | rfl | (simp [h]; done)) (by decide)
      · exact ldQ' D hIq _ _ 0 (by first | rfl | (simp [h]; done)) (by decide) (by decide)
    · exact ldV D hb.v _ _ 0 3072 (by first | rfl | (simp [h]; done)) (by first | rfl | (simp [h]; done)) (by decide) (by decide)
    refine step D 0 15 2560 3072 rfl _ _ _ _ _ ?_ ?_ ?_ ?_
    · refine score D 0 15 2560 _ _ _ ?_ ?_ ?_
      · exact ldK D hb.k _ _ 0 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 0 (by first | rfl | (simp [h]; done)) (by decide) (by decide)
    · refine smax D 0 15 2560 _ _ _ ?_ ?_ ?_
      · exact ldK D hb.k _ _ 0 2560 (by first | rfl | (simp [h]; done)) (by first | rfl | (simp [h]; done)) (by decide) (by decide)
      · exact ldF D hb.f _ _ 2560 (by first | rfl | (simp [h]; done)) (by first | rfl | (simp [h]; done)) (by decide)
      · exact ldQ' D hIq _ _ 0 (by first | rfl | (simp [h]; done)) (by decide) (by decide)
    · exact ldV D hb.v _ _ 0 2560 (by first | rfl | (simp [h]; done)) (by first | rfl | (simp [h]; done)) (by decide) (by decide)
    refine step D 0 15 2048 2560 rfl _ _ _ _ _ ?_ ?_ ?_ ?_
    · refine score D 0 15 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · refine smax D 0 15 2048 _ _ _ ?_ ?_ ?_
      · exact ldK D hb.k _ _ 0 2048 (by first | rfl | (simp [h]; done)) (by first | rfl | (simp [h]; done)) (by decide) (by decide)
      · exact ldF D hb.f _ _ 2048 (by first | rfl | (simp [h]; done)) (by first | rfl | (simp [h]; done)) (by decide)
      · exact ldQ' D hIq _ _ 0 (by first | rfl | (simp [h]; done)) (by decide) (by decide)
    · exact ldV D hb.v _ _ 0 2048 (by first | rfl | (simp [h]; done)) (by first | rfl | (simp [h]; done)) (by decide) (by decide)
    refine step D 0 15 1536 2048 rfl _ _ _ _ _ ?_ ?_ ?_ ?_
    · refine score D 0 15 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · refine smax D 0 15 1536 _ _ _ ?_ ?_ ?_
      · exact ldK D hb.k _ _ 0 1536 (by first | rfl | (simp [h]; done)) (by first | rfl | (simp [h]; done)) (by decide) (by decide)
      · exact ldF D hb.f _ _ 1536 (by first | rfl | (simp [h]; done)) (by first | rfl | (simp [h]; done)) (by decide)
      · exact ldQ' D hIq _ _ 0 (by first | rfl | (simp [h]; done)) (by decide) (by decide)
    · exact ldV D hb.v _ _ 0 1536 (by first | rfl | (simp [h]; done)) (by first | rfl | (simp [h]; done)) (by decide) (by decide)
    refine step D 0 15 1024 1536 rfl _ _ _ _ _ ?_ ?_ ?_ ?_
    · refine score D 0 15 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · refine smax D 0 15 1024 _ _ _ ?_ ?_ ?_
      · exact ldK D hb.k _ _ 0 1024 (by first | rfl | (simp [h]; done)) (by first | rfl | (simp [h]; done)) (by decide) (by decide)
      · exact ldF D hb.f _ _ 1024 (by first | rfl | (simp [h]; done)) (by first | rfl | (simp [h]; done)) (by decide)
      · exact ldQ' D hIq _ _ 0 (by first | rfl | (simp [h]; done)) (by decide) (by decide)
    · exact ldV D hb.v _ _ 0 1024 (by first | rfl | (simp [h]; done)) (by first | rfl | (simp [h]; done)) (by decide) (by decide)
    refine step D 0 15 512 1024 rfl _ _ _ _ _ ?_ ?_ ?_ ?_
    · refine score D 0 15 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · refine smax D 0 15 512 _ _ _ ?_ ?_ ?_
      · exact ldK D hb.k _ _ 0 512 (by first | rfl | (simp [h]; done)) (by first | rfl | (simp [h]; done)) (by decide) (by decide)
      · exact ldF D hb.f _ _ 512 (by first | rfl | (simp [h]; done)) (by first | rfl | (simp [h]; done)) (by decide)
      · exact ldQ' D hIq _ _ 0 (by first | rfl | (simp [h]; done)) (by decide) (by decide)
    · exact ldV D hb.v _ _ 0 512 (by first | rfl | (simp [h]; done)) (by first | rfl | (simp [h]; done)) (by decide) (by decide)
    refine step D 0 15 0 512 rfl _ _ _ _ _ ?_ ?_ ?_ ?_
    · exact ldS D hIs 0 _ (by decide)
    · exact ldR hIr 0 _ (by decide)
    · exact ldV D hb.v _ _ 0 0 (by first | rfl | (simp [h]; done)) (by first | rfl | (simp [h]; done)) (by decide) (by decide)
    exact start D 0 15
end Cert.KernelIdeal.Val

end
-- ==== Proof.Attn.Cases.lean ====
module

public import proofs.«01_k».proof.Proof.Attn.CaseA
public import proofs.«01_k».proof.Proof.Attn.CaseB
public import proofs.«01_k».proof.Proof.Attn.InvB
public import proofs.«01_k».proof.Proof.Attn.CaseC
public import proofs.«01_k».proof.Proof.Attn.InvC
public import proofs.«01_k».proof.Proof.Attn.CaseD
public import proofs.«01_k».proof.Proof.Attn.InvD
public import proofs.«01_k».proof.Proof.Attn.CaseE
public import proofs.«01_k».proof.Proof.Attn.InvE
public import proofs.«01_k».proof.Proof.Attn.CaseF
public import proofs.«01_k».proof.Proof.Attn.InvF
public import proofs.«01_k».proof.Proof.Attn.CaseG
public import proofs.«01_k».proof.Proof.Attn.InvG
public import proofs.«01_k».proof.Proof.Attn.CaseH
public import proofs.«01_k».proof.Proof.Attn.InvH
public import proofs.«01_k».proof.Proof.Attn.CaseI
public import proofs.«01_k».proof.Proof.Attn.InvI
public import proofs.«01_k».proof.Proof.Attn.CaseJ
public import proofs.«01_k».proof.Proof.Attn.InvJ
public import proofs.«01_k».proof.Proof.Attn.CaseK
public import proofs.«01_k».proof.Proof.Attn.InvK
public import proofs.«01_k».proof.Proof.Attn.CaseL
public import proofs.«01_k».proof.Proof.Attn.InvL
public import proofs.«01_k».proof.Proof.Attn.CaseM
public import proofs.«01_k».proof.Proof.Attn.InvM
public import proofs.«01_k».proof.Proof.Attn.CaseN
public import proofs.«01_k».proof.Proof.Attn.InvN
public import proofs.«01_k».proof.Proof.Attn.CaseO
public import proofs.«01_k».proof.Proof.Attn.InvO
public import proofs.«01_k».proof.Proof.Attn.CaseP
-- ==== Proof.Attn.Chain.lean ====
/- The points of one batch in order: each finds the state the one before left, and stores its tile of the result. -/
module

public import proofs.«01_k».proof.Proof.Attn.Cases

@[expose] public section

set_option maxRecDepth 16384

noncomputable section

open Idealize.ShloMosaic Idealize.ShloMosaic.TcCoe Idealize.SL.Sem

namespace Cert.KernelIdeal.Val

open Cert.KernelIdeal Cert.KernelIdeal.Gen Attn

variable (D : Data) (lr : ℝ) (m : (ℓ : Loc nD τ sig) → Buf (Elt Ideal) ℓ)

/-- Before every point of a batch but its first, the state is the one the invariant names. -/
theorem chain (c : Dev nD) (b : ℕ) (hb : ∀ t : Fin cfg0.N, t.val / 16 = b → Blk D lr m c t) :
    ∀ (n : ℕ) (hn : n < cfg0.N), n / 16 = b → n % 16 < 15 → InvAt D m (n % 16 + 1) c n hn
  | 0, hn, h0, _ => inv_A D lr m c ⟨0, hn⟩ rfl (hb ⟨0, hn⟩ h0)
  | n + 1, hn, h0, h1 => by
    have hB := hb ⟨n + 1, hn⟩ h0
    have key : ∀ i : ℕ, (n + 1) % 16 = i + 1 → InvAt D m (i + 1) c n (Nat.lt_of_succ_lt hn) := fun i hi => by
      have e : n % 16 = i := by omega
      have := chain c b hb n (Nat.lt_of_succ_lt hn) (by omega) (by omega)
      rwa [e] at this
    have d : (n + 1) % 16 = 0 ∨ (n + 1) % 16 = 1 ∨ (n + 1) % 16 = 2 ∨ (n + 1) % 16 = 3 ∨ (n + 1) % 16 = 4 ∨ (n + 1) % 16 = 5 ∨ (n + 1) % 16 = 6 ∨ (n + 1) % 16 = 7 ∨ (n + 1) % 16 = 8 ∨ (n + 1) % 16 = 9 ∨ (n + 1) % 16 = 10 ∨ (n + 1) % 16 = 11 ∨ (n + 1) % 16 = 12 ∨ (n + 1) % 16 = 13 ∨ (n + 1) % 16 = 14 := by omega
    rcases d with h | h | h | h | h | h | h | h | h | h | h | h | h | h | h
    · rw [h]
      exact inv_A D lr m c ⟨n + 1, hn⟩ h hB
    · rw [h]
      exact inv_B D lr m c ⟨n + 1, hn⟩ h hB (key 0 h)
    · rw [h]
      exact inv_C D lr m c ⟨n + 1, hn⟩ h hB (key 1 h)
    · rw [h]
      exact inv_D D lr m c ⟨n + 1, hn⟩ h hB (key 2 h)
    · rw [h]
      exact inv_E D lr m c ⟨n + 1, hn⟩ h hB (key 3 h)
    · rw [h]
      exact inv_F D lr m c ⟨n + 1, hn⟩ h hB (key 4 h)
    · rw [h]
      exact inv_G D lr m c ⟨n + 1, hn⟩ h hB (key 5 h)
    · rw [h]
      exact inv_H D lr m c ⟨n + 1, hn⟩ h hB (key 6 h)
    · rw [h]
      exact inv_I D lr m c ⟨n + 1, hn⟩ h hB (key 7 h)
    · rw [h]
      exact inv_J D lr m c ⟨n + 1, hn⟩ h hB (key 8 h)
    · rw [h]
      exact inv_K D lr m c ⟨n + 1, hn⟩ h hB (key 9 h)
    · rw [h]
      exact inv_L D lr m c ⟨n + 1, hn⟩ h hB (key 10 h)
    · rw [h]
      exact inv_M D lr m c ⟨n + 1, hn⟩ h hB (key 11 h)
    · rw [h]
      exact inv_N D lr m c ⟨n + 1, hn⟩ h hB (key 12 h)
    · rw [h]
      exact inv_O D lr m c ⟨n + 1, hn⟩ h hB (key 13 h)

/-- Every point of the batch stores its tile. -/
theorem out_at (c : Dev nD) (b : ℕ) (hb : ∀ t : Fin cfg0.N, t.val / 16 = b → Blk D lr m c t) (t : Fin cfg0.N) (ht : t.val / 16 = b) (j : S256x512.Idx) :
    (outsAt0 m c t.val t.isLt).1 j = tgt D lr (iblk m c 6 t) (t.val % 16) j := by
  have hB := hb t ht
  have key : ∀ i : ℕ, t.val % 16 = i + 1 → InvAt D m (i + 1) c (t.val - 1) (Nat.lt_of_le_of_lt (Nat.sub_le _ _) t.isLt) := fun i hi => by
    have e : (t.val - 1) % 16 = i := by omega
    have := chain D lr m c b hb (t.val - 1) (Nat.lt_of_le_of_lt (Nat.sub_le _ _) t.isLt) (by omega) (by omega)
    rwa [e] at this
  have d : t.val % 16 = 0 ∨ t.val % 16 = 1 ∨ t.val % 16 = 2 ∨ t.val % 16 = 3 ∨ t.val % 16 = 4 ∨ t.val % 16 = 5 ∨ t.val % 16 = 6 ∨ t.val % 16 = 7 ∨ t.val % 16 = 8 ∨ t.val % 16 = 9 ∨ t.val % 16 = 10 ∨ t.val % 16 = 11 ∨ t.val % 16 = 12 ∨ t.val % 16 = 13 ∨ t.val % 16 = 14 ∨ t.val % 16 = 15 := by omega
  rcases d with h | h | h | h | h | h | h | h | h | h | h | h | h | h | h | h
  · rw [h]
    exact out_A D lr m c t h hB j
  · rw [h]
    exact out_B D lr m c t h hB (key 0 h) j
  · rw [h]
    exact out_C D lr m c t h hB (key 1 h) j
  · rw [h]
    exact out_D D lr m c t h hB (key 2 h) j
  · rw [h]
    exact out_E D lr m c t h hB (key 3 h) j
  · rw [h]
    exact out_F D lr m c t h hB (key 4 h) j
  · rw [h]
    exact out_G D lr m c t h hB (key 5 h) j
  · rw [h]
    exact out_H D lr m c t h hB (key 6 h) j
  · rw [h]
    exact out_I D lr m c t h hB (key 7 h) j
  · rw [h]
    exact out_J D lr m c t h hB (key 8 h) j
  · rw [h]
    exact out_K D lr m c t h hB (key 9 h) j
  · rw [h]
    exact out_L D lr m c t h hB (key 10 h) j
  · rw [h]
    exact out_M D lr m c t h hB (key 11 h) j
  · rw [h]
    exact out_N D lr m c t h hB (key 12 h) j
  · rw [h]
    exact out_O D lr m c t h hB (key 13 h) j
  · rw [h]
    exact out_P D lr m c t h hB (key 14 h) j

end Cert.KernelIdeal.Val

end
-- ==== Proof.Attn.Spec.lean ====
/- The attention over real arrays: the kernel's weights, powers of two of its scores, are the softmax of the scores read in the
   base `e`; the masked softmax over the extended reals is that softmax. -/
module

public import proofs.«01_k».proof.Proof.Attn.Finish

@[expose] public section

set_option maxRecDepth 16384

noncomputable section

open Idealize.ShloMosaic Idealize.ShloMosaic.TcCoe Idealize.SL.Sem

namespace Attn

variable (Q K : Fin 4 → Fin 4096 → Fin 4 → Fin 2 → Fin 64 → ℝ) (V : Fin 4 → Fin 4096 → Fin 4 → Fin 128 → ℝ)

/-- The position slope of head `h`. -/
def sl (h : ℕ) : ℝ := (1 / 4) ^ (h + 1)

/-- What the kernel's windows hold for batch `b`. -/
def mkD (b : Fin 4) : Data where
  qr p c := Q b ⟨p % 4096, Nat.mod_lt _ (by decide)⟩ ⟨c / 128 % 4, Nat.mod_lt _ (by decide)⟩ ⟨c / 64 % 2, Nat.mod_lt _ (by decide)⟩
    ⟨c % 64, Nat.mod_lt _ (by decide)⟩ * (1 / 8 * (1 / Real.log 2))
  kr p c := K b ⟨p % 4096, Nat.mod_lt _ (by decide)⟩ ⟨c / 128 % 4, Nat.mod_lt _ (by decide)⟩ ⟨c / 64 % 2, Nat.mod_lt _ (by decide)⟩
    ⟨c % 64, Nat.mod_lt _ (by decide)⟩
  kf p c := if c < 6 then (if c % 2 = 0 then ((16 * (p / 16) : ℕ) : ℝ) else ((p % 16 : ℕ) : ℝ)) else 0
  cf h c := if c < 2 then sl h * (1 / Real.log 2) else 0
  vr r p := if r % 144 < 128 then V b ⟨p % 4096, Nat.mod_lt _ (by decide)⟩ ⟨r / 144 % 4, Nat.mod_lt _ (by decide)⟩
    ⟨r % 144 % 128, Nat.mod_lt _ (by decide)⟩ else 1

/-- The score of query `i` against key `j`, head `h`, group `g`. -/
def sc (b h : Fin 4) (g : Fin 2) (i j : Fin 4096) : ℝ :=
  (∑ c : Fin 64, Q b i h g c * K b j h g c) * (1 / 8) + -(sl h) * ((i.val : ℝ) - (j.val : ℝ))

theorem log2_ne : Real.log 2 ≠ 0 := ne_of_gt (Real.log_pos one_lt_two)

/-- The position lanes add the slope times the position. -/
theorem S_pos (b h : Fin 4) (t ql p : ℕ) :
    ∑ c : Fin 128, (mkD Q K V b).kf p c * q2r (mkD Q K V b) h t ql (128 + c) = sl h * p * (1 / Real.log 2) := by
  have e : ∀ c : Fin 128, (mkD Q K V b).kf p c * q2r (mkD Q K V b) h t ql (128 + c)
      = (if c.val < 6 then (if c.val % 2 = 0 then ((16 * (p / 16) : ℕ) : ℝ) else ((p % 16 : ℕ) : ℝ)) else 0) * (if c.val < 2 then sl h * (1 / Real.log 2) else 0) := by
    intro c
    unfold q2r
    rw [if_neg (by omega), Nat.add_sub_cancel_left]
    rfl
  rw [Finset.sum_congr rfl fun c _ => e c]
  rw [Fin.sum_univ_eq_sum_range (fun c => (if c < 6 then (if c % 2 = 0 then ((16 * (p / 16) : ℕ) : ℝ) else ((p % 16 : ℕ) : ℝ)) else 0) * (if c < 2 then sl h * (1 / Real.log 2) else 0)) 128]
  rw [show (128 : ℕ) = 2 + 126 from rfl, Finset.sum_range_add, Finset.sum_range_succ, Finset.sum_range_one,
    Finset.sum_eq_zero (s := Finset.range 126) fun c _ => by rw [if_neg (show ¬ 2 + c < 2 by omega), mul_zero]]
  have hp : (((16 * (p / 16) : ℕ) : ℝ)) + ((p % 16 : ℕ) : ℝ) = (p : ℝ) := by
    rw [← Nat.cast_add, Nat.div_add_mod]
  simp only [show (0 : ℕ) < 6 from by decide, show (1 : ℕ) < 6 from by decide, show (0 : ℕ) < 2 from by decide, show (1 : ℕ) < 2 from by decide,
    if_true, show (0 : ℕ) % 2 = 0 from rfl, show ¬ (1 : ℕ) % 2 = 0 from by decide, if_false, add_zero]
  rw [← add_mul, hp]
  ring

/-- The content lanes of the first or second group. -/
theorem S_dot (b h : Fin 4) (g : Fin 2) (t : Fin 16) (r : Fin 256) (j : Fin 4096) :
    ∑ c : Fin 128, (mkD Q K V b).kr j (h.val * 128 + c) * q2r (mkD Q K V b) h t (g.val * 256 + r.val) c
      = (∑ c : Fin 64, Q b ⟨t.val * 256 + r.val, by omega⟩ h g c * K b j h g c) * (1 / 8) * (1 / Real.log 2) := by
  rw [Fin.sum_univ_add (a := 64) (b := 64) (fun c : Fin (64 + 64) => (mkD Q K V b).kr j (h.val * 128 + c.val) * q2r (mkD Q K V b) h t (g.val * 256 + r.val) c.val)]
  rw [Finset.sum_mul, Finset.sum_mul]
  have hk : ∀ (g : Fin 2) (c : Fin 64), (mkD Q K V b).kr j (h.val * 128 + (g.val * 64 + c.val)) = K b j h g c := by
    intro g c
    show K b ⟨j.val % 4096, _⟩ ⟨(h.val * 128 + (g.val * 64 + c.val)) / 128 % 4, _⟩ ⟨(h.val * 128 + (g.val * 64 + c.val)) / 64 % 2, _⟩
      ⟨(h.val * 128 + (g.val * 64 + c.val)) % 64, _⟩ = _
    simp only [show j.val % 4096 = j.val by omega, show (h.val * 128 + (g.val * 64 + c.val)) / 128 % 4 = h.val by omega,
      show (h.val * 128 + (g.val * 64 + c.val)) / 64 % 2 = g.val by omega, show (h.val * 128 + (g.val * 64 + c.val)) % 64 = c.val by omega]
  have hq : ∀ (g : Fin 2) (c : Fin 64), (mkD Q K V b).qr (t.val * 256 + r.val) (h.val * 128 + (g.val * 64 + c.val))
      = Q b ⟨t.val * 256 + r.val, by omega⟩ h g c * (1 / 8 * (1 / Real.log 2)) := by
    intro g c
    show Q b ⟨(t.val * 256 + r.val) % 4096, _⟩ ⟨(h.val * 128 + (g.val * 64 + c.val)) / 128 % 4, _⟩ ⟨(h.val * 128 + (g.val * 64 + c.val)) / 64 % 2, _⟩
      ⟨(h.val * 128 + (g.val * 64 + c.val)) % 64, _⟩ * _ = _
    simp only [show (t.val * 256 + r.val) % 4096 = t.val * 256 + r.val by omega, show (h.val * 128 + (g.val * 64 + c.val)) / 128 % 4 = h.val by omega,
      show (h.val * 128 + (g.val * 64 + c.val)) / 64 % 2 = g.val by omega, show (h.val * 128 + (g.val * 64 + c.val)) % 64 = c.val by omega]
  have h0 : g = 0 ∨ g = 1 := by omega
  rcases h0 with rfl | rfl
  · have z : ∑ c : Fin 64, (mkD Q K V b).kr j (h.val * 128 + (Fin.natAdd 64 c).val) * q2r (mkD Q K V b) h t ((0 : Fin 2).val * 256 + r.val) (Fin.natAdd 64 c).val = 0 := by
      refine Finset.sum_eq_zero fun c _ => ?_
      have hc : (Fin.natAdd 64 c).val = 64 + c.val := rfl
      unfold q2r
      rw [hc, if_pos (by omega), if_pos (by simp), if_neg (by omega), mul_zero]
    rw [z, add_zero]
    refine Finset.sum_congr rfl fun c _ => ?_
    have hc : (Fin.castAdd 64 c).val = (0 : Fin 2).val * 64 + c.val := by simp
    rw [hc, hk 0 c]
    unfold q2r
    rw [if_pos (by simp; omega), if_pos (by simp), if_pos (by simp)]
    have := hq 0 c
    simp only [Fin.val_zero, Nat.zero_mul, Nat.zero_add] at this ⊢
    rw [this]
    ring
  · have z : ∑ c : Fin 64, (mkD Q K V b).kr j (h.val * 128 + (Fin.castAdd 64 c).val) * q2r (mkD Q K V b) h t ((1 : Fin 2).val * 256 + r.val) (Fin.castAdd 64 c).val = 0 := by
      refine Finset.sum_eq_zero fun c _ => ?_
      have hc : (Fin.castAdd 64 c).val = c.val := rfl
      unfold q2r
      rw [hc, if_pos (by omega), if_neg (by simp), if_neg (by omega), mul_zero]
    rw [z, zero_add]
    refine Finset.sum_congr rfl fun c _ => ?_
    have hc : (Fin.natAdd 64 c).val = (1 : Fin 2).val * 64 + c.val := rfl
    rw [hc, hk 1 c]
    unfold q2r
    rw [if_pos (by simp; omega), if_neg (by simp), if_pos (by simp)]
    have := hq 1 c
    have e1 : (1 : Fin 2).val * 256 + r.val - 256 = r.val := by simp
    rw [e1, this]
    ring

/-- The kernel's score, in the base two, is the reference's score plus a constant of the query. -/
theorem S_eq (b h : Fin 4) (g : Fin 2) (t : Fin 16) (r : Fin 256) (j : Fin 4096) :
    S (mkD Q K V b) h t (g.val * 256 + r.val) j * Real.log 2
      = sc Q K b h g ⟨t.val * 256 + r.val, by omega⟩ j + sl h * ((t.val * 256 + r.val : ℕ) : ℝ) := by
  unfold S
  rw [S_dot, S_pos]
  unfold sc
  have := log2_ne
  field_simp
  ring

/-- Powers of two of scores are exponentials of them times `log 2`; a constant factor cancels. -/
theorem ratio_exp (D : Data) (h t ql d : ℕ) (σ : ℕ → ℝ) (C μ : ℝ)
    (hS : ∀ j, j < qpos t ql + 1 → S D h t ql j * Real.log 2 = σ j + C) :
    ratio D h t ql d = (∑ j ∈ Finset.range (qpos t ql + 1), Real.exp (σ j - μ) * D.vr (h * 144 + d) j)
      / ∑ j ∈ Finset.range (qpos t ql + 1), Real.exp (σ j - μ) := by
  have key : ∀ v : ℕ → ℝ, acc (S D h t ql) v (qpos t ql + 1) 0
      = Real.exp (C + μ) * ∑ j ∈ Finset.range (qpos t ql + 1), Real.exp (σ j - μ) * v j := by
    intro v
    unfold acc
    rw [Finset.mul_sum]
    refine Finset.sum_congr rfl fun j hj => ?_
    rw [← mul_assoc, ← Real.exp_add]
    congr 1
    rw [sub_zero, Real.rpow_def_of_pos two_pos]
    congr 1
    rw [mul_comm, hS j (Finset.mem_range.mp hj)]
    ring
  unfold ratio
  rw [key, key, mul_div_mul_left _ _ (Real.exp_ne_zero _)]
  simp only [mul_one]

/-- The masked softmax over the extended reals, shifted by a real. -/
theorem soft (σ : ℕ → ℝ) (i : Fin 4096) (μ : ℝ) (s : Fin 4096 → EReal) (hs : ∀ j : Fin 4096, s j = if j ≤ i then ((σ j : ℝ) : EReal) else ⊥) :
    ∀ j : Fin 4096, Ideal.div (Ideal.exp (s j - (μ : EReal))) (∑ k : Fin 4096, Ideal.exp (s k - (μ : EReal)))
        = (((if j ≤ i then Real.exp (σ j - μ) else 0) / ∑ k ∈ Finset.range (i.val + 1), Real.exp (σ k - μ) : ℝ) : EReal) := by
  intro j
  have e : ∀ k : Fin 4096, Ideal.exp (s k - (μ : EReal)) = (((if k ≤ i then Real.exp (σ k - μ) else 0) : ℝ) : EReal) := by
    intro k
    rw [hs k]
    split_ifs
    · rw [← EReal.coe_sub, Ideal.exp_coe]
    · rw [EReal.bot_sub, Ideal.exp_bot, EReal.coe_zero]
  have hz : ∑ k : Fin 4096, (if k ≤ i then Real.exp (σ k - μ) else 0) = ∑ k ∈ Finset.range (i.val + 1), Real.exp (σ k - μ) := by
    have := rows_sum (R := 4096) (fun k => Real.exp (σ k - μ)) 0 (i.val + 1) (Nat.zero_le _) (by omega)
    simp only [Nat.zero_add, Finset.range_zero, Finset.sum_empty, add_zero] at this
    rw [← this]
    refine Finset.sum_congr rfl fun k _ => ?_
    congr 1
    exact propext ⟨fun h => Nat.lt_succ_of_le h, fun h => Nat.le_of_lt_succ h⟩
  rw [e j, Finset.sum_congr rfl fun k _ => e k, sum_coe, hz, div_coe]
  exact ne_of_gt (Finset.sum_pos (fun _ _ => Real.exp_pos _) ⟨0, Finset.mem_range.mpr (Nat.succ_pos _)⟩)

/-- Weighted values, the weights dead after the query. -/
theorem wsum (σ v : ℕ → ℝ) (i : Fin 4096) (μ Z : ℝ) :
    ∑ j : Fin 4096, v j * ((if j ≤ i then Real.exp (σ j - μ) else 0) / Z) = (∑ j ∈ Finset.range (i.val + 1), Real.exp (σ j - μ) * v j) / Z := by
  have := rows_sum (R := 4096) (fun k => Real.exp (σ k - μ) * v k) 0 (i.val + 1) (Nat.zero_le _) (by omega)
  simp only [Nat.zero_add, Finset.range_zero, Finset.sum_empty, add_zero] at this
  rw [← this, Finset.sum_div]
  refine Finset.sum_congr rfl fun k _ => ?_
  by_cases h : k ≤ i
  · rw [if_pos h, if_pos (Nat.lt_succ_of_le h)]; ring
  · rw [if_neg h, if_neg (fun h' => h (Nat.le_of_lt_succ h'))]; ring

end Attn

end
-- ==== Proof.Attn.Host.lean ====
/- The arrays the host prepares for the call, entry by entry. -/
module

public import proofs.«01_k».proof.Proof.Gen.KernelIdeal.Frame.Runs
public import proofs.«01_k».proof.Proof.Attn.Spec

@[expose] public section

set_option maxRecDepth 16384

noncomputable section

open Idealize.ShloMosaic Idealize.ShloMosaic.TcCoe Idealize.SL.Sem

namespace Cert.KernelIdeal.Val

open Cert.KernelIdeal Cert.KernelIdeal.Gen Attn

variable (m : (ℓ : Loc nD τ sig) → Buf (Elt Ideal) ℓ)

/-- The arguments as arrays of extended reals. -/
abbrev A0 (c : Dev nD) : S4x4096x4x2x64.Idx → EReal := m ((c.tc : Thread nD τ).loc main_arg0)
abbrev A1 (c : Dev nD) : S4x4096x4x2x64.Idx → EReal := m ((c.tc : Thread nD τ).loc main_arg1)
abbrev A2 (c : Dev nD) : S4x4096x4x128.Idx → EReal := m ((c.tc : Thread nD τ).loc main_arg2)
abbrev A3 (c : Dev nD) : S1x1.Idx → EReal := m ((c.tc : Thread nD τ).loc main_arg3)

/-- The host's reciprocal of `log 2`. -/
theorem log2e : Ideal.div 1 (Ideal.log (Ideal.ofBits FTy.f32 1073741824#32)) = ((1 / Real.log 2 : ℝ) : EReal) := by
  have e : Ideal.ofBits FTy.f32 1073741824#32 = ((2 : ℝ) : EReal) := by
    simp [Ideal.ofBits, Ideal.ieee, -EReal.coe_mul]; norm_num
  rw [e, Ideal.log_coe, if_neg (by norm_num), Ideal.div_coe log2_ne, one_mul]

theorem eighth : Ideal.ofBits FTy.f32 1040187392#32 = ((1 / 8 : ℝ) : EReal) := by
  simp [Ideal.ofBits, Ideal.ieee, -EReal.coe_mul]; norm_num

/-- The slopes' words. -/
theorem slope (h : Fin 4) : Ideal.ofBits FTy.f32 (lit0 (S4.rowMajor (ix1 h))) = ((sl h.val : ℝ) : EReal) := by
  have e : ∀ h : Fin 4, lit0 (S4.rowMajor (ix1 h)) = (![0x3E800000#32, 0x3D800000#32, 0x3C800000#32, 0x3B800000#32] : Fin 4 → BitVec 32) h := by
    decide
  rw [e h]
  unfold sl
  fin_cases h <;> (simp [Ideal.ofBits, Ideal.ieee, -EReal.coe_mul]; norm_num)

theorem v9_at (c : Dev nD) (p : Fin 16384) (l : Fin 512) : ((V m c main_v9 : FVec Ideal S16384x512 .bf16) (ix2 p l) : EReal)
    = A0 m c (ix5 ⟨p.val / 4096, by omega⟩ ⟨p.val % 4096, by omega⟩ ⟨l.val / 128, by omega⟩ ⟨l.val / 64 % 2, by omega⟩ ⟨l.val % 64, by omega⟩) * ((1 / 8 * (1 / Real.log 2) : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp only [StableHlo.TRef.ofBuf, StableHlo.TRef.toBuf, cast_eq]
  pointwise
  rw [log2e, eighth, ← EReal.coe_mul]

theorem v11_at (c : Dev nD) (p : Fin 16384) (l : Fin 512) : ((V m c main_v11 : FVec Ideal S16384x512 .bf16) (ix2 p l) : EReal)
    = A1 m c (ix5 ⟨p.val / 4096, by omega⟩ ⟨p.val % 4096, by omega⟩ ⟨l.val / 128, by omega⟩ ⟨l.val / 64 % 2, by omega⟩ ⟨l.val % 64, by omega⟩) := by
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp only [StableHlo.TRef.ofBuf, StableHlo.TRef.toBuf, cast_eq]
  pointwise

theorem v17_at (c : Dev nD) (r : Fin 576) (p : Fin 16384) : ((V m c main_v17 : FVec Ideal S576x16384 .bf16) (ix2 r p) : EReal)
    = if h : r.val % 144 < 128 then A2 m c
      (ix4 ⟨p.val / 4096, by omega⟩ ⟨p.val % 4096, by omega⟩ ⟨r.val / 144, by omega⟩ ⟨r.val % 144, by omega⟩) else 1 := by
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp only [StableHlo.TRef.ofBuf, StableHlo.TRef.toBuf, cast_eq]
  pointwise

theorem v18_at (c : Dev nD) (p : Fin 8) (l : Fin 128) : ((V m c main_v18 : FVec Ideal S8x128 .f32) (ix2 p l) : EReal)
    = A3 m c (ix2 0 0) := by
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp only [StableHlo.TRef.ofBuf, StableHlo.TRef.toBuf, cast_eq]
  pointwise

theorem v57_at (c : Dev nD) (p : Fin 4) (l : Fin 128) : ((V m c main_v57 : FVec Ideal S4x128 .f32) (ix2 p l) : EReal)
    = ((if l.val < 2 then sl p.val * (1 / Real.log 2) else 0 : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp only [StableHlo.TRef.ofBuf, StableHlo.TRef.toBuf, cast_eq]
  pointwise
  rw [log2e, slope, ← EReal.coe_mul, ← EReal.coe_sub, sub_self, EReal.coe_zero, sub_zero]
  have e2 : ∀ l : Fin 128, IntOp.cmpi CmpIPredicate.slt (BitVec.ofNat 32 l.val) 2#32 = if l.val < 2 then 1#1 else 0#1 := by decide
  rw [e2 l]
  split_ifs with h
  · rfl
  · refine (if_neg (by decide)).trans ?_
    have hz : ∀ (a b : BitVec 1), Scalar.select a (0 : EReal) (Scalar.select b (0 : EReal) (0 : EReal)) = ((0 : ℝ) : EReal) := by
      intro a b
      show (if _ then _ else _) = _
      split_ifs
      · rfl
      · show (if _ then _ else _) = _
        split_ifs <;> rfl
    exact hz _ _

/-- The word of a position lane. -/
theorem v59_at (c : Dev nD) (p : Fin 4096) (l : Fin 128) : ((V m c main_v59 : FVec Ideal S4096x128 .bf16) (ix2 p l) : EReal)
    = ((if l.val < 6 then (if l.val % 2 = 0 then ((16 * (p.val / 16) : ℕ) : ℝ) else ((p.val % 16 : ℕ) : ℝ)) else 0 : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp only [StableHlo.TRef.ofBuf, StableHlo.TRef.toBuf, cast_eq]
  pointwise
  have e6 : ∀ l : Fin 128, IntOp.cmpi CmpIPredicate.slt (BitVec.ofNat 32 l.val) 6#32 = if l.val < 6 then 1#1 else 0#1 := by decide
  have ek : ∀ l : Fin 128, IntOp.cmpi CmpIPredicate.eq
            (Scalar.select
              (IntOp.andi
                (IntOp.cmpi CmpIPredicate.ne
                  (IntOp.cmpi CmpIPredicate.slt
                    (IntOp.remsi ArithUnit.host (BitVec.ofNat 32 l.val)
                      (Scalar.select (IntOp.cmpi CmpIPredicate.eq 2#32 0#32) 1#32 2#32))
                    0#32)
                  (IntOp.cmpi CmpIPredicate.slt (Scalar.select (IntOp.cmpi CmpIPredicate.eq 2#32 0#32) 1#32 2#32) 0#32))
                (IntOp.cmpi CmpIPredicate.ne
                  (IntOp.remsi ArithUnit.host (BitVec.ofNat 32 l.val)
                    (Scalar.select (IntOp.cmpi CmpIPredicate.eq 2#32 0#32) 1#32 2#32))
                  0#32))
              (IntOp.addi
                (IntOp.remsi ArithUnit.host (BitVec.ofNat 32 l.val)
                  (Scalar.select (IntOp.cmpi CmpIPredicate.eq 2#32 0#32) 1#32 2#32))
                (Scalar.select (IntOp.cmpi CmpIPredicate.eq 2#32 0#32) 1#32 2#32))
              (IntOp.remsi ArithUnit.host (BitVec.ofNat 32 l.val)
                (Scalar.select (IntOp.cmpi CmpIPredicate.eq 2#32 0#32) 1#32 2#32)))
            0#32 = if l.val % 2 = 0 then 1#1 else 0#1 := by decide +kernel
  have ed : ∀ p : Fin 4096, IntOp.muli (16#32)
            (Scalar.select
              (IntOp.andi
                (IntOp.cmpi CmpIPredicate.ne
                  (if BitVec.ofNat 32 p.val = 0 then (0 : BitVec 32) else if (BitVec.ofNat 32 p.val).msb = true then -1 else 1)
                  (if 16#32 = 0 then (0 : BitVec 32) else if (16#32).msb = true then -1 else 1))
                (IntOp.cmpi CmpIPredicate.ne (IntOp.remsi ArithUnit.host (BitVec.ofNat 32 p.val) 16#32) 0#32))
              (IntOp.subi (IntOp.divsi ArithUnit.host (BitVec.ofNat 32 p.val) 16#32) 1#32)
              (IntOp.divsi ArithUnit.host (BitVec.ofNat 32 p.val) 16#32)) = BitVec.ofNat 32 (16 * (p.val / 16)) := by decide +kernel
  have em : ∀ p : Fin 4096, Scalar.select
            (IntOp.andi
              (IntOp.cmpi CmpIPredicate.ne
                (IntOp.cmpi CmpIPredicate.slt
                  (IntOp.remsi ArithUnit.host (BitVec.ofNat 32 p.val)
                    (Scalar.select (IntOp.cmpi CmpIPredicate.eq 16#32 0#32) 1#32 16#32))
                  0#32)
                (IntOp.cmpi CmpIPredicate.slt (Scalar.select (IntOp.cmpi CmpIPredicate.eq 16#32 0#32) 1#32 16#32) 0#32))
              (IntOp.cmpi CmpIPredicate.ne
                (IntOp.remsi ArithUnit.host (BitVec.ofNat 32 p.val)
                  (Scalar.select (IntOp.cmpi CmpIPredicate.eq 16#32 0#32) 1#32 16#32))
                0#32))
            (IntOp.addi
              (IntOp.remsi ArithUnit.host (BitVec.ofNat 32 p.val)
                (Scalar.select (IntOp.cmpi CmpIPredicate.eq 16#32 0#32) 1#32 16#32))
              (Scalar.select (IntOp.cmpi CmpIPredicate.eq 16#32 0#32) 1#32 16#32))
            (IntOp.remsi ArithUnit.host (BitVec.ofNat 32 p.val)
              (Scalar.select (IntOp.cmpi CmpIPredicate.eq 16#32 0#32) 1#32 16#32)) = BitVec.ofNat 32 (p.val % 16) := by decide +kernel
  have ev : ∀ n : ℕ, n < 4096 → (FloatOps.sitofp (F := Ideal) FTy.f32 (BitVec.ofNat 32 n) : EReal) = ((n : ℝ) : EReal) := by
    intro n hn
    show (((BitVec.ofNat 32 n).toInt : ℝ) : EReal) = _
    have : (BitVec.ofNat 32 n).toInt = (n : ℤ) := by
      rw [BitVec.toInt_ofNat']
      simp only [Int.bmod_def]
      omega
    rw [this]
    push_cast
    rfl
  have er : ((if l.val < 6 then (if l.val % 2 = 0 then ((16 * (p.val / 16) : ℕ) : ℝ) else ((p.val % 16 : ℕ) : ℝ)) else 0 : ℝ))
      = (((if l.val < 6 then (if l.val % 2 = 0 then 16 * (p.val / 16) else p.val % 16) else 0 : ℕ)) : ℝ) := by
    split_ifs <;> simp
  rw [er]
  refine (congrArg (FloatOps.sitofp (F := Ideal) FTy.f32) (?_ : _ = BitVec.ofNat 32 (if l.val < 6 then (if l.val % 2 = 0 then 16 * (p.val / 16) else p.val % 16) else 0))).trans
    (ev _ (by split_ifs <;> omega))
  rw [e6 l, ek l, em p]
  by_cases h1 : l.val < 6
  · by_cases h2 : l.val % 2 = 0
    · simp only [if_pos h1, if_pos h2]
      exact ed p
    · simp only [if_pos h1, if_neg h2]
      rfl
  · simp only [if_neg h1]
    rfl

end Cert.KernelIdeal.Val

end
-- ==== Proof.Attn.Ref.lean ====
/- The reference of the attention: its composed term, named stage by stage. -/
module

public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Val

open Cert.ReferenceIdeal Cert.ReferenceIdeal.Gen

variable (a0 a1 : FVec Ideal S4x4096x4x2x64 .f32) (a2 : FVec Ideal S4x4096x4x128 .f32) (a3 : FVec Ideal S1x1 .f32)
  (a4 : FVec Ideal S1x128 .f32)

/-- Query position less key position. -/
def DIST : IVec S4096x4096 32 :=
  subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))

/-- The scores, keys after the query at `-∞`. -/
def SC : FVec Ideal S4x4x2x4096x4096 .f32 :=
  select (broadcastInDim S4x4x2x4096x4096 ![3, 4] bcast_S4096x4096_S4x4x2x4096x4096_3_4 (cmpi .sge DIST (broadcastInDim S4096x4096 ![] bcast_S_S4096x4096 (constantI S_ 32 0#32)))) (addf (mulf (Host.dotGeneral dot_S4x4096x4x2x64_S4x4096x4x2x64_S4x4x2x4096x4096_4_4_1_1_023_023 none a0 a1) (broadcastInDim S4x4x2x4096x4096 ![] bcast_S_S4x4x2x4096x4096 (constant S_ .f32 0x3E000000#32))) (broadcastInDim S4x4x2x4096x4096 ![0, 1, 2, 3, 4] bcast_S1x4x1x4096x4096_S4x4x2x4096x4096_0_1_2_3_4 (broadcastInDim S1x4x1x4096x4096 ![1, 2, 3, 4] bcast_S4x1x4096x4096_S1x4x1x4096x4096_1_2_3_4 (mulf (broadcastInDim S4x1x4096x4096 ![0, 1, 2, 3] bcast_S4x1x1x1_S4x1x4096x4096_0_1_2_3 (Host.negf (broadcastInDim S4x1x1x1 ![0] bcast_S4_S4x1x1x1_0 (fun i => FloatOps.ofBits .f32 (lit0 (S4.rowMajor i)))))) (broadcastInDim S4x1x4096x4096 ![0, 1, 2, 3] bcast_S1x1x4096x4096_S4x1x4096x4096_0_1_2_3 (broadcastInDim S1x1x4096x4096 ![2, 3] bcast_S4096x4096_S1x1x4096x4096_2_3 (sitofp .f32 DIST))))))) (broadcastInDim S4x4x2x4096x4096 ![] bcast_S_S4x4x2x4096x4096 (id (constant S_ .f32 0xFF800000#32)))

/-- Each query's greatest score. -/
def RD (X : FVec Ideal S4x4x2x4096x4096 .f32) : FVec Ideal S4x4x2x4096 .f32 :=
  Host.reduce FloatOps.maximumf X (constant S_ .f32 0xFF800000#32) reducesTo_S4x4x2x4096x4096_S4x4x2x4096_d4 h_S_

/-- The same, at least `-∞`. -/
def MX (X : FVec Ideal S4x4x2x4096x4096 .f32) : FVec Ideal S4x4x2x4096 .f32 :=
  maximumf (broadcastInDim S4x4x2x4096 ![] bcast_S_S4x4x2x4096 (constant S_ .f32 0xFF800000#32)) (RD X)

/-- The exponentials of the scores, relative to each query's greatest. -/
def EX (X : FVec Ideal S4x4x2x4096x4096 .f32) : FVec Ideal S4x4x2x4096x4096 .f32 :=
  Host.exp (subf X (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (MX X))))

/-- Each divided by its query's sum. -/
def PR (E : FVec Ideal S4x4x2x4096x4096 .f32) : FVec Ideal S4x4x2x4096x4096 .f32 :=
  Host.divf E (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (Host.reduceAdd E (constant S_ .f32 0x00000000#32) reducesTo_S4x4x2x4096x4096_S4x4x2x4096_d4 h_S_)))

/-- The first group's weights less λ of the second's. -/
def AT (P : FVec Ideal S4x4x2x4096x4096 .f32) : FVec Ideal S4x4x4096x4096 .f32 :=
  subf (shapeCast _ (extractStridedSlice S4x4x1x4096x4096 ![0, 0, 0, 0, 0] P slices_S4x4x2x4096x4096_S4x4x1x4096x4096_0_0_0_0_0) shapeCasts_S4x4x1x4096x4096_S4x4x4096x4096) (mulf (broadcastInDim S4x4x4096x4096 ![] bcast_S_S4x4x4096x4096 (shapeCast _ a3 shapeCasts_S1x1_S_)) (shapeCast _ (extractStridedSlice S4x4x1x4096x4096 ![0, 0, 1, 0, 0] P slices_S4x4x2x4096x4096_S4x4x1x4096x4096_0_0_1_0_0) shapeCasts_S4x4x1x4096x4096_S4x4x4096x4096))

/-- The weighted values. -/
def OT (A : FVec Ideal S4x4x4096x4096 .f32) : FVec Ideal S4x4096x4x128 .f32 :=
  transpose S4x4096x4x128 [0, 3, 1, 2] (Host.dotGeneral dot_S4x4096x4x128_S4x4x4096x4096_S4x4x128x4096_1_3_3_2_02_01 none a2 A) transposes_S4x4x128x4096_S4x4096x4x128_0_3_1_2

/-- Each head's values divided by their root mean square, gained and scaled. -/
def NM (O : FVec Ideal S4x4096x4x128 .f32) : FVec Ideal S4x4096x4x128 .f32 :=
  mulf (mulf (mulf O (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf O O) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 (shapeCast _ a4 shapeCasts_S1x128_S128)))) (broadcastInDim S4x4096x4x128 ![] bcast_S_S4x4096x4x128 (constant S_ .f32 0x3F4CCCCD#32))

/-- The whole result before the closing reshape. -/
def OUT : FVec Ideal S4x4096x4x128 .f32 := NM a4 (OT a2 (AT a3 (PR (EX (SC a0 a1)))))

/-- The reference's composed term is the stages above, reshaped. -/
theorem res_eq (m : (ℓ : Loc nD τ sig) → Buf (Elt Ideal) ℓ) (c : Dev nD) :
    Value.res_out0 m c = truncf .bf16 (shapeCast _ (OUT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      shapeCasts_S4x4096x4x128_S16384x512) bitsLt_bf16_f32 := rfl

theorem ofBits_ninf : Ideal.ofBits FTy.f32 4286578688#32 = ⊥ := by
  simp [Ideal.ofBits, Ideal.ieee]

theorem dist_toInt (i j : Fin 4096) : (IntOp.subi (BitVec.ofNat 32 i.val) (BitVec.ofNat 32 j.val)).toInt = (i.val : ℤ) - (j.val : ℤ) := by
  show (BitVec.ofNat 32 i.val - BitVec.ofNat 32 j.val).toInt = _
  rw [BitVec.toInt_sub, BitVec.toInt_ofNat', BitVec.toInt_ofNat']
  simp only [Int.bmod_def]
  omega

/-- A score. -/
theorem SC_at (b h : Fin 4) (g : Fin 2) (i j : Fin 4096) :
    SC a0 a1 (ix5 b h g i j) = if j ≤ i then (∑ x, a0 (ix5 b i h g x) * a1 (ix5 b j h g x)) * Ideal.ofBits FTy.f32 0x3E000000#32
      + -Ideal.ofBits FTy.f32 (lit0 (S4.rowMajor (ix1 h))) * (((i.val : ℝ) - (j.val : ℝ) : ℝ) : EReal) else ⊥ := by
  pointwise [SC, DIST]
  have e : (FloatOps.sitofp (F := Ideal) FTy.f32 (IntOp.subi (BitVec.ofNat 32 i.val) (BitVec.ofNat 32 j.val)) : EReal) = (((i.val : ℝ) - (j.val : ℝ) : ℝ) : EReal) := by
    show (((IntOp.subi (BitVec.ofNat 32 i.val) (BitVec.ofNat 32 j.val)).toInt : ℝ) : EReal) = _
    rw [dist_toInt]
    push_cast
    rfl
  rw [e]
  by_cases hji : j ≤ i
  · rw [if_pos hji, IntOp.cmpi_sge.2 (by rw [dist_toInt]; show (0#32 : BitVec 32).toInt ≤ _; have := Fin.le_def.mp hji; simp; omega)]
    rfl
  · rw [if_neg hji]
    have hc : IntOp.cmpi CmpIPredicate.sge (IntOp.subi (BitVec.ofNat 32 i.val) (BitVec.ofNat 32 j.val)) 0#32 ≠ 1#1 := by
      intro hc
      have := IntOp.cmpi_sge.1 hc
      rw [dist_toInt] at this
      have h0 : (0#32 : BitVec 32).toInt = 0 := rfl
      rw [h0] at this
      exact hji (Fin.le_def.mpr (by omega))
    refine (if_neg hc).trans ?_
    exact ofBits_ninf

/-- A greatest score over finitely many, none `+∞` and one a real, is a real. -/
theorem fold_real' {ι : Type*} (f : EReal → EReal → EReal) [Std.Commutative f] [Std.Associative f] (hf : f = max) (s : Finset ι)
    (x : ι → EReal) (hx : ∀ i, x i ≠ ⊤) (i0 : ι) (h0 : i0 ∈ s) (hb : x i0 ≠ ⊥) (z : EReal) (hz : z = ⊥) : ∃ μ : ℝ, s.fold f z x = (μ : EReal) := by
  classical
  subst hf hz
  have h1 : s.fold max ⊥ x ≠ ⊤ := by
    clear h0
    induction s using Finset.induction_on with
    | empty => simp
    | insert a s ha ih =>
      rw [Finset.fold_insert ha]
      exact ne_of_lt (max_lt (lt_top_iff_ne_top.mpr (hx a)) (lt_top_iff_ne_top.mpr ih))
  have h2 : s.fold max ⊥ x ≠ ⊥ := by
    rw [← Finset.insert_erase h0, Finset.fold_insert (Finset.notMem_erase _ _)]
    exact fun e => hb (le_bot_iff.mp (e ▸ le_max_left _ _))
  exact ⟨_, (EReal.coe_toReal h1 h2).symm⟩

/-- An entry of a query's row of scores. -/
theorem drop_at (b h : Fin 4) (g : Fin 2) (i j : Fin 4096) :
    reducesTo_S4x4x2x4096x4096_S4x4x2x4096_d4.drop (ix5 b h g i j) = (ix4 b h g i : S4x4x2x4096.Idx) := by
  funext a
  apply Fin.ext
  match a with
  | ⟨0, _⟩ => exact reducesTo_S4x4x2x4096x4096_S4x4x2x4096_d4.drop_apply_val_of_eq (ix5 b h g i j) (⟨0, by decide⟩ : Fin S4x4x2x4096.rank) (0 : Fin 5)
  | ⟨1, _⟩ => exact reducesTo_S4x4x2x4096x4096_S4x4x2x4096_d4.drop_apply_val_of_eq (ix5 b h g i j) (⟨1, by decide⟩ : Fin S4x4x2x4096.rank) (1 : Fin 5)
  | ⟨2, _⟩ => exact reducesTo_S4x4x2x4096x4096_S4x4x2x4096_d4.drop_apply_val_of_eq (ix5 b h g i j) (⟨2, by decide⟩ : Fin S4x4x2x4096.rank) (2 : Fin 5)
  | ⟨3, _⟩ => exact reducesTo_S4x4x2x4096x4096_S4x4x2x4096_d4.drop_apply_val_of_eq (ix5 b h g i j) (⟨3, by decide⟩ : Fin S4x4x2x4096.rank) (3 : Fin 5)

theorem fold_filter (f : EReal → EReal → EReal) [Std.Commutative f] [Std.Associative f] (hf : f = max)
    (X : S4x4x2x4096x4096.Idx → EReal) (z : S_.Idx → EReal) (hz : ∀ k, z k = ⊥) (b h : Fin 4) (g : Fin 2) (i j : Fin 4096) (hx : ∀ y, X y ≠ ⊤)
    (hb : X (ix5 b h g i j) ≠ ⊥) : ∃ μ : ℝ, Host.reduce f X z reducesTo_S4x4x2x4096x4096_S4x4x2x4096_d4 h_S_ (ix4 b h g i) = (μ : EReal) := by
  obtain ⟨μ, hμ⟩ := fold_real' f hf (Finset.univ.filter (fun y => reducesTo_S4x4x2x4096x4096_S4x4x2x4096_d4.drop y = (ix4 b h g i : S4x4x2x4096.Idx))) X hx
    (ix5 b h g i j) (Finset.mem_filter.mpr ⟨Finset.mem_univ _, drop_at b h g i j⟩) hb (z (Shape.Idx.first h_S_)) (hz _)
  exact ⟨μ, (Host.reduce_eq_fold f X z reducesTo_S4x4x2x4096x4096_S4x4x2x4096_d4 h_S_ (ix4 b h g i)).trans hμ⟩

theorem RD_at (X : FVec Ideal S4x4x2x4096x4096 .f32) (b h : Fin 4) (g : Fin 2) (i j : Fin 4096) (hx : ∀ y, X y ≠ ⊤)
    (hb : X (ix5 b h g i j) ≠ ⊥) : ∃ μ : ℝ, RD X (ix4 b h g i) = (μ : EReal) :=
  fold_filter (FloatOps.maximumf (F := Ideal) (φ := .f32)) rfl X (constant (F := Ideal) S_ .f32 0xFF800000#32) (fun _ => ofBits_ninf) b h g i j hx hb

theorem max_aux (R : FVec Ideal S4x4x2x4096 .f32) (y : S4x4x2x4096.Idx) (μ : ℝ) (hμ : R y = (μ : EReal)) :
    maximumf (broadcastInDim S4x4x2x4096 ![] bcast_S_S4x4x2x4096 (constant S_ .f32 0xFF800000#32)) R y = (μ : EReal) := by
  show max (Ideal.ofBits FTy.f32 4286578688#32) (R y) = _
  rw [hμ, ofBits_ninf, max_eq_right bot_le]

/-- A query with a real score has a real greatest one. -/
theorem MX_at (X : FVec Ideal S4x4x2x4096x4096 .f32) (b h : Fin 4) (g : Fin 2) (i j : Fin 4096) (hx : ∀ y, X y ≠ ⊤)
    (hb : X (ix5 b h g i j) ≠ ⊥) : ∃ μ : ℝ, MX X (ix4 b h g i) = (μ : EReal) := by
  obtain ⟨μ, hμ⟩ := RD_at X b h g i j hx hb
  exact ⟨μ, max_aux (RD X) (ix4 b h g i) μ hμ⟩

theorem EX_at (X : FVec Ideal S4x4x2x4096x4096 .f32) (b h : Fin 4) (g : Fin 2) (i j : Fin 4096) :
    EX X (ix5 b h g i j) = Ideal.exp (X (ix5 b h g i j) - MX X (ix4 b h g i)) := by
  unfold EX
  generalize MX X = M
  pointwise

theorem PR_at (X : FVec Ideal S4x4x2x4096x4096 .f32) (b h : Fin 4) (g : Fin 2) (i j : Fin 4096) :
    PR X (ix5 b h g i j) = Ideal.div (X (ix5 b h g i j)) (∑ k : Fin 4096, X (ix5 b h g i k)) := by
  pointwise [PR]

theorem AT_at (X : FVec Ideal S4x4x2x4096x4096 .f32) (b h : Fin 4) (i j : Fin 4096) :
    AT a3 X (ix4 b h i j) = X (ix5 b h 0 i j) - a3 (ix2 0 0) * X (ix5 b h 1 i j) := by
  pointwise [AT]

theorem OT_at (A : FVec Ideal S4x4x4096x4096 .f32) (b h : Fin 4) (i : Fin 4096) (d : Fin 128) :
    OT a2 A (ix4 b i h d) = ∑ j : Fin 4096, a2 (ix4 b j h d) * A (ix4 b h i j) := by
  pointwise [OT]

theorem NM_at (O : FVec Ideal S4x4096x4x128 .f32) (b h : Fin 4) (i : Fin 4096) (d : Fin 128) :
    NM a4 O (ix4 b i h d) = O (ix4 b i h d) * Ideal.rsqrt (Ideal.div (∑ k : Fin 128, O (ix4 b i h k) * O (ix4 b i h k)) (Ideal.ofBits FTy.f32 0x43000000#32) + Ideal.ofBits FTy.f32 0x358637BD#32) * a4 (ix2 0 d)
      * Ideal.ofBits FTy.f32 0x3F4CCCCD#32 := by
  pointwise [NM]

end Cert.ReferenceIdeal.Val

end
-- ==== Proof.Attn.RefReal.lean ====
/- The reference at one query and head, over arguments that are reals: the difference of the two groups' softmax ratios, normalised. -/
module

public import proofs.«01_k».proof.Proof.Attn.Ref
public import proofs.«01_k».proof.Proof.Attn.Spec

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Attn

variable (a0 a1 : FVec Ideal S4x4096x4x2x64 .f32) (a2 : FVec Ideal S4x4096x4x128 .f32) (a3 : FVec Ideal S1x1 .f32)
  (a4 : FVec Ideal S1x128 .f32)
  (Q K : Fin 4 → Fin 4096 → Fin 4 → Fin 2 → Fin 64 → ℝ) (V : Fin 4 → Fin 4096 → Fin 4 → Fin 128 → ℝ) (lr : ℝ)

theorem eighth : Ideal.ofBits FTy.f32 0x3E000000#32 = ((1 / 8 : ℝ) : EReal) := by
  simp [Ideal.ofBits, Ideal.ieee, -EReal.coe_mul]; norm_num

/-- The slopes' words. -/
theorem slope (h : Fin 4) : Ideal.ofBits FTy.f32 (lit0 (S4.rowMajor (ix1 h))) = ((sl h.val : ℝ) : EReal) := by
  have e : ∀ h : Fin 4, lit0 (S4.rowMajor (ix1 h)) = (![0x3E800000#32, 0x3D800000#32, 0x3C800000#32, 0x3B800000#32] : Fin 4 → BitVec 32) h := by
    decide
  rw [e h]
  unfold sl
  fin_cases h <;> (simp [Ideal.ofBits, Ideal.ieee, -EReal.coe_mul]; norm_num)

section
variable (hq : ∀ b p h g x, a0 (ix5 b p h g x) = ((Q b p h g x : ℝ) : EReal)) (hk : ∀ b p h g x, a1 (ix5 b p h g x) = ((K b p h g x : ℝ) : EReal))
include hq hk

theorem SC_real (b h : Fin 4) (g : Fin 2) (i j : Fin 4096) :
    SC a0 a1 (ix5 b h g i j) = if j ≤ i then ((sc Q K b h g i j : ℝ) : EReal) else ⊥ := by
  rw [SC_at]
  split_ifs with hji
  · simp only [hq, hk, eighth, slope, ← EReal.coe_mul, sum_coe, ← EReal.coe_neg, ← EReal.coe_add]
    rfl
  · rfl

theorem SC_top (y : S4x4x2x4096x4096.Idx) : SC a0 a1 y ≠ ⊤ := by
  idx_vars y
  rw [SC_real a0 a1 Q K hq hk]
  split_ifs
  · exact EReal.coe_ne_top _
  · exact bot_ne_top

/-- The softmax weights of one query, head and group. -/
theorem PR_real (b h : Fin 4) (g : Fin 2) (i : Fin 4096) : ∃ μ : ℝ, ∀ j : Fin 4096,
    PR (EX (SC a0 a1)) (ix5 b h g i j)
      = (((if j ≤ i then Real.exp (sc Q K b h g i ⟨j.val % 4096, Nat.mod_lt _ (by decide)⟩ - μ) else 0)
          / ∑ k ∈ Finset.range (i.val + 1), Real.exp (sc Q K b h g i ⟨k % 4096, Nat.mod_lt _ (by decide)⟩ - μ) : ℝ) : EReal) := by
  have hs : ∀ j : Fin 4096, SC a0 a1 (ix5 b h g i j)
      = if j ≤ i then ((sc Q K b h g i ⟨j.val % 4096, Nat.mod_lt _ (by decide)⟩ : ℝ) : EReal) else ⊥ := by
    intro j
    rw [SC_real a0 a1 Q K hq hk]
    have ej : (⟨j.val % 4096, Nat.mod_lt _ (by decide)⟩ : Fin 4096) = j := Fin.ext (Nat.mod_eq_of_lt j.isLt)
    rw [ej]
  obtain ⟨μ, hμ⟩ := MX_at (SC a0 a1) b h g i i (SC_top a0 a1 Q K hq hk) (by rw [hs i, if_pos le_rfl]; exact EReal.coe_ne_bot _)
  refine ⟨μ, fun j => ?_⟩
  rw [PR_at]
  simp only [EX_at, hμ]
  exact soft (fun n => sc Q K b h g i ⟨n % 4096, Nat.mod_lt _ (by decide)⟩) i μ (fun j => SC a0 a1 (ix5 b h g i j)) hs j

/-- The weighted values: the difference of the two groups' ratios. -/
theorem OT_real (hv : ∀ b p h d, a2 (ix4 b p h d) = ((V b p h d : ℝ) : EReal)) (hl : a3 (ix2 0 0) = (lr : EReal))
    (b h : Fin 4) (t : Fin 16) (r : Fin 256) (d : Fin 128) :
    OT a2 (AT a3 (PR (EX (SC a0 a1)))) (ix4 b ⟨t.val * 256 + r.val, by omega⟩ h d) = ((dif (mkD Q K V b) lr h t r d : ℝ) : EReal) := by
  set i : Fin 4096 := ⟨t.val * 256 + r.val, by omega⟩ with hi
  obtain ⟨μ0, h0⟩ := PR_real a0 a1 Q K hq hk b h 0 i
  obtain ⟨μ1, h1⟩ := PR_real a0 a1 Q K hq hk b h 1 i
  have hr : ∀ (g : Fin 2) (μ : ℝ), ratio (mkD Q K V b) h t (g.val * 256 + r.val) d
      = ∑ j : Fin 4096, V b j h d * ((if j ≤ i then Real.exp (sc Q K b h g i ⟨j.val % 4096, Nat.mod_lt _ (by decide)⟩ - μ) else 0)
          / ∑ k ∈ Finset.range (i.val + 1), Real.exp (sc Q K b h g i ⟨k % 4096, Nat.mod_lt _ (by decide)⟩ - μ)) := by
    intro g μ
    have hp : qpos t.val (g.val * 256 + r.val) = i.val := by
      unfold qpos
      rw [hi]
      show t.val * 256 + (g.val * 256 + r.val) % 256 = t.val * 256 + r.val
      omega
    rw [ratio_exp (mkD Q K V b) h t (g.val * 256 + r.val) d (fun n => sc Q K b h g i ⟨n % 4096, Nat.mod_lt _ (by decide)⟩)
      (sl h * ((t.val * 256 + r.val : ℕ) : ℝ)) μ]
    · rw [hp, ← wsum]
      refine Finset.sum_congr rfl fun j _ => ?_
      congr 1
      show (if (h.val * 144 + d.val) % 144 < 128 then _ else _) = _
      rw [if_pos (by omega)]
      show V b ⟨j.val % 4096, _⟩ ⟨(h.val * 144 + d.val) / 144 % 4, _⟩ ⟨(h.val * 144 + d.val) % 144 % 128, _⟩ = _
      simp only [show j.val % 4096 = j.val by omega, show (h.val * 144 + d.val) / 144 % 4 = h.val by omega,
        show (h.val * 144 + d.val) % 144 % 128 = d.val by omega]
    · intro j hj
      rw [hp] at hj
      have hj' : j < 4096 := by have := i.isLt; omega
      have := S_eq Q K V b h g t r ⟨j, hj'⟩
      have ej : (⟨j % 4096, Nat.mod_lt _ (by decide)⟩ : Fin 4096) = ⟨j, hj'⟩ := Fin.ext (Nat.mod_eq_of_lt hj')
      rw [ej]
      exact this
  rw [OT_at]
  have e0 := hr 0 μ0
  have e1 := hr 1 μ1
  simp only [Fin.val_zero, Nat.zero_mul, Nat.zero_add] at e0
  have e1' : ((1 : Fin 2).val * 256 + r.val) = 256 + r.val := by simp
  rw [e1'] at e1
  unfold dif
  rw [e0, e1, Finset.mul_sum, ← Finset.sum_sub_distrib, ← sum_coe]
  refine Finset.sum_congr rfl fun j _ => ?_
  rw [AT_at, h0, h1, hv, hl, ← EReal.coe_mul, ← EReal.coe_sub, ← EReal.coe_mul]
  congr 1
  ring

/-- The reference at one query and head. -/
theorem OUT_at (hv : ∀ b p h d, a2 (ix4 b p h d) = ((V b p h d : ℝ) : EReal)) (hl : a3 (ix2 0 0) = (lr : EReal))
    (b h : Fin 4) (t : Fin 16) (r : Fin 256) (d : Fin 128) :
    OUT a0 a1 a2 a3 a4 (ix4 b ⟨t.val * 256 + r.val, by omega⟩ h d)
      = nrm (fun k => ((dif (mkD Q K V b) lr h t r k : ℝ) : EReal)) (fun k => a4 (ix2 0 k)) d := by
  unfold OUT
  rw [NM_at]
  simp only [OT_real a0 a1 a2 a3 Q K V lr hq hk hv hl]
  rfl

end

end Cert.ReferenceIdeal.Val

end
-- ==== Proof.Attn.Final.lean ====
/- The call's result array: over arguments that are reals, it is the reference's term. -/
module

public import proofs.«01_k».proof.Proof.Gen.KernelIdeal.Value
public import proofs.«01_k».proof.Proof.Attn.Chain
public import proofs.«01_k».proof.Proof.Attn.Host
public import proofs.«01_k».proof.Proof.Attn.RefReal

@[expose] public section

set_option maxRecDepth 16384

noncomputable section

open Idealize.ShloMosaic Idealize.ShloMosaic.TcCoe Idealize.SL.Sem

namespace Cert.KernelIdeal.Val

open Cert.KernelIdeal Cert.KernelIdeal.Gen Attn

variable (m : (ℓ : Loc nD τ sig) → Buf (Elt Ideal) ℓ) (c : Dev nD)

/-- The four arguments the softmax reads hold reals. -/
structure Reals : Prop where
  q : ∀ y, A0 m c y = ((A0 m c y).toReal : EReal)
  k : ∀ y, A1 m c y = ((A1 m c y).toReal : EReal)
  v : ∀ y, A2 m c y = ((A2 m c y).toReal : EReal)
  l : ∀ y, A3 m c y = ((A3 m c y).toReal : EReal)

/-- The arguments' reals, by coordinates. -/
def Qr (b : Fin 4) (p : Fin 4096) (h : Fin 4) (g : Fin 2) (x : Fin 64) : ℝ := (A0 m c (ix5 b p h g x)).toReal
def Kr (b : Fin 4) (p : Fin 4096) (h : Fin 4) (g : Fin 2) (x : Fin 64) : ℝ := (A1 m c (ix5 b p h g x)).toReal
def Vr (b : Fin 4) (p : Fin 4096) (h : Fin 4) (x : Fin 128) : ℝ := (A2 m c (ix4 b p h x)).toReal
def lamr : ℝ := (A3 m c (ix2 0 0)).toReal

/-- One batch's data. -/
def DD (b : Fin 4) : Data := mkD (Qr m c) (Kr m c) (Vr m c) b

theorem idx : ∀ t : Fin cfg0.N, win0_0.index t = ![t.val / 16, 0] ∧ win0_1.index t = ![t.val / 16, 0] ∧ win0_2.index t = ![0, 0]
    ∧ win0_3.index t = ![0, 0] ∧ win0_4.index t = ![0, t.val / 16] ∧ win0_5.index t = ![0, 0] ∧ win0_6.index t = ![0, 0]
    ∧ win0_7.index t = ![t.val, 0] :=
  (by decide +kernel : ∀ t : Fin grid0.N, _)

theorem blkQ (hr : Reals m c) (t : Fin cfg0.N) (b : Fin 4) (hb : t.val / 16 = b.val) : BlkQ (DD m c b) (iblk m c 0 t) := fun p l => by
  have hp := p.isLt
  have hl := l.isLt
  have e : iblk m c 0 t (ix2 p l) = (V m c main_v9 : FVec Ideal S16384x512 .bf16) (ix2 ⟨t.val / 16 * 4096 + p.val, by omega⟩ l) := by
    blk_ext [iblk, idx t]
  rw [e, v9_at, hr.q, ← EReal.coe_mul]
  show _ = ((A0 m c (ix5 b ⟨p.val % 4096, _⟩ ⟨l.val / 128 % 4, _⟩ ⟨l.val / 64 % 2, _⟩ ⟨l.val % 64, _⟩)).toReal * (1 / 8 * (1 / Real.log 2) : ℝ) : EReal)
  simp only [show (t.val / 16 * 4096 + p.val) / 4096 = b.val by omega, show (t.val / 16 * 4096 + p.val) % 4096 = p.val % 4096 by omega,
    show l.val / 128 % 4 = l.val / 128 by omega, EReal.coe_mul]

theorem blkK (hr : Reals m c) (t : Fin cfg0.N) (b : Fin 4) (hb : t.val / 16 = b.val) : BlkK (DD m c b) (iblk m c 1 t) := fun p l => by
  have hp := p.isLt
  have hl := l.isLt
  have e : iblk m c 1 t (ix2 p l) = (V m c main_v11 : FVec Ideal S16384x512 .bf16) (ix2 ⟨t.val / 16 * 4096 + p.val, by omega⟩ l) := by
    blk_ext [iblk, idx t]
  rw [e, v11_at, hr.k]
  show _ = ((A1 m c (ix5 b ⟨p.val % 4096, _⟩ ⟨l.val / 128 % 4, _⟩ ⟨l.val / 64 % 2, _⟩ ⟨l.val % 64, _⟩)).toReal : EReal)
  simp only [show (t.val / 16 * 4096 + p.val) / 4096 = b.val by omega, show (t.val / 16 * 4096 + p.val) % 4096 = p.val % 4096 by omega,
    show l.val / 128 % 4 = l.val / 128 by omega]

theorem blkF (t : Fin cfg0.N) (b : Fin 4) : BlkF (DD m c b) (iblk m c 2 t) := fun p l => by
  have e : iblk m c 2 t (ix2 p l) = (V m c main_v59 : FVec Ideal S4096x128 .bf16) (ix2 p l) := by
    blk_ext [iblk, idx t]
  rw [e, v59_at]
  rfl

theorem blkC (t : Fin cfg0.N) (b : Fin 4) : BlkC (DD m c b) (iblk m c 3 t) := fun p l => by
  have e : iblk m c 3 t (ix2 p l) = (V m c main_v57 : FVec Ideal S4x128 .f32) (ix2 p l) := by
    blk_ext [iblk, idx t]
  rw [e, v57_at]
  rfl

theorem blkV (hr : Reals m c) (t : Fin cfg0.N) (b : Fin 4) (hb : t.val / 16 = b.val) : BlkV (DD m c b) (iblk m c 4 t) := fun r p => by
  have hp := p.isLt
  have hl := r.isLt
  have e : iblk m c 4 t (ix2 r p) = (V m c main_v17 : FVec Ideal S576x16384 .bf16) (ix2 r ⟨t.val / 16 * 4096 + p.val, by omega⟩) := by
    blk_ext [iblk, idx t]
  rw [e, v17_at]
  show _ = ((if r.val % 144 < 128 then (A2 m c (ix4 b ⟨p.val % 4096, _⟩ ⟨r.val / 144 % 4, _⟩ ⟨r.val % 144 % 128, _⟩)).toReal else 1 : ℝ) : EReal)
  by_cases h : r.val % 144 < 128
  · rw [dif_pos h, if_pos h, hr.v]
    simp only [show (t.val / 16 * 4096 + p.val) / 4096 = b.val by omega, show (t.val / 16 * 4096 + p.val) % 4096 = p.val % 4096 by omega,
      show r.val / 144 % 4 = r.val / 144 by omega, show r.val % 144 % 128 = r.val % 144 by omega]
  · rw [dif_neg h, if_neg h]
    rfl

theorem vr_one (b : Fin 4) (r p : ℕ) (h : ¬ r % 144 < 128) : (DD m c b).vr r p = 1 := by
  unfold DD mkD
  exact if_neg h

/-- Every point of a batch reads the batch's data. -/
theorem blk (hr : Reals m c) (b : Fin 4) (t : Fin cfg0.N) (hb : t.val / 16 = b.val) : Blk (DD m c b) (lamr m c) m c t where
  q := blkQ m c hr t b hb
  k := blkK m c hr t b hb
  f := blkF m c t b
  cc := blkC m c t b
  v := blkV m c hr t b hb
  l := by
    have e : iblk m c 5 t (ix2 0 0) = (V m c main_v18 : FVec Ideal S8x128 .f32) (ix2 0 0) := by
      blk_ext [iblk, idx t]
    rw [e, v18_at, hr.l]
    rfl
  o0 := fun p => vr_one m c b _ p (by decide)
  o1 := fun p => vr_one m c b _ p (by decide)
  o2 := fun p => vr_one m c b _ p (by decide)
  o3 := fun p => vr_one m c b _ p (by decide)

/-- The result array after the run is the reference's term over the same arguments. -/
theorem final (hr : Reals m c) : Value.G7 m c = truncf .bf16 (shapeCast _ (Cert.ReferenceIdeal.Val.OUT (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4))) Cert.ReferenceIdeal.Gen.shapeCasts_S4x4096x4x128_S16384x512) Cert.ReferenceIdeal.Gen.bitsLt_bf16_f32 := by
  rw [← Value.final7 m c]
  refine (dats m 0 c).arrAt_eq_of_covers 7 _ (by decide +kernel) fun t _ y => ?_
  blk_simp
  rw [after0_7]
  idx_vars y
  have hb := idx t
  have ht : t.val < 64 := t.isLt
  have h0 := y0.isLt
  have h1 := y1.isLt
  have ey : ((cfg0.win 7).blk t).view.emb (ix2 y0 y1) = (ix2 (⟨t.val * 256 + y0.val, by omega⟩ : Fin 16384) y1 : S16384x512.Idx) := by
    blk_ext [idx t]
  have hB : ∀ t' : Fin cfg0.N, t'.val / 16 = (⟨t.val / 16, by omega⟩ : Fin 4).val → Blk (DD m c ⟨t.val / 16, by omega⟩) (lamr m c) m c t' :=
    fun t' h => blk m c hr _ t' h
  rw [out_at (DD m c ⟨t.val / 16, by omega⟩) (lamr m c) m c (t.val / 16) hB t rfl]
  refine Eq.trans ?_ (congrArg _ ey.symm)
  have key := Cert.ReferenceIdeal.Val.OUT_at (A0 m c) (A1 m c) (A2 m c) (A3 m c) (m ((c.tc : Thread nD τ).loc main_arg4)) (Qr m c) (Kr m c) (Vr m c) (lamr m c)
    (fun _ _ _ _ _ => hr.q _) (fun _ _ _ _ _ => hr.k _) (fun _ _ _ _ => hr.v _) (hr.l _) ⟨t.val / 16, by omega⟩ ⟨y1.val / 128, by omega⟩
    ⟨t.val % 16, by omega⟩ y0 ⟨y1.val % 128, by omega⟩
  pointwise
  have ei : (ix4 (⟨t.val / 16, by omega⟩ : Fin 4) (⟨t.val % 16 * 256 + y0.val, by omega⟩ : Fin 4096) (⟨y1.val / 128, by omega⟩ : Fin 4)
      (⟨y1.val % 128, by omega⟩ : Fin 128))
    = ix4 (⟨(t.val * 256 + y0.val) / 4096, by omega⟩ : Fin 4) (⟨(t.val * 256 + y0.val) % 4096, by omega⟩ : Fin 4096) (⟨y1.val / 128, by omega⟩ : Fin 4)
      (⟨y1.val % 128, by omega⟩ : Fin 128) := by
    simp only [show (t.val * 256 + y0.val) / 4096 = t.val / 16 by omega, show (t.val * 256 + y0.val) % 4096 = t.val % 16 * 256 + y0.val by omega]
  rw [ei] at key
  refine Eq.trans ?_ key.symm
  unfold tgt
  have eg : ∀ k : Fin 128, iblk m c 6 t (ix2 0 k) = m ((c.tc : Thread nD τ).loc main_arg4) (ix2 0 k) := fun k => by
    blk_point [iblk, V, idx t]
  refine congrArg₂ (fun f g => nrm f g _) rfl (funext fun k => eg k)

end Cert.KernelIdeal.Val

end
-- ==== Proof.Attn.Pre.lean ====
/- The precondition read: each of the four arguments holds reals. -/
module

public import proofs.«01_k».proof.Defs
public import proofs.«01_k».proof.Proof.Attn.PreFacts
public import proofs.«01_k».proof.Proof.Attn.Final
public import Idealize.ShloMosaic.Lib.ReduceAll

@[expose] public section

set_option maxRecDepth 16384

noncomputable section

open Idealize.ShloMosaic Idealize.ShloMosaic.TcCoe Idealize.SL.Sem

namespace Cert.Pre_finite.Val

open Cert.Pre_finite

theorem andi_one (a b : BitVec 1) : IntOp.andi a b = 1#1 ↔ a = 1#1 ∧ b = 1#1 := by revert a b; decide

theorem real_of (x : EReal) (h : Ideal.cmp .olt (max x (-x)) (Ideal.ofBits .f32 0x7F800000#32) = 1#1) : x = ((x.toReal : ℝ) : EReal) := by
  have e : Ideal.ofBits .f32 0x7F800000#32 = ⊤ := by
    simp [Ideal.ofBits, Ideal.ieee]
  rw [e] at h
  have h' : max x (-x) < ⊤ := by
    by_contra hn
    rw [Ideal.cmp, decide_eq_false hn] at h
    exact absurd h (by decide)
  refine (EReal.coe_toReal (fun hx => ?_) (fun hx => ?_)).symm
  · rw [hx] at h'
    simp at h'
  · rw [hx] at h'
    simp at h'

instance : Subsingleton S_.Idx := ⟨fun a b => funext fun i => i.elim0⟩

/-- An array whose entries' magnitudes are all below infinity holds reals. -/
theorem reals_of {s : Shape} {dims : List (Fin s.rank)} (x : FVec Ideal s .f32) (hb : S_.BroadcastsInDim s (![] : Fin 0 → Fin s.rank)) (hr : s.ReducesTo dims S_)
    (hp : 0 < S_.numel) (i : S_.Idx)
    (h : Host.reduce IntOp.andi (cmpf .olt (Host.absf x) (broadcastInDim s ![] hb (constant S_ .f32 0x7F800000#32))) (constantI S_ 1 1#1) hr hp i = 1#1)
    (y : s.Idx) : x y = ((EReal.toReal (x y) : ℝ) : EReal) := by
  have := Host.reduce_andi_all _ _ _ _ _ h y
  exact real_of _ this

end Cert.Pre_finite.Val

namespace Cert.KernelIdeal.Val

open Cert.KernelIdeal Cert.KernelIdeal.Gen

/-- Where the precondition holds, the arguments hold reals. -/
theorem reals (m : (ℓ : Loc nD τ sig) → Buf (Elt Ideal) ℓ) (h : Cert.Pre_KernelIdeal_finite m) (c : Dev nD) : Reals m c := by
  have h' := congrFun (h c) (fun i => i.elim0)
  simp only [Cert.Pre_finite.fn, Cert.Pre_finite.fn_part1] at h'
  obtain ⟨h012, h3⟩ := (Cert.Pre_finite.Val.andi_one _ _).1 h'
  obtain ⟨h01, h2⟩ := (Cert.Pre_finite.Val.andi_one _ _).1 h012
  obtain ⟨h0, h1⟩ := (Cert.Pre_finite.Val.andi_one _ _).1 h01
  exact ⟨fun y => Cert.Pre_finite.Val.reals_of (A0 m c) Cert.Pre_finite.Val.bcast_S_S4x4096x4x2x64 Cert.Pre_finite.Val.reducesTo_S4x4096x4x2x64_S_d0_1_2_3_4
      Cert.Pre_finite.Val.h_S_ (fun i => i.elim0) h0 y,
    fun y => Cert.Pre_finite.Val.reals_of (A1 m c) Cert.Pre_finite.Val.bcast_S_S4x4096x4x2x64 Cert.Pre_finite.Val.reducesTo_S4x4096x4x2x64_S_d0_1_2_3_4
      Cert.Pre_finite.Val.h_S_ (fun i => i.elim0) h1 y,
    fun y => Cert.Pre_finite.Val.reals_of (A2 m c) Cert.Pre_finite.Val.bcast_S_S4x4096x4x128 Cert.Pre_finite.Val.reducesTo_S4x4096x4x128_S_d0_1_2_3
      Cert.Pre_finite.Val.h_S_ (fun i => i.elim0) h2 y,
    fun y => Cert.Pre_finite.Val.reals_of (A3 m c) Cert.Pre_finite.Val.bcast_S_S1x1 Cert.Pre_finite.Val.reducesTo_S1x1_S_d0_1
      Cert.Pre_finite.Val.h_S_ (fun i => i.elim0) h3 y⟩

end Cert.KernelIdeal.Val

end
-- ==== Proof.Mlp.Row.lean ====
/- The output block of the layer for ONE token, as plain arithmetic on extended reals: the two gated branches mixed
   through the output projection and added to the residual row, a gained root-mean-square normalisation, the
   squared-rectifier feed-forward block, and the closing normalisation. Both programs are proved equal to `Mlp.out`. -/
module

public import Idealize.ShloMosaic.PureOps.Ideal
public import Mathlib.Algebra.BigOperators.Fin

@[expose] public section

noncomputable section

open Idealize.ShloMosaic

namespace Cert.Mlp

/-- The residual row after the gated mix: `x + (gy + gb * (on @ wb)) @ wo`. -/
def x1 (x gy gb : Fin 1024 → EReal) (on : Fin 512 → EReal) (wb : Fin 512 → Fin 1024 → EReal)
    (wo : Fin 1024 → Fin 1024 → EReal) (j : Fin 1024) : EReal :=
  x j + ∑ k, (gy k + gb k * ∑ l, on l * wb l k) * wo k j

/-- The reciprocal root mean square of a row (the two words are the row's length 1024 and the program's epsilon). -/
def rs (x : Fin 1024 → EReal) : EReal :=
  Ideal.rsqrt (Ideal.div (∑ k, x k * x k) (Ideal.ofBits FTy.f32 1149239296#32) + Ideal.ofBits FTy.f32 897988541#32)

/-- The gained normalisation of a row. -/
def nrm (x g : Fin 1024 → EReal) (j : Fin 1024) : EReal := x j * rs x * g j

/-- One hidden unit of the feed-forward block: the rectified product. -/
def hid (h : Fin 1024 → EReal) (w : Fin 1024 → EReal) : EReal := max (∑ k, h k * w k) 0

/-- The feed-forward block: squared hidden units through the second matrix. -/
def ff (h : Fin 1024 → EReal) (w1 : Fin 1024 → Fin 4096 → EReal) (w2 : Fin 4096 → Fin 1024 → EReal) (j : Fin 1024) : EReal :=
  ∑ f, hid h (fun k => w1 k f) * hid h (fun k => w1 k f) * w2 f j

/-- The residual row after the feed-forward block. -/
def x2 (x gy gb : Fin 1024 → EReal) (on : Fin 512 → EReal) (wb : Fin 512 → Fin 1024 → EReal)
    (wo : Fin 1024 → Fin 1024 → EReal) (gm : Fin 1024 → EReal) (w1 : Fin 1024 → Fin 4096 → EReal)
    (w2 : Fin 4096 → Fin 1024 → EReal) (j : Fin 1024) : EReal :=
  x1 x gy gb on wb wo j + ff (nrm (x1 x gy gb on wb wo) gm) w1 w2 j

/-- The whole output row. -/
def out (x gy gb : Fin 1024 → EReal) (on : Fin 512 → EReal) (wb : Fin 512 → Fin 1024 → EReal)
    (wo : Fin 1024 → Fin 1024 → EReal) (gm : Fin 1024 → EReal) (w1 : Fin 1024 → Fin 4096 → EReal)
    (w2 : Fin 4096 → Fin 1024 → EReal) (gf : Fin 1024 → EReal) (j : Fin 1024) : EReal :=
  nrm (x2 x gy gb on wb wo gm w1 w2) gf j

/-- A sum over 4096 hidden units is the sum of its four consecutive quarters, added in order. -/
theorem sum_quarters (f : Fin 4096 → EReal) :
    ∑ i, f i = (∑ i : Fin 1024, f ⟨i.val, by omega⟩) + (∑ i : Fin 1024, f ⟨1024 + i.val, by omega⟩)
      + (∑ i : Fin 1024, f ⟨2048 + i.val, by omega⟩) + (∑ i : Fin 1024, f ⟨3072 + i.val, by omega⟩) := by
  have h1 := Fin.sum_univ_add (a := 3072) (b := 1024) f
  have h2 := Fin.sum_univ_add (a := 2048) (b := 1024) (fun i => f (Fin.castAdd 1024 i))
  have h3 := Fin.sum_univ_add (a := 1024) (b := 1024) (fun i => f (Fin.castAdd 1024 (Fin.castAdd 1024 i)))
  exact h1.trans (congrArg (· + _) (h2.trans (congrArg (· + _) h3)))

/-- The residual row with the feed-forward block added a quarter at a time. -/
theorem x2_quarters (x gy gb : Fin 1024 → EReal) (on : Fin 512 → EReal) (wb : Fin 512 → Fin 1024 → EReal)
    (wo : Fin 1024 → Fin 1024 → EReal) (gm : Fin 1024 → EReal) (w1 : Fin 1024 → Fin 4096 → EReal)
    (w2 : Fin 4096 → Fin 1024 → EReal) (j : Fin 1024) (u v : Fin 4096 → EReal)
    (hu : ∀ f, u f = hid (nrm (x1 x gy gb on wb wo) gm) (fun k => w1 k f)) (hv : ∀ f, v f = w2 f j) :
    x1 x gy gb on wb wo j + (∑ i : Fin 1024, u ⟨i.val, by omega⟩ * u ⟨i.val, by omega⟩ * v ⟨i.val, by omega⟩)
      + (∑ i : Fin 1024, u ⟨1024 + i.val, by omega⟩ * u ⟨1024 + i.val, by omega⟩ * v ⟨1024 + i.val, by omega⟩)
      + (∑ i : Fin 1024, u ⟨2048 + i.val, by omega⟩ * u ⟨2048 + i.val, by omega⟩ * v ⟨2048 + i.val, by omega⟩)
      + (∑ i : Fin 1024, u ⟨3072 + i.val, by omega⟩ * u ⟨3072 + i.val, by omega⟩ * v ⟨3072 + i.val, by omega⟩)
      = x2 x gy gb on wb wo gm w1 w2 j := by
  obtain rfl : u = _ := funext hu
  obtain rfl : v = _ := funext hv
  simp only [x2, ff, sum_quarters, add_assoc]

end Cert.Mlp
-- ==== Proof.Mlp.Body.lean ====
/- The kernel's body at one grid point, over variable blocks: row `r` of what it stores is `Mlp.out` of row `r` of its
   input blocks. The two feed-forward matrices arrive as four column (row) slices each. -/
module

public import proofs.«01_k».proof.Proof.Gen.Kernel2Ideal.Skeleton
public import proofs.«01_k».proof.Proof.Mlp.Row
public import Idealize.ShloMosaic.Lib.Pipeline.ValueKit

@[expose] public section

set_option maxRecDepth 16384

noncomputable section

open Idealize.ShloMosaic Idealize.ShloMosaic.TcCoe Idealize.SL.Sem

namespace Cert.Kernel2Ideal.Val

open Cert.Kernel2Ideal Cert.Kernel2Ideal.Gen

section Payloads

variable (v3 : Vec Ideal S512x512 .bf16) (v5 : Vec Ideal S512x1024 .bf16) (v7 v10 : Vec Ideal S512x1024 .bf16)
  (v15 : Vec Ideal S512x1024 .f32) (v18 : Vec Ideal S1024x1024 .bf16) (v31 : Vec Ideal S1x1024 .f32)
  (W1 : Vec Ideal S1024x4096 .bf16) (W2 : Vec Ideal S4096x1024 .bf16) (v89 : Vec Ideal S1x1024 .f32)

/-- The mixed residual row. -/
theorem pay4_at (r : Fin 512) (j : Fin 1024) :
    k0_pay4 v3 v5 v7 v10 v15 v18 (ix2 r j)
      = Mlp.x1 (fun k => v15 (ix2 r k)) (fun k => v7 (ix2 r k)) (fun k => v10 (ix2 r k)) (fun l => v3 (ix2 r l))
          (fun l k => v5 (ix2 l k)) (fun k j => v18 (ix2 k j)) j := by
  unfold Mlp.x1
  pointwise [k0_pay4]

/-- The normalised row the feed-forward block reads. -/
theorem pay5_at (r : Fin 512) (j : Fin 1024) :
    k0_pay5 v3 v5 v7 v10 v15 v18 v31 (ix2 r j)
      = Mlp.nrm (Mlp.x1 (fun k => v15 (ix2 r k)) (fun k => v7 (ix2 r k)) (fun k => v10 (ix2 r k)) (fun l => v3 (ix2 r l))
          (fun l k => v5 (ix2 l k)) (fun k j => v18 (ix2 k j))) (fun k => v31 (ix2 0 k)) j := by
  unfold Mlp.nrm Mlp.rs
  pointwise [k0_pay5]
  simp only [pay4_at]

/-- The residual row after the first three quarters of the hidden units. -/
theorem pay6_at (v20 : FVec Ideal S512x1024 .f32) (v34 : FVec Ideal S512x1024 .bf16) (a0 b0 a1 b1 a2 b2 : Vec Ideal S1024x1024 .bf16)
    (r : Fin 512) (j : Fin 1024) :
    k0_pay6 v20 v34 a0 b0 a1 b1 a2 b2 (ix2 r j)
      = v20 (ix2 r j)
        + (∑ i, Mlp.hid (fun k => v34 (ix2 r k)) (fun k => a0 (ix2 k i)) * Mlp.hid (fun k => v34 (ix2 r k)) (fun k => a0 (ix2 k i)) * b0 (ix2 i j))
        + (∑ i, Mlp.hid (fun k => v34 (ix2 r k)) (fun k => a1 (ix2 k i)) * Mlp.hid (fun k => v34 (ix2 r k)) (fun k => a1 (ix2 k i)) * b1 (ix2 i j))
        + (∑ i, Mlp.hid (fun k => v34 (ix2 r k)) (fun k => a2 (ix2 k i)) * Mlp.hid (fun k => v34 (ix2 r k)) (fun k => a2 (ix2 k i)) * b2 (ix2 i j)) := by
  unfold Mlp.hid
  pointwise [k0_pay6]

/-- The last quarter and the closing normalisation. -/
theorem pay1_at (v67 : FVec Ideal S512x1024 .f32) (v34 : FVec Ideal S512x1024 .bf16) (a3 b3 : Vec Ideal S1024x1024 .bf16)
    (X : Fin 1024 → EReal) (r : Fin 512)
    (hX : ∀ j, v67 (ix2 r j) + (∑ i, Mlp.hid (fun k => v34 (ix2 r k)) (fun k => a3 (ix2 k i)) * Mlp.hid (fun k => v34 (ix2 r k)) (fun k => a3 (ix2 k i)) * b3 (ix2 i j)) = X j)
    (j : Fin 1024) :
    k0_pay1 v67 (k0_pay7 v34 a3) k0_pay8 b3 v89 (ix2 r j) = Mlp.nrm X (fun k => v89 (ix2 0 k)) j := by
  obtain rfl : X = _ := funext fun j => (hX j).symm
  unfold Mlp.nrm Mlp.rs Mlp.hid
  pointwise [k0_pay1, k0_pay7, k0_pay8]

/-- The body over variable blocks. -/
theorem body_at (a0 b0 a1 b1 a2 b2 a3 b3 : Vec Ideal S1024x1024 .bf16)
    (ha0 : ∀ k i : Fin 1024, a0 (ix2 k i) = W1 (ix2 k ⟨i.val, by omega⟩)) (hb0 : ∀ i j : Fin 1024, b0 (ix2 i j) = W2 (ix2 ⟨i.val, by omega⟩ j))
    (ha1 : ∀ k i : Fin 1024, a1 (ix2 k i) = W1 (ix2 k ⟨1024 + i.val, by omega⟩)) (hb1 : ∀ i j : Fin 1024, b1 (ix2 i j) = W2 (ix2 ⟨1024 + i.val, by omega⟩ j))
    (ha2 : ∀ k i : Fin 1024, a2 (ix2 k i) = W1 (ix2 k ⟨2048 + i.val, by omega⟩)) (hb2 : ∀ i j : Fin 1024, b2 (ix2 i j) = W2 (ix2 ⟨2048 + i.val, by omega⟩ j))
    (ha3 : ∀ k i : Fin 1024, a3 (ix2 k i) = W1 (ix2 k ⟨3072 + i.val, by omega⟩)) (hb3 : ∀ i j : Fin 1024, b3 (ix2 i j) = W2 (ix2 ⟨3072 + i.val, by omega⟩ j))
    (r : Fin 512) (j : Fin 1024) :
    k0_pay1 (k0_pay6 (k0_pay4 v3 v5 v7 v10 v15 v18) (k0_pay5 v3 v5 v7 v10 v15 v18 v31) a0 b0 a1 b1 a2 b2)
        (k0_pay7 (k0_pay5 v3 v5 v7 v10 v15 v18 v31) a3) k0_pay8 b3 v89 (ix2 r j)
      = Mlp.out (fun k => v15 (ix2 r k)) (fun k => v7 (ix2 r k)) (fun k => v10 (ix2 r k)) (fun l => v3 (ix2 r l))
          (fun l k => v5 (ix2 l k)) (fun k j => v18 (ix2 k j)) (fun k => v31 (ix2 0 k)) (fun k f => W1 (ix2 k f))
          (fun f j => W2 (ix2 f j)) (fun k => v89 (ix2 0 k)) j := by
  refine pay1_at v89 _ _ a3 b3 _ r (fun j => ?_) j
  rw [pay6_at, pay4_at]
  simp only [pay5_at, ha0, hb0, ha1, hb1, ha2, hb2, ha3, hb3]
  exact Mlp.x2_quarters _ _ _ _ _ _ _ _ _ j (fun f => Mlp.hid _ (fun k => W1 (ix2 k f))) (fun f => W2 (ix2 f j)) (fun f => rfl) (fun f => rfl)

/-! The quarter slices of the two feed-forward matrices, read at an index. -/

theorem ld1_0 (W : Vec Ideal S1024x4096 .bf16) (k i : Fin 1024) :
    View.ld W (Rect.unit ![0, 0] ![1024, 1024] inb_S1024x4096_S1024x1024_0_0) (ix2 k i) = W (ix2 k ⟨i.val, by omega⟩) := by
  pointwise
theorem ld2_0 (W : Vec Ideal S4096x1024 .bf16) (i j : Fin 1024) :
    View.ld W (Rect.unit ![0, 0] ![1024, 1024] inb_S4096x1024_S1024x1024_0_0) (ix2 i j) = W (ix2 ⟨i.val, by omega⟩ j) := by
  pointwise

theorem ld1_1024 (W : Vec Ideal S1024x4096 .bf16) (k i : Fin 1024) :
    View.ld W (Rect.unit ![0, 1024] ![1024, 1024] inb_S1024x4096_S1024x1024_0_1024) (ix2 k i) = W (ix2 k ⟨1024 + i.val, by omega⟩) := by
  pointwise
theorem ld2_1024 (W : Vec Ideal S4096x1024 .bf16) (i j : Fin 1024) :
    View.ld W (Rect.unit ![1024, 0] ![1024, 1024] inb_S4096x1024_S1024x1024_1024_0) (ix2 i j) = W (ix2 ⟨1024 + i.val, by omega⟩ j) := by
  pointwise

theorem ld1_2048 (W : Vec Ideal S1024x4096 .bf16) (k i : Fin 1024) :
    View.ld W (Rect.unit ![0, 2048] ![1024, 1024] inb_S1024x4096_S1024x1024_0_2048) (ix2 k i) = W (ix2 k ⟨2048 + i.val, by omega⟩) := by
  pointwise
theorem ld2_2048 (W : Vec Ideal S4096x1024 .bf16) (i j : Fin 1024) :
    View.ld W (Rect.unit ![2048, 0] ![1024, 1024] inb_S4096x1024_S1024x1024_2048_0) (ix2 i j) = W (ix2 ⟨2048 + i.val, by omega⟩ j) := by
  pointwise

theorem ld1_3072 (W : Vec Ideal S1024x4096 .bf16) (k i : Fin 1024) :
    View.ld W (Rect.unit ![0, 3072] ![1024, 1024] inb_S1024x4096_S1024x1024_0_3072) (ix2 k i) = W (ix2 k ⟨3072 + i.val, by omega⟩) := by
  pointwise
theorem ld2_3072 (W : Vec Ideal S4096x1024 .bf16) (i j : Fin 1024) :
    View.ld W (Rect.unit ![3072, 0] ![1024, 1024] inb_S4096x1024_S1024x1024_3072_0) (ix2 i j) = W (ix2 ⟨3072 + i.val, by omega⟩ j) := by
  pointwise

/-- The body over whole input blocks. -/
theorem body (r : Fin 512) (j : Fin 1024) :
    k0_pay1 (k0_pay6 (k0_pay4 v3 v5 v7 v10 v15 v18) (k0_pay5 v3 v5 v7 v10 v15 v18 v31) (View.ld W1 (Rect.unit ![0, 0] ![1024, 1024] inb_S1024x4096_S1024x1024_0_0)) (View.ld W2 (Rect.unit ![0, 0] ![1024, 1024] inb_S4096x1024_S1024x1024_0_0)) (View.ld W1 (Rect.unit ![0, 1024] ![1024, 1024] inb_S1024x4096_S1024x1024_0_1024)) (View.ld W2 (Rect.unit ![1024, 0] ![1024, 1024] inb_S4096x1024_S1024x1024_1024_0)) (View.ld W1 (Rect.unit ![0, 2048] ![1024, 1024] inb_S1024x4096_S1024x1024_0_2048)) (View.ld W2 (Rect.unit ![2048, 0] ![1024, 1024] inb_S4096x1024_S1024x1024_2048_0)))
        (k0_pay7 (k0_pay5 v3 v5 v7 v10 v15 v18 v31) (View.ld W1 (Rect.unit ![0, 3072] ![1024, 1024] inb_S1024x4096_S1024x1024_0_3072))) k0_pay8 (View.ld W2 (Rect.unit ![3072, 0] ![1024, 1024] inb_S4096x1024_S1024x1024_3072_0)) v89 (ix2 r j)
      = Mlp.out (fun k => v15 (ix2 r k)) (fun k => v7 (ix2 r k)) (fun k => v10 (ix2 r k)) (fun l => v3 (ix2 r l))
          (fun l k => v5 (ix2 l k)) (fun k j => v18 (ix2 k j)) (fun k => v31 (ix2 0 k)) (fun k f => W1 (ix2 k f))
          (fun f j => W2 (ix2 f j)) (fun k => v89 (ix2 0 k)) j :=
  body_at v3 v5 v7 v10 v15 v18 v31 W1 W2 v89 _ _ _ _ _ _ _ _ (ld1_0 W1) (ld2_0 W2) (ld1_1024 W1) (ld2_1024 W2)
    (ld1_2048 W1) (ld2_2048 W2) (ld1_3072 W1) (ld2_3072 W2) r j

/-- The casts of the two carried matrices change nothing. -/
theorem pay2_eq (v : Vec Ideal S512x1024 .f32) (l : Fin 512) (k : Fin 1024) : k0_pay2 v (ix2 l k) = v (ix2 l k) := by
  pointwise [k0_pay2]
theorem pay3_eq (v : Vec Ideal S1024x1024 .f32) (k j : Fin 1024) : k0_pay3 v (ix2 k j) = v (ix2 k j) := by
  pointwise [k0_pay3]

end Payloads

end Cert.Kernel2Ideal.Val
-- ==== Proof.Mlp.Ref.lean ====
/- The reference of the output block: its composed term, named stage by stage, read at token (b, s) is `Mlp.out` of
   that token's rows. -/
module

public import proofs.«01_k».proof.Proof.Gen.Reference2Ideal.Run
public import proofs.«01_k».proof.Proof.Mlp.Row
public import Idealize.ShloMosaic.Lib.Pipeline.ValueKit

@[expose] public section

set_option maxRecDepth 16384

noncomputable section

open Idealize.ShloMosaic Idealize.ShloMosaic.TcCoe Idealize.SL.Sem

namespace Cert.Reference2Ideal.Val

open Cert.Reference2Ideal Cert.Reference2Ideal.Gen

variable (a0 a1 a2 a3 : FVec Ideal S4x4096x1024 .f32) (a4 : FVec Ideal S4x4096x512 .f32) (a5 : FVec Ideal S1x512x1024 .f32)
  (a6 : FVec Ideal S1x1024x1024 .f32) (a7 : FVec Ideal S1x1024 .f32) (a8 : FVec Ideal S1x1024x4096 .f32)
  (a9 : FVec Ideal S1x4096x1024 .f32) (a10 : FVec Ideal S1024 .f32)

/-- The gated mix on top of the residual stream. -/
def X1 : FVec Ideal S4x4096x1024 .f32 :=
  addf a0 (Host.dotGeneral dot_S4x4096x1024_S1024x1024_S4x4096x1024_2_0_01_1_n_n none (addf (mulf a1 a2) (mulf a3 (Host.dotGeneral dot_S4x4096x512_S512x1024_S4x4096x1024_2_0_01_1_n_n none a4 (shapeCast _ a5 shapeCasts_S1x512x1024_S512x1024)))) (shapeCast _ a6 shapeCasts_S1x1024x1024_S1024x1024))

/-- The gained normalisation over the last axis. -/
def NRM (X : FVec Ideal S4x4096x1024 .f32) (g : FVec Ideal S1024 .f32) : FVec Ideal S4x4096x1024 .f32 :=
  mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- The rectified hidden units. -/
def HID (H : FVec Ideal S4x4096x1024 .f32) : FVec Ideal S4x4096x4096 .f32 :=
  maximumf (Host.dotGeneral dot_S4x4096x1024_S1024x4096_S4x4096x4096_2_0_01_1_n_n none H (shapeCast _ a8 shapeCasts_S1x1024x4096_S1024x4096)) (broadcastInDim S4x4096x4096 ![] bcast_S_S4x4096x4096 (constant S_ .f32 0x00000000#32))

/-- The residual stream after the feed-forward block. -/
def FF (X : FVec Ideal S4x4096x1024 .f32) (U : FVec Ideal S4x4096x4096 .f32) : FVec Ideal S4x4096x1024 .f32 :=
  addf X (Host.dotGeneral dot_S4x4096x4096_S4096x1024_S4x4096x1024_2_0_01_1_n_n none (mulf U U) (shapeCast _ a9 shapeCasts_S1x4096x1024_S4096x1024))

/-- The residual stream at the end, before the closing normalisation. -/
def X2 : FVec Ideal S4x4096x1024 .f32 :=
  FF a9 (X1 a0 a1 a2 a3 a4 a5 a6) (HID a8 (NRM (X1 a0 a1 a2 a3 a4 a5 a6) (shapeCast _ a7 shapeCasts_S1x1024_S1024)))

/-- The whole result before the closing reshape. -/
def OUT : FVec Ideal S4x4096x1024 .f32 := NRM (X2 a0 a1 a2 a3 a4 a5 a6 a7 a8 a9) a10

/-- The reference's composed term is the stages above, reshaped. -/
theorem res_eq (m : (ℓ : Loc nD τ sig) → Buf (Elt Ideal) ℓ) (c : Dev nD) :
    Value.res_out0 m c = shapeCast _ (OUT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)))
      shapeCasts_S4x4096x1024_S16384x1024 := rfl

/-- The gated mix at one token. -/
theorem X1_at (b : Fin 4) (s : Fin 4096) (j : Fin 1024) :
    X1 a0 a1 a2 a3 a4 a5 a6 (ix3 b s j)
      = Mlp.x1 (fun k => a0 (ix3 b s k)) (fun k => a1 (ix3 b s k) * a2 (ix3 b s k)) (fun k => a3 (ix3 b s k)) (fun l => a4 (ix3 b s l))
          (fun l k => a5 (ix3 0 l k)) (fun k j => a6 (ix3 0 k j)) j := by
  unfold Mlp.x1
  pointwise [X1]

/-- The normalisation at one token. -/
theorem NRM_at (X : FVec Ideal S4x4096x1024 .f32) (g : FVec Ideal S1024 .f32) (b : Fin 4) (s : Fin 4096) (j : Fin 1024) :
    NRM X g (ix3 b s j) = Mlp.nrm (fun k => X (ix3 b s k)) (fun k => g (ix1 k)) j := by
  unfold Mlp.nrm Mlp.rs
  pointwise [NRM]

/-- One hidden unit at one token. -/
theorem HID_at (H : FVec Ideal S4x4096x1024 .f32) (b : Fin 4) (s : Fin 4096) (f : Fin 4096) :
    HID a8 H (ix3 b s f) = Mlp.hid (fun k => H (ix3 b s k)) (fun k => a8 (ix3 0 k f)) := by
  unfold Mlp.hid
  pointwise [HID]

/-- The feed-forward residual at one token. -/
theorem FF_at (X : FVec Ideal S4x4096x1024 .f32) (U : FVec Ideal S4x4096x4096 .f32) (b : Fin 4) (s : Fin 4096) (j : Fin 1024) :
    FF a9 X U (ix3 b s j) = X (ix3 b s j) + ∑ f, U (ix3 b s f) * U (ix3 b s f) * a9 (ix3 0 f j) := by
  pointwise [FF]

/-- The gain vector read off its one-row array. -/
theorem gain_at (k : Fin 1024) : shapeCast S1024 a7 shapeCasts_S1x1024_S1024 (ix1 k) = a7 (ix2 0 k) := by
  pointwise

/-- The whole result at one token. -/
theorem OUT_at (b : Fin 4) (s : Fin 4096) (j : Fin 1024) :
    OUT a0 a1 a2 a3 a4 a5 a6 a7 a8 a9 a10 (ix3 b s j)
      = Mlp.out (fun k => a0 (ix3 b s k)) (fun k => a1 (ix3 b s k) * a2 (ix3 b s k)) (fun k => a3 (ix3 b s k)) (fun l => a4 (ix3 b s l))
          (fun l k => a5 (ix3 0 l k)) (fun k j => a6 (ix3 0 k j)) (fun k => a7 (ix2 0 k)) (fun k f => a8 (ix3 0 k f))
          (fun f j => a9 (ix3 0 f j)) (fun k => a10 (ix1 k)) j := by
  rw [OUT, NRM_at]
  unfold Mlp.out
  congr 1
  funext j
  rw [X2, FF_at, X1_at]
  unfold Mlp.x2 Mlp.ff
  simp only [HID_at, NRM_at, X1_at, gain_at]

end Cert.Reference2Ideal.Val
-- ==== Proof.Mlp.Final.lean ====
/- The result array of the kernel: every point leaves the reference's rows, so the array after the run is the
   reference's term. The two carried scratch arrays hold the branch and output matrices from the first point on. -/
module

public import proofs.«01_k».proof.Proof.Gen.Kernel2Ideal.Value
public import proofs.«01_k».proof.Proof.Mlp.Body
public import proofs.«01_k».proof.Proof.Mlp.Ref

@[expose] public section

set_option maxRecDepth 16384

noncomputable section

open Idealize.ShloMosaic Idealize.ShloMosaic.TcCoe Idealize.SL.Sem

namespace Cert.Kernel2Ideal.Val

open Cert.Kernel2Ideal Cert.Kernel2Ideal.Gen

variable (m : (ℓ : Loc nD τ sig) → Buf (Elt Ideal) ℓ)

/-- The windows' block indices at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ t.val < 32 :=
  (by decide +kernel : ∀ t : Fin grid0.N, _)

/-- The matrix windows are their whole arrays, the same block at every point. -/
theorem blk4 (c : Dev nD) (t t' : Fin cfg0.N) : iblk m c 4 t = iblk m c 4 t' := by
  blk_ext! [iblk, idx t, idx t']
theorem blk5 (c : Dev nD) (t t' : Fin cfg0.N) : iblk m c 5 t = iblk m c 5 t' := by
  blk_ext! [iblk, idx t, idx t']

/-- The first point. -/
def t0 : Fin cfg0.N := ⟨0, by decide⟩

/-- What every point leaves: the row spec over its input blocks, and the two matrices in the scratch. -/
theorem point (c : Dev nD) : ∀ (n : ℕ) (hn : n < cfg0.N),
    ((outsAt0 m c n hn).2.1 = k0_pay2 (iblk m c 4 ⟨n, hn⟩) ∧ (outsAt0 m c n hn).2.2 = k0_pay3 (iblk m c 5 ⟨n, hn⟩))
    ∧ ∀ (r : Fin 512) (j : Fin 1024), (outsAt0 m c n hn).1 (ix2 r j)
      = Mlp.out (fun k => iblk m c 0 ⟨n, hn⟩ (ix2 r k)) (fun k => iblk m c 1 ⟨n, hn⟩ (ix2 r k)) (fun k => iblk m c 2 ⟨n, hn⟩ (ix2 r k))
          (fun l => iblk m c 3 ⟨n, hn⟩ (ix2 r l)) (fun l k => iblk m c 4 ⟨n, hn⟩ (ix2 l k)) (fun k j => iblk m c 5 ⟨n, hn⟩ (ix2 k j))
          (fun k => iblk m c 6 ⟨n, hn⟩ (ix2 0 k)) (fun k f => iblk m c 7 ⟨n, hn⟩ (ix2 k f)) (fun f j => iblk m c 8 ⟨n, hn⟩ (ix2 f j))
          (fun k => iblk m c 9 ⟨n, hn⟩ (ix2 0 k)) j
  | n, hn => by
    by_cases h0 : n % 32 = 0
    · have hA := outsAt0_A m c ⟨n, hn⟩ h0
      dsimp only at hA
      rw [hA]
      refine ⟨⟨?_, ?_⟩, fun r j => ?_⟩
      · frame_out
      · frame_out
      · frame_out
        exact (body _ _ _ _ _ _ _ _ _ _ r j).trans (by simp only [pay2_eq, pay3_eq])
    · obtain ⟨n, rfl⟩ : ∃ n', n = n' + 1 := ⟨n - 1, by omega⟩
      obtain ⟨⟨ihb, iho⟩, -⟩ := point c n (Nat.lt_of_succ_lt hn)
      have hB := outsAt0_B m c ⟨n + 1, hn⟩ h0
      simp only [Nat.add_sub_cancel] at hB
      rw [hB, ihb, iho, blk4 m c ⟨n, Nat.lt_of_succ_lt hn⟩ ⟨n + 1, hn⟩, blk5 m c ⟨n, Nat.lt_of_succ_lt hn⟩ ⟨n + 1, hn⟩]
      refine ⟨⟨?_, ?_⟩, fun r j => ?_⟩
      · simp only [sout0_B_0]
      · simp only [sout0_B_1]
      · frame_out
        rw [show ∀ x, View.read (Elt Ideal) (View.whole cc0_scratch0) ((Memref.isWhole_whole cc0_scratch0).unread x) = x
            from fun x => (Memref.isWhole_whole cc0_scratch0).read_unread x,
          show ∀ x, View.read (Elt Ideal) (View.whole cc0_scratch1) ((Memref.isWhole_whole cc0_scratch1).unread x) = x
            from fun x => (Memref.isWhole_whole cc0_scratch1).read_unread x]
        exact (body _ _ _ _ _ _ _ _ _ _ r j).trans (by simp only [pay2_eq, pay3_eq])

/-- The result array after the run is the reference's term over the same arguments. -/
theorem final (c : Dev nD) : Value.G10 m c = shapeCast _ (Cert.Reference2Ideal.Val.OUT (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9))
      (m ((c.tc : Thread nD τ).loc main_arg10))) Cert.Reference2Ideal.Gen.shapeCasts_S4x4096x1024_S16384x1024 := by
  rw [← Value.final10 m c]
  refine (dats m 0 c).arrAt_eq_of_covers 10 _ (by decide +kernel) fun t _ y => ?_
  blk_simp
  rw [after0_10]
  idx_vars y
  have hb := idx t
  have ey : ((cfg0.win 10).blk t).view.emb (ix2 y0 y1) = (ix2 (⟨t.val * 512 + y0.val, by omega⟩ : Fin 16384) y1 : S16384x1024.Idx) := by
    blk_ext [idx t]
  rw [(point m c t.val t.isLt).2]
  refine Eq.trans ?_ (congrArg _ ey.symm)
  pointwise
  rw [Cert.Reference2Ideal.Val.OUT_at]
  congr 1
  all_goals first | (funext a a'; blk_point [iblk, V, idx t]; done) | (funext a; blk_point [iblk, V, idx t]; done) | skip
  funext k
  have ek : iblk m c 1 t (ix2 y0 k) = (V m c main_v3 : FVec Ideal S16384x1024 .bf16) (ix2 ⟨t.val * 512 + y0.val, by omega⟩ k) := by
    blk_ext [iblk, idx t]
  rw [ek]
  entry_read
  pointwise

end Cert.Kernel2Ideal.Val
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Attn.Pre
public import proofs.«01_k».proof.Proof.Mlp.Final
public import Idealize.ShloMosaic.Adequacy
public import Idealize.ShloMosaic.Init
public import Idealize.ShloMosaic.Lib.Quiescent

@[expose] public section

noncomputable section

namespace Cert.Proof

open Idealize.ShloMosaic Idealize.SL.Sem

/-- The attention's reference ends with its arguments unchanged and its counters at zero. -/
theorem frame_ref : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The output block's reference ends with its arguments unchanged and its counters at zero. -/
theorem frame_ref2 : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The attention: kernel and reference leave the same result where the arguments are finite. -/
theorem value : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine ((Cert.ReferenceIdeal.Val.res_eq m' c).trans ?_).trans (Cert.KernelIdeal.Val.final m c (Cert.KernelIdeal.Val.reals m hpre c)).symm
  simp only [hagree c]

/-- The output block: kernel and reference leave the same result. -/
theorem value2 : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  refine ((Cert.Reference2Ideal.Val.res_eq m' c).trans ?_).trans (Cert.Kernel2Ideal.Val.final m c).symm
  simp only [hagree c]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.Val.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel2.Gen.frame m ρ, fun m ρ _ => Cert.Kernel2Ideal.Gen.frame m ρ, frame_ref2,
  (trivial : preserves_Kernel_KernelIdeal), value, (trivial : preserves_Kernel2_Kernel2Ideal), value2⟩

end Cert.Proof

end
